-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel48 (m : (ℓ : Loc Cert.Kernel48.nD Cert.Kernel48.τ Cert.Kernel48.sig) → Buf (Elt Bits) ℓ) : Prop :=
  True

def Pre_Kernel48Ideal (m : (ℓ : Loc Cert.Kernel48Ideal.nD Cert.Kernel48Ideal.τ Cert.Kernel48Ideal.sig) → Buf (Elt Ideal) ℓ) : Prop :=
  True

def Pre_Reference48Ideal (m : (ℓ : Loc Cert.Reference48Ideal.nD Cert.Reference48Ideal.τ Cert.Reference48Ideal.sig) → Buf (Elt Ideal) ℓ) : Prop :=
  True

def Pre_Kernel49 (m : (ℓ : Loc Cert.Kernel49.nD Cert.Kernel49.τ Cert.Kernel49.sig) → Buf (Elt Bits) ℓ) : Prop :=
  True

def Pre_Kernel49Ideal (m : (ℓ : Loc Cert.Kernel49Ideal.nD Cert.Kernel49Ideal.τ Cert.Kernel49Ideal.sig) → Buf (Elt Ideal) ℓ) : Prop :=
  True

def Pre_Reference49Ideal (m : (ℓ : Loc Cert.Reference49Ideal.nD Cert.Reference49Ideal.τ Cert.Reference49Ideal.sig) → Buf (Elt Ideal) ℓ) : Prop :=
  True

def Pre_Kernel50 (m : (ℓ : Loc Cert.Kernel50.nD Cert.Kernel50.τ Cert.Kernel50.sig) → Buf (Elt Bits) ℓ) : Prop :=
  True

def Pre_Kernel50Ideal (m : (ℓ : Loc Cert.Kernel50Ideal.nD Cert.Kernel50Ideal.τ Cert.Kernel50Ideal.sig) → Buf (Elt Ideal) ℓ) : Prop :=
  True

def Pre_Reference50Ideal (m : (ℓ : Loc Cert.Reference50Ideal.nD Cert.Reference50Ideal.τ Cert.Reference50Ideal.sig) → Buf (Elt Ideal) ℓ) : Prop :=
  True

def Pre_Kernel51 (m : (ℓ : Loc Cert.Kernel51.nD Cert.Kernel51.τ Cert.Kernel51.sig) → Buf (Elt Bits) ℓ) : Prop :=
  True

def Pre_Kernel51Ideal (m : (ℓ : Loc Cert.Kernel51Ideal.nD Cert.Kernel51Ideal.τ Cert.Kernel51Ideal.sig) → Buf (Elt Ideal) ℓ) : Prop :=
  True

def Pre_Reference51Ideal (m : (ℓ : Loc Cert.Reference51Ideal.nD Cert.Reference51Ideal.τ Cert.Reference51Ideal.sig) → Buf (Elt Ideal) ℓ) : Prop :=
  True

def Pre_Kernel52 (m : (ℓ : Loc Cert.Kernel52.nD Cert.Kernel52.τ Cert.Kernel52.sig) → Buf (Elt Bits) ℓ) : Prop :=
  True

def Pre_Kernel52Ideal (m : (ℓ : Loc Cert.Kernel52Ideal.nD Cert.Kernel52Ideal.τ Cert.Kernel52Ideal.sig) → Buf (Elt Ideal) ℓ) : Prop :=
  True

def Pre_Reference52Ideal (m : (ℓ : Loc Cert.Reference52Ideal.nD Cert.Reference52Ideal.τ Cert.Reference52Ideal.sig) → Buf (Elt Ideal) ℓ) : Prop :=
  True

def Pre_Kernel53 (m : (ℓ : Loc Cert.Kernel53.nD Cert.Kernel53.τ Cert.Kernel53.sig) → Buf (Elt Bits) ℓ) : Prop :=
  True

def Pre_Kernel53Ideal (m : (ℓ : Loc Cert.Kernel53Ideal.nD Cert.Kernel53Ideal.τ Cert.Kernel53Ideal.sig) → Buf (Elt Ideal) ℓ) : Prop :=
  True

def Pre_Reference53Ideal (m : (ℓ : Loc Cert.Reference53Ideal.nD Cert.Reference53Ideal.τ Cert.Reference53Ideal.sig) → Buf (Elt Ideal) ℓ) : Prop :=
  True

def Pre_Kernel54 (m : (ℓ : Loc Cert.Kernel54.nD Cert.Kernel54.τ Cert.Kernel54.sig) → Buf (Elt Bits) ℓ) : Prop :=
  True

def Pre_Kernel54Ideal (m : (ℓ : Loc Cert.Kernel54Ideal.nD Cert.Kernel54Ideal.τ Cert.Kernel54Ideal.sig) → Buf (Elt Ideal) ℓ) : Prop :=
  True

def Pre_Reference54Ideal (m : (ℓ : Loc Cert.Reference54Ideal.nD Cert.Reference54Ideal.τ Cert.Reference54Ideal.sig) → Buf (Elt Ideal) ℓ) : Prop :=
  True

def Pre_Kernel55 (m : (ℓ : Loc Cert.Kernel55.nD Cert.Kernel55.τ Cert.Kernel55.sig) → Buf (Elt Bits) ℓ) : Prop :=
  True

def Pre_Kernel55Ideal (m : (ℓ : Loc Cert.Kernel55Ideal.nD Cert.Kernel55Ideal.τ Cert.Kernel55Ideal.sig) → Buf (Elt Ideal) ℓ) : Prop :=
  True

def Pre_Reference55Ideal (m : (ℓ : Loc Cert.Reference55Ideal.nD Cert.Reference55Ideal.τ Cert.Reference55Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3)
      ∧ r.2.mem ((c.tc : Thread Cert.Kernel40.nD Cert.Kernel40.τ).loc Cert.Kernel40.main_arg4) = m ((c.tc : Thread Cert.Kernel40.nD Cert.Kernel40.τ).loc Cert.Kernel40.main_arg4))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
      ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3)
      ∧ r.2.mem ((c.tc : Thread Cert.Reference40Ideal.nD Cert.Reference40Ideal.τ).loc Cert.Reference40Ideal.main_arg4) = m ((c.tc : Thread Cert.Reference40Ideal.nD Cert.Reference40Ideal.τ).loc Cert.Reference40Ideal.main_arg4))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1)
      ∧ r.2.mem ((c.tc : Thread Cert.Kernel45.nD Cert.Kernel45.τ).loc Cert.Kernel45.main_arg2) = m ((c.tc : Thread Cert.Kernel45.nD Cert.Kernel45.τ).loc Cert.Kernel45.main_arg2)
      ∧ r.2.mem ((c.tc : Thread Cert.Kernel45.nD Cert.Kernel45.τ).loc Cert.Kernel45.main_arg3) = m ((c.tc : Thread Cert.Kernel45.nD Cert.Kernel45.τ).loc Cert.Kernel45.main_arg3)
      ∧ r.2.mem ((c.tc : Thread Cert.Kernel45.nD Cert.Kernel45.τ).loc Cert.Kernel45.main_arg4) = m ((c.tc : Thread Cert.Kernel45.nD Cert.Kernel45.τ).loc Cert.Kernel45.main_arg4))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
      ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
      ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3)
      ∧ r.2.mem ((c.tc : Thread Cert.Kernel45Ideal.nD Cert.Kernel45Ideal.τ).loc Cert.Kernel45Ideal.main_arg4) = m ((c.tc : Thread Cert.Kernel45Ideal.nD Cert.Kernel45Ideal.τ).loc Cert.Kernel45Ideal.main_arg4))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1)
      ∧ r.2.mem ((c.tc : Thread Cert.Reference45Ideal.nD Cert.Reference45Ideal.τ).loc Cert.Reference45Ideal.main_arg2) = m ((c.tc : Thread Cert.Reference45Ideal.nD Cert.Reference45Ideal.τ).loc Cert.Reference45Ideal.main_arg2)
      ∧ r.2.mem ((c.tc : Thread Cert.Reference45Ideal.nD Cert.Reference45Ideal.τ).loc Cert.Reference45Ideal.main_arg3) = m ((c.tc : Thread Cert.Reference45Ideal.nD Cert.Reference45Ideal.τ).loc Cert.Reference45Ideal.main_arg3)
      ∧ r.2.mem ((c.tc : Thread Cert.Reference45Ideal.nD Cert.Reference45Ideal.τ).loc Cert.Reference45Ideal.main_arg4) = m ((c.tc : Thread Cert.Reference45Ideal.nD Cert.Reference45Ideal.τ).loc Cert.Reference45Ideal.main_arg4))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1)
      ∧ r.2.mem ((c.tc : Thread Cert.Kernel46.nD Cert.Kernel46.τ).loc Cert.Kernel46.main_arg2) = m ((c.tc : Thread Cert.Kernel46.nD Cert.Kernel46.τ).loc Cert.Kernel46.main_arg2)
      ∧ r.2.mem ((c.tc : Thread Cert.Kernel46.nD Cert.Kernel46.τ).loc Cert.Kernel46.main_arg3) = m ((c.tc : Thread Cert.Kernel46.nD Cert.Kernel46.τ).loc Cert.Kernel46.main_arg3))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
      ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2)
      ∧ r.2.mem ((c.tc : Thread Cert.Kernel46Ideal.nD Cert.Kernel46Ideal.τ).loc Cert.Kernel46Ideal.main_arg3) = m ((c.tc : Thread Cert.Kernel46Ideal.nD Cert.Kernel46Ideal.τ).loc Cert.Kernel46Ideal.main_arg3))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1)
      ∧ r.2.mem ((c.tc : Thread Cert.Reference46Ideal.nD Cert.Reference46Ideal.τ).loc Cert.Reference46Ideal.main_arg2) = m ((c.tc : Thread Cert.Reference46Ideal.nD Cert.Reference46Ideal.τ).loc Cert.Reference46Ideal.main_arg2)
      ∧ r.2.mem ((c.tc : Thread Cert.Reference46Ideal.nD Cert.Reference46Ideal.τ).loc Cert.Reference46Ideal.main_arg3) = m ((c.tc : Thread Cert.Reference46Ideal.nD Cert.Reference46Ideal.τ).loc Cert.Reference46Ideal.main_arg3))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0))
      ∧ r.2.sem = fun _ => 0)

def quiescent_Kernel48 [hKernel48 : Cert.Kernel48.Facts] : Prop :=
  ∀ (m : (ℓ : Loc Cert.Kernel48.nD Cert.Kernel48.τ Cert.Kernel48.sig) → Buf (Elt Bits) ℓ) (g : Dev Cert.Kernel48.nD → PrngReg), Pre_Kernel48 m →
    θ_run (Cert.Kernel48.defs (F := Bits)) (onTc (τ := Cert.Kernel48.τ) (Cert.Kernel48.main (F := Bits))) ⟨m, fun _ => 0, g⟩ (fun r => (∀ c : Dev Cert.Kernel48.nD,
      r.2.mem ((c.tc : Thread Cert.Kernel48.nD Cert.Kernel48.τ).loc Cert.Kernel48.main_arg0) = m ((c.tc : Thread Cert.Kernel48.nD Cert.Kernel48.τ).loc Cert.Kernel48.main_arg0)
      ∧ r.2.mem ((c.tc : Thread Cert.Kernel48.nD Cert.Kernel48.τ).loc Cert.Kernel48.main_arg1) = m ((c.tc : Thread Cert.Kernel48.nD Cert.Kernel48.τ).loc Cert.Kernel48.main_arg1)
      ∧ r.2.mem ((c.tc : Thread Cert.Kernel48.nD Cert.Kernel48.τ).loc Cert.Kernel48.main_arg2) = m ((c.tc : Thread Cert.Kernel48.nD Cert.Kernel48.τ).loc Cert.Kernel48.main_arg2))
      ∧ r.2.sem = fun _ => 0)

def quiescent_Kernel48Ideal [hKernel48Ideal : Cert.Kernel48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
      ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
      ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2))
      ∧ r.2.sem = fun _ => 0)

def quiescent_Reference48Ideal [hReference48Ideal : Cert.Reference48Ideal.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0)
      ∧ r.2.mem ((c.tc : Thread Cert.Reference48Ideal.nD Cert.Reference48Ideal.τ).loc Cert.Reference48Ideal.main_arg1) = m ((c.tc : Thread Cert.Reference48Ideal.nD Cert.Reference48Ideal.τ).loc Cert.Reference48Ideal.main_arg1)
      ∧ r.2.mem ((c.tc : Thread Cert.Reference48Ideal.nD Cert.Reference48Ideal.τ).loc Cert.Reference48Ideal.main_arg2) = m ((c.tc : Thread Cert.Reference48Ideal.nD Cert.Reference48Ideal.τ).loc Cert.Reference48Ideal.main_arg2))
      ∧ r.2.sem = fun _ => 0)

def quiescent_Kernel49 [hKernel49 : Cert.Kernel49.Facts] : Prop :=
  ∀ (m : (ℓ : Loc Cert.Kernel49.nD Cert.Kernel49.τ Cert.Kernel49.sig) → Buf (Elt Bits) ℓ) (g : Dev Cert.Kernel49.nD → PrngReg), Pre_Kernel49 m →
    θ_run (Cert.Kernel49.defs (F := Bits)) (onTc (τ := Cert.Kernel49.τ) (Cert.Kernel49.main (F := Bits))) ⟨m, fun _ => 0, g⟩ (fun r => (∀ c : Dev Cert.Kernel49.nD,
      r.2.mem ((c.tc : Thread Cert.Kernel49.nD Cert.Kernel49.τ).loc Cert.Kernel49.main_arg0) = m ((c.tc : Thread Cert.Kernel49.nD Cert.Kernel49.τ).loc Cert.Kernel49.main_arg0)
      ∧ r.2.mem ((c.tc : Thread Cert.Kernel49.nD Cert.Kernel49.τ).loc Cert.Kernel49.main_arg1) = m ((c.tc : Thread Cert.Kernel49.nD Cert.Kernel49.τ).loc Cert.Kernel49.main_arg1)
      ∧ r.2.mem ((c.tc : Thread Cert.Kernel49.nD Cert.Kernel49.τ).loc Cert.Kernel49.main_arg2) = m ((c.tc : Thread Cert.Kernel49.nD Cert.Kernel49.τ).loc Cert.Kernel49.main_arg2)
      ∧ r.2.mem ((c.tc : Thread Cert.Kernel49.nD Cert.Kernel49.τ).loc Cert.Kernel49.main_arg3) = m ((c.tc : Thread Cert.Kernel49.nD Cert.Kernel49.τ).loc Cert.Kernel49.main_arg3))
      ∧ r.2.sem = fun _ => 0)

def quiescent_Kernel49Ideal [hKernel49Ideal : Cert.Kernel49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg), Pre_Kernel49Ideal m →
    θ_run (Cert.Kernel49Ideal.defs (F := Ideal)) (onTc (τ := Cert.Kernel49Ideal.τ) (Cert.Kernel49Ideal.main (F := Ideal))) ⟨m, fun _ => 0, g⟩ (fun r => (∀ c : Dev Cert.Kernel49Ideal.nD,
      r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
      ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
      ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2)
      ∧ r.2.mem ((c.tc : Thread Cert.Kernel49Ideal.nD Cert.Kernel49Ideal.τ).loc Cert.Kernel49Ideal.main_arg3) = m ((c.tc : Thread Cert.Kernel49Ideal.nD Cert.Kernel49Ideal.τ).loc Cert.Kernel49Ideal.main_arg3))
      ∧ r.2.sem = fun _ => 0)

def quiescent_Reference49Ideal [hReference49Ideal : Cert.Reference49Ideal.Facts] : Prop :=
  ∀ (m : (ℓ : Loc Cert.Reference49Ideal.nD Cert.Reference49Ideal.τ Cert.Reference49Ideal.sig) → Buf (Elt Ideal) ℓ) (g : Dev Cert.Reference49Ideal.nD → PrngReg), Pre_Reference49Ideal m →
    θ_run (Cert.Reference49Ideal.defs (F := Ideal)) (onTc (τ := Cert.Reference49Ideal.τ) (Cert.Reference49Ideal.main (F := Ideal))) ⟨m, fun _ => 0, g⟩ (fun r => (∀ c : Dev Cert.Reference49Ideal.nD,
      r.2.mem ((c.tc : Thread Cert.Reference49Ideal.nD Cert.Reference49Ideal.τ).loc Cert.Reference49Ideal.main_arg0) = m ((c.tc : Thread Cert.Reference49Ideal.nD Cert.Reference49Ideal.τ).loc Cert.Reference49Ideal.main_arg0)
      ∧ r.2.mem ((c.tc : Thread Cert.Reference49Ideal.nD Cert.Reference49Ideal.τ).loc Cert.Reference49Ideal.main_arg1) = m ((c.tc : Thread Cert.Reference49Ideal.nD Cert.Reference49Ideal.τ).loc Cert.Reference49Ideal.main_arg1)
      ∧ r.2.mem ((c.tc : Thread Cert.Reference49Ideal.nD Cert.Reference49Ideal.τ).loc Cert.Reference49Ideal.main_arg2) = m ((c.tc : Thread Cert.Reference49Ideal.nD Cert.Reference49Ideal.τ).loc Cert.Reference49Ideal.main_arg2)
      ∧ r.2.mem ((c.tc : Thread Cert.Reference49Ideal.nD Cert.Reference49Ideal.τ).loc Cert.Reference49Ideal.main_arg3) = m ((c.tc : Thread Cert.Reference49Ideal.nD Cert.Reference49Ideal.τ).loc Cert.Reference49Ideal.main_arg3))
      ∧ r.2.sem = fun _ => 0)

def quiescent_Kernel50 [hKernel50 : Cert.Kernel50.Facts] : Prop :=
  ∀ (m : (ℓ : Loc Cert.Kernel50.nD Cert.Kernel50.τ Cert.Kernel50.sig) → Buf (Elt Bits) ℓ) (g : Dev Cert.Kernel50.nD → PrngReg), Pre_Kernel50 m →
    θ_run (Cert.Kernel50.defs (F := Bits)) (onTc (τ := Cert.Kernel50.τ) (Cert.Kernel50.main (F := Bits))) ⟨m, fun _ => 0, g⟩ (fun r => (∀ c : Dev Cert.Kernel50.nD,
      r.2.mem ((c.tc : Thread Cert.Kernel50.nD Cert.Kernel50.τ).loc Cert.Kernel50.main_arg0) = m ((c.tc : Thread Cert.Kernel50.nD Cert.Kernel50.τ).loc Cert.Kernel50.main_arg0)
      ∧ r.2.mem ((c.tc : Thread Cert.Kernel50.nD Cert.Kernel50.τ).loc Cert.Kernel50.main_arg1) = m ((c.tc : Thread Cert.Kernel50.nD Cert.Kernel50.τ).loc Cert.Kernel50.main_arg1)
      ∧ r.2.mem ((c.tc : Thread Cert.Kernel50.nD Cert.Kernel50.τ).loc Cert.Kernel50.main_arg2) = m ((c.tc : Thread Cert.Kernel50.nD Cert.Kernel50.τ).loc Cert.Kernel50.main_arg2)
      ∧ r.2.mem ((c.tc : Thread Cert.Kernel50.nD Cert.Kernel50.τ).loc Cert.Kernel50.main_arg3) = m ((c.tc : Thread Cert.Kernel50.nD Cert.Kernel50.τ).loc Cert.Kernel50.main_arg3))
      ∧ r.2.sem = fun _ => 0)

def quiescent_Kernel50Ideal [hKernel50Ideal : Cert.Kernel50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg), Pre_Kernel50Ideal m →
    θ_run (Cert.Kernel50Ideal.defs (F := Ideal)) (onTc (τ := Cert.Kernel50Ideal.τ) (Cert.Kernel50Ideal.main (F := Ideal))) ⟨m, fun _ => 0, g⟩ (fun r => (∀ c : Dev Cert.Kernel50Ideal.nD,
      r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
      ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1)
      ∧ r.2.mem ((c.tc : Thread Cert.Kernel50Ideal.nD Cert.Kernel50Ideal.τ).loc Cert.Kernel50Ideal.main_arg2) = m ((c.tc : Thread Cert.Kernel50Ideal.nD Cert.Kernel50Ideal.τ).loc Cert.Kernel50Ideal.main_arg2)
      ∧ r.2.mem ((c.tc : Thread Cert.Kernel50Ideal.nD Cert.Kernel50Ideal.τ).loc Cert.Kernel50Ideal.main_arg3) = m ((c.tc : Thread Cert.Kernel50Ideal.nD Cert.Kernel50Ideal.τ).loc Cert.Kernel50Ideal.main_arg3))
      ∧ r.2.sem = fun _ => 0)

def quiescent_Reference50Ideal [hReference50Ideal : Cert.Reference50Ideal.Facts] : Prop :=
  ∀ (m : (ℓ : Loc Cert.Reference50Ideal.nD Cert.Reference50Ideal.τ Cert.Reference50Ideal.sig) → Buf (Elt Ideal) ℓ) (g : Dev Cert.Reference50Ideal.nD → PrngReg), Pre_Reference50Ideal m →
    θ_run (Cert.Reference50Ideal.defs (F := Ideal)) (onTc (τ := Cert.Reference50Ideal.τ) (Cert.Reference50Ideal.main (F := Ideal))) ⟨m, fun _ => 0, g⟩ (fun r => (∀ c : Dev Cert.Reference50Ideal.nD,
      r.2.mem ((c.tc : Thread Cert.Reference50Ideal.nD Cert.Reference50Ideal.τ).loc Cert.Reference50Ideal.main_arg0) = m ((c.tc : Thread Cert.Reference50Ideal.nD Cert.Reference50Ideal.τ).loc Cert.Reference50Ideal.main_arg0)
      ∧ r.2.mem ((c.tc : Thread Cert.Reference50Ideal.nD Cert.Reference50Ideal.τ).loc Cert.Reference50Ideal.main_arg1) = m ((c.tc : Thread Cert.Reference50Ideal.nD Cert.Reference50Ideal.τ).loc Cert.Reference50Ideal.main_arg1)
      ∧ r.2.mem ((c.tc : Thread Cert.Reference50Ideal.nD Cert.Reference50Ideal.τ).loc Cert.Reference50Ideal.main_arg2) = m ((c.tc : Thread Cert.Reference50Ideal.nD Cert.Reference50Ideal.τ).loc Cert.Reference50Ideal.main_arg2)
      ∧ r.2.mem ((c.tc : Thread Cert.Reference50Ideal.nD Cert.Reference50Ideal.τ).loc Cert.Reference50Ideal.main_arg3) = m ((c.tc : Thread Cert.Reference50Ideal.nD Cert.Reference50Ideal.τ).loc Cert.Reference50Ideal.main_arg3))
      ∧ r.2.sem = fun _ => 0)

def quiescent_Kernel51 [hKernel51 : Cert.Kernel51.Facts] : Prop :=
  ∀ (m : (ℓ : Loc Cert.Kernel51.nD Cert.Kernel51.τ Cert.Kernel51.sig) → Buf (Elt Bits) ℓ) (g : Dev Cert.Kernel51.nD → PrngReg), Pre_Kernel51 m →
    θ_run (Cert.Kernel51.defs (F := Bits)) (onTc (τ := Cert.Kernel51.τ) (Cert.Kernel51.main (F := Bits))) ⟨m, fun _ => 0, g⟩ (fun r => (∀ c : Dev Cert.Kernel51.nD,
      r.2.mem ((c.tc : Thread Cert.Kernel51.nD Cert.Kernel51.τ).loc Cert.Kernel51.main_arg0) = m ((c.tc : Thread Cert.Kernel51.nD Cert.Kernel51.τ).loc Cert.Kernel51.main_arg0)
      ∧ r.2.mem ((c.tc : Thread Cert.Kernel51.nD Cert.Kernel51.τ).loc Cert.Kernel51.main_arg1) = m ((c.tc : Thread Cert.Kernel51.nD Cert.Kernel51.τ).loc Cert.Kernel51.main_arg1)
      ∧ r.2.mem ((c.tc : Thread Cert.Kernel51.nD Cert.Kernel51.τ).loc Cert.Kernel51.main_arg2) = m ((c.tc : Thread Cert.Kernel51.nD Cert.Kernel51.τ).loc Cert.Kernel51.main_arg2)
      ∧ r.2.mem ((c.tc : Thread Cert.Kernel51.nD Cert.Kernel51.τ).loc Cert.Kernel51.main_arg3) = m ((c.tc : Thread Cert.Kernel51.nD Cert.Kernel51.τ).loc Cert.Kernel51.main_arg3))
      ∧ r.2.sem = fun _ => 0)

def quiescent_Kernel51Ideal [hKernel51Ideal : Cert.Kernel51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg), Pre_Kernel51Ideal m →
    θ_run (Cert.Kernel51Ideal.defs (F := Ideal)) (onTc (τ := Cert.Kernel51Ideal.τ) (Cert.Kernel51Ideal.main (F := Ideal))) ⟨m, fun _ => 0, g⟩ (fun r => (∀ c : Dev Cert.Kernel51Ideal.nD,
      r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
      ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1)
      ∧ r.2.mem ((c.tc : Thread Cert.Kernel51Ideal.nD Cert.Kernel51Ideal.τ).loc Cert.Kernel51Ideal.main_arg2) = m ((c.tc : Thread Cert.Kernel51Ideal.nD Cert.Kernel51Ideal.τ).loc Cert.Kernel51Ideal.main_arg2)
      ∧ r.2.mem ((c.tc : Thread Cert.Kernel51Ideal.nD Cert.Kernel51Ideal.τ).loc Cert.Kernel51Ideal.main_arg3) = m ((c.tc : Thread Cert.Kernel51Ideal.nD Cert.Kernel51Ideal.τ).loc Cert.Kernel51Ideal.main_arg3))
      ∧ r.2.sem = fun _ => 0)

def quiescent_Reference51Ideal [hReference51Ideal : Cert.Reference51Ideal.Facts] : Prop :=
  ∀ (m : (ℓ : Loc Cert.Reference51Ideal.nD Cert.Reference51Ideal.τ Cert.Reference51Ideal.sig) → Buf (Elt Ideal) ℓ) (g : Dev Cert.Reference51Ideal.nD → PrngReg), Pre_Reference51Ideal m →
    θ_run (Cert.Reference51Ideal.defs (F := Ideal)) (onTc (τ := Cert.Reference51Ideal.τ) (Cert.Reference51Ideal.main (F := Ideal))) ⟨m, fun _ => 0, g⟩ (fun r => (∀ c : Dev Cert.Reference51Ideal.nD,
      r.2.mem ((c.tc : Thread Cert.Reference51Ideal.nD Cert.Reference51Ideal.τ).loc Cert.Reference51Ideal.main_arg0) = m ((c.tc : Thread Cert.Reference51Ideal.nD Cert.Reference51Ideal.τ).loc Cert.Reference51Ideal.main_arg0)
      ∧ r.2.mem ((c.tc : Thread Cert.Reference51Ideal.nD Cert.Reference51Ideal.τ).loc Cert.Reference51Ideal.main_arg1) = m ((c.tc : Thread Cert.Reference51Ideal.nD Cert.Reference51Ideal.τ).loc Cert.Reference51Ideal.main_arg1)
      ∧ r.2.mem ((c.tc : Thread Cert.Reference51Ideal.nD Cert.Reference51Ideal.τ).loc Cert.Reference51Ideal.main_arg2) = m ((c.tc : Thread Cert.Reference51Ideal.nD Cert.Reference51Ideal.τ).loc Cert.Reference51Ideal.main_arg2)
      ∧ r.2.mem ((c.tc : Thread Cert.Reference51Ideal.nD Cert.Reference51Ideal.τ).loc Cert.Reference51Ideal.main_arg3) = m ((c.tc : Thread Cert.Reference51Ideal.nD Cert.Reference51Ideal.τ).loc Cert.Reference51Ideal.main_arg3))
      ∧ r.2.sem = fun _ => 0)

def quiescent_Kernel52 [hKernel52 : Cert.Kernel52.Facts] : Prop :=
  ∀ (m : (ℓ : Loc Cert.Kernel52.nD Cert.Kernel52.τ Cert.Kernel52.sig) → Buf (Elt Bits) ℓ) (g : Dev Cert.Kernel52.nD → PrngReg), Pre_Kernel52 m →
    θ_run (Cert.Kernel52.defs (F := Bits)) (onTc (τ := Cert.Kernel52.τ) (Cert.Kernel52.main (F := Bits))) ⟨m, fun _ => 0, g⟩ (fun r => (∀ c : Dev Cert.Kernel52.nD,
      r.2.mem ((c.tc : Thread Cert.Kernel52.nD Cert.Kernel52.τ).loc Cert.Kernel52.main_arg0) = m ((c.tc : Thread Cert.Kernel52.nD Cert.Kernel52.τ).loc Cert.Kernel52.main_arg0)
      ∧ r.2.mem ((c.tc : Thread Cert.Kernel52.nD Cert.Kernel52.τ).loc Cert.Kernel52.main_arg1) = m ((c.tc : Thread Cert.Kernel52.nD Cert.Kernel52.τ).loc Cert.Kernel52.main_arg1)
      ∧ r.2.mem ((c.tc : Thread Cert.Kernel52.nD Cert.Kernel52.τ).loc Cert.Kernel52.main_arg2) = m ((c.tc : Thread Cert.Kernel52.nD Cert.Kernel52.τ).loc Cert.Kernel52.main_arg2)
      ∧ r.2.mem ((c.tc : Thread Cert.Kernel52.nD Cert.Kernel52.τ).loc Cert.Kernel52.main_arg3) = m ((c.tc : Thread Cert.Kernel52.nD Cert.Kernel52.τ).loc Cert.Kernel52.main_arg3))
      ∧ r.2.sem = fun _ => 0)

def quiescent_Kernel52Ideal [hKernel52Ideal : Cert.Kernel52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg), Pre_Kernel52Ideal m →
    θ_run (Cert.Kernel52Ideal.defs (F := Ideal)) (onTc (τ := Cert.Kernel52Ideal.τ) (Cert.Kernel52Ideal.main (F := Ideal))) ⟨m, fun _ => 0, g⟩ (fun r => (∀ c : Dev Cert.Kernel52Ideal.nD,
      r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
      ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1)
      ∧ r.2.mem ((c.tc : Thread Cert.Kernel52Ideal.nD Cert.Kernel52Ideal.τ).loc Cert.Kernel52Ideal.main_arg2) = m ((c.tc : Thread Cert.Kernel52Ideal.nD Cert.Kernel52Ideal.τ).loc Cert.Kernel52Ideal.main_arg2)
      ∧ r.2.mem ((c.tc : Thread Cert.Kernel52Ideal.nD Cert.Kernel52Ideal.τ).loc Cert.Kernel52Ideal.main_arg3) = m ((c.tc : Thread Cert.Kernel52Ideal.nD Cert.Kernel52Ideal.τ).loc Cert.Kernel52Ideal.main_arg3))
      ∧ r.2.sem = fun _ => 0)

def quiescent_Reference52Ideal [hReference52Ideal : Cert.Reference52Ideal.Facts] : Prop :=
  ∀ (m : (ℓ : Loc Cert.Reference52Ideal.nD Cert.Reference52Ideal.τ Cert.Reference52Ideal.sig) → Buf (Elt Ideal) ℓ) (g : Dev Cert.Reference52Ideal.nD → PrngReg), Pre_Reference52Ideal m →
    θ_run (Cert.Reference52Ideal.defs (F := Ideal)) (onTc (τ := Cert.Reference52Ideal.τ) (Cert.Reference52Ideal.main (F := Ideal))) ⟨m, fun _ => 0, g⟩ (fun r => (∀ c : Dev Cert.Reference52Ideal.nD,
      r.2.mem ((c.tc : Thread Cert.Reference52Ideal.nD Cert.Reference52Ideal.τ).loc Cert.Reference52Ideal.main_arg0) = m ((c.tc : Thread Cert.Reference52Ideal.nD Cert.Reference52Ideal.τ).loc Cert.Reference52Ideal.main_arg0)
      ∧ r.2.mem ((c.tc : Thread Cert.Reference52Ideal.nD Cert.Reference52Ideal.τ).loc Cert.Reference52Ideal.main_arg1) = m ((c.tc : Thread Cert.Reference52Ideal.nD Cert.Reference52Ideal.τ).loc Cert.Reference52Ideal.main_arg1)
      ∧ r.2.mem ((c.tc : Thread Cert.Reference52Ideal.nD Cert.Reference52Ideal.τ).loc Cert.Reference52Ideal.main_arg2) = m ((c.tc : Thread Cert.Reference52Ideal.nD Cert.Reference52Ideal.τ).loc Cert.Reference52Ideal.main_arg2)
      ∧ r.2.mem ((c.tc : Thread Cert.Reference52Ideal.nD Cert.Reference52Ideal.τ).loc Cert.Reference52Ideal.main_arg3) = m ((c.tc : Thread Cert.Reference52Ideal.nD Cert.Reference52Ideal.τ).loc Cert.Reference52Ideal.main_arg3))
      ∧ r.2.sem = fun _ => 0)

def quiescent_Kernel53 [hKernel53 : Cert.Kernel53.Facts] : Prop :=
  ∀ (m : (ℓ : Loc Cert.Kernel53.nD Cert.Kernel53.τ Cert.Kernel53.sig) → Buf (Elt Bits) ℓ) (g : Dev Cert.Kernel53.nD → PrngReg), Pre_Kernel53 m →
    θ_run (Cert.Kernel53.defs (F := Bits)) (onTc (τ := Cert.Kernel53.τ) (Cert.Kernel53.main (F := Bits))) ⟨m, fun _ => 0, g⟩ (fun r => (∀ c : Dev Cert.Kernel53.nD,
      r.2.mem ((c.tc : Thread Cert.Kernel53.nD Cert.Kernel53.τ).loc Cert.Kernel53.main_arg0) = m ((c.tc : Thread Cert.Kernel53.nD Cert.Kernel53.τ).loc Cert.Kernel53.main_arg0)
      ∧ r.2.mem ((c.tc : Thread Cert.Kernel53.nD Cert.Kernel53.τ).loc Cert.Kernel53.main_arg1) = m ((c.tc : Thread Cert.Kernel53.nD Cert.Kernel53.τ).loc Cert.Kernel53.main_arg1)
      ∧ r.2.mem ((c.tc : Thread Cert.Kernel53.nD Cert.Kernel53.τ).loc Cert.Kernel53.main_arg2) = m ((c.tc : Thread Cert.Kernel53.nD Cert.Kernel53.τ).loc Cert.Kernel53.main_arg2)
      ∧ r.2.mem ((c.tc : Thread Cert.Kernel53.nD Cert.Kernel53.τ).loc Cert.Kernel53.main_arg3) = m ((c.tc : Thread Cert.Kernel53.nD Cert.Kernel53.τ).loc Cert.Kernel53.main_arg3))
      ∧ r.2.sem = fun _ => 0)

def quiescent_Kernel53Ideal [hKernel53Ideal : Cert.Kernel53Ideal.Facts] : Prop :=
  ∀ (m : (ℓ : Loc Cert.Kernel53Ideal.nD Cert.Kernel53Ideal.τ Cert.Kernel53Ideal.sig) → Buf (Elt Ideal) ℓ) (g : Dev Cert.Kernel53Ideal.nD → PrngReg), Pre_Kernel53Ideal m →
    θ_run (Cert.Kernel53Ideal.defs (F := Ideal)) (onTc (τ := Cert.Kernel53Ideal.τ) (Cert.Kernel53Ideal.main (F := Ideal))) ⟨m, fun _ => 0, g⟩ (fun r => (∀ c : Dev Cert.Kernel53Ideal.nD,
      r.2.mem ((c.tc : Thread Cert.Kernel53Ideal.nD Cert.Kernel53Ideal.τ).loc Cert.Kernel53Ideal.main_arg0) = m ((c.tc : Thread Cert.Kernel53Ideal.nD Cert.Kernel53Ideal.τ).loc Cert.Kernel53Ideal.main_arg0)
      ∧ r.2.mem ((c.tc : Thread Cert.Kernel53Ideal.nD Cert.Kernel53Ideal.τ).loc Cert.Kernel53Ideal.main_arg1) = m ((c.tc : Thread Cert.Kernel53Ideal.nD Cert.Kernel53Ideal.τ).loc Cert.Kernel53Ideal.main_arg1)
      ∧ r.2.mem ((c.tc : Thread Cert.Kernel53Ideal.nD Cert.Kernel53Ideal.τ).loc Cert.Kernel53Ideal.main_arg2) = m ((c.tc : Thread Cert.Kernel53Ideal.nD Cert.Kernel53Ideal.τ).loc Cert.Kernel53Ideal.main_arg2)
      ∧ r.2.mem ((c.tc : Thread Cert.Kernel53Ideal.nD Cert.Kernel53Ideal.τ).loc Cert.Kernel53Ideal.main_arg3) = m ((c.tc : Thread Cert.Kernel53Ideal.nD Cert.Kernel53Ideal.τ).loc Cert.Kernel53Ideal.main_arg3))
      ∧ r.2.sem = fun _ => 0)

def quiescent_Reference53Ideal [hReference53Ideal : Cert.Reference53Ideal.Facts] : Prop :=
  ∀ (m : (ℓ : Loc Cert.Reference53Ideal.nD Cert.Reference53Ideal.τ Cert.Reference53Ideal.sig) → Buf (Elt Ideal) ℓ) (g : Dev Cert.Reference53Ideal.nD → PrngReg), Pre_Reference53Ideal m →
    θ_run (Cert.Reference53Ideal.defs (F := Ideal)) (onTc (τ := Cert.Reference53Ideal.τ) (Cert.Reference53Ideal.main (F := Ideal))) ⟨m, fun _ => 0, g⟩ (fun r => (∀ c : Dev Cert.Reference53Ideal.nD,
      r.2.mem ((c.tc : Thread Cert.Reference53Ideal.nD Cert.Reference53Ideal.τ).loc Cert.Reference53Ideal.main_arg0) = m ((c.tc : Thread Cert.Reference53Ideal.nD Cert.Reference53Ideal.τ).loc Cert.Reference53Ideal.main_arg0)
      ∧ r.2.mem ((c.tc : Thread Cert.Reference53Ideal.nD Cert.Reference53Ideal.τ).loc Cert.Reference53Ideal.main_arg1) = m ((c.tc : Thread Cert.Reference53Ideal.nD Cert.Reference53Ideal.τ).loc Cert.Reference53Ideal.main_arg1)
      ∧ r.2.mem ((c.tc : Thread Cert.Reference53Ideal.nD Cert.Reference53Ideal.τ).loc Cert.Reference53Ideal.main_arg2) = m ((c.tc : Thread Cert.Reference53Ideal.nD Cert.Reference53Ideal.τ).loc Cert.Reference53Ideal.main_arg2)
      ∧ r.2.mem ((c.tc : Thread Cert.Reference53Ideal.nD Cert.Reference53Ideal.τ).loc Cert.Reference53Ideal.main_arg3) = m ((c.tc : Thread Cert.Reference53Ideal.nD Cert.Reference53Ideal.τ).loc Cert.Reference53Ideal.main_arg3))
      ∧ r.2.sem = fun _ => 0)

def quiescent_Kernel54 [hKernel54 : Cert.Kernel54.Facts] : Prop :=
  ∀ (m : (ℓ : Loc Cert.Kernel54.nD Cert.Kernel54.τ Cert.Kernel54.sig) → Buf (Elt Bits) ℓ) (g : Dev Cert.Kernel54.nD → PrngReg), Pre_Kernel54 m →
    θ_run (Cert.Kernel54.defs (F := Bits)) (onTc (τ := Cert.Kernel54.τ) (Cert.Kernel54.main (F := Bits))) ⟨m, fun _ => 0, g⟩ (fun r => (∀ c : Dev Cert.Kernel54.nD,
      r.2.mem ((c.tc : Thread Cert.Kernel54.nD Cert.Kernel54.τ).loc Cert.Kernel54.main_arg0) = m ((c.tc : Thread Cert.Kernel54.nD Cert.Kernel54.τ).loc Cert.Kernel54.main_arg0)
      ∧ r.2.mem ((c.tc : Thread Cert.Kernel54.nD Cert.Kernel54.τ).loc Cert.Kernel54.main_arg1) = m ((c.tc : Thread Cert.Kernel54.nD Cert.Kernel54.τ).loc Cert.Kernel54.main_arg1)
      ∧ r.2.mem ((c.tc : Thread Cert.Kernel54.nD Cert.Kernel54.τ).loc Cert.Kernel54.main_arg2) = m ((c.tc : Thread Cert.Kernel54.nD Cert.Kernel54.τ).loc Cert.Kernel54.main_arg2)
      ∧ r.2.mem ((c.tc : Thread Cert.Kernel54.nD Cert.Kernel54.τ).loc Cert.Kernel54.main_arg3) = m ((c.tc : Thread Cert.Kernel54.nD Cert.Kernel54.τ).loc Cert.Kernel54.main_arg3))
      ∧ r.2.sem = fun _ => 0)

def quiescent_Kernel54Ideal [hKernel54Ideal : Cert.Kernel54Ideal.Facts] : Prop :=
  ∀ (m : (ℓ : Loc Cert.Kernel54Ideal.nD Cert.Kernel54Ideal.τ Cert.Kernel54Ideal.sig) → Buf (Elt Ideal) ℓ) (g : Dev Cert.Kernel54Ideal.nD → PrngReg), Pre_Kernel54Ideal m →
    θ_run (Cert.Kernel54Ideal.defs (F := Ideal)) (onTc (τ := Cert.Kernel54Ideal.τ) (Cert.Kernel54Ideal.main (F := Ideal))) ⟨m, fun _ => 0, g⟩ (fun r => (∀ c : Dev Cert.Kernel54Ideal.nD,
      r.2.mem ((c.tc : Thread Cert.Kernel54Ideal.nD Cert.Kernel54Ideal.τ).loc Cert.Kernel54Ideal.main_arg0) = m ((c.tc : Thread Cert.Kernel54Ideal.nD Cert.Kernel54Ideal.τ).loc Cert.Kernel54Ideal.main_arg0)
      ∧ r.2.mem ((c.tc : Thread Cert.Kernel54Ideal.nD Cert.Kernel54Ideal.τ).loc Cert.Kernel54Ideal.main_arg1) = m ((c.tc : Thread Cert.Kernel54Ideal.nD Cert.Kernel54Ideal.τ).loc Cert.Kernel54Ideal.main_arg1)
      ∧ r.2.mem ((c.tc : Thread Cert.Kernel54Ideal.nD Cert.Kernel54Ideal.τ).loc Cert.Kernel54Ideal.main_arg2) = m ((c.tc : Thread Cert.Kernel54Ideal.nD Cert.Kernel54Ideal.τ).loc Cert.Kernel54Ideal.main_arg2)
      ∧ r.2.mem ((c.tc : Thread Cert.Kernel54Ideal.nD Cert.Kernel54Ideal.τ).loc Cert.Kernel54Ideal.main_arg3) = m ((c.tc : Thread Cert.Kernel54Ideal.nD Cert.Kernel54Ideal.τ).loc Cert.Kernel54Ideal.main_arg3))
      ∧ r.2.sem = fun _ => 0)

def quiescent_Reference54Ideal [hReference54Ideal : Cert.Reference54Ideal.Facts] : Prop :=
  ∀ (m : (ℓ : Loc Cert.Reference54Ideal.nD Cert.Reference54Ideal.τ Cert.Reference54Ideal.sig) → Buf (Elt Ideal) ℓ) (g : Dev Cert.Reference54Ideal.nD → PrngReg), Pre_Reference54Ideal m →
    θ_run (Cert.Reference54Ideal.defs (F := Ideal)) (onTc (τ := Cert.Reference54Ideal.τ) (Cert.Reference54Ideal.main (F := Ideal))) ⟨m, fun _ => 0, g⟩ (fun r => (∀ c : Dev Cert.Reference54Ideal.nD,
      r.2.mem ((c.tc : Thread Cert.Reference54Ideal.nD Cert.Reference54Ideal.τ).loc Cert.Reference54Ideal.main_arg0) = m ((c.tc : Thread Cert.Reference54Ideal.nD Cert.Reference54Ideal.τ).loc Cert.Reference54Ideal.main_arg0)
      ∧ r.2.mem ((c.tc : Thread Cert.Reference54Ideal.nD Cert.Reference54Ideal.τ).loc Cert.Reference54Ideal.main_arg1) = m ((c.tc : Thread Cert.Reference54Ideal.nD Cert.Reference54Ideal.τ).loc Cert.Reference54Ideal.main_arg1)
      ∧ r.2.mem ((c.tc : Thread Cert.Reference54Ideal.nD Cert.Reference54Ideal.τ).loc Cert.Reference54Ideal.main_arg2) = m ((c.tc : Thread Cert.Reference54Ideal.nD Cert.Reference54Ideal.τ).loc Cert.Reference54Ideal.main_arg2)
      ∧ r.2.mem ((c.tc : Thread Cert.Reference54Ideal.nD Cert.Reference54Ideal.τ).loc Cert.Reference54Ideal.main_arg3) = m ((c.tc : Thread Cert.Reference54Ideal.nD Cert.Reference54Ideal.τ).loc Cert.Reference54Ideal.main_arg3))
      ∧ r.2.sem = fun _ => 0)

def quiescent_Kernel55 [hKernel55 : Cert.Kernel55.Facts] : Prop :=
  ∀ (m : (ℓ : Loc Cert.Kernel55.nD Cert.Kernel55.τ Cert.Kernel55.sig) → Buf (Elt Bits) ℓ) (g : Dev Cert.Kernel55.nD → PrngReg), Pre_Kernel55 m →
    θ_run (Cert.Kernel55.defs (F := Bits)) (onTc (τ := Cert.Kernel55.τ) (Cert.Kernel55.main (F := Bits))) ⟨m, fun _ => 0, g⟩ (fun r => (∀ c : Dev Cert.Kernel55.nD,
      r.2.mem ((c.tc : Thread Cert.Kernel55.nD Cert.Kernel55.τ).loc Cert.Kernel55.main_arg0) = m ((c.tc : Thread Cert.Kernel55.nD Cert.Kernel55.τ).loc Cert.Kernel55.main_arg0)
      ∧ r.2.mem ((c.tc : Thread Cert.Kernel55.nD Cert.Kernel55.τ).loc Cert.Kernel55.main_arg1) = m ((c.tc : Thread Cert.Kernel55.nD Cert.Kernel55.τ).loc Cert.Kernel55.main_arg1)
      ∧ r.2.mem ((c.tc : Thread Cert.Kernel55.nD Cert.Kernel55.τ).loc Cert.Kernel55.main_arg2) = m ((c.tc : Thread Cert.Kernel55.nD Cert.Kernel55.τ).loc Cert.Kernel55.main_arg2)
      ∧ r.2.mem ((c.tc : Thread Cert.Kernel55.nD Cert.Kernel55.τ).loc Cert.Kernel55.main_arg3) = m ((c.tc : Thread Cert.Kernel55.nD Cert.Kernel55.τ).loc Cert.Kernel55.main_arg3))
      ∧ r.2.sem = fun _ => 0)

def quiescent_Kernel55Ideal [hKernel55Ideal : Cert.Kernel55Ideal.Facts] : Prop :=
  ∀ (m : (ℓ : Loc Cert.Kernel55Ideal.nD Cert.Kernel55Ideal.τ Cert.Kernel55Ideal.sig) → Buf (Elt Ideal) ℓ) (g : Dev Cert.Kernel55Ideal.nD → PrngReg), Pre_Kernel55Ideal m →
    θ_run (Cert.Kernel55Ideal.defs (F := Ideal)) (onTc (τ := Cert.Kernel55Ideal.τ) (Cert.Kernel55Ideal.main (F := Ideal))) ⟨m, fun _ => 0, g⟩ (fun r => (∀ c : Dev Cert.Kernel55Ideal.nD,
      r.2.mem ((c.tc : Thread Cert.Kernel55Ideal.nD Cert.Kernel55Ideal.τ).loc Cert.Kernel55Ideal.main_arg0) = m ((c.tc : Thread Cert.Kernel55Ideal.nD Cert.Kernel55Ideal.τ).loc Cert.Kernel55Ideal.main_arg0)
      ∧ r.2.mem ((c.tc : Thread Cert.Kernel55Ideal.nD Cert.Kernel55Ideal.τ).loc Cert.Kernel55Ideal.main_arg1) = m ((c.tc : Thread Cert.Kernel55Ideal.nD Cert.Kernel55Ideal.τ).loc Cert.Kernel55Ideal.main_arg1)
      ∧ r.2.mem ((c.tc : Thread Cert.Kernel55Ideal.nD Cert.Kernel55Ideal.τ).loc Cert.Kernel55Ideal.main_arg2) = m ((c.tc : Thread Cert.Kernel55Ideal.nD Cert.Kernel55Ideal.τ).loc Cert.Kernel55Ideal.main_arg2)
      ∧ r.2.mem ((c.tc : Thread Cert.Kernel55Ideal.nD Cert.Kernel55Ideal.τ).loc Cert.Kernel55Ideal.main_arg3) = m ((c.tc : Thread Cert.Kernel55Ideal.nD Cert.Kernel55Ideal.τ).loc Cert.Kernel55Ideal.main_arg3))
      ∧ r.2.sem = fun _ => 0)

def quiescent_Reference55Ideal [hReference55Ideal : Cert.Reference55Ideal.Facts] : Prop :=
  ∀ (m : (ℓ : Loc Cert.Reference55Ideal.nD Cert.Reference55Ideal.τ Cert.Reference55Ideal.sig) → Buf (Elt Ideal) ℓ) (g : Dev Cert.Reference55Ideal.nD → PrngReg), Pre_Reference55Ideal m →
    θ_run (Cert.Reference55Ideal.defs (F := Ideal)) (onTc (τ := Cert.Reference55Ideal.τ) (Cert.Reference55Ideal.main (F := Ideal))) ⟨m, fun _ => 0, g⟩ (fun r => (∀ c : Dev Cert.Reference55Ideal.nD,
      r.2.mem ((c.tc : Thread Cert.Reference55Ideal.nD Cert.Reference55Ideal.τ).loc Cert.Reference55Ideal.main_arg0) = m ((c.tc : Thread Cert.Reference55Ideal.nD Cert.Reference55Ideal.τ).loc Cert.Reference55Ideal.main_arg0)
      ∧ r.2.mem ((c.tc : Thread Cert.Reference55Ideal.nD Cert.Reference55Ideal.τ).loc Cert.Reference55Ideal.main_arg1) = m ((c.tc : Thread Cert.Reference55Ideal.nD Cert.Reference55Ideal.τ).loc Cert.Reference55Ideal.main_arg1)
      ∧ r.2.mem ((c.tc : Thread Cert.Reference55Ideal.nD Cert.Reference55Ideal.τ).loc Cert.Reference55Ideal.main_arg2) = m ((c.tc : Thread Cert.Reference55Ideal.nD Cert.Reference55Ideal.τ).loc Cert.Reference55Ideal.main_arg2)
      ∧ r.2.mem ((c.tc : Thread Cert.Reference55Ideal.nD Cert.Reference55Ideal.τ).loc Cert.Reference55Ideal.main_arg3) = m ((c.tc : Thread Cert.Reference55Ideal.nD Cert.Reference55Ideal.τ).loc Cert.Reference55Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)) (v2 : (c : Dev Cert.KernelIdeal.nD) → Buf (Elt Ideal) ((c.tc : Thread Cert.KernelIdeal.nD Cert.KernelIdeal.τ).loc Cert.KernelIdeal.main_v62_2)) (v3 : (c : Dev Cert.KernelIdeal.nD) → Buf (Elt Ideal) ((c.tc : Thread Cert.KernelIdeal.nD Cert.KernelIdeal.τ).loc Cert.KernelIdeal.main_v62_3)) (v4 : (c : Dev Cert.KernelIdeal.nD) → Buf (Elt Ideal) ((c.tc : Thread Cert.KernelIdeal.nD Cert.KernelIdeal.τ).loc Cert.KernelIdeal.main_v62_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_v62_2) = v2 c
          ∧ r.2.mem ((c.tc : Thread Cert.KernelIdeal.nD Cert.KernelIdeal.τ).loc Cert.KernelIdeal.main_v62_3) = v3 c
          ∧ r.2.mem ((c.tc : Thread Cert.KernelIdeal.nD Cert.KernelIdeal.τ).loc Cert.KernelIdeal.main_v62_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_v98) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v8) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v9) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v9) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v6) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v7) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v7) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v6) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v4) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v4) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v4) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v3) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v2) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v3) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v5) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v4) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v3) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v3) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v1_0)) (v1 : (c : Dev Cert.Kernel37Ideal.nD) → Buf (Elt Ideal) ((c.tc : Thread Cert.Kernel37Ideal.nD Cert.Kernel37Ideal.τ).loc Cert.Kernel37Ideal.main_v1_1)) (v2 : (c : Dev Cert.Kernel37Ideal.nD) → Buf (Elt Ideal) ((c.tc : Thread Cert.Kernel37Ideal.nD Cert.Kernel37Ideal.τ).loc Cert.Kernel37Ideal.main_v1_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v1_0) = v0 c
          ∧ r.2.mem ((c.tc : Thread Cert.Kernel37Ideal.nD Cert.Kernel37Ideal.τ).loc Cert.Kernel37Ideal.main_v1_1) = v1 c
          ∧ r.2.mem ((c.tc : Thread Cert.Kernel37Ideal.nD Cert.Kernel37Ideal.τ).loc Cert.Kernel37Ideal.main_v1_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v36) = v0 c
          ∧ r.2.mem ((c.tc : Thread Cert.Reference37Ideal.nD Cert.Reference37Ideal.τ).loc Cert.Reference37Ideal.main_v38) = v1 c
          ∧ r.2.mem ((c.tc : Thread Cert.Reference37Ideal.nD Cert.Reference37Ideal.τ).loc Cert.Reference37Ideal.main_v40) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v1_0)) (v1 : (c : Dev Cert.Kernel38Ideal.nD) → Buf (Elt Ideal) ((c.tc : Thread Cert.Kernel38Ideal.nD Cert.Kernel38Ideal.τ).loc Cert.Kernel38Ideal.main_v1_1)) (v2 : (c : Dev Cert.Kernel38Ideal.nD) → Buf (Elt Ideal) ((c.tc : Thread Cert.Kernel38Ideal.nD Cert.Kernel38Ideal.τ).loc Cert.Kernel38Ideal.main_v1_2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v1_0) = v0 c
          ∧ r.2.mem ((c.tc : Thread Cert.Kernel38Ideal.nD Cert.Kernel38Ideal.τ).loc Cert.Kernel38Ideal.main_v1_1) = v1 c
          ∧ r.2.mem ((c.tc : Thread Cert.Kernel38Ideal.nD Cert.Kernel38Ideal.τ).loc Cert.Kernel38Ideal.main_v1_2) = v2 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v36) = v0 c
          ∧ r.2.mem ((c.tc : Thread Cert.Reference38Ideal.nD Cert.Reference38Ideal.τ).loc Cert.Reference38Ideal.main_v38) = v1 c
          ∧ r.2.mem ((c.tc : Thread Cert.Reference38Ideal.nD Cert.Reference38Ideal.τ).loc Cert.Reference38Ideal.main_v40) = v2 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v8) = v0 c
          ∧ r.2.mem ((c.tc : Thread Cert.Reference39Ideal.nD Cert.Reference39Ideal.τ).loc Cert.Reference39Ideal.main_v9) = v1 c
          ∧ r.2.mem ((c.tc : Thread Cert.Reference39Ideal.nD Cert.Reference39Ideal.τ).loc Cert.Reference39Ideal.main_v11) = v2 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)
      ∧ m' ((c.tc : Thread Cert.Reference40Ideal.nD Cert.Reference40Ideal.τ).loc Cert.Reference40Ideal.main_arg4) = m ((c.tc : Thread Cert.Kernel40Ideal.nD Cert.Kernel40Ideal.τ).loc Cert.Kernel40Ideal.main_arg4)) →
    ∃ (v0 : (c : Dev Cert.Kernel40Ideal.nD) → Buf (Elt Ideal) ((c.tc : Thread Cert.Kernel40Ideal.nD Cert.Kernel40Ideal.τ).loc Cert.Kernel40Ideal.main_v1_0)) (v1 : (c : Dev Cert.Kernel40Ideal.nD) → Buf (Elt Ideal) ((c.tc : Thread Cert.Kernel40Ideal.nD Cert.Kernel40Ideal.τ).loc Cert.Kernel40Ideal.main_v1_1)) (v2 : (c : Dev Cert.Kernel40Ideal.nD) → Buf (Elt Ideal) ((c.tc : Thread Cert.Kernel40Ideal.nD Cert.Kernel40Ideal.τ).loc Cert.Kernel40Ideal.main_v1_2)) (v3 : (c : Dev Cert.Kernel40Ideal.nD) → Buf (Elt Ideal) ((c.tc : Thread Cert.Kernel40Ideal.nD Cert.Kernel40Ideal.τ).loc Cert.Kernel40Ideal.main_v1_3)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v1_0) = v0 c
          ∧ r.2.mem ((c.tc : Thread Cert.Kernel40Ideal.nD Cert.Kernel40Ideal.τ).loc Cert.Kernel40Ideal.main_v1_1) = v1 c
          ∧ r.2.mem ((c.tc : Thread Cert.Kernel40Ideal.nD Cert.Kernel40Ideal.τ).loc Cert.Kernel40Ideal.main_v1_2) = v2 c
          ∧ r.2.mem ((c.tc : Thread Cert.Kernel40Ideal.nD Cert.Kernel40Ideal.τ).loc Cert.Kernel40Ideal.main_v1_3) = v3 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
          ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v57) = v0 c
          ∧ r.2.mem ((c.tc : Thread Cert.Reference40Ideal.nD Cert.Reference40Ideal.τ).loc Cert.Reference40Ideal.main_v58) = v1 c
          ∧ r.2.mem ((c.tc : Thread Cert.Reference40Ideal.nD Cert.Reference40Ideal.τ).loc Cert.Reference40Ideal.main_v59) = v2 c
          ∧ r.2.mem ((c.tc : Thread Cert.Reference40Ideal.nD Cert.Reference40Ideal.τ).loc Cert.Reference40Ideal.main_v61) = v3 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3)
          ∧ r.2.mem ((c.tc : Thread Cert.Reference40Ideal.nD Cert.Reference40Ideal.τ).loc Cert.Reference40Ideal.main_arg4) = m' ((c.tc : Thread Cert.Reference40Ideal.nD Cert.Reference40Ideal.τ).loc Cert.Reference40Ideal.main_arg4))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)) →
    ∃ (v0 : (c : Dev Cert.Kernel41Ideal.nD) → Buf (Elt Ideal) ((c.tc : Thread Cert.Kernel41Ideal.nD Cert.Kernel41Ideal.τ).loc Cert.Kernel41Ideal.main_v0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v33) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)) →
    ∃ (v0 : (c : Dev Cert.Kernel42Ideal.nD) → Buf (Elt Ideal) ((c.tc : Thread Cert.Kernel42Ideal.nD Cert.Kernel42Ideal.τ).loc Cert.Kernel42Ideal.main_v1)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v1) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v13) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)) →
    ∃ (v0 : (c : Dev Cert.Kernel43Ideal.nD) → Buf (Elt Ideal) ((c.tc : Thread Cert.Kernel43Ideal.nD Cert.Kernel43Ideal.τ).loc Cert.Kernel43Ideal.main_v1)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v1) = v0 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v13) = v0 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)) →
    ∃ (v0 : (c : Dev Cert.Kernel44Ideal.nD) → Buf (Elt Ideal) ((c.tc : Thread Cert.Kernel44Ideal.nD Cert.Kernel44Ideal.τ).loc Cert.Kernel44Ideal.main_v0)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0) = v0 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v2) = v0 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)
      ∧ m' ((c.tc : Thread Cert.Reference45Ideal.nD Cert.Reference45Ideal.τ).loc Cert.Reference45Ideal.main_arg2) = m ((c.tc : Thread Cert.Kernel45Ideal.nD Cert.Kernel45Ideal.τ).loc Cert.Kernel45Ideal.main_arg2)
      ∧ m' ((c.tc : Thread Cert.Reference45Ideal.nD Cert.Reference45Ideal.τ).loc Cert.Reference45Ideal.main_arg3) = m ((c.tc : Thread Cert.Kernel45Ideal.nD Cert.Kernel45Ideal.τ).loc Cert.Kernel45Ideal.main_arg3)
      ∧ m' ((c.tc : Thread Cert.Reference45Ideal.nD Cert.Reference45Ideal.τ).loc Cert.Reference45Ideal.main_arg4) = m ((c.tc : Thread Cert.Kernel45Ideal.nD Cert.Kernel45Ideal.τ).loc Cert.Kernel45Ideal.main_arg4)) →
    ∃ (v0 : (c : Dev Cert.Kernel45Ideal.nD) → Buf (Elt Ideal) ((c.tc : Thread Cert.Kernel45Ideal.nD Cert.Kernel45Ideal.τ).loc Cert.Kernel45Ideal.main_v2)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v2) = v0 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
          ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
          ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3)
          ∧ r.2.mem ((c.tc : Thread Cert.Kernel45Ideal.nD Cert.Kernel45Ideal.τ).loc Cert.Kernel45Ideal.main_arg4) = m ((c.tc : Thread Cert.Kernel45Ideal.nD Cert.Kernel45Ideal.τ).loc Cert.Kernel45Ideal.main_arg4))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v22) = v0 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1)
          ∧ r.2.mem ((c.tc : Thread Cert.Reference45Ideal.nD Cert.Reference45Ideal.τ).loc Cert.Reference45Ideal.main_arg2) = m' ((c.tc : Thread Cert.Reference45Ideal.nD Cert.Reference45Ideal.τ).loc Cert.Reference45Ideal.main_arg2)
          ∧ r.2.mem ((c.tc : Thread Cert.Reference45Ideal.nD Cert.Reference45Ideal.τ).loc Cert.Reference45Ideal.main_arg3) = m' ((c.tc : Thread Cert.Reference45Ideal.nD Cert.Reference45Ideal.τ).loc Cert.Reference45Ideal.main_arg3)
          ∧ r.2.mem ((c.tc : Thread Cert.Reference45Ideal.nD Cert.Reference45Ideal.τ).loc Cert.Reference45Ideal.main_arg4) = m' ((c.tc : Thread Cert.Reference45Ideal.nD Cert.Reference45Ideal.τ).loc Cert.Reference45Ideal.main_arg4))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)
      ∧ m' ((c.tc : Thread Cert.Reference46Ideal.nD Cert.Reference46Ideal.τ).loc Cert.Reference46Ideal.main_arg2) = m ((c.tc : Thread Cert.Kernel46Ideal.nD Cert.Kernel46Ideal.τ).loc Cert.Kernel46Ideal.main_arg2)
      ∧ m' ((c.tc : Thread Cert.Reference46Ideal.nD Cert.Reference46Ideal.τ).loc Cert.Reference46Ideal.main_arg3) = m ((c.tc : Thread Cert.Kernel46Ideal.nD Cert.Kernel46Ideal.τ).loc Cert.Kernel46Ideal.main_arg3)) →
    ∃ (v0 : (c : Dev Cert.Kernel46Ideal.nD) → Buf (Elt Ideal) ((c.tc : Thread Cert.Kernel46Ideal.nD Cert.Kernel46Ideal.τ).loc Cert.Kernel46Ideal.main_v1)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v1) = v0 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
          ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2)
          ∧ r.2.mem ((c.tc : Thread Cert.Kernel46Ideal.nD Cert.Kernel46Ideal.τ).loc Cert.Kernel46Ideal.main_arg3) = m ((c.tc : Thread Cert.Kernel46Ideal.nD Cert.Kernel46Ideal.τ).loc Cert.Kernel46Ideal.main_arg3))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v26) = v0 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1)
          ∧ r.2.mem ((c.tc : Thread Cert.Reference46Ideal.nD Cert.Reference46Ideal.τ).loc Cert.Reference46Ideal.main_arg2) = m' ((c.tc : Thread Cert.Reference46Ideal.nD Cert.Reference46Ideal.τ).loc Cert.Reference46Ideal.main_arg2)
          ∧ r.2.mem ((c.tc : Thread Cert.Reference46Ideal.nD Cert.Reference46Ideal.τ).loc Cert.Reference46Ideal.main_arg3) = m' ((c.tc : Thread Cert.Reference46Ideal.nD Cert.Reference46Ideal.τ).loc Cert.Reference46Ideal.main_arg3))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)) →
    ∃ (v0 : (c : Dev Cert.Kernel47Ideal.nD) → Buf (Elt Ideal) ((c.tc : Thread Cert.Kernel47Ideal.nD Cert.Kernel47Ideal.τ).loc Cert.Kernel47Ideal.main_v0)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v0) = v0 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v13) = v0 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0))

def preserves_Kernel48_Kernel48Ideal : Prop :=
  True

def algebraic_Kernel48Ideal_Reference48Ideal [hKernel48Ideal : Cert.Kernel48Ideal.Facts] [hReference48Ideal : Cert.Reference48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg)
    (m' : (ℓ : Loc Cert.Reference48Ideal.nD Cert.Reference48Ideal.τ Cert.Reference48Ideal.sig) → Buf (Elt Ideal) ℓ) (g' : Dev Cert.Reference48Ideal.nD → PrngReg), Pre_Kernel48Ideal m →
    (∀ c : Dev Cert.Kernel48Ideal.nD,
      m' ((c.tc : Thread Cert.Reference48Ideal.nD Cert.Reference48Ideal.τ).loc Cert.Reference48Ideal.main_arg0) = m ((c.tc : Thread Cert.Kernel48Ideal.nD Cert.Kernel48Ideal.τ).loc Cert.Kernel48Ideal.main_arg0)
      ∧ m' ((c.tc : Thread Cert.Reference48Ideal.nD Cert.Reference48Ideal.τ).loc Cert.Reference48Ideal.main_arg1) = m ((c.tc : Thread Cert.Kernel48Ideal.nD Cert.Kernel48Ideal.τ).loc Cert.Kernel48Ideal.main_arg1)
      ∧ m' ((c.tc : Thread Cert.Reference48Ideal.nD Cert.Reference48Ideal.τ).loc Cert.Reference48Ideal.main_arg2) = m ((c.tc : Thread Cert.Kernel48Ideal.nD Cert.Kernel48Ideal.τ).loc Cert.Kernel48Ideal.main_arg2)) →
    ∃ (v0 : (c : Dev Cert.Kernel48Ideal.nD) → Buf (Elt Ideal) ((c.tc : Thread Cert.Kernel48Ideal.nD Cert.Kernel48Ideal.τ).loc Cert.Kernel48Ideal.main_v1_0)) (v1 : (c : Dev Cert.Kernel48Ideal.nD) → Buf (Elt Ideal) ((c.tc : Thread Cert.Kernel48Ideal.nD Cert.Kernel48Ideal.τ).loc Cert.Kernel48Ideal.main_v1_1)) (v2 : (c : Dev Cert.Kernel48Ideal.nD) → Buf (Elt Ideal) ((c.tc : Thread Cert.Kernel48Ideal.nD Cert.Kernel48Ideal.τ).loc Cert.Kernel48Ideal.main_v1_2)) (v3 : (c : Dev Cert.Kernel48Ideal.nD) → Buf (Elt Ideal) ((c.tc : Thread Cert.Kernel48Ideal.nD Cert.Kernel48Ideal.τ).loc Cert.Kernel48Ideal.main_v1_3)),
      θ_run (Cert.Kernel48Ideal.defs (F := Ideal)) (onTc (τ := Cert.Kernel48Ideal.τ) (Cert.Kernel48Ideal.main (F := Ideal))) ⟨m, fun _ => 0, g⟩ (fun r => ∀ c : Dev Cert.Kernel48Ideal.nD,
          r.2.mem ((c.tc : Thread Cert.Kernel48Ideal.nD Cert.Kernel48Ideal.τ).loc Cert.Kernel48Ideal.main_v1_0) = v0 c
          ∧ r.2.mem ((c.tc : Thread Cert.Kernel48Ideal.nD Cert.Kernel48Ideal.τ).loc Cert.Kernel48Ideal.main_v1_1) = v1 c
          ∧ r.2.mem ((c.tc : Thread Cert.Kernel48Ideal.nD Cert.Kernel48Ideal.τ).loc Cert.Kernel48Ideal.main_v1_2) = v2 c
          ∧ r.2.mem ((c.tc : Thread Cert.Kernel48Ideal.nD Cert.Kernel48Ideal.τ).loc Cert.Kernel48Ideal.main_v1_3) = v3 c
          ∧ r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
          ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
          ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2))
      ∧ θ_run (Cert.Reference48Ideal.defs (F := Ideal)) (onTc (τ := Cert.Reference48Ideal.τ) (Cert.Reference48Ideal.main (F := Ideal))) ⟨m', fun _ => 0, g'⟩ (fun r => ∀ c : Dev Cert.Reference48Ideal.nD,
          r.2.mem ((c.tc : Thread Cert.Reference48Ideal.nD Cert.Reference48Ideal.τ).loc Cert.Reference48Ideal.main_v50) = v0 c
          ∧ r.2.mem ((c.tc : Thread Cert.Reference48Ideal.nD Cert.Reference48Ideal.τ).loc Cert.Reference48Ideal.main_v51) = v1 c
          ∧ r.2.mem ((c.tc : Thread Cert.Reference48Ideal.nD Cert.Reference48Ideal.τ).loc Cert.Reference48Ideal.main_v53) = v2 c
          ∧ r.2.mem ((c.tc : Thread Cert.Reference48Ideal.nD Cert.Reference48Ideal.τ).loc Cert.Reference48Ideal.main_v54) = v3 c
          ∧ r.2.mem ((c.tc : Thread Cert.Reference48Ideal.nD Cert.Reference48Ideal.τ).loc Cert.Reference48Ideal.main_arg0) = m' ((c.tc : Thread Cert.Reference48Ideal.nD Cert.Reference48Ideal.τ).loc Cert.Reference48Ideal.main_arg0)
          ∧ r.2.mem ((c.tc : Thread Cert.Reference48Ideal.nD Cert.Reference48Ideal.τ).loc Cert.Reference48Ideal.main_arg1) = m' ((c.tc : Thread Cert.Reference48Ideal.nD Cert.Reference48Ideal.τ).loc Cert.Reference48Ideal.main_arg1)
          ∧ r.2.mem ((c.tc : Thread Cert.Reference48Ideal.nD Cert.Reference48Ideal.τ).loc Cert.Reference48Ideal.main_arg2) = m' ((c.tc : Thread Cert.Reference48Ideal.nD Cert.Reference48Ideal.τ).loc Cert.Reference48Ideal.main_arg2))

def preserves_Kernel49_Kernel49Ideal : Prop :=
  True

def algebraic_Kernel49Ideal_Reference49Ideal [hKernel49Ideal : Cert.Kernel49Ideal.Facts] [hReference49Ideal : Cert.Reference49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg)
    (m' : (ℓ : Loc Cert.Reference49Ideal.nD Cert.Reference49Ideal.τ Cert.Reference49Ideal.sig) → Buf (Elt Ideal) ℓ) (g' : Dev Cert.Reference49Ideal.nD → PrngReg), Pre_Kernel49Ideal m →
    (∀ c : Dev Cert.Kernel49Ideal.nD,
      m' ((c.tc : Thread Cert.Reference49Ideal.nD Cert.Reference49Ideal.τ).loc Cert.Reference49Ideal.main_arg0) = m ((c.tc : Thread Cert.Kernel49Ideal.nD Cert.Kernel49Ideal.τ).loc Cert.Kernel49Ideal.main_arg0)
      ∧ m' ((c.tc : Thread Cert.Reference49Ideal.nD Cert.Reference49Ideal.τ).loc Cert.Reference49Ideal.main_arg1) = m ((c.tc : Thread Cert.Kernel49Ideal.nD Cert.Kernel49Ideal.τ).loc Cert.Kernel49Ideal.main_arg1)
      ∧ m' ((c.tc : Thread Cert.Reference49Ideal.nD Cert.Reference49Ideal.τ).loc Cert.Reference49Ideal.main_arg2) = m ((c.tc : Thread Cert.Kernel49Ideal.nD Cert.Kernel49Ideal.τ).loc Cert.Kernel49Ideal.main_arg2)
      ∧ m' ((c.tc : Thread Cert.Reference49Ideal.nD Cert.Reference49Ideal.τ).loc Cert.Reference49Ideal.main_arg3) = m ((c.tc : Thread Cert.Kernel49Ideal.nD Cert.Kernel49Ideal.τ).loc Cert.Kernel49Ideal.main_arg3)) →
    ∃ (v0 : (c : Dev Cert.Kernel49Ideal.nD) → Buf (Elt Ideal) ((c.tc : Thread Cert.Kernel49Ideal.nD Cert.Kernel49Ideal.τ).loc Cert.Kernel49Ideal.main_v0_0)) (v1 : (c : Dev Cert.Kernel49Ideal.nD) → Buf (Elt Ideal) ((c.tc : Thread Cert.Kernel49Ideal.nD Cert.Kernel49Ideal.τ).loc Cert.Kernel49Ideal.main_v0_1)) (v2 : (c : Dev Cert.Kernel49Ideal.nD) → Buf (Elt Ideal) ((c.tc : Thread Cert.Kernel49Ideal.nD Cert.Kernel49Ideal.τ).loc Cert.Kernel49Ideal.main_v0_2)) (v3 : (c : Dev Cert.Kernel49Ideal.nD) → Buf (Elt Ideal) ((c.tc : Thread Cert.Kernel49Ideal.nD Cert.Kernel49Ideal.τ).loc Cert.Kernel49Ideal.main_v0_3)),
      θ_run (Cert.Kernel49Ideal.defs (F := Ideal)) (onTc (τ := Cert.Kernel49Ideal.τ) (Cert.Kernel49Ideal.main (F := Ideal))) ⟨m, fun _ => 0, g⟩ (fun r => ∀ c : Dev Cert.Kernel49Ideal.nD,
          r.2.mem ((c.tc : Thread Cert.Kernel49Ideal.nD Cert.Kernel49Ideal.τ).loc Cert.Kernel49Ideal.main_v0_0) = v0 c
          ∧ r.2.mem ((c.tc : Thread Cert.Kernel49Ideal.nD Cert.Kernel49Ideal.τ).loc Cert.Kernel49Ideal.main_v0_1) = v1 c
          ∧ r.2.mem ((c.tc : Thread Cert.Kernel49Ideal.nD Cert.Kernel49Ideal.τ).loc Cert.Kernel49Ideal.main_v0_2) = v2 c
          ∧ r.2.mem ((c.tc : Thread Cert.Kernel49Ideal.nD Cert.Kernel49Ideal.τ).loc Cert.Kernel49Ideal.main_v0_3) = v3 c
          ∧ r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
          ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
          ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2)
          ∧ r.2.mem ((c.tc : Thread Cert.Kernel49Ideal.nD Cert.Kernel49Ideal.τ).loc Cert.Kernel49Ideal.main_arg3) = m ((c.tc : Thread Cert.Kernel49Ideal.nD Cert.Kernel49Ideal.τ).loc Cert.Kernel49Ideal.main_arg3))
      ∧ θ_run (Cert.Reference49Ideal.defs (F := Ideal)) (onTc (τ := Cert.Reference49Ideal.τ) (Cert.Reference49Ideal.main (F := Ideal))) ⟨m', fun _ => 0, g'⟩ (fun r => ∀ c : Dev Cert.Reference49Ideal.nD,
          r.2.mem ((c.tc : Thread Cert.Reference49Ideal.nD Cert.Reference49Ideal.τ).loc Cert.Reference49Ideal.main_v1) = v0 c
          ∧ r.2.mem ((c.tc : Thread Cert.Reference49Ideal.nD Cert.Reference49Ideal.τ).loc Cert.Reference49Ideal.main_v25) = v1 c
          ∧ r.2.mem ((c.tc : Thread Cert.Reference49Ideal.nD Cert.Reference49Ideal.τ).loc Cert.Reference49Ideal.main_v6) = v2 c
          ∧ r.2.mem ((c.tc : Thread Cert.Reference49Ideal.nD Cert.Reference49Ideal.τ).loc Cert.Reference49Ideal.main_v12) = v3 c
          ∧ r.2.mem ((c.tc : Thread Cert.Reference49Ideal.nD Cert.Reference49Ideal.τ).loc Cert.Reference49Ideal.main_arg0) = m' ((c.tc : Thread Cert.Reference49Ideal.nD Cert.Reference49Ideal.τ).loc Cert.Reference49Ideal.main_arg0)
          ∧ r.2.mem ((c.tc : Thread Cert.Reference49Ideal.nD Cert.Reference49Ideal.τ).loc Cert.Reference49Ideal.main_arg1) = m' ((c.tc : Thread Cert.Reference49Ideal.nD Cert.Reference49Ideal.τ).loc Cert.Reference49Ideal.main_arg1)
          ∧ r.2.mem ((c.tc : Thread Cert.Reference49Ideal.nD Cert.Reference49Ideal.τ).loc Cert.Reference49Ideal.main_arg2) = m' ((c.tc : Thread Cert.Reference49Ideal.nD Cert.Reference49Ideal.τ).loc Cert.Reference49Ideal.main_arg2)
          ∧ r.2.mem ((c.tc : Thread Cert.Reference49Ideal.nD Cert.Reference49Ideal.τ).loc Cert.Reference49Ideal.main_arg3) = m' ((c.tc : Thread Cert.Reference49Ideal.nD Cert.Reference49Ideal.τ).loc Cert.Reference49Ideal.main_arg3))

def preserves_Kernel50_Kernel50Ideal : Prop :=
  True

def algebraic_Kernel50Ideal_Reference50Ideal [hKernel50Ideal : Cert.Kernel50Ideal.Facts] [hReference50Ideal : Cert.Reference50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg)
    (m' : (ℓ : Loc Cert.Reference50Ideal.nD Cert.Reference50Ideal.τ Cert.Reference50Ideal.sig) → Buf (Elt Ideal) ℓ) (g' : Dev Cert.Reference50Ideal.nD → PrngReg), Pre_Kernel50Ideal m →
    (∀ c : Dev Cert.Kernel50Ideal.nD,
      m' ((c.tc : Thread Cert.Reference50Ideal.nD Cert.Reference50Ideal.τ).loc Cert.Reference50Ideal.main_arg0) = m ((c.tc : Thread Cert.Kernel50Ideal.nD Cert.Kernel50Ideal.τ).loc Cert.Kernel50Ideal.main_arg0)
      ∧ m' ((c.tc : Thread Cert.Reference50Ideal.nD Cert.Reference50Ideal.τ).loc Cert.Reference50Ideal.main_arg1) = m ((c.tc : Thread Cert.Kernel50Ideal.nD Cert.Kernel50Ideal.τ).loc Cert.Kernel50Ideal.main_arg1)
      ∧ m' ((c.tc : Thread Cert.Reference50Ideal.nD Cert.Reference50Ideal.τ).loc Cert.Reference50Ideal.main_arg2) = m ((c.tc : Thread Cert.Kernel50Ideal.nD Cert.Kernel50Ideal.τ).loc Cert.Kernel50Ideal.main_arg2)
      ∧ m' ((c.tc : Thread Cert.Reference50Ideal.nD Cert.Reference50Ideal.τ).loc Cert.Reference50Ideal.main_arg3) = m ((c.tc : Thread Cert.Kernel50Ideal.nD Cert.Kernel50Ideal.τ).loc Cert.Kernel50Ideal.main_arg3)) →
    ∃ (v0 : (c : Dev Cert.Kernel50Ideal.nD) → Buf (Elt Ideal) ((c.tc : Thread Cert.Kernel50Ideal.nD Cert.Kernel50Ideal.τ).loc Cert.Kernel50Ideal.main_v0_0)) (v1 : (c : Dev Cert.Kernel50Ideal.nD) → Buf (Elt Ideal) ((c.tc : Thread Cert.Kernel50Ideal.nD Cert.Kernel50Ideal.τ).loc Cert.Kernel50Ideal.main_v0_1)) (v2 : (c : Dev Cert.Kernel50Ideal.nD) → Buf (Elt Ideal) ((c.tc : Thread Cert.Kernel50Ideal.nD Cert.Kernel50Ideal.τ).loc Cert.Kernel50Ideal.main_v0_2)) (v3 : (c : Dev Cert.Kernel50Ideal.nD) → Buf (Elt Ideal) ((c.tc : Thread Cert.Kernel50Ideal.nD Cert.Kernel50Ideal.τ).loc Cert.Kernel50Ideal.main_v0_3)),
      θ_run (Cert.Kernel50Ideal.defs (F := Ideal)) (onTc (τ := Cert.Kernel50Ideal.τ) (Cert.Kernel50Ideal.main (F := Ideal))) ⟨m, fun _ => 0, g⟩ (fun r => ∀ c : Dev Cert.Kernel50Ideal.nD,
          r.2.mem ((c.tc : Thread Cert.Kernel50Ideal.nD Cert.Kernel50Ideal.τ).loc Cert.Kernel50Ideal.main_v0_0) = v0 c
          ∧ r.2.mem ((c.tc : Thread Cert.Kernel50Ideal.nD Cert.Kernel50Ideal.τ).loc Cert.Kernel50Ideal.main_v0_1) = v1 c
          ∧ r.2.mem ((c.tc : Thread Cert.Kernel50Ideal.nD Cert.Kernel50Ideal.τ).loc Cert.Kernel50Ideal.main_v0_2) = v2 c
          ∧ r.2.mem ((c.tc : Thread Cert.Kernel50Ideal.nD Cert.Kernel50Ideal.τ).loc Cert.Kernel50Ideal.main_v0_3) = v3 c
          ∧ r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
          ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1)
          ∧ r.2.mem ((c.tc : Thread Cert.Kernel50Ideal.nD Cert.Kernel50Ideal.τ).loc Cert.Kernel50Ideal.main_arg2) = m ((c.tc : Thread Cert.Kernel50Ideal.nD Cert.Kernel50Ideal.τ).loc Cert.Kernel50Ideal.main_arg2)
          ∧ r.2.mem ((c.tc : Thread Cert.Kernel50Ideal.nD Cert.Kernel50Ideal.τ).loc Cert.Kernel50Ideal.main_arg3) = m ((c.tc : Thread Cert.Kernel50Ideal.nD Cert.Kernel50Ideal.τ).loc Cert.Kernel50Ideal.main_arg3))
      ∧ θ_run (Cert.Reference50Ideal.defs (F := Ideal)) (onTc (τ := Cert.Reference50Ideal.τ) (Cert.Reference50Ideal.main (F := Ideal))) ⟨m', fun _ => 0, g'⟩ (fun r => ∀ c : Dev Cert.Reference50Ideal.nD,
          r.2.mem ((c.tc : Thread Cert.Reference50Ideal.nD Cert.Reference50Ideal.τ).loc Cert.Reference50Ideal.main_v1) = v0 c
          ∧ r.2.mem ((c.tc : Thread Cert.Reference50Ideal.nD Cert.Reference50Ideal.τ).loc Cert.Reference50Ideal.main_v25) = v1 c
          ∧ r.2.mem ((c.tc : Thread Cert.Reference50Ideal.nD Cert.Reference50Ideal.τ).loc Cert.Reference50Ideal.main_v6) = v2 c
          ∧ r.2.mem ((c.tc : Thread Cert.Reference50Ideal.nD Cert.Reference50Ideal.τ).loc Cert.Reference50Ideal.main_v12) = v3 c
          ∧ r.2.mem ((c.tc : Thread Cert.Reference50Ideal.nD Cert.Reference50Ideal.τ).loc Cert.Reference50Ideal.main_arg0) = m' ((c.tc : Thread Cert.Reference50Ideal.nD Cert.Reference50Ideal.τ).loc Cert.Reference50Ideal.main_arg0)
          ∧ r.2.mem ((c.tc : Thread Cert.Reference50Ideal.nD Cert.Reference50Ideal.τ).loc Cert.Reference50Ideal.main_arg1) = m' ((c.tc : Thread Cert.Reference50Ideal.nD Cert.Reference50Ideal.τ).loc Cert.Reference50Ideal.main_arg1)
          ∧ r.2.mem ((c.tc : Thread Cert.Reference50Ideal.nD Cert.Reference50Ideal.τ).loc Cert.Reference50Ideal.main_arg2) = m' ((c.tc : Thread Cert.Reference50Ideal.nD Cert.Reference50Ideal.τ).loc Cert.Reference50Ideal.main_arg2)
          ∧ r.2.mem ((c.tc : Thread Cert.Reference50Ideal.nD Cert.Reference50Ideal.τ).loc Cert.Reference50Ideal.main_arg3) = m' ((c.tc : Thread Cert.Reference50Ideal.nD Cert.Reference50Ideal.τ).loc Cert.Reference50Ideal.main_arg3))

def preserves_Kernel51_Kernel51Ideal : Prop :=
  True

def algebraic_Kernel51Ideal_Reference51Ideal [hKernel51Ideal : Cert.Kernel51Ideal.Facts] [hReference51Ideal : Cert.Reference51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg)
    (m' : (ℓ : Loc Cert.Reference51Ideal.nD Cert.Reference51Ideal.τ Cert.Reference51Ideal.sig) → Buf (Elt Ideal) ℓ) (g' : Dev Cert.Reference51Ideal.nD → PrngReg), Pre_Kernel51Ideal m →
    (∀ c : Dev Cert.Kernel51Ideal.nD,
      m' ((c.tc : Thread Cert.Reference51Ideal.nD Cert.Reference51Ideal.τ).loc Cert.Reference51Ideal.main_arg0) = m ((c.tc : Thread Cert.Kernel51Ideal.nD Cert.Kernel51Ideal.τ).loc Cert.Kernel51Ideal.main_arg0)
      ∧ m' ((c.tc : Thread Cert.Reference51Ideal.nD Cert.Reference51Ideal.τ).loc Cert.Reference51Ideal.main_arg1) = m ((c.tc : Thread Cert.Kernel51Ideal.nD Cert.Kernel51Ideal.τ).loc Cert.Kernel51Ideal.main_arg1)
      ∧ m' ((c.tc : Thread Cert.Reference51Ideal.nD Cert.Reference51Ideal.τ).loc Cert.Reference51Ideal.main_arg2) = m ((c.tc : Thread Cert.Kernel51Ideal.nD Cert.Kernel51Ideal.τ).loc Cert.Kernel51Ideal.main_arg2)
      ∧ m' ((c.tc : Thread Cert.Reference51Ideal.nD Cert.Reference51Ideal.τ).loc Cert.Reference51Ideal.main_arg3) = m ((c.tc : Thread Cert.Kernel51Ideal.nD Cert.Kernel51Ideal.τ).loc Cert.Kernel51Ideal.main_arg3)) →
    ∃ (v0 : (c : Dev Cert.Kernel51Ideal.nD) → Buf (Elt Ideal) ((c.tc : Thread Cert.Kernel51Ideal.nD Cert.Kernel51Ideal.τ).loc Cert.Kernel51Ideal.main_v0_0)) (v1 : (c : Dev Cert.Kernel51Ideal.nD) → Buf (Elt Ideal) ((c.tc : Thread Cert.Kernel51Ideal.nD Cert.Kernel51Ideal.τ).loc Cert.Kernel51Ideal.main_v0_1)) (v2 : (c : Dev Cert.Kernel51Ideal.nD) → Buf (Elt Ideal) ((c.tc : Thread Cert.Kernel51Ideal.nD Cert.Kernel51Ideal.τ).loc Cert.Kernel51Ideal.main_v0_2)) (v3 : (c : Dev Cert.Kernel51Ideal.nD) → Buf (Elt Ideal) ((c.tc : Thread Cert.Kernel51Ideal.nD Cert.Kernel51Ideal.τ).loc Cert.Kernel51Ideal.main_v0_3)),
      θ_run (Cert.Kernel51Ideal.defs (F := Ideal)) (onTc (τ := Cert.Kernel51Ideal.τ) (Cert.Kernel51Ideal.main (F := Ideal))) ⟨m, fun _ => 0, g⟩ (fun r => ∀ c : Dev Cert.Kernel51Ideal.nD,
          r.2.mem ((c.tc : Thread Cert.Kernel51Ideal.nD Cert.Kernel51Ideal.τ).loc Cert.Kernel51Ideal.main_v0_0) = v0 c
          ∧ r.2.mem ((c.tc : Thread Cert.Kernel51Ideal.nD Cert.Kernel51Ideal.τ).loc Cert.Kernel51Ideal.main_v0_1) = v1 c
          ∧ r.2.mem ((c.tc : Thread Cert.Kernel51Ideal.nD Cert.Kernel51Ideal.τ).loc Cert.Kernel51Ideal.main_v0_2) = v2 c
          ∧ r.2.mem ((c.tc : Thread Cert.Kernel51Ideal.nD Cert.Kernel51Ideal.τ).loc Cert.Kernel51Ideal.main_v0_3) = v3 c
          ∧ r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
          ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1)
          ∧ r.2.mem ((c.tc : Thread Cert.Kernel51Ideal.nD Cert.Kernel51Ideal.τ).loc Cert.Kernel51Ideal.main_arg2) = m ((c.tc : Thread Cert.Kernel51Ideal.nD Cert.Kernel51Ideal.τ).loc Cert.Kernel51Ideal.main_arg2)
          ∧ r.2.mem ((c.tc : Thread Cert.Kernel51Ideal.nD Cert.Kernel51Ideal.τ).loc Cert.Kernel51Ideal.main_arg3) = m ((c.tc : Thread Cert.Kernel51Ideal.nD Cert.Kernel51Ideal.τ).loc Cert.Kernel51Ideal.main_arg3))
      ∧ θ_run (Cert.Reference51Ideal.defs (F := Ideal)) (onTc (τ := Cert.Reference51Ideal.τ) (Cert.Reference51Ideal.main (F := Ideal))) ⟨m', fun _ => 0, g'⟩ (fun r => ∀ c : Dev Cert.Reference51Ideal.nD,
          r.2.mem ((c.tc : Thread Cert.Reference51Ideal.nD Cert.Reference51Ideal.τ).loc Cert.Reference51Ideal.main_v1) = v0 c
          ∧ r.2.mem ((c.tc : Thread Cert.Reference51Ideal.nD Cert.Reference51Ideal.τ).loc Cert.Reference51Ideal.main_v25) = v1 c
          ∧ r.2.mem ((c.tc : Thread Cert.Reference51Ideal.nD Cert.Reference51Ideal.τ).loc Cert.Reference51Ideal.main_v6) = v2 c
          ∧ r.2.mem ((c.tc : Thread Cert.Reference51Ideal.nD Cert.Reference51Ideal.τ).loc Cert.Reference51Ideal.main_v12) = v3 c
          ∧ r.2.mem ((c.tc : Thread Cert.Reference51Ideal.nD Cert.Reference51Ideal.τ).loc Cert.Reference51Ideal.main_arg0) = m' ((c.tc : Thread Cert.Reference51Ideal.nD Cert.Reference51Ideal.τ).loc Cert.Reference51Ideal.main_arg0)
          ∧ r.2.mem ((c.tc : Thread Cert.Reference51Ideal.nD Cert.Reference51Ideal.τ).loc Cert.Reference51Ideal.main_arg1) = m' ((c.tc : Thread Cert.Reference51Ideal.nD Cert.Reference51Ideal.τ).loc Cert.Reference51Ideal.main_arg1)
          ∧ r.2.mem ((c.tc : Thread Cert.Reference51Ideal.nD Cert.Reference51Ideal.τ).loc Cert.Reference51Ideal.main_arg2) = m' ((c.tc : Thread Cert.Reference51Ideal.nD Cert.Reference51Ideal.τ).loc Cert.Reference51Ideal.main_arg2)
          ∧ r.2.mem ((c.tc : Thread Cert.Reference51Ideal.nD Cert.Reference51Ideal.τ).loc Cert.Reference51Ideal.main_arg3) = m' ((c.tc : Thread Cert.Reference51Ideal.nD Cert.Reference51Ideal.τ).loc Cert.Reference51Ideal.main_arg3))

def preserves_Kernel52_Kernel52Ideal : Prop :=
  True

def algebraic_Kernel52Ideal_Reference52Ideal [hKernel52Ideal : Cert.Kernel52Ideal.Facts] [hReference52Ideal : Cert.Reference52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg)
    (m' : (ℓ : Loc Cert.Reference52Ideal.nD Cert.Reference52Ideal.τ Cert.Reference52Ideal.sig) → Buf (Elt Ideal) ℓ) (g' : Dev Cert.Reference52Ideal.nD → PrngReg), Pre_Kernel52Ideal m →
    (∀ c : Dev Cert.Kernel52Ideal.nD,
      m' ((c.tc : Thread Cert.Reference52Ideal.nD Cert.Reference52Ideal.τ).loc Cert.Reference52Ideal.main_arg0) = m ((c.tc : Thread Cert.Kernel52Ideal.nD Cert.Kernel52Ideal.τ).loc Cert.Kernel52Ideal.main_arg0)
      ∧ m' ((c.tc : Thread Cert.Reference52Ideal.nD Cert.Reference52Ideal.τ).loc Cert.Reference52Ideal.main_arg1) = m ((c.tc : Thread Cert.Kernel52Ideal.nD Cert.Kernel52Ideal.τ).loc Cert.Kernel52Ideal.main_arg1)
      ∧ m' ((c.tc : Thread Cert.Reference52Ideal.nD Cert.Reference52Ideal.τ).loc Cert.Reference52Ideal.main_arg2) = m ((c.tc : Thread Cert.Kernel52Ideal.nD Cert.Kernel52Ideal.τ).loc Cert.Kernel52Ideal.main_arg2)
      ∧ m' ((c.tc : Thread Cert.Reference52Ideal.nD Cert.Reference52Ideal.τ).loc Cert.Reference52Ideal.main_arg3) = m ((c.tc : Thread Cert.Kernel52Ideal.nD Cert.Kernel52Ideal.τ).loc Cert.Kernel52Ideal.main_arg3)) →
    ∃ (v0 : (c : Dev Cert.Kernel52Ideal.nD) → Buf (Elt Ideal) ((c.tc : Thread Cert.Kernel52Ideal.nD Cert.Kernel52Ideal.τ).loc Cert.Kernel52Ideal.main_v0_0)) (v1 : (c : Dev Cert.Kernel52Ideal.nD) → Buf (Elt Ideal) ((c.tc : Thread Cert.Kernel52Ideal.nD Cert.Kernel52Ideal.τ).loc Cert.Kernel52Ideal.main_v0_1)) (v2 : (c : Dev Cert.Kernel52Ideal.nD) → Buf (Elt Ideal) ((c.tc : Thread Cert.Kernel52Ideal.nD Cert.Kernel52Ideal.τ).loc Cert.Kernel52Ideal.main_v0_2)) (v3 : (c : Dev Cert.Kernel52Ideal.nD) → Buf (Elt Ideal) ((c.tc : Thread Cert.Kernel52Ideal.nD Cert.Kernel52Ideal.τ).loc Cert.Kernel52Ideal.main_v0_3)),
      θ_run (Cert.Kernel52Ideal.defs (F := Ideal)) (onTc (τ := Cert.Kernel52Ideal.τ) (Cert.Kernel52Ideal.main (F := Ideal))) ⟨m, fun _ => 0, g⟩ (fun r => ∀ c : Dev Cert.Kernel52Ideal.nD,
          r.2.mem ((c.tc : Thread Cert.Kernel52Ideal.nD Cert.Kernel52Ideal.τ).loc Cert.Kernel52Ideal.main_v0_0) = v0 c
          ∧ r.2.mem ((c.tc : Thread Cert.Kernel52Ideal.nD Cert.Kernel52Ideal.τ).loc Cert.Kernel52Ideal.main_v0_1) = v1 c
          ∧ r.2.mem ((c.tc : Thread Cert.Kernel52Ideal.nD Cert.Kernel52Ideal.τ).loc Cert.Kernel52Ideal.main_v0_2) = v2 c
          ∧ r.2.mem ((c.tc : Thread Cert.Kernel52Ideal.nD Cert.Kernel52Ideal.τ).loc Cert.Kernel52Ideal.main_v0_3) = v3 c
          ∧ r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
          ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1)
          ∧ r.2.mem ((c.tc : Thread Cert.Kernel52Ideal.nD Cert.Kernel52Ideal.τ).loc Cert.Kernel52Ideal.main_arg2) = m ((c.tc : Thread Cert.Kernel52Ideal.nD Cert.Kernel52Ideal.τ).loc Cert.Kernel52Ideal.main_arg2)
          ∧ r.2.mem ((c.tc : Thread Cert.Kernel52Ideal.nD Cert.Kernel52Ideal.τ).loc Cert.Kernel52Ideal.main_arg3) = m ((c.tc : Thread Cert.Kernel52Ideal.nD Cert.Kernel52Ideal.τ).loc Cert.Kernel52Ideal.main_arg3))
      ∧ θ_run (Cert.Reference52Ideal.defs (F := Ideal)) (onTc (τ := Cert.Reference52Ideal.τ) (Cert.Reference52Ideal.main (F := Ideal))) ⟨m', fun _ => 0, g'⟩ (fun r => ∀ c : Dev Cert.Reference52Ideal.nD,
          r.2.mem ((c.tc : Thread Cert.Reference52Ideal.nD Cert.Reference52Ideal.τ).loc Cert.Reference52Ideal.main_v0) = v0 c
          ∧ r.2.mem ((c.tc : Thread Cert.Reference52Ideal.nD Cert.Reference52Ideal.τ).loc Cert.Reference52Ideal.main_v24) = v1 c
          ∧ r.2.mem ((c.tc : Thread Cert.Reference52Ideal.nD Cert.Reference52Ideal.τ).loc Cert.Reference52Ideal.main_v5) = v2 c
          ∧ r.2.mem ((c.tc : Thread Cert.Reference52Ideal.nD Cert.Reference52Ideal.τ).loc Cert.Reference52Ideal.main_v11) = v3 c
          ∧ r.2.mem ((c.tc : Thread Cert.Reference52Ideal.nD Cert.Reference52Ideal.τ).loc Cert.Reference52Ideal.main_arg0) = m' ((c.tc : Thread Cert.Reference52Ideal.nD Cert.Reference52Ideal.τ).loc Cert.Reference52Ideal.main_arg0)
          ∧ r.2.mem ((c.tc : Thread Cert.Reference52Ideal.nD Cert.Reference52Ideal.τ).loc Cert.Reference52Ideal.main_arg1) = m' ((c.tc : Thread Cert.Reference52Ideal.nD Cert.Reference52Ideal.τ).loc Cert.Reference52Ideal.main_arg1)
          ∧ r.2.mem ((c.tc : Thread Cert.Reference52Ideal.nD Cert.Reference52Ideal.τ).loc Cert.Reference52Ideal.main_arg2) = m' ((c.tc : Thread Cert.Reference52Ideal.nD Cert.Reference52Ideal.τ).loc Cert.Reference52Ideal.main_arg2)
          ∧ r.2.mem ((c.tc : Thread Cert.Reference52Ideal.nD Cert.Reference52Ideal.τ).loc Cert.Reference52Ideal.main_arg3) = m' ((c.tc : Thread Cert.Reference52Ideal.nD Cert.Reference52Ideal.τ).loc Cert.Reference52Ideal.main_arg3))

def preserves_Kernel53_Kernel53Ideal : Prop :=
  True

def algebraic_Kernel53Ideal_Reference53Ideal [hKernel53Ideal : Cert.Kernel53Ideal.Facts] [hReference53Ideal : Cert.Reference53Ideal.Facts] : Prop :=
  ∀ (m : (ℓ : Loc Cert.Kernel53Ideal.nD Cert.Kernel53Ideal.τ Cert.Kernel53Ideal.sig) → Buf (Elt Ideal) ℓ) (g : Dev Cert.Kernel53Ideal.nD → PrngReg)
    (m' : (ℓ : Loc Cert.Reference53Ideal.nD Cert.Reference53Ideal.τ Cert.Reference53Ideal.sig) → Buf (Elt Ideal) ℓ) (g' : Dev Cert.Reference53Ideal.nD → PrngReg), Pre_Kernel53Ideal m →
    (∀ c : Dev Cert.Kernel53Ideal.nD,
      m' ((c.tc : Thread Cert.Reference53Ideal.nD Cert.Reference53Ideal.τ).loc Cert.Reference53Ideal.main_arg0) = m ((c.tc : Thread Cert.Kernel53Ideal.nD Cert.Kernel53Ideal.τ).loc Cert.Kernel53Ideal.main_arg0)
      ∧ m' ((c.tc : Thread Cert.Reference53Ideal.nD Cert.Reference53Ideal.τ).loc Cert.Reference53Ideal.main_arg1) = m ((c.tc : Thread Cert.Kernel53Ideal.nD Cert.Kernel53Ideal.τ).loc Cert.Kernel53Ideal.main_arg1)
      ∧ m' ((c.tc : Thread Cert.Reference53Ideal.nD Cert.Reference53Ideal.τ).loc Cert.Reference53Ideal.main_arg2) = m ((c.tc : Thread Cert.Kernel53Ideal.nD Cert.Kernel53Ideal.τ).loc Cert.Kernel53Ideal.main_arg2)
      ∧ m' ((c.tc : Thread Cert.Reference53Ideal.nD Cert.Reference53Ideal.τ).loc Cert.Reference53Ideal.main_arg3) = m ((c.tc : Thread Cert.Kernel53Ideal.nD Cert.Kernel53Ideal.τ).loc Cert.Kernel53Ideal.main_arg3)) →
    ∃ (v0 : (c : Dev Cert.Kernel53Ideal.nD) → Buf (Elt Ideal) ((c.tc : Thread Cert.Kernel53Ideal.nD Cert.Kernel53Ideal.τ).loc Cert.Kernel53Ideal.main_v0_0)) (v1 : (c : Dev Cert.Kernel53Ideal.nD) → Buf (Elt Ideal) ((c.tc : Thread Cert.Kernel53Ideal.nD Cert.Kernel53Ideal.τ).loc Cert.Kernel53Ideal.main_v0_1)) (v2 : (c : Dev Cert.Kernel53Ideal.nD) → Buf (Elt Ideal) ((c.tc : Thread Cert.Kernel53Ideal.nD Cert.Kernel53Ideal.τ).loc Cert.Kernel53Ideal.main_v0_2)) (v3 : (c : Dev Cert.Kernel53Ideal.nD) → Buf (Elt Ideal) ((c.tc : Thread Cert.Kernel53Ideal.nD Cert.Kernel53Ideal.τ).loc Cert.Kernel53Ideal.main_v0_3)),
      θ_run (Cert.Kernel53Ideal.defs (F := Ideal)) (onTc (τ := Cert.Kernel53Ideal.τ) (Cert.Kernel53Ideal.main (F := Ideal))) ⟨m, fun _ => 0, g⟩ (fun r => ∀ c : Dev Cert.Kernel53Ideal.nD,
          r.2.mem ((c.tc : Thread Cert.Kernel53Ideal.nD Cert.Kernel53Ideal.τ).loc Cert.Kernel53Ideal.main_v0_0) = v0 c
          ∧ r.2.mem ((c.tc : Thread Cert.Kernel53Ideal.nD Cert.Kernel53Ideal.τ).loc Cert.Kernel53Ideal.main_v0_1) = v1 c
          ∧ r.2.mem ((c.tc : Thread Cert.Kernel53Ideal.nD Cert.Kernel53Ideal.τ).loc Cert.Kernel53Ideal.main_v0_2) = v2 c
          ∧ r.2.mem ((c.tc : Thread Cert.Kernel53Ideal.nD Cert.Kernel53Ideal.τ).loc Cert.Kernel53Ideal.main_v0_3) = v3 c
          ∧ r.2.mem ((c.tc : Thread Cert.Kernel53Ideal.nD Cert.Kernel53Ideal.τ).loc Cert.Kernel53Ideal.main_arg0) = m ((c.tc : Thread Cert.Kernel53Ideal.nD Cert.Kernel53Ideal.τ).loc Cert.Kernel53Ideal.main_arg0)
          ∧ r.2.mem ((c.tc : Thread Cert.Kernel53Ideal.nD Cert.Kernel53Ideal.τ).loc Cert.Kernel53Ideal.main_arg1) = m ((c.tc : Thread Cert.Kernel53Ideal.nD Cert.Kernel53Ideal.τ).loc Cert.Kernel53Ideal.main_arg1)
          ∧ r.2.mem ((c.tc : Thread Cert.Kernel53Ideal.nD Cert.Kernel53Ideal.τ).loc Cert.Kernel53Ideal.main_arg2) = m ((c.tc : Thread Cert.Kernel53Ideal.nD Cert.Kernel53Ideal.τ).loc Cert.Kernel53Ideal.main_arg2)
          ∧ r.2.mem ((c.tc : Thread Cert.Kernel53Ideal.nD Cert.Kernel53Ideal.τ).loc Cert.Kernel53Ideal.main_arg3) = m ((c.tc : Thread Cert.Kernel53Ideal.nD Cert.Kernel53Ideal.τ).loc Cert.Kernel53Ideal.main_arg3))
      ∧ θ_run (Cert.Reference53Ideal.defs (F := Ideal)) (onTc (τ := Cert.Reference53Ideal.τ) (Cert.Reference53Ideal.main (F := Ideal))) ⟨m', fun _ => 0, g'⟩ (fun r => ∀ c : Dev Cert.Reference53Ideal.nD,
          r.2.mem ((c.tc : Thread Cert.Reference53Ideal.nD Cert.Reference53Ideal.τ).loc Cert.Reference53Ideal.main_v1) = v0 c
          ∧ r.2.mem ((c.tc : Thread Cert.Reference53Ideal.nD Cert.Reference53Ideal.τ).loc Cert.Reference53Ideal.main_v25) = v1 c
          ∧ r.2.mem ((c.tc : Thread Cert.Reference53Ideal.nD Cert.Reference53Ideal.τ).loc Cert.Reference53Ideal.main_v6) = v2 c
          ∧ r.2.mem ((c.tc : Thread Cert.Reference53Ideal.nD Cert.Reference53Ideal.τ).loc Cert.Reference53Ideal.main_v12) = v3 c
          ∧ r.2.mem ((c.tc : Thread Cert.Reference53Ideal.nD Cert.Reference53Ideal.τ).loc Cert.Reference53Ideal.main_arg0) = m' ((c.tc : Thread Cert.Reference53Ideal.nD Cert.Reference53Ideal.τ).loc Cert.Reference53Ideal.main_arg0)
          ∧ r.2.mem ((c.tc : Thread Cert.Reference53Ideal.nD Cert.Reference53Ideal.τ).loc Cert.Reference53Ideal.main_arg1) = m' ((c.tc : Thread Cert.Reference53Ideal.nD Cert.Reference53Ideal.τ).loc Cert.Reference53Ideal.main_arg1)
          ∧ r.2.mem ((c.tc : Thread Cert.Reference53Ideal.nD Cert.Reference53Ideal.τ).loc Cert.Reference53Ideal.main_arg2) = m' ((c.tc : Thread Cert.Reference53Ideal.nD Cert.Reference53Ideal.τ).loc Cert.Reference53Ideal.main_arg2)
          ∧ r.2.mem ((c.tc : Thread Cert.Reference53Ideal.nD Cert.Reference53Ideal.τ).loc Cert.Reference53Ideal.main_arg3) = m' ((c.tc : Thread Cert.Reference53Ideal.nD Cert.Reference53Ideal.τ).loc Cert.Reference53Ideal.main_arg3))

def preserves_Kernel54_Kernel54Ideal : Prop :=
  True

def algebraic_Kernel54Ideal_Reference54Ideal [hKernel54Ideal : Cert.Kernel54Ideal.Facts] [hReference54Ideal : Cert.Reference54Ideal.Facts] : Prop :=
  ∀ (m : (ℓ : Loc Cert.Kernel54Ideal.nD Cert.Kernel54Ideal.τ Cert.Kernel54Ideal.sig) → Buf (Elt Ideal) ℓ) (g : Dev Cert.Kernel54Ideal.nD → PrngReg)
    (m' : (ℓ : Loc Cert.Reference54Ideal.nD Cert.Reference54Ideal.τ Cert.Reference54Ideal.sig) → Buf (Elt Ideal) ℓ) (g' : Dev Cert.Reference54Ideal.nD → PrngReg), Pre_Kernel54Ideal m →
    (∀ c : Dev Cert.Kernel54Ideal.nD,
      m' ((c.tc : Thread Cert.Reference54Ideal.nD Cert.Reference54Ideal.τ).loc Cert.Reference54Ideal.main_arg0) = m ((c.tc : Thread Cert.Kernel54Ideal.nD Cert.Kernel54Ideal.τ).loc Cert.Kernel54Ideal.main_arg0)
      ∧ m' ((c.tc : Thread Cert.Reference54Ideal.nD Cert.Reference54Ideal.τ).loc Cert.Reference54Ideal.main_arg1) = m ((c.tc : Thread Cert.Kernel54Ideal.nD Cert.Kernel54Ideal.τ).loc Cert.Kernel54Ideal.main_arg1)
      ∧ m' ((c.tc : Thread Cert.Reference54Ideal.nD Cert.Reference54Ideal.τ).loc Cert.Reference54Ideal.main_arg2) = m ((c.tc : Thread Cert.Kernel54Ideal.nD Cert.Kernel54Ideal.τ).loc Cert.Kernel54Ideal.main_arg2)
      ∧ m' ((c.tc : Thread Cert.Reference54Ideal.nD Cert.Reference54Ideal.τ).loc Cert.Reference54Ideal.main_arg3) = m ((c.tc : Thread Cert.Kernel54Ideal.nD Cert.Kernel54Ideal.τ).loc Cert.Kernel54Ideal.main_arg3)) →
    ∃ (v0 : (c : Dev Cert.Kernel54Ideal.nD) → Buf (Elt Ideal) ((c.tc : Thread Cert.Kernel54Ideal.nD Cert.Kernel54Ideal.τ).loc Cert.Kernel54Ideal.main_v0_0)) (v1 : (c : Dev Cert.Kernel54Ideal.nD) → Buf (Elt Ideal) ((c.tc : Thread Cert.Kernel54Ideal.nD Cert.Kernel54Ideal.τ).loc Cert.Kernel54Ideal.main_v0_1)) (v2 : (c : Dev Cert.Kernel54Ideal.nD) → Buf (Elt Ideal) ((c.tc : Thread Cert.Kernel54Ideal.nD Cert.Kernel54Ideal.τ).loc Cert.Kernel54Ideal.main_v0_2)) (v3 : (c : Dev Cert.Kernel54Ideal.nD) → Buf (Elt Ideal) ((c.tc : Thread Cert.Kernel54Ideal.nD Cert.Kernel54Ideal.τ).loc Cert.Kernel54Ideal.main_v0_3)),
      θ_run (Cert.Kernel54Ideal.defs (F := Ideal)) (onTc (τ := Cert.Kernel54Ideal.τ) (Cert.Kernel54Ideal.main (F := Ideal))) ⟨m, fun _ => 0, g⟩ (fun r => ∀ c : Dev Cert.Kernel54Ideal.nD,
          r.2.mem ((c.tc : Thread Cert.Kernel54Ideal.nD Cert.Kernel54Ideal.τ).loc Cert.Kernel54Ideal.main_v0_0) = v0 c
          ∧ r.2.mem ((c.tc : Thread Cert.Kernel54Ideal.nD Cert.Kernel54Ideal.τ).loc Cert.Kernel54Ideal.main_v0_1) = v1 c
          ∧ r.2.mem ((c.tc : Thread Cert.Kernel54Ideal.nD Cert.Kernel54Ideal.τ).loc Cert.Kernel54Ideal.main_v0_2) = v2 c
          ∧ r.2.mem ((c.tc : Thread Cert.Kernel54Ideal.nD Cert.Kernel54Ideal.τ).loc Cert.Kernel54Ideal.main_v0_3) = v3 c
          ∧ r.2.mem ((c.tc : Thread Cert.Kernel54Ideal.nD Cert.Kernel54Ideal.τ).loc Cert.Kernel54Ideal.main_arg0) = m ((c.tc : Thread Cert.Kernel54Ideal.nD Cert.Kernel54Ideal.τ).loc Cert.Kernel54Ideal.main_arg0)
          ∧ r.2.mem ((c.tc : Thread Cert.Kernel54Ideal.nD Cert.Kernel54Ideal.τ).loc Cert.Kernel54Ideal.main_arg1) = m ((c.tc : Thread Cert.Kernel54Ideal.nD Cert.Kernel54Ideal.τ).loc Cert.Kernel54Ideal.main_arg1)
          ∧ r.2.mem ((c.tc : Thread Cert.Kernel54Ideal.nD Cert.Kernel54Ideal.τ).loc Cert.Kernel54Ideal.main_arg2) = m ((c.tc : Thread Cert.Kernel54Ideal.nD Cert.Kernel54Ideal.τ).loc Cert.Kernel54Ideal.main_arg2)
          ∧ r.2.mem ((c.tc : Thread Cert.Kernel54Ideal.nD Cert.Kernel54Ideal.τ).loc Cert.Kernel54Ideal.main_arg3) = m ((c.tc : Thread Cert.Kernel54Ideal.nD Cert.Kernel54Ideal.τ).loc Cert.Kernel54Ideal.main_arg3))
      ∧ θ_run (Cert.Reference54Ideal.defs (F := Ideal)) (onTc (τ := Cert.Reference54Ideal.τ) (Cert.Reference54Ideal.main (F := Ideal))) ⟨m', fun _ => 0, g'⟩ (fun r => ∀ c : Dev Cert.Reference54Ideal.nD,
          r.2.mem ((c.tc : Thread Cert.Reference54Ideal.nD Cert.Reference54Ideal.τ).loc Cert.Reference54Ideal.main_v1) = v0 c
          ∧ r.2.mem ((c.tc : Thread Cert.Reference54Ideal.nD Cert.Reference54Ideal.τ).loc Cert.Reference54Ideal.main_v25) = v1 c
          ∧ r.2.mem ((c.tc : Thread Cert.Reference54Ideal.nD Cert.Reference54Ideal.τ).loc Cert.Reference54Ideal.main_v6) = v2 c
          ∧ r.2.mem ((c.tc : Thread Cert.Reference54Ideal.nD Cert.Reference54Ideal.τ).loc Cert.Reference54Ideal.main_v12) = v3 c
          ∧ r.2.mem ((c.tc : Thread Cert.Reference54Ideal.nD Cert.Reference54Ideal.τ).loc Cert.Reference54Ideal.main_arg0) = m' ((c.tc : Thread Cert.Reference54Ideal.nD Cert.Reference54Ideal.τ).loc Cert.Reference54Ideal.main_arg0)
          ∧ r.2.mem ((c.tc : Thread Cert.Reference54Ideal.nD Cert.Reference54Ideal.τ).loc Cert.Reference54Ideal.main_arg1) = m' ((c.tc : Thread Cert.Reference54Ideal.nD Cert.Reference54Ideal.τ).loc Cert.Reference54Ideal.main_arg1)
          ∧ r.2.mem ((c.tc : Thread Cert.Reference54Ideal.nD Cert.Reference54Ideal.τ).loc Cert.Reference54Ideal.main_arg2) = m' ((c.tc : Thread Cert.Reference54Ideal.nD Cert.Reference54Ideal.τ).loc Cert.Reference54Ideal.main_arg2)
          ∧ r.2.mem ((c.tc : Thread Cert.Reference54Ideal.nD Cert.Reference54Ideal.τ).loc Cert.Reference54Ideal.main_arg3) = m' ((c.tc : Thread Cert.Reference54Ideal.nD Cert.Reference54Ideal.τ).loc Cert.Reference54Ideal.main_arg3))

def preserves_Kernel55_Kernel55Ideal : Prop :=
  True

def algebraic_Kernel55Ideal_Reference55Ideal [hKernel55Ideal : Cert.Kernel55Ideal.Facts] [hReference55Ideal : Cert.Reference55Ideal.Facts] : Prop :=
  ∀ (m : (ℓ : Loc Cert.Kernel55Ideal.nD Cert.Kernel55Ideal.τ Cert.Kernel55Ideal.sig) → Buf (Elt Ideal) ℓ) (g : Dev Cert.Kernel55Ideal.nD → PrngReg)
    (m' : (ℓ : Loc Cert.Reference55Ideal.nD Cert.Reference55Ideal.τ Cert.Reference55Ideal.sig) → Buf (Elt Ideal) ℓ) (g' : Dev Cert.Reference55Ideal.nD → PrngReg), Pre_Kernel55Ideal m →
    (∀ c : Dev Cert.Kernel55Ideal.nD,
      m' ((c.tc : Thread Cert.Reference55Ideal.nD Cert.Reference55Ideal.τ).loc Cert.Reference55Ideal.main_arg0) = m ((c.tc : Thread Cert.Kernel55Ideal.nD Cert.Kernel55Ideal.τ).loc Cert.Kernel55Ideal.main_arg0)
      ∧ m' ((c.tc : Thread Cert.Reference55Ideal.nD Cert.Reference55Ideal.τ).loc Cert.Reference55Ideal.main_arg1) = m ((c.tc : Thread Cert.Kernel55Ideal.nD Cert.Kernel55Ideal.τ).loc Cert.Kernel55Ideal.main_arg1)
      ∧ m' ((c.tc : Thread Cert.Reference55Ideal.nD Cert.Reference55Ideal.τ).loc Cert.Reference55Ideal.main_arg2) = m ((c.tc : Thread Cert.Kernel55Ideal.nD Cert.Kernel55Ideal.τ).loc Cert.Kernel55Ideal.main_arg2)
      ∧ m' ((c.tc : Thread Cert.Reference55Ideal.nD Cert.Reference55Ideal.τ).loc Cert.Reference55Ideal.main_arg3) = m ((c.tc : Thread Cert.Kernel55Ideal.nD Cert.Kernel55Ideal.τ).loc Cert.Kernel55Ideal.main_arg3)) →
    ∃ (v0 : (c : Dev Cert.Kernel55Ideal.nD) → Buf (Elt Ideal) ((c.tc : Thread Cert.Kernel55Ideal.nD Cert.Kernel55Ideal.τ).loc Cert.Kernel55Ideal.main_v0_0)) (v1 : (c : Dev Cert.Kernel55Ideal.nD) → Buf (Elt Ideal) ((c.tc : Thread Cert.Kernel55Ideal.nD Cert.Kernel55Ideal.τ).loc Cert.Kernel55Ideal.main_v0_1)) (v2 : (c : Dev Cert.Kernel55Ideal.nD) → Buf (Elt Ideal) ((c.tc : Thread Cert.Kernel55Ideal.nD Cert.Kernel55Ideal.τ).loc Cert.Kernel55Ideal.main_v0_2)) (v3 : (c : Dev Cert.Kernel55Ideal.nD) → Buf (Elt Ideal) ((c.tc : Thread Cert.Kernel55Ideal.nD Cert.Kernel55Ideal.τ).loc Cert.Kernel55Ideal.main_v0_3)),
      θ_run (Cert.Kernel55Ideal.defs (F := Ideal)) (onTc (τ := Cert.Kernel55Ideal.τ) (Cert.Kernel55Ideal.main (F := Ideal))) ⟨m, fun _ => 0, g⟩ (fun r => ∀ c : Dev Cert.Kernel55Ideal.nD,
          r.2.mem ((c.tc : Thread Cert.Kernel55Ideal.nD Cert.Kernel55Ideal.τ).loc Cert.Kernel55Ideal.main_v0_0) = v0 c
          ∧ r.2.mem ((c.tc : Thread Cert.Kernel55Ideal.nD Cert.Kernel55Ideal.τ).loc Cert.Kernel55Ideal.main_v0_1) = v1 c
          ∧ r.2.mem ((c.tc : Thread Cert.Kernel55Ideal.nD Cert.Kernel55Ideal.τ).loc Cert.Kernel55Ideal.main_v0_2) = v2 c
          ∧ r.2.mem ((c.tc : Thread Cert.Kernel55Ideal.nD Cert.Kernel55Ideal.τ).loc Cert.Kernel55Ideal.main_v0_3) = v3 c
          ∧ r.2.mem ((c.tc : Thread Cert.Kernel55Ideal.nD Cert.Kernel55Ideal.τ).loc Cert.Kernel55Ideal.main_arg0) = m ((c.tc : Thread Cert.Kernel55Ideal.nD Cert.Kernel55Ideal.τ).loc Cert.Kernel55Ideal.main_arg0)
          ∧ r.2.mem ((c.tc : Thread Cert.Kernel55Ideal.nD Cert.Kernel55Ideal.τ).loc Cert.Kernel55Ideal.main_arg1) = m ((c.tc : Thread Cert.Kernel55Ideal.nD Cert.Kernel55Ideal.τ).loc Cert.Kernel55Ideal.main_arg1)
          ∧ r.2.mem ((c.tc : Thread Cert.Kernel55Ideal.nD Cert.Kernel55Ideal.τ).loc Cert.Kernel55Ideal.main_arg2) = m ((c.tc : Thread Cert.Kernel55Ideal.nD Cert.Kernel55Ideal.τ).loc Cert.Kernel55Ideal.main_arg2)
          ∧ r.2.mem ((c.tc : Thread Cert.Kernel55Ideal.nD Cert.Kernel55Ideal.τ).loc Cert.Kernel55Ideal.main_arg3) = m ((c.tc : Thread Cert.Kernel55Ideal.nD Cert.Kernel55Ideal.τ).loc Cert.Kernel55Ideal.main_arg3))
      ∧ θ_run (Cert.Reference55Ideal.defs (F := Ideal)) (onTc (τ := Cert.Reference55Ideal.τ) (Cert.Reference55Ideal.main (F := Ideal))) ⟨m', fun _ => 0, g'⟩ (fun r => ∀ c : Dev Cert.Reference55Ideal.nD,
          r.2.mem ((c.tc : Thread Cert.Reference55Ideal.nD Cert.Reference55Ideal.τ).loc Cert.Reference55Ideal.main_v0) = v0 c
          ∧ r.2.mem ((c.tc : Thread Cert.Reference55Ideal.nD Cert.Reference55Ideal.τ).loc Cert.Reference55Ideal.main_v24) = v1 c
          ∧ r.2.mem ((c.tc : Thread Cert.Reference55Ideal.nD Cert.Reference55Ideal.τ).loc Cert.Reference55Ideal.main_v5) = v2 c
          ∧ r.2.mem ((c.tc : Thread Cert.Reference55Ideal.nD Cert.Reference55Ideal.τ).loc Cert.Reference55Ideal.main_v11) = v3 c
          ∧ r.2.mem ((c.tc : Thread Cert.Reference55Ideal.nD Cert.Reference55Ideal.τ).loc Cert.Reference55Ideal.main_arg0) = m' ((c.tc : Thread Cert.Reference55Ideal.nD Cert.Reference55Ideal.τ).loc Cert.Reference55Ideal.main_arg0)
          ∧ r.2.mem ((c.tc : Thread Cert.Reference55Ideal.nD Cert.Reference55Ideal.τ).loc Cert.Reference55Ideal.main_arg1) = m' ((c.tc : Thread Cert.Reference55Ideal.nD Cert.Reference55Ideal.τ).loc Cert.Reference55Ideal.main_arg1)
          ∧ r.2.mem ((c.tc : Thread Cert.Reference55Ideal.nD Cert.Reference55Ideal.τ).loc Cert.Reference55Ideal.main_arg2) = m' ((c.tc : Thread Cert.Reference55Ideal.nD Cert.Reference55Ideal.τ).loc Cert.Reference55Ideal.main_arg2)
          ∧ r.2.mem ((c.tc : Thread Cert.Reference55Ideal.nD Cert.Reference55Ideal.τ).loc Cert.Reference55Ideal.main_arg3) = m' ((c.tc : Thread Cert.Reference55Ideal.nD Cert.Reference55Ideal.τ).loc Cert.Reference55Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel48 : Cert.Kernel48.Facts) (hKernel48Ideal : Cert.Kernel48Ideal.Facts) (hReference48Ideal : Cert.Reference48Ideal.Facts) (hKernel49 : Cert.Kernel49.Facts) (hKernel49Ideal : Cert.Kernel49Ideal.Facts) (hReference49Ideal : Cert.Reference49Ideal.Facts) (hKernel50 : Cert.Kernel50.Facts) (hKernel50Ideal : Cert.Kernel50Ideal.Facts) (hReference50Ideal : Cert.Reference50Ideal.Facts) (hKernel51 : Cert.Kernel51.Facts) (hKernel51Ideal : Cert.Kernel51Ideal.Facts) (hReference51Ideal : Cert.Reference51Ideal.Facts) (hKernel52 : Cert.Kernel52.Facts) (hKernel52Ideal : Cert.Kernel52Ideal.Facts) (hReference52Ideal : Cert.Reference52Ideal.Facts) (hKernel53 : Cert.Kernel53.Facts) (hKernel53Ideal : Cert.Kernel53Ideal.Facts) (hReference53Ideal : Cert.Reference53Ideal.Facts) (hKernel54 : Cert.Kernel54.Facts) (hKernel54Ideal : Cert.Kernel54Ideal.Facts) (hReference54Ideal : Cert.Reference54Ideal.Facts) (hKernel55 : Cert.Kernel55.Facts) (hKernel55Ideal : Cert.Kernel55Ideal.Facts) (hReference55Ideal : Cert.Reference55Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel48 (hKernel48 := hKernel48)
    ∧ quiescent_Kernel48Ideal (hKernel48Ideal := hKernel48Ideal)
    ∧ quiescent_Reference48Ideal (hReference48Ideal := hReference48Ideal)
    ∧ quiescent_Kernel49 (hKernel49 := hKernel49)
    ∧ quiescent_Kernel49Ideal (hKernel49Ideal := hKernel49Ideal)
    ∧ quiescent_Reference49Ideal (hReference49Ideal := hReference49Ideal)
    ∧ quiescent_Kernel50 (hKernel50 := hKernel50)
    ∧ quiescent_Kernel50Ideal (hKernel50Ideal := hKernel50Ideal)
    ∧ quiescent_Reference50Ideal (hReference50Ideal := hReference50Ideal)
    ∧ quiescent_Kernel51 (hKernel51 := hKernel51)
    ∧ quiescent_Kernel51Ideal (hKernel51Ideal := hKernel51Ideal)
    ∧ quiescent_Reference51Ideal (hReference51Ideal := hReference51Ideal)
    ∧ quiescent_Kernel52 (hKernel52 := hKernel52)
    ∧ quiescent_Kernel52Ideal (hKernel52Ideal := hKernel52Ideal)
    ∧ quiescent_Reference52Ideal (hReference52Ideal := hReference52Ideal)
    ∧ quiescent_Kernel53 (hKernel53 := hKernel53)
    ∧ quiescent_Kernel53Ideal (hKernel53Ideal := hKernel53Ideal)
    ∧ quiescent_Reference53Ideal (hReference53Ideal := hReference53Ideal)
    ∧ quiescent_Kernel54 (hKernel54 := hKernel54)
    ∧ quiescent_Kernel54Ideal (hKernel54Ideal := hKernel54Ideal)
    ∧ quiescent_Reference54Ideal (hReference54Ideal := hReference54Ideal)
    ∧ quiescent_Kernel55 (hKernel55 := hKernel55)
    ∧ quiescent_Kernel55Ideal (hKernel55Ideal := hKernel55Ideal)
    ∧ quiescent_Reference55Ideal (hReference55Ideal := hReference55Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel48_Kernel48Ideal
    ∧ algebraic_Kernel48Ideal_Reference48Ideal (hKernel48Ideal := hKernel48Ideal) (hReference48Ideal := hReference48Ideal)
    ∧ preserves_Kernel49_Kernel49Ideal
    ∧ algebraic_Kernel49Ideal_Reference49Ideal (hKernel49Ideal := hKernel49Ideal) (hReference49Ideal := hReference49Ideal)
    ∧ preserves_Kernel50_Kernel50Ideal
    ∧ algebraic_Kernel50Ideal_Reference50Ideal (hKernel50Ideal := hKernel50Ideal) (hReference50Ideal := hReference50Ideal)
    ∧ preserves_Kernel51_Kernel51Ideal
    ∧ algebraic_Kernel51Ideal_Reference51Ideal (hKernel51Ideal := hKernel51Ideal) (hReference51Ideal := hReference51Ideal)
    ∧ preserves_Kernel52_Kernel52Ideal
    ∧ algebraic_Kernel52Ideal_Reference52Ideal (hKernel52Ideal := hKernel52Ideal) (hReference52Ideal := hReference52Ideal)
    ∧ preserves_Kernel53_Kernel53Ideal
    ∧ algebraic_Kernel53Ideal_Reference53Ideal (hKernel53Ideal := hKernel53Ideal) (hReference53Ideal := hReference53Ideal)
    ∧ preserves_Kernel54_Kernel54Ideal
    ∧ algebraic_Kernel54Ideal_Reference54Ideal (hKernel54Ideal := hKernel54Ideal) (hReference54Ideal := hReference54Ideal)
    ∧ preserves_Kernel55_Kernel55Ideal
    ∧ algebraic_Kernel55Ideal_Reference55Ideal (hKernel55Ideal := hKernel55Ideal) (hReference55Ideal := hReference55Ideal)
-- ==== Pre_finite.lean ====
abbrev S4096x12288 : Shape := ⟨2, ![4096, 12288]⟩
abbrev S4096x4096 : Shape := ⟨2, ![4096, 4096]⟩
abbrev S4096x32 : Shape := ⟨2, ![4096, 32]⟩
abbrev S_ : Shape := ⟨0, ![]⟩

class Facts : Prop where
  bcast_S_S4096x12288 : S_.BroadcastsInDim S4096x12288 (![] : Fin 0 → Fin S4096x12288.rank)
  bcast_S_S4096x4096 : S_.BroadcastsInDim S4096x4096 (![] : Fin 0 → Fin S4096x4096.rank)
  bcast_S_S4096x32 : S_.BroadcastsInDim S4096x32 (![] : Fin 0 → Fin S4096x32.rank)

variable [Facts]

def fn {F : FTy → Type} [FloatOps F] (main_arg0 : FVec F S4096x12288 .bf16) (main_arg1 : FVec F S4096x4096 .bf16) (main_arg2 : FVec F S4096x32 .f32) : IVec S4096x12288 1 × IVec S4096x4096 1 × IVec S4096x32 1 :=
  let main_v0 : FVec F S4096x12288 .bf16 := Host.absf main_arg0
  let main_cst : FVec F S_ .bf16 := constant S_ .bf16 0x7F80#16
  let main_v1 : FVec F S4096x12288 .bf16 := broadcastInDim S4096x12288 ![] bcast_S_S4096x12288 main_cst
  let main_v2 : IVec S4096x12288 1 := cmpf .olt main_v0 main_v1
  let main_v3 : FVec F S4096x4096 .bf16 := Host.absf main_arg1
  let main_cst_0 : FVec F S_ .bf16 := constant S_ .bf16 0x7F80#16
  let main_v4 : FVec F S4096x4096 .bf16 := broadcastInDim S4096x4096 ![] bcast_S_S4096x4096 main_cst_0
  let main_v5 : IVec S4096x4096 1 := cmpf .olt main_v3 main_v4
  let main_v6 : FVec F S4096x32 .f32 := Host.absf main_arg2
  let main_cst_1 : FVec F S_ .f32 := constant S_ .f32 0x7F800000#32
  let main_v7 : FVec F S4096x32 .f32 := broadcastInDim S4096x32 ![] bcast_S_S4096x32 main_cst_1
  let main_v8 : IVec S4096x32 1 := cmpf .olt main_v6 main_v7
  (main_v2, main_v5, main_v8)
-- ==== Kernel.lean ====
abbrev S4096x12288 : Shape := ⟨2, ![4096, 12288]⟩
abbrev S4096x4096 : Shape := ⟨2, ![4096, 4096]⟩
abbrev S4096x32 : Shape := ⟨2, ![4096, 32]⟩
abbrev S4096x32x128 : Shape := ⟨3, ![4096, 32, 128]⟩
abbrev S32x4096 : Shape := ⟨2, ![32, 4096]⟩
abbrev S32x4096x4096 : Shape := ⟨3, ![32, 4096, 4096]⟩
abbrev S_ : Shape := ⟨0, ![]⟩
abbrev S32x4096x1 : Shape := ⟨3, ![32, 4096, 1]⟩
abbrev S32x1x4096 : Shape := ⟨3, ![32, 1, 4096]⟩
abbrev S4096 : Shape := ⟨1, ![4096]⟩
abbrev S1x4096 : Shape := ⟨2, ![1, 4096]⟩
abbrev S4096x1 : Shape := ⟨2, ![4096, 1]⟩
abbrev S32x128x4096 : Shape := ⟨3, ![32, 128, 4096]⟩
abbrev S8x32 : Shape := ⟨2, ![8, 32]⟩
abbrev S8x32x128 : Shape := ⟨3, ![8, 32, 128]⟩
abbrev S8x4096 : Shape := ⟨2, ![8, 4096]⟩
abbrev S8x8x4096 : Shape := ⟨3, ![8, 8, 4096]⟩
abbrev S64x4096 : Shape := ⟨2, ![64, 4096]⟩
abbrev S8x512x32 : Shape := ⟨3, ![8, 512, 32]⟩
abbrev S4096x128 : Shape := ⟨2, ![4096, 128]⟩
abbrev S512x128 : Shape := ⟨2, ![512, 128]⟩
abbrev S64x128 : Shape := ⟨2, ![64, 128]⟩
abbrev S1x1x512 : Shape := ⟨3, ![1, 1, 512]⟩
abbrev S1x512 : Shape := ⟨2, ![1, 512]⟩
abbrev S8x128 : Shape := ⟨2, ![8, 128]⟩
abbrev S1x1 : Shape := ⟨2, ![1, 1]⟩
abbrev S512x512 : Shape := ⟨2, ![512, 512]⟩
abbrev S512x1 : Shape := ⟨2, ![512, 1]⟩
abbrev S512 : Shape := ⟨1, ![512]⟩

abbrev nBuf : Space → Nat
  | .hbm => 78
  | .vmem => 27
  | .smem => 0
  | _ => 0

abbrev bufTy : (tb : Table) → Fin (tcTables nBuf tb) → BufTy
  | .hbm, ⟨0, _⟩ => ⟨S4096x12288, .bf16⟩
  | .hbm, ⟨1, _⟩ => ⟨S4096x4096, .bf16⟩
  | .hbm, ⟨2, _⟩ => ⟨S4096x32, .f32⟩
  | .hbm, ⟨3, _⟩ => ⟨S4096x4096, .bf16⟩
  | .hbm, ⟨4, _⟩ => ⟨S4096x4096, .bf16⟩
  | .hbm, ⟨5, _⟩ => ⟨S4096x4096, .bf16⟩
  | .hbm, ⟨6, _⟩ => ⟨S4096x4096, .f32⟩
  | .hbm, ⟨7, _⟩ => ⟨S4096x32x128, .f32⟩
  | .hbm, ⟨8, _⟩ => ⟨S4096x4096, .f32⟩
  | .hbm, ⟨9, _⟩ => ⟨S4096x32x128, .f32⟩
  | .hbm, ⟨10, _⟩ => ⟨S4096x4096, .f32⟩
  | .hbm, ⟨11, _⟩ => ⟨S4096x32x128, .f32⟩
  | .hbm, ⟨12, _⟩ => ⟨S32x4096, .f32⟩
  | .hbm, ⟨13, _⟩ => ⟨S32x4096, .f32⟩
  | .hbm, ⟨14, _⟩ => ⟨S32x4096x4096, .f32⟩
  | .hbm, ⟨15, _⟩ => ⟨S_, .f32⟩
  | .hbm, ⟨16, _⟩ => ⟨S32x4096x4096, .f32⟩
  | .hbm, ⟨17, _⟩ => ⟨S32x4096x4096, .f32⟩
  | .hbm, ⟨18, _⟩ => ⟨S32x4096x1, .f32⟩
  | .hbm, ⟨19, _⟩ => ⟨S32x1x4096, .f32⟩
  | .hbm, ⟨20, _⟩ => ⟨S32x4096x4096, .f32⟩
  | .hbm, ⟨21, _⟩ => ⟨S32x4096x4096, .f32⟩
  | .hbm, ⟨22, _⟩ => ⟨S32x4096x4096, .f32⟩
  | .hbm, ⟨23, _⟩ => ⟨S32x4096x4096, .f32⟩
  | .hbm, ⟨24, _⟩ => ⟨S4096, .i32⟩
  | .hbm, ⟨25, _⟩ => ⟨S1x4096, .i32⟩
  | .hbm, ⟨26, _⟩ => ⟨S4096x1, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S32x4096x4096, .i1⟩
  | .hbm, ⟨33, _⟩ => ⟨S32x4096x4096, .f32⟩
  | .hbm, ⟨34, _⟩ => ⟨S32x4096x4096, .f32⟩
  | .hbm, ⟨35, _⟩ => ⟨S_, .f32⟩
  | .hbm, ⟨36, _⟩ => ⟨S32x4096, .f32⟩
  | .hbm, ⟨37, _⟩ => ⟨S32x4096x1, .f32⟩
  | .hbm, ⟨38, _⟩ => ⟨S32x4096x4096, .f32⟩
  | .hbm, ⟨39, _⟩ => ⟨S32x4096x4096, .f32⟩
  | .hbm, ⟨40, _⟩ => ⟨S32x4096x4096, .f32⟩
  | .hbm, ⟨41, _⟩ => ⟨S_, .f32⟩
  | .hbm, ⟨42, _⟩ => ⟨S32x4096, .f32⟩
  | .hbm, ⟨43, _⟩ => ⟨S32x4096x1, .f32⟩
  | .hbm, ⟨44, _⟩ => ⟨S32x4096x4096, .f32⟩
  | .hbm, ⟨45, _⟩ => ⟨S32x4096x4096, .f32⟩
  | .hbm, ⟨46, _⟩ => ⟨S32x128x4096, .f32⟩
  | .hbm, ⟨47, _⟩ => ⟨S4096x32x128, .f32⟩
  | .hbm, ⟨48, _⟩ => ⟨S8x32, .f32⟩
  | .hbm, ⟨49, _⟩ => ⟨S8x32x128, .f32⟩
  | .hbm, ⟨50, _⟩ => ⟨S8x4096, .f32⟩
  | .hbm, ⟨51, _⟩ => ⟨S8x8x4096, .f32⟩
  | .hbm, ⟨52, _⟩ => ⟨S64x4096, .f32⟩
  | .hbm, ⟨53, _⟩ => ⟨S8x32, .f32⟩
  | .hbm, ⟨54, _⟩ => ⟨S8x512x32, .f32⟩
  | .hbm, ⟨55, _⟩ => ⟨S4096x32, .f32⟩
  | .hbm, ⟨56, _⟩ => ⟨S32x4096x1, .f32⟩
  | .hbm, ⟨57, _⟩ => ⟨S32x4096x1, .f32⟩
  | .hbm, ⟨58, _⟩ => ⟨S32x4096, .f32⟩
  | .hbm, ⟨59, _⟩ => ⟨S4096x32, .f32⟩
  | .hbm, ⟨60, _⟩ => ⟨S4096x32, .f32⟩
  | .hbm, ⟨61, _⟩ => ⟨S4096x32, .f32⟩
  | .hbm, ⟨62, _⟩ => ⟨S4096x4096, .f32⟩
  | .hbm, ⟨63, _⟩ => ⟨S4096x32x128, .f32⟩
  | .hbm, ⟨64, _⟩ => ⟨S4096x32x128, .f32⟩
  | .hbm, ⟨65, _⟩ => ⟨S_, .f32⟩
  | .hbm, ⟨66, _⟩ => ⟨S4096x32, .f32⟩
  | .hbm, ⟨67, _⟩ => ⟨S32x4096, .f32⟩
  | .hbm, ⟨68, _⟩ => ⟨S32x1x4096, .f32⟩
  | .hbm, ⟨69, _⟩ => ⟨S4096x32x128, .f32⟩
  | .hbm, ⟨70, _⟩ => ⟨S4096x4096, .f32⟩
  | .hbm, ⟨71, _⟩ => ⟨S4096x32x128, .f32⟩
  | .hbm, ⟨72, _⟩ => ⟨S4096x4096, .f32⟩
  | .hbm, ⟨73, _⟩ => ⟨S4096x4096, .bf16⟩
  | .hbm, ⟨74, _⟩ => ⟨S4096x4096, .bf16⟩
  | .hbm, ⟨75, _⟩ => ⟨S4096x4096, .bf16⟩
  | .hbm, ⟨76, _⟩ => ⟨S4096x4096, .f32⟩
  | .hbm, ⟨77, _⟩ => ⟨S32x1x4096, .f32⟩
  | .local _ .vmem, ⟨0, _⟩ => ⟨S4096x128, .bf16⟩
  | .local _ .vmem, ⟨1, _⟩ => ⟨S4096x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S64x128, .f32⟩
  | .local _ .vmem, ⟨13, _⟩ => ⟨S64x128, .f32⟩
  | .local _ .vmem, ⟨14, _⟩ => ⟨S1x1x512, .f32⟩
  | .local _ .vmem, ⟨15, _⟩ => ⟨S1x1x512, .f32⟩
  | .local _ .vmem, ⟨16, _⟩ => ⟨S4096x128, .bf16⟩
  | .local _ .vmem, ⟨17, _⟩ => ⟨S4096x128, .bf16⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | .local _ .vmem, ⟨22, _⟩ => ⟨S4096x128, .f32⟩
  | .local _ .vmem, ⟨23, _⟩ => ⟨S4096x128, .f32⟩
  | .local _ .vmem, ⟨24, _⟩ => ⟨S1x1x512, .f32⟩
  | .local _ .vmem, ⟨25, _⟩ => ⟨S1x1x512, .f32⟩
  | .local _ .vmem, ⟨26, _⟩ => ⟨S4096x128, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_3 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62_0 : Ref sig .tc := ⟨.hbm, 73, rfl⟩
abbrev main_v62_1 : Ref sig .tc := ⟨.hbm, 74, rfl⟩
abbrev main_v62_2 : Ref sig .tc := ⟨.hbm, 75, rfl⟩
abbrev main_v62_3 : Ref sig .tc := ⟨.hbm, 76, rfl⟩
abbrev main_v62_4 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c512_i32 : BitVec 32 := 512#32
  let v10 : BitVec 32 := Scalar.muli arg1 c512_i32
  v10
def k0_off1 (i : grid0.Coords) : Fin 2 → Nat :=
  let arg1 : BitVec 32 := BitVec.ofNat 32 (i 1).val
  let c512_i32 : BitVec 32 := 512#32
  let v10 : BitVec 32 := Scalar.muli arg1 c512_i32
  let v11 : BitVec 32 := v10
  let v12 : Index := Scalar.indexCast v11
  let c0_9 : Index := 0#32
  ![v12.toNat, 0]
def k0_mult2 (i : grid0.Coords) : BitVec 32 :=
  let arg1 : BitVec 32 := BitVec.ofNat 32 (i 1).val
  let c8_i32 : BitVec 32 := 8#32
  let v16 : BitVec 32 := Scalar.muli arg1 c8_i32
  v16
def k0_off2 (i : grid0.Coords) : Fin 2 → Nat :=
  let arg1 : BitVec 32 := BitVec.ofNat 32 (i 1).val
  let c8_i32 : BitVec 32 := 8#32
  let v16 : BitVec 32 := Scalar.muli arg1 c8_i32
  let v17 : BitVec 32 := v16
  let v18 : Index := Scalar.indexCast v17
  let c0_11 : Index := 0#32
  ![v18.toNat, 0]
def k0_off3 (i : grid0.Coords) : Fin 2 → Nat :=
  let arg1 : BitVec 32 := BitVec.ofNat 32 (i 1).val
  let c512_i32 : BitVec 32 := 512#32
  let v10 : BitVec 32 := Scalar.muli arg1 c512_i32
  let v11 : BitVec 32 := v10
  let v34 : Index := Scalar.indexCast v11
  let c0_15 : Index := 0#32
  ![v34.toNat, 0]
@[reducible] def k0_t1_loop (i : grid0.Coords) : Scf.Loop 32 :=
  let arg1 : BitVec 32 := BitVec.ofNat 32 (i 1).val
  let c1_i32 : BitVec 32 := 1#32
  let v79 : BitVec 32 := Scalar.addi arg1 c1_i32
  let c8_i32_29 : BitVec 32 := 8#32
  let v80 : BitVec 32 := Scalar.subi c8_i32_29 v79
  let c1_i32_30 : BitVec 32 := 1#32
  let v82 : BitVec 32 := Scalar.divsi v80 c1_i32_30
  let v83 : BitVec 32 := Scalar.muli v82 c1_i32_30
  let v84 : BitVec 32 := Scalar.addi v79 v83
  let c1_i32_31 : BitVec 32 := 1#32
  ⟨v79, v84, c1_i32_31⟩
def k0_mult3 (i : grid0.Coords) (k0_t1 : Fin (k0_t1_loop i).trips) : BitVec 32 :=
  let arg1 : BitVec 32 := BitVec.ofNat 32 (i 1).val
  let c1_i32 : BitVec 32 := 1#32
  let v79 : BitVec 32 := Scalar.addi arg1 c1_i32
  let c1_i32_31 : BitVec 32 := 1#32
  let arg16 : BitVec 32 := Scf.iv v79 c1_i32_31 k0_t1
  let c512_i32_42 : BitVec 32 := 512#32
  let v99 : BitVec 32 := Scalar.muli arg16 c512_i32_42
  v99
def k0_off4 (i : grid0.Coords) (k0_t1 : Fin (k0_t1_loop i).trips) : Fin 2 → Nat :=
  let arg1 : BitVec 32 := BitVec.ofNat 32 (i 1).val
  let c1_i32 : BitVec 32 := 1#32
  let v79 : BitVec 32 := Scalar.addi arg1 c1_i32
  let c1_i32_31 : BitVec 32 := 1#32
  let arg16 : BitVec 32 := Scf.iv v79 c1_i32_31 k0_t1
  let c512_i32_42 : BitVec 32 := 512#32
  let v99 : BitVec 32 := Scalar.muli arg16 c512_i32_42
  let v100 : BitVec 32 := v99
  let v101 : Index := Scalar.indexCast v100
  let c0_43 : Index := 0#32
  ![v101.toNat, 0]
def k0_mult4 (i : grid0.Coords) (k0_t1 : Fin (k0_t1_loop i).trips) : BitVec 32 :=
  let arg1 : BitVec 32 := BitVec.ofNat 32 (i 1).val
  let c1_i32 : BitVec 32 := 1#32
  let v79 : BitVec 32 := Scalar.addi arg1 c1_i32
  let c1_i32_31 : BitVec 32 := 1#32
  let arg16 : BitVec 32 := Scf.iv v79 c1_i32_31 k0_t1
  let c8_i32_45 : BitVec 32 := 8#32
  let v105 : BitVec 32 := Scalar.muli arg16 c8_i32_45
  v105
def k0_off5 (i : grid0.Coords) (k0_t1 : Fin (k0_t1_loop i).trips) : Fin 2 → Nat :=
  let arg1 : BitVec 32 := BitVec.ofNat 32 (i 1).val
  let c1_i32 : BitVec 32 := 1#32
  let v79 : BitVec 32 := Scalar.addi arg1 c1_i32
  let c1_i32_31 : BitVec 32 := 1#32
  let arg16 : BitVec 32 := Scf.iv v79 c1_i32_31 k0_t1
  let c8_i32_45 : BitVec 32 := 8#32
  let v105 : BitVec 32 := Scalar.muli arg16 c8_i32_45
  let v106 : BitVec 32 := v105
  let v107 : Index := Scalar.indexCast v106
  let c0_46 : Index := 0#32
  ![v107.toNat, 0]
def k0_off6 (i : grid0.Coords) (k0_t1 : Fin (k0_t1_loop i).trips) : Fin 2 → Nat :=
  let arg1 : BitVec 32 := BitVec.ofNat 32 (i 1).val
  let c1_i32 : BitVec 32 := 1#32
  let v79 : BitVec 32 := Scalar.addi arg1 c1_i32
  let c1_i32_31 : BitVec 32 := 1#32
  let arg16 : BitVec 32 := Scf.iv v79 c1_i32_31 k0_t1
  let c512_i32_42 : BitVec 32 := 512#32
  let v99 : BitVec 32 := Scalar.muli arg16 c512_i32_42
  let v100 : BitVec 32 := v99
  let v118 : Index := Scalar.indexCast v100
  let c0_49 : Index := 0#32
  ![v118.toNat, 0]
@[reducible] def k0_t2_loop (i : grid0.Coords) : Scf.Loop 32 :=
  let arg1 : BitVec 32 := BitVec.ofNat 32 (i 1).val
  let c1_i32 : BitVec 32 := 1#32
  let v79 : BitVec 32 := Scalar.addi arg1 c1_i32
  let c8_i32_29 : BitVec 32 := 8#32
  let v80 : BitVec 32 := Scalar.subi c8_i32_29 v79
  let c1_i32_30 : BitVec 32 := 1#32
  let v82 : BitVec 32 := Scalar.divsi v80 c1_i32_30
  let v83 : BitVec 32 := Scalar.muli v82 c1_i32_30
  let v84 : BitVec 32 := Scalar.addi v79 v83
  let v81 : BitVec 32 := Scalar.addi v79 v80
  let c1_i32_32 : BitVec 32 := 1#32
  ⟨v84, v81, c1_i32_32⟩
def k0_mult5 (i : grid0.Coords) (k0_t2 : Fin (k0_t2_loop i).trips) : BitVec 32 :=
  let arg1 : BitVec 32 := BitVec.ofNat 32 (i 1).val
  let c1_i32 : BitVec 32 := 1#32
  let v79 : BitVec 32 := Scalar.addi arg1 c1_i32
  let c8_i32_29 : BitVec 32 := 8#32
  let v80 : BitVec 32 := Scalar.subi c8_i32_29 v79
  let c1_i32_30 : BitVec 32 := 1#32
  let v82 : BitVec 32 := Scalar.divsi v80 c1_i32_30
  let v83 : BitVec 32 := Scalar.muli v82 c1_i32_30
  let v84 : BitVec 32 := Scalar.addi v79 v83
  let c1_i32_32 : BitVec 32 := 1#32
  let arg16 : BitVec 32 := Scf.iv v84 c1_i32_32 k0_t2
  let c512_i32_42 : BitVec 32 := 512#32
  let v99 : BitVec 32 := Scalar.muli arg16 c512_i32_42
  v99
def k0_off7 (i : grid0.Coords) (k0_t2 : Fin (k0_t2_loop i).trips) : Fin 2 → Nat :=
  let arg1 : BitVec 32 := BitVec.ofNat 32 (i 1).val
  let c1_i32 : BitVec 32 := 1#32
  let v79 : BitVec 32 := Scalar.addi arg1 c1_i32
  let c8_i32_29 : BitVec 32 := 8#32
  let v80 : BitVec 32 := Scalar.subi c8_i32_29 v79
  let c1_i32_30 : BitVec 32 := 1#32
  let v82 : BitVec 32 := Scalar.divsi v80 c1_i32_30
  let v83 : BitVec 32 := Scalar.muli v82 c1_i32_30
  let v84 : BitVec 32 := Scalar.addi v79 v83
  let c1_i32_32 : BitVec 32 := 1#32
  let arg16 : BitVec 32 := Scf.iv v84 c1_i32_32 k0_t2
  let c512_i32_42 : BitVec 32 := 512#32
  let v99 : BitVec 32 := Scalar.muli arg16 c512_i32_42
  let v100 : BitVec 32 := v99
  let v101 : Index := Scalar.indexCast v100
  let c0_43 : Index := 0#32
  ![v101.toNat, 0]
def k0_mult6 (i : grid0.Coords) (k0_t2 : Fin (k0_t2_loop i).trips) : BitVec 32 :=
  let arg1 : BitVec 32 := BitVec.ofNat 32 (i 1).val
  let c1_i32 : BitVec 32 := 1#32
  let v79 : BitVec 32 := Scalar.addi arg1 c1_i32
  let c8_i32_29 : BitVec 32 := 8#32
  let v80 : BitVec 32 := Scalar.subi c8_i32_29 v79
  let c1_i32_30 : BitVec 32 := 1#32
  let v82 : BitVec 32 := Scalar.divsi v80 c1_i32_30
  let v83 : BitVec 32 := Scalar.muli v82 c1_i32_30
  let v84 : BitVec 32 := Scalar.addi v79 v83
  let c1_i32_32 : BitVec 32 := 1#32
  let arg16 : BitVec 32 := Scf.iv v84 c1_i32_32 k0_t2
  let c8_i32_45 : BitVec 32 := 8#32
  let v105 : BitVec 32 := Scalar.muli arg16 c8_i32_45
  v105
def k0_off8 (i : grid0.Coords) (k0_t2 : Fin (k0_t2_loop i).trips) : Fin 2 → Nat :=
  let arg1 : BitVec 32 := BitVec.ofNat 32 (i 1).val
  let c1_i32 : BitVec 32 := 1#32
  let v79 : BitVec 32 := Scalar.addi arg1 c1_i32
  let c8_i32_29 : BitVec 32 := 8#32
  let v80 : BitVec 32 := Scalar.subi c8_i32_29 v79
  let c1_i32_30 : BitVec 32 := 1#32
  let v82 : BitVec 32 := Scalar.divsi v80 c1_i32_30
  let v83 : BitVec 32 := Scalar.muli v82 c1_i32_30
  let v84 : BitVec 32 := Scalar.addi v79 v83
  let c1_i32_32 : BitVec 32 := 1#32
  let arg16 : BitVec 32 := Scf.iv v84 c1_i32_32 k0_t2
  let c8_i32_45 : BitVec 32 := 8#32
  let v105 : BitVec 32 := Scalar.muli arg16 c8_i32_45
  let v106 : BitVec 32 := v105
  let v107 : Index := Scalar.indexCast v106
  let c0_46 : Index := 0#32
  ![v107.toNat, 0]
def k0_off9 (i : grid0.Coords) (k0_t2 : Fin (k0_t2_loop i).trips) : Fin 2 → Nat :=
  let arg1 : BitVec 32 := BitVec.ofNat 32 (i 1).val
  let c1_i32 : BitVec 32 := 1#32
  let v79 : BitVec 32 := Scalar.addi arg1 c1_i32
  let c8_i32_29 : BitVec 32 := 8#32
  let v80 : BitVec 32 := Scalar.subi c8_i32_29 v79
  let c1_i32_30 : BitVec 32 := 1#32
  let v82 : BitVec 32 := Scalar.divsi v80 c1_i32_30
  let v83 : BitVec 32 := Scalar.muli v82 c1_i32_30
  let v84 : BitVec 32 := Scalar.addi v79 v83
  let c1_i32_32 : BitVec 32 := 1#32
  let arg16 : BitVec 32 := Scf.iv v84 c1_i32_32 k0_t2
  let c512_i32_42 : BitVec 32 := 512#32
  let v99 : BitVec 32 := Scalar.muli arg16 c512_i32_42
  let v100 : BitVec 32 := v99
  let v118 : Index := Scalar.indexCast v100
  let c0_49 : Index := 0#32
  ![v118.toNat, 0]
def k0_cond2 (i : grid0.Coords) : BitVec 1 :=
  let arg1 : BitVec 32 := BitVec.ofNat 32 (i 1).val
  let c7_i32 : BitVec 32 := 7#32
  let v96 : BitVec 1 := Scalar.cmpi .eq arg1 c7_i32
  let v97 : BitVec 32 := Scalar.extui v96
  let c0_i32_41 : BitVec 32 := 0#32
  let v98 : BitVec 1 := Scalar.cmpi .ne v97 c0_i32_41
  v98

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x12288 : Shape := ⟨2, ![4096, 12288]⟩
abbrev S4096x4096 : Shape := ⟨2, ![4096, 4096]⟩
abbrev S4096x32 : Shape := ⟨2, ![4096, 32]⟩
abbrev S4096x32x128 : Shape := ⟨3, ![4096, 32, 128]⟩
abbrev S32x4096 : Shape := ⟨2, ![32, 4096]⟩
abbrev S32x4096x4096 : Shape := ⟨3, ![32, 4096, 4096]⟩
abbrev S_ : Shape := ⟨0, ![]⟩
abbrev S32x4096x1 : Shape := ⟨3, ![32, 4096, 1]⟩
abbrev S32x1x4096 : Shape := ⟨3, ![32, 1, 4096]⟩
abbrev S4096 : Shape := ⟨1, ![4096]⟩
abbrev S1x4096 : Shape := ⟨2, ![1, 4096]⟩
abbrev S4096x1 : Shape := ⟨2, ![4096, 1]⟩
abbrev S32x128x4096 : Shape := ⟨3, ![32, 128, 4096]⟩
abbrev S32x4096x128 : Shape := ⟨3, ![32, 4096, 128]⟩

abbrev nBuf : Space → Nat
  | .hbm => 128
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S4096x4096, .bf16⟩
  | .hbm, ⟨2, _⟩ => ⟨S4096x32, .f32⟩
  | .hbm, ⟨3, _⟩ => ⟨S4096x4096, .bf16⟩
  | .hbm, ⟨4, _⟩ => ⟨S4096x4096, .bf16⟩
  | .hbm, ⟨5, _⟩ => ⟨S4096x4096, .bf16⟩
  | .hbm, ⟨6, _⟩ => ⟨S4096x4096, .f32⟩
  | .hbm, ⟨7, _⟩ => ⟨S4096x32x128, .f32⟩
  | .hbm, ⟨8, _⟩ => ⟨S4096x4096, .f32⟩
  | .hbm, ⟨9, _⟩ => ⟨S4096x32x128, .f32⟩
  | .hbm, ⟨10, _⟩ => ⟨S4096x4096, .f32⟩
  | .hbm, ⟨11, _⟩ => ⟨S4096x32x128, .f32⟩
  | .hbm, ⟨12, _⟩ => ⟨S32x4096, .f32⟩
  | .hbm, ⟨13, _⟩ => ⟨S32x4096, .f32⟩
  | .hbm, ⟨14, _⟩ => ⟨S32x4096x4096, .f32⟩
  | .hbm, ⟨15, _⟩ => ⟨S_, .f32⟩
  | .hbm, ⟨16, _⟩ => ⟨S32x4096x4096, .f32⟩
  | .hbm, ⟨17, _⟩ => ⟨S32x4096x4096, .f32⟩
  | .hbm, ⟨18, _⟩ => ⟨S32x4096x1, .f32⟩
  | .hbm, ⟨19, _⟩ => ⟨S32x1x4096, .f32⟩
  | .hbm, ⟨20, _⟩ => ⟨S32x4096x4096, .f32⟩
  | .hbm, ⟨21, _⟩ => ⟨S32x4096x4096, .f32⟩
  | .hbm, ⟨22, _⟩ => ⟨S32x4096x4096, .f32⟩
  | .hbm, ⟨23, _⟩ => ⟨S32x4096x4096, .f32⟩
  | .hbm, ⟨24, _⟩ => ⟨S4096, .i32⟩
  | .hbm, ⟨25, _⟩ => ⟨S1x4096, .i32⟩
  | .hbm, ⟨26, _⟩ => ⟨S4096x1, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S32x4096x4096, .i1⟩
  | .hbm, ⟨33, _⟩ => ⟨S32x4096x4096, .f32⟩
  | .hbm, ⟨34, _⟩ => ⟨S32x4096x4096, .f32⟩
  | .hbm, ⟨35, _⟩ => ⟨S_, .f32⟩
  | .hbm, ⟨36, _⟩ => ⟨S32x4096x4096, .f32⟩
  | .hbm, ⟨37, _⟩ => ⟨S_, .f32⟩
  | .hbm, ⟨38, _⟩ => ⟨S32x4096, .f32⟩
  | .hbm, ⟨39, _⟩ => ⟨S32x4096x1, .f32⟩
  | .hbm, ⟨40, _⟩ => ⟨S32x4096x4096, .f32⟩
  | .hbm, ⟨41, _⟩ => ⟨S32x4096x4096, .i1⟩
  | .hbm, ⟨42, _⟩ => ⟨S32x4096x4096, .f32⟩
  | .hbm, ⟨43, _⟩ => ⟨S_, .f32⟩
  | .hbm, ⟨44, _⟩ => ⟨S32x4096, .f32⟩
  | .hbm, ⟨45, _⟩ => ⟨S_, .f32⟩
  | .hbm, ⟨46, _⟩ => ⟨S32x4096, .f32⟩
  | .hbm, ⟨47, _⟩ => ⟨S32x4096, .f32⟩
  | .hbm, ⟨48, _⟩ => ⟨S_, .f32⟩
  | .hbm, ⟨49, _⟩ => ⟨S32x4096, .f32⟩
  | .hbm, ⟨50, _⟩ => ⟨S32x4096, .i1⟩
  | .hbm, ⟨51, _⟩ => ⟨S_, .f32⟩
  | .hbm, ⟨52, _⟩ => ⟨S32x4096, .f32⟩
  | .hbm, ⟨53, _⟩ => ⟨S32x4096, .i1⟩
  | .hbm, ⟨54, _⟩ => ⟨S_, .f32⟩
  | .hbm, ⟨55, _⟩ => ⟨S32x4096, .f32⟩
  | .hbm, ⟨56, _⟩ => ⟨S_, .f32⟩
  | .hbm, ⟨57, _⟩ => ⟨S32x4096, .f32⟩
  | .hbm, ⟨58, _⟩ => ⟨S_, .f32⟩
  | .hbm, ⟨59, _⟩ => ⟨S32x4096, .f32⟩
  | .hbm, ⟨60, _⟩ => ⟨S32x4096, .f32⟩
  | .hbm, ⟨61, _⟩ => ⟨S32x4096, .f32⟩
  | .hbm, ⟨62, _⟩ => ⟨S32x4096x1, .f32⟩
  | .hbm, ⟨63, _⟩ => ⟨S32x4096x4096, .f32⟩
  | .hbm, ⟨64, _⟩ => ⟨S32x4096x4096, .f32⟩
  | .hbm, ⟨65, _⟩ => ⟨S32x4096x4096, .f32⟩
  | .hbm, ⟨66, _⟩ => ⟨S_, .f32⟩
  | .hbm, ⟨67, _⟩ => ⟨S32x4096, .f32⟩
  | .hbm, ⟨68, _⟩ => ⟨S32x4096x1, .f32⟩
  | .hbm, ⟨69, _⟩ => ⟨S32x4096x4096, .f32⟩
  | .hbm, ⟨70, _⟩ => ⟨S32x4096x4096, .f32⟩
  | .hbm, ⟨71, _⟩ => ⟨S32x4096x1, .f32⟩
  | .hbm, ⟨72, _⟩ => ⟨S_, .f32⟩
  | .hbm, ⟨73, _⟩ => ⟨S32x4096x1, .f32⟩
  | .hbm, ⟨74, _⟩ => ⟨S32x4096x1, .f32⟩
  | .hbm, ⟨75, _⟩ => ⟨S32x128x4096, .f32⟩
  | .hbm, ⟨76, _⟩ => ⟨S4096x32x128, .f32⟩
  | .hbm, ⟨77, _⟩ => ⟨S4096x4096, .f32⟩
  | .hbm, ⟨78, _⟩ => ⟨S4096x32x128, .f32⟩
  | .hbm, ⟨79, _⟩ => ⟨S32x128x4096, .f32⟩
  | .hbm, ⟨80, _⟩ => ⟨S32x4096x4096, .f32⟩
  | .hbm, ⟨81, _⟩ => ⟨S32x128x4096, .f32⟩
  | .hbm, ⟨82, _⟩ => ⟨S4096x32x128, .f32⟩
  | .hbm, ⟨83, _⟩ => ⟨S32x4096x4096, .f32⟩
  | .hbm, ⟨84, _⟩ => ⟨S32x4096x4096, .f32⟩
  | .hbm, ⟨85, _⟩ => ⟨S32x4096x4096, .f32⟩
  | .hbm, ⟨86, _⟩ => ⟨S_, .f32⟩
  | .hbm, ⟨87, _⟩ => ⟨S32x4096, .f32⟩
  | .hbm, ⟨88, _⟩ => ⟨S32x4096x1, .f32⟩
  | .hbm, ⟨89, _⟩ => ⟨S32x4096x1, .f32⟩
  | .hbm, ⟨90, _⟩ => ⟨S32x4096x4096, .f32⟩
  | .hbm, ⟨91, _⟩ => ⟨S32x4096x4096, .f32⟩
  | .hbm, ⟨92, _⟩ => ⟨S_, .f32⟩
  | .hbm, ⟨93, _⟩ => ⟨S32x4096, .f32⟩
  | .hbm, ⟨94, _⟩ => ⟨S32x4096x4096, .f32⟩
  | .hbm, ⟨95, _⟩ => ⟨S32x4096x4096, .f32⟩
  | .hbm, ⟨96, _⟩ => ⟨S32x4096x4096, .f32⟩
  | .hbm, ⟨97, _⟩ => ⟨S_, .f32⟩
  | .hbm, ⟨98, _⟩ => ⟨S32x4096x4096, .f32⟩
  | .hbm, ⟨99, _⟩ => ⟨S32x4096x4096, .f32⟩
  | .hbm, ⟨100, _⟩ => ⟨S_, .f32⟩
  | .hbm, ⟨101, _⟩ => ⟨S32x4096, .f32⟩
  | .hbm, ⟨102, _⟩ => ⟨S32x4096x1, .f32⟩
  | .hbm, ⟨103, _⟩ => ⟨S32x4096x4096, .f32⟩
  | .hbm, ⟨104, _⟩ => ⟨S_, .f32⟩
  | .hbm, ⟨105, _⟩ => ⟨S32x4096, .f32⟩
  | .hbm, ⟨106, _⟩ => ⟨S32x1x4096, .f32⟩
  | .hbm, ⟨107, _⟩ => ⟨S_, .f32⟩
  | .hbm, ⟨108, _⟩ => ⟨S32x4096, .f32⟩
  | .hbm, ⟨109, _⟩ => ⟨S_, .f32⟩
  | .hbm, ⟨110, _⟩ => ⟨S32x4096, .f32⟩
  | .hbm, ⟨111, _⟩ => ⟨S_, .f32⟩
  | .hbm, ⟨112, _⟩ => ⟨S32x4096x4096, .f32⟩
  | .hbm, ⟨113, _⟩ => ⟨S32x4096x4096, .f32⟩
  | .hbm, ⟨114, _⟩ => ⟨S32x4096x128, .f32⟩
  | .hbm, ⟨115, _⟩ => ⟨S4096x32x128, .f32⟩
  | .hbm, ⟨116, _⟩ => ⟨S32x4096x128, .f32⟩
  | .hbm, ⟨117, _⟩ => ⟨S4096x32x128, .f32⟩
  | .hbm, ⟨118, _⟩ => ⟨S4096x4096, .f32⟩
  | .hbm, ⟨119, _⟩ => ⟨S4096x4096, .bf16⟩
  | .hbm, ⟨120, _⟩ => ⟨S4096x4096, .f32⟩
  | .hbm, ⟨121, _⟩ => ⟨S4096x4096, .bf16⟩
  | .hbm, ⟨122, _⟩ => ⟨S4096x4096, .f32⟩
  | .hbm, ⟨123, _⟩ => ⟨S4096x4096, .bf16⟩
  | .hbm, ⟨124, _⟩ => ⟨S4096x32, .f32⟩
  | .hbm, ⟨125, _⟩ => ⟨S4096x32x128, .f32⟩
  | .hbm, ⟨126, _⟩ => ⟨S4096x4096, .f32⟩
  | .hbm, ⟨127, _⟩ => ⟨S32x1x4096, .f32⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_v26_1 : Ref sig .tc := ⟨.hbm, 32, rfl⟩
abbrev main_call0_v2 : Ref sig .tc := ⟨.hbm, 33, rfl⟩
abbrev main_v26_0 : Ref sig .tc := ⟨.hbm, 34, rfl⟩
abbrev main_call0_cst : Ref sig .tc := ⟨.hbm, 35, rfl⟩
abbrev main_v26_2 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call1_cst : Ref sig .tc := ⟨.hbm, 97, rfl⟩
abbrev main_call1_v0 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_v80 : Ref sig .tc := ⟨.hbm, 106, rfl⟩
abbrev main_cst_15 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_cst_17 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩

abbrev nD : Nat := 1
abbrev τ : Topo := Topo.v7x

variable {F : FTy → Type} [FloatOps F]
-- ==== Kernel2.lean ====
abbrev S4096x4096 : Shape := ⟨2, ![4096, 4096]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel2Ideal.lean ====
abbrev S4096x4096 : Shape := ⟨2, ![4096, 4096]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel3Ideal.lean ====
abbrev S4096x4096 : Shape := ⟨2, ![4096, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x4096 : Shape := ⟨2, ![4096, 4096]⟩
abbrev S16416x4096 : Shape := ⟨2, ![16416, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S16416x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel4Ideal.lean ====
abbrev S4096x4096 : Shape := ⟨2, ![4096, 4096]⟩
abbrev S16416x4096 : Shape := ⟨2, ![16416, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S16416x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x4096 : Shape := ⟨2, ![4096, 4096]⟩
abbrev S16416x4096 : Shape := ⟨2, ![16416, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S16416x4096, .bf16⟩
  | .hbm, ⟨2, _⟩ => ⟨S4096x4096, .bf16⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x4096 : Shape := ⟨2, ![4096, 4096]⟩
abbrev S16416x4096 : Shape := ⟨2, ![16416, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S16416x4096, .bf16⟩
  | .hbm, ⟨2, _⟩ => ⟨S4096x4096, .f32⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel5Ideal.lean ====
abbrev S4096x4096 : Shape := ⟨2, ![4096, 4096]⟩
abbrev S16416x4096 : Shape := ⟨2, ![16416, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S16416x4096, .bf16⟩
  | .hbm, ⟨2, _⟩ => ⟨S4096x4096, .f32⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x4096 : Shape := ⟨2, ![4096, 4096]⟩
abbrev S16416x4096 : Shape := ⟨2, ![16416, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S16416x4096, .bf16⟩
  | .hbm, ⟨2, _⟩ => ⟨S4096x4096, .f32⟩
  | .hbm, ⟨3, _⟩ => ⟨S4096x4096, .bf16⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel6.lean ====
abbrev S4096x4096 : Shape := ⟨2, ![4096, 4096]⟩
abbrev S16416x4096 : Shape := ⟨2, ![16416, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S16416x4096, .bf16⟩
  | .hbm, ⟨2, _⟩ => ⟨S4096x4096, .f32⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel6Ideal.lean ====
abbrev S4096x4096 : Shape := ⟨2, ![4096, 4096]⟩
abbrev S16416x4096 : Shape := ⟨2, ![16416, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S16416x4096, .bf16⟩
  | .hbm, ⟨2, _⟩ => ⟨S4096x4096, .f32⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x4096 : Shape := ⟨2, ![4096, 4096]⟩
abbrev S16416x4096 : Shape := ⟨2, ![16416, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S16416x4096, .bf16⟩
  | .hbm, ⟨2, _⟩ => ⟨S4096x4096, .f32⟩
  | .hbm, ⟨3, _⟩ => ⟨S4096x4096, .bf16⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel7.lean ====
abbrev S4096x4096 : Shape := ⟨2, ![4096, 4096]⟩
abbrev S16416x4096 : Shape := ⟨2, ![16416, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S16416x4096, .bf16⟩
  | .hbm, ⟨2, _⟩ => ⟨S4096x4096, .f32⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg2 c3_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel7Ideal.lean ====
abbrev S4096x4096 : Shape := ⟨2, ![4096, 4096]⟩
abbrev S16416x4096 : Shape := ⟨2, ![16416, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S16416x4096, .bf16⟩
  | .hbm, ⟨2, _⟩ => ⟨S4096x4096, .f32⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg2 c3_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x4096 : Shape := ⟨2, ![4096, 4096]⟩
abbrev S16416x4096 : Shape := ⟨2, ![16416, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S16416x4096, .bf16⟩
  | .hbm, ⟨2, _⟩ => ⟨S4096x4096, .f32⟩
  | .hbm, ⟨3, _⟩ => ⟨S4096x4096, .bf16⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel8.lean ====
abbrev S4096x128 : Shape := ⟨2, ![4096, 128]⟩
abbrev S128x4096 : Shape := ⟨2, ![128, 4096]⟩
abbrev S4096x4096 : Shape := ⟨2, ![4096, 4096]⟩
abbrev S1024x128 : Shape := ⟨2, ![1024, 128]⟩
abbrev S128x512 : Shape := ⟨2, ![128, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x128, .bf16⟩
  | .hbm, ⟨1, _⟩ => ⟨S128x4096, .bf16⟩
  | .hbm, ⟨2, _⟩ => ⟨S4096x4096, .f32⟩
  | .hbm, ⟨3, _⟩ => ⟨S4096x4096, .f32⟩
  | .local _ .vmem, ⟨0, _⟩ => ⟨S1024x128, .bf16⟩
  | .local _ .vmem, ⟨1, _⟩ => ⟨S1024x128, .bf16⟩
  | .local _ .vmem, ⟨2, _⟩ => ⟨S128x512, .bf16⟩
  | .local _ .vmem, ⟨3, _⟩ => ⟨S128x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel8Ideal.lean ====
abbrev S4096x128 : Shape := ⟨2, ![4096, 128]⟩
abbrev S128x4096 : Shape := ⟨2, ![128, 4096]⟩
abbrev S4096x4096 : Shape := ⟨2, ![4096, 4096]⟩
abbrev S1024x128 : Shape := ⟨2, ![1024, 128]⟩
abbrev S128x512 : Shape := ⟨2, ![128, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x128, .bf16⟩
  | .hbm, ⟨1, _⟩ => ⟨S128x4096, .bf16⟩
  | .hbm, ⟨2, _⟩ => ⟨S4096x4096, .f32⟩
  | .hbm, ⟨3, _⟩ => ⟨S4096x4096, .f32⟩
  | .local _ .vmem, ⟨0, _⟩ => ⟨S1024x128, .bf16⟩
  | .local _ .vmem, ⟨1, _⟩ => ⟨S1024x128, .bf16⟩
  | .local _ .vmem, ⟨2, _⟩ => ⟨S128x512, .bf16⟩
  | .local _ .vmem, ⟨3, _⟩ => ⟨S128x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x128 : Shape := ⟨2, ![4096, 128]⟩
abbrev S128x4096 : Shape := ⟨2, ![128, 4096]⟩
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S128x4096, .bf16⟩
  | .hbm, ⟨2, _⟩ => ⟨S4096x4096, .f32⟩
  | .hbm, ⟨3, _⟩ => ⟨S128x4096, .f32⟩
  | .hbm, ⟨4, _⟩ => ⟨S4096x128, .f32⟩
  | .hbm, ⟨5, _⟩ => ⟨S_, .f32⟩
  | .hbm, ⟨6, _⟩ => ⟨S4096x4096, .f32⟩
  | .hbm, ⟨7, _⟩ => ⟨S4096x128, .f32⟩
  | .hbm, ⟨8, _⟩ => ⟨S4096x128, .f32⟩
  | .hbm, ⟨9, _⟩ => ⟨S4096x4096, .f32⟩
  | .hbm, ⟨10, _⟩ => ⟨S4096x4096, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel9.lean ====
abbrev S4096x4096 : Shape := ⟨2, ![4096, 4096]⟩
abbrev S16416x4096 : Shape := ⟨2, ![16416, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S16416x4096, .f32⟩
  | .hbm, ⟨3, _⟩ => ⟨S16416x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel9Ideal.lean ====
abbrev S4096x4096 : Shape := ⟨2, ![4096, 4096]⟩
abbrev S16416x4096 : Shape := ⟨2, ![16416, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S16416x4096, .f32⟩
  | .hbm, ⟨3, _⟩ => ⟨S16416x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x4096 : Shape := ⟨2, ![4096, 4096]⟩
abbrev S16416x4096 : Shape := ⟨2, ![16416, 4096]⟩
abbrev S_ : Shape := ⟨0, ![]⟩
abbrev S12320x4096 : Shape := ⟨2, ![12320, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S16416x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S12320x4096, .f32⟩
  | .hbm, ⟨12, _⟩ => ⟨S16416x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel10.lean ====
abbrev S4096x4096 : Shape := ⟨2, ![4096, 4096]⟩
abbrev S16416x4096 : Shape := ⟨2, ![16416, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S16416x4096, .f32⟩
  | .hbm, ⟨3, _⟩ => ⟨S16416x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel10Ideal.lean ====
abbrev S4096x4096 : Shape := ⟨2, ![4096, 4096]⟩
abbrev S16416x4096 : Shape := ⟨2, ![16416, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S16416x4096, .f32⟩
  | .hbm, ⟨3, _⟩ => ⟨S16416x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x4096 : Shape := ⟨2, ![4096, 4096]⟩
abbrev S16416x4096 : Shape := ⟨2, ![16416, 4096]⟩
abbrev S_ : Shape := ⟨0, ![]⟩
abbrev S8224x4096 : Shape := ⟨2, ![8224, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S16416x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S8224x4096, .f32⟩
  | .hbm, ⟨13, _⟩ => ⟨S16416x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel11.lean ====
abbrev S4096x4096 : Shape := ⟨2, ![4096, 4096]⟩
abbrev S16416x4096 : Shape := ⟨2, ![16416, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S16416x4096, .f32⟩
  | .hbm, ⟨3, _⟩ => ⟨S16416x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg0 c8_i32
  let c0_i32 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel11Ideal.lean ====
abbrev S4096x4096 : Shape := ⟨2, ![4096, 4096]⟩
abbrev S16416x4096 : Shape := ⟨2, ![16416, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S16416x4096, .f32⟩
  | .hbm, ⟨3, _⟩ => ⟨S16416x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg0 c8_i32
  let c0_i32 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x4096 : Shape := ⟨2, ![4096, 4096]⟩
abbrev S16416x4096 : Shape := ⟨2, ![16416, 4096]⟩
abbrev S_ : Shape := ⟨0, ![]⟩
abbrev S8192x4096 : Shape := ⟨2, ![8192, 4096]⟩
abbrev S4128x4096 : Shape := ⟨2, ![4128, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S16416x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S8192x4096, .f32⟩
  | .hbm, ⟨12, _⟩ => ⟨S4128x4096, .f32⟩
  | .hbm, ⟨13, _⟩ => ⟨S16416x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel12.lean ====
abbrev S4096x4096 : Shape := ⟨2, ![4096, 4096]⟩
abbrev S16416x4096 : Shape := ⟨2, ![16416, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S16416x4096, .f32⟩
  | .hbm, ⟨3, _⟩ => ⟨S16416x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg0 c12_i32
  let c0_i32 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S4096x4096 : Shape := ⟨2, ![4096, 4096]⟩
abbrev S16416x4096 : Shape := ⟨2, ![16416, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S16416x4096, .f32⟩
  | .hbm, ⟨3, _⟩ => ⟨S16416x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg0 c12_i32
  let c0_i32 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x4096 : Shape := ⟨2, ![4096, 4096]⟩
abbrev S16416x4096 : Shape := ⟨2, ![16416, 4096]⟩
abbrev S_ : Shape := ⟨0, ![]⟩
abbrev S12288x4096 : Shape := ⟨2, ![12288, 4096]⟩
abbrev S32x4096 : Shape := ⟨2, ![32, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S16416x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S12288x4096, .f32⟩
  | .hbm, ⟨12, _⟩ => ⟨S32x4096, .f32⟩
  | .hbm, ⟨13, _⟩ => ⟨S16416x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel13.lean ====
abbrev S4096x128 : Shape := ⟨2, ![4096, 128]⟩
abbrev S4096x4096 : Shape := ⟨2, ![4096, 4096]⟩
abbrev S128x4096 : Shape := ⟨2, ![128, 4096]⟩
abbrev S4096x512 : Shape := ⟨2, ![4096, 512]⟩
abbrev S128x512 : Shape := ⟨2, ![128, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .bf16⟩
  | .hbm, ⟨1, _⟩ => ⟨S4096x4096, .bf16⟩
  | .hbm, ⟨2, _⟩ => ⟨S128x4096, .f32⟩
  | .local _ .vmem, ⟨0, _⟩ => ⟨S4096x128, .bf16⟩
  | .local _ .vmem, ⟨1, _⟩ => ⟨S4096x512, .bf16⟩
  | .local _ .vmem, ⟨2, _⟩ => ⟨S4096x512, .bf16⟩
  | .local _ .vmem, ⟨3, _⟩ => ⟨S128x512, .f32⟩
  | .local _ .vmem, ⟨4, _⟩ => ⟨S128x512, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel13Ideal.lean ====
abbrev S4096x128 : Shape := ⟨2, ![4096, 128]⟩
abbrev S4096x4096 : Shape := ⟨2, ![4096, 4096]⟩
abbrev S128x4096 : Shape := ⟨2, ![128, 4096]⟩
abbrev S4096x512 : Shape := ⟨2, ![4096, 512]⟩
abbrev S128x512 : Shape := ⟨2, ![128, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .bf16⟩
  | .hbm, ⟨1, _⟩ => ⟨S4096x4096, .bf16⟩
  | .hbm, ⟨2, _⟩ => ⟨S128x4096, .f32⟩
  | .local _ .vmem, ⟨0, _⟩ => ⟨S4096x128, .bf16⟩
  | .local _ .vmem, ⟨1, _⟩ => ⟨S4096x512, .bf16⟩
  | .local _ .vmem, ⟨2, _⟩ => ⟨S4096x512, .bf16⟩
  | .local _ .vmem, ⟨3, _⟩ => ⟨S128x512, .f32⟩
  | .local _ .vmem, ⟨4, _⟩ => ⟨S128x512, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x128 : Shape := ⟨2, ![4096, 128]⟩
abbrev S4096x4096 : Shape := ⟨2, ![4096, 4096]⟩
abbrev S_ : Shape := ⟨0, ![]⟩
abbrev S128x4096 : Shape := ⟨2, ![128, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x4096, .bf16⟩
  | .hbm, ⟨2, _⟩ => ⟨S_, .f32⟩
  | .hbm, ⟨3, _⟩ => ⟨S4096x128, .f32⟩
  | .hbm, ⟨4, _⟩ => ⟨S4096x4096, .f32⟩
  | .hbm, ⟨5, _⟩ => ⟨S4096x128, .f32⟩
  | .hbm, ⟨6, _⟩ => ⟨S4096x128, .f32⟩
  | .hbm, ⟨7, _⟩ => ⟨S128x4096, .f32⟩
  | .hbm, ⟨8, _⟩ => ⟨S4096x128, .f32⟩
  | .hbm, ⟨9, _⟩ => ⟨S128x4096, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4096x4096 : Shape := ⟨2, ![4096, 4096]⟩
abbrev S8192x4096 : Shape := ⟨2, ![8192, 4096]⟩
abbrev S4096x2048 : Shape := ⟨2, ![4096, 2048]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S8192x4096, .bf16⟩
  | .hbm, ⟨2, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel14Ideal.lean ====
abbrev S4096x4096 : Shape := ⟨2, ![4096, 4096]⟩
abbrev S8192x4096 : Shape := ⟨2, ![8192, 4096]⟩
abbrev S4096x2048 : Shape := ⟨2, ![4096, 2048]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S8192x4096, .bf16⟩
  | .hbm, ⟨2, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x4096 : Shape := ⟨2, ![4096, 4096]⟩
abbrev S8192x4096 : Shape := ⟨2, ![8192, 4096]⟩
abbrev S2048x4096 : Shape := ⟨2, ![2048, 4096]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8192x4096, .bf16⟩
  | .hbm, ⟨2, _⟩ => ⟨S2048x4096, .bf16⟩
  | .hbm, ⟨3, _⟩ => ⟨S2048x4096, .f32⟩
  | .hbm, ⟨4, _⟩ => ⟨S_, .f32⟩
  | .hbm, ⟨5, _⟩ => ⟨S4096x2048, .f32⟩
  | .hbm, ⟨6, _⟩ => ⟨S4096x4096, .f32⟩
  | .hbm, ⟨7, _⟩ => ⟨S4096x4096, .f32⟩
  | .hbm, ⟨8, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S4096x4096 : Shape := ⟨2, ![4096, 4096]⟩
abbrev S8192x4096 : Shape := ⟨2, ![8192, 4096]⟩
abbrev S4096x6144 : Shape := ⟨2, ![4096, 6144]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S8192x4096, .bf16⟩
  | .hbm, ⟨2, _⟩ => ⟨S4096x6144, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel15Ideal.lean ====
abbrev S4096x4096 : Shape := ⟨2, ![4096, 4096]⟩
abbrev S8192x4096 : Shape := ⟨2, ![8192, 4096]⟩
abbrev S4096x6144 : Shape := ⟨2, ![4096, 6144]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S8192x4096, .bf16⟩
  | .hbm, ⟨2, _⟩ => ⟨S4096x6144, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x4096 : Shape := ⟨2, ![4096, 4096]⟩
abbrev S8192x4096 : Shape := ⟨2, ![8192, 4096]⟩
abbrev S6144x4096 : Shape := ⟨2, ![6144, 4096]⟩
abbrev S_ : Shape := ⟨0, ![]⟩
abbrev S4096x6144 : Shape := ⟨2, ![4096, 6144]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8192x4096, .bf16⟩
  | .hbm, ⟨2, _⟩ => ⟨S6144x4096, .bf16⟩
  | .hbm, ⟨3, _⟩ => ⟨S6144x4096, .f32⟩
  | .hbm, ⟨4, _⟩ => ⟨S_, .f32⟩
  | .hbm, ⟨5, _⟩ => ⟨S4096x6144, .f32⟩
  | .hbm, ⟨6, _⟩ => ⟨S4096x4096, .f32⟩
  | .hbm, ⟨7, _⟩ => ⟨S4096x4096, .f32⟩
  | .hbm, ⟨8, _⟩ => ⟨S4096x6144, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S4096x8192 : Shape := ⟨2, ![4096, 8192]⟩
abbrev S4096x4096 : Shape := ⟨2, ![4096, 4096]⟩
abbrev S8192x4096 : Shape := ⟨2, ![8192, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S4096x4096, .bf16⟩
  | .hbm, ⟨2, _⟩ => ⟨S8192x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel16Ideal.lean ====
abbrev S4096x8192 : Shape := ⟨2, ![4096, 8192]⟩
abbrev S4096x4096 : Shape := ⟨2, ![4096, 4096]⟩
abbrev S8192x4096 : Shape := ⟨2, ![8192, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S4096x4096, .bf16⟩
  | .hbm, ⟨2, _⟩ => ⟨S8192x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x8192 : Shape := ⟨2, ![4096, 8192]⟩
abbrev S4096x4096 : Shape := ⟨2, ![4096, 4096]⟩
abbrev S_ : Shape := ⟨0, ![]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x4096, .bf16⟩
  | .hbm, ⟨2, _⟩ => ⟨S_, .f32⟩
  | .hbm, ⟨3, _⟩ => ⟨S8192x4096, .f32⟩
  | .hbm, ⟨4, _⟩ => ⟨S4096x8192, .f32⟩
  | .hbm, ⟨5, _⟩ => ⟨S4096x4096, .f32⟩
  | .hbm, ⟨6, _⟩ => ⟨S4096x4096, .f32⟩
  | .hbm, ⟨7, _⟩ => ⟨S4096x8192, .f32⟩
  | .hbm, ⟨8, _⟩ => ⟨S8192x4096, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S4096x2048 : Shape := ⟨2, ![4096, 2048]⟩
abbrev S2048x2048 : Shape := ⟨2, ![2048, 2048]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel17Ideal.lean ====
abbrev S4096x2048 : Shape := ⟨2, ![4096, 2048]⟩
abbrev S2048x2048 : Shape := ⟨2, ![2048, 2048]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S4096x2048 : Shape := ⟨2, ![4096, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel18Ideal.lean ====
abbrev S4096x2048 : Shape := ⟨2, ![4096, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S4096x4096 : Shape := ⟨2, ![4096, 4096]⟩
abbrev S18528x4096 : Shape := ⟨2, ![18528, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S18528x4096, .f32⟩
  | .hbm, ⟨3, _⟩ => ⟨S18528x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel19Ideal.lean ====
abbrev S4096x4096 : Shape := ⟨2, ![4096, 4096]⟩
abbrev S18528x4096 : Shape := ⟨2, ![18528, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S18528x4096, .f32⟩
  | .hbm, ⟨3, _⟩ => ⟨S18528x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x4096 : Shape := ⟨2, ![4096, 4096]⟩
abbrev S18528x4096 : Shape := ⟨2, ![18528, 4096]⟩
abbrev S_ : Shape := ⟨0, ![]⟩
abbrev S14432x4096 : Shape := ⟨2, ![14432, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S18528x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S14432x4096, .f32⟩
  | .hbm, ⟨12, _⟩ => ⟨S18528x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel20.lean ====
abbrev S4096x6144 : Shape := ⟨2, ![4096, 6144]⟩
abbrev S4096x4096 : Shape := ⟨2, ![4096, 4096]⟩
abbrev S18528x4096 : Shape := ⟨2, ![18528, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x6144, .bf16⟩
  | .hbm, ⟨1, _⟩ => ⟨S4096x4096, .bf16⟩
  | .hbm, ⟨2, _⟩ => ⟨S18528x4096, .f32⟩
  | .hbm, ⟨3, _⟩ => ⟨S18528x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel20Ideal.lean ====
abbrev S4096x6144 : Shape := ⟨2, ![4096, 6144]⟩
abbrev S4096x4096 : Shape := ⟨2, ![4096, 4096]⟩
abbrev S18528x4096 : Shape := ⟨2, ![18528, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x6144, .bf16⟩
  | .hbm, ⟨1, _⟩ => ⟨S4096x4096, .bf16⟩
  | .hbm, ⟨2, _⟩ => ⟨S18528x4096, .f32⟩
  | .hbm, ⟨3, _⟩ => ⟨S18528x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x6144 : Shape := ⟨2, ![4096, 6144]⟩
abbrev S4096x4096 : Shape := ⟨2, ![4096, 4096]⟩
abbrev S18528x4096 : Shape := ⟨2, ![18528, 4096]⟩
abbrev S_ : Shape := ⟨0, ![]⟩
abbrev S6144x4096 : Shape := ⟨2, ![6144, 4096]⟩
abbrev S8288x4096 : Shape := ⟨2, ![8288, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x4096, .bf16⟩
  | .hbm, ⟨2, _⟩ => ⟨S18528x4096, .f32⟩
  | .hbm, ⟨3, _⟩ => ⟨S_, .f32⟩
  | .hbm, ⟨4, _⟩ => ⟨S4096x6144, .f32⟩
  | .hbm, ⟨5, _⟩ => ⟨S4096x4096, .f32⟩
  | .hbm, ⟨6, _⟩ => ⟨S4096x6144, .f32⟩
  | .hbm, ⟨7, _⟩ => ⟨S4096x6144, .f32⟩
  | .hbm, ⟨8, _⟩ => ⟨S6144x4096, .f32⟩
  | .hbm, ⟨9, _⟩ => ⟨S4096x6144, .f32⟩
  | .hbm, ⟨10, _⟩ => ⟨S6144x4096, .f32⟩
  | .hbm, ⟨11, _⟩ => ⟨S4096x4096, .f32⟩
  | .hbm, ⟨12, _⟩ => ⟨S8288x4096, .f32⟩
  | .hbm, ⟨13, _⟩ => ⟨S18528x4096, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel21.lean ====
abbrev S4096x8192 : Shape := ⟨2, ![4096, 8192]⟩
abbrev S4096x4096 : Shape := ⟨2, ![4096, 4096]⟩
abbrev S18528x4096 : Shape := ⟨2, ![18528, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S4096x4096, .bf16⟩
  | .hbm, ⟨2, _⟩ => ⟨S18528x4096, .f32⟩
  | .hbm, ⟨3, _⟩ => ⟨S18528x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi arg0 c10_i32
  let c0_i32 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel21Ideal.lean ====
abbrev S4096x8192 : Shape := ⟨2, ![4096, 8192]⟩
abbrev S4096x4096 : Shape := ⟨2, ![4096, 4096]⟩
abbrev S18528x4096 : Shape := ⟨2, ![18528, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S4096x4096, .bf16⟩
  | .hbm, ⟨2, _⟩ => ⟨S18528x4096, .f32⟩
  | .hbm, ⟨3, _⟩ => ⟨S18528x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi arg0 c10_i32
  let c0_i32 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x8192 : Shape := ⟨2, ![4096, 8192]⟩
abbrev S4096x4096 : Shape := ⟨2, ![4096, 4096]⟩
abbrev S18528x4096 : Shape := ⟨2, ![18528, 4096]⟩
abbrev S_ : Shape := ⟨0, ![]⟩
abbrev S8192x4096 : Shape := ⟨2, ![8192, 4096]⟩
abbrev S10240x4096 : Shape := ⟨2, ![10240, 4096]⟩
abbrev S96x4096 : Shape := ⟨2, ![96, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x4096, .bf16⟩
  | .hbm, ⟨2, _⟩ => ⟨S18528x4096, .f32⟩
  | .hbm, ⟨3, _⟩ => ⟨S_, .f32⟩
  | .hbm, ⟨4, _⟩ => ⟨S4096x8192, .f32⟩
  | .hbm, ⟨5, _⟩ => ⟨S4096x4096, .f32⟩
  | .hbm, ⟨6, _⟩ => ⟨S4096x8192, .f32⟩
  | .hbm, ⟨7, _⟩ => ⟨S4096x8192, .f32⟩
  | .hbm, ⟨8, _⟩ => ⟨S8192x4096, .f32⟩
  | .hbm, ⟨9, _⟩ => ⟨S4096x8192, .f32⟩
  | .hbm, ⟨10, _⟩ => ⟨S8192x4096, .f32⟩
  | .hbm, ⟨11, _⟩ => ⟨S10240x4096, .f32⟩
  | .hbm, ⟨12, _⟩ => ⟨S96x4096, .f32⟩
  | .hbm, ⟨13, _⟩ => ⟨S18528x4096, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel22.lean ====
abbrev S4096x128 : Shape := ⟨2, ![4096, 128]⟩
abbrev S4096x4096 : Shape := ⟨2, ![4096, 4096]⟩
abbrev S128x4096 : Shape := ⟨2, ![128, 4096]⟩
abbrev S4096x512 : Shape := ⟨2, ![4096, 512]⟩
abbrev S128x512 : Shape := ⟨2, ![128, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .bf16⟩
  | .hbm, ⟨1, _⟩ => ⟨S4096x4096, .bf16⟩
  | .hbm, ⟨2, _⟩ => ⟨S128x4096, .f32⟩
  | .local _ .vmem, ⟨0, _⟩ => ⟨S4096x128, .bf16⟩
  | .local _ .vmem, ⟨1, _⟩ => ⟨S4096x512, .bf16⟩
  | .local _ .vmem, ⟨2, _⟩ => ⟨S4096x512, .bf16⟩
  | .local _ .vmem, ⟨3, _⟩ => ⟨S128x512, .f32⟩
  | .local _ .vmem, ⟨4, _⟩ => ⟨S128x512, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel22Ideal.lean ====
abbrev S4096x128 : Shape := ⟨2, ![4096, 128]⟩
abbrev S4096x4096 : Shape := ⟨2, ![4096, 4096]⟩
abbrev S128x4096 : Shape := ⟨2, ![128, 4096]⟩
abbrev S4096x512 : Shape := ⟨2, ![4096, 512]⟩
abbrev S128x512 : Shape := ⟨2, ![128, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .bf16⟩
  | .hbm, ⟨1, _⟩ => ⟨S4096x4096, .bf16⟩
  | .hbm, ⟨2, _⟩ => ⟨S128x4096, .f32⟩
  | .local _ .vmem, ⟨0, _⟩ => ⟨S4096x128, .bf16⟩
  | .local _ .vmem, ⟨1, _⟩ => ⟨S4096x512, .bf16⟩
  | .local _ .vmem, ⟨2, _⟩ => ⟨S4096x512, .bf16⟩
  | .local _ .vmem, ⟨3, _⟩ => ⟨S128x512, .f32⟩
  | .local _ .vmem, ⟨4, _⟩ => ⟨S128x512, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x128 : Shape := ⟨2, ![4096, 128]⟩
abbrev S4096x4096 : Shape := ⟨2, ![4096, 4096]⟩
abbrev S_ : Shape := ⟨0, ![]⟩
abbrev S128x4096 : Shape := ⟨2, ![128, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x4096, .bf16⟩
  | .hbm, ⟨2, _⟩ => ⟨S_, .f32⟩
  | .hbm, ⟨3, _⟩ => ⟨S4096x128, .f32⟩
  | .hbm, ⟨4, _⟩ => ⟨S4096x4096, .f32⟩
  | .hbm, ⟨5, _⟩ => ⟨S4096x128, .f32⟩
  | .hbm, ⟨6, _⟩ => ⟨S4096x128, .f32⟩
  | .hbm, ⟨7, _⟩ => ⟨S128x4096, .f32⟩
  | .hbm, ⟨8, _⟩ => ⟨S4096x128, .f32⟩
  | .hbm, ⟨9, _⟩ => ⟨S128x4096, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel23.lean ====
abbrev S4096x4096 : Shape := ⟨2, ![4096, 4096]⟩
abbrev S18528x4096 : Shape := ⟨2, ![18528, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S18528x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel23Ideal.lean ====
abbrev S4096x4096 : Shape := ⟨2, ![4096, 4096]⟩
abbrev S18528x4096 : Shape := ⟨2, ![18528, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S18528x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x4096 : Shape := ⟨2, ![4096, 4096]⟩
abbrev S18528x4096 : Shape := ⟨2, ![18528, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S18528x4096, .bf16⟩
  | .hbm, ⟨2, _⟩ => ⟨S4096x4096, .bf16⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel24.lean ====
abbrev S4096x6144 : Shape := ⟨2, ![4096, 6144]⟩
abbrev S18528x4096 : Shape := ⟨2, ![18528, 4096]⟩
abbrev S4096x4096 : Shape := ⟨2, ![4096, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x6144, .bf16⟩
  | .hbm, ⟨1, _⟩ => ⟨S18528x4096, .bf16⟩
  | .hbm, ⟨2, _⟩ => ⟨S4096x4096, .f32⟩
  | .hbm, ⟨3, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel24Ideal.lean ====
abbrev S4096x6144 : Shape := ⟨2, ![4096, 6144]⟩
abbrev S18528x4096 : Shape := ⟨2, ![18528, 4096]⟩
abbrev S4096x4096 : Shape := ⟨2, ![4096, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x6144, .bf16⟩
  | .hbm, ⟨1, _⟩ => ⟨S18528x4096, .bf16⟩
  | .hbm, ⟨2, _⟩ => ⟨S4096x4096, .f32⟩
  | .hbm, ⟨3, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference24Ideal.lean ====
abbrev S4096x6144 : Shape := ⟨2, ![4096, 6144]⟩
abbrev S18528x4096 : Shape := ⟨2, ![18528, 4096]⟩
abbrev S4096x4096 : Shape := ⟨2, ![4096, 4096]⟩
abbrev S6144x4096 : Shape := ⟨2, ![6144, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S18528x4096, .bf16⟩
  | .hbm, ⟨2, _⟩ => ⟨S4096x4096, .f32⟩
  | .hbm, ⟨3, _⟩ => ⟨S6144x4096, .bf16⟩
  | .hbm, ⟨4, _⟩ => ⟨S6144x4096, .f32⟩
  | .hbm, ⟨5, _⟩ => ⟨S4096x6144, .f32⟩
  | .hbm, ⟨6, _⟩ => ⟨S_, .f32⟩
  | .hbm, ⟨7, _⟩ => ⟨S4096x4096, .f32⟩
  | .hbm, ⟨8, _⟩ => ⟨S4096x6144, .f32⟩
  | .hbm, ⟨9, _⟩ => ⟨S4096x6144, .f32⟩
  | .hbm, ⟨10, _⟩ => ⟨S4096x4096, .f32⟩
  | .hbm, ⟨11, _⟩ => ⟨S4096x4096, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel25.lean ====
abbrev S4096x8192 : Shape := ⟨2, ![4096, 8192]⟩
abbrev S18528x4096 : Shape := ⟨2, ![18528, 4096]⟩
abbrev S4096x4096 : Shape := ⟨2, ![4096, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S18528x4096, .bf16⟩
  | .hbm, ⟨2, _⟩ => ⟨S4096x4096, .f32⟩
  | .hbm, ⟨3, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg2 c5_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel25Ideal.lean ====
abbrev S4096x8192 : Shape := ⟨2, ![4096, 8192]⟩
abbrev S18528x4096 : Shape := ⟨2, ![18528, 4096]⟩
abbrev S4096x4096 : Shape := ⟨2, ![4096, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S18528x4096, .bf16⟩
  | .hbm, ⟨2, _⟩ => ⟨S4096x4096, .f32⟩
  | .hbm, ⟨3, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg2 c5_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference25Ideal.lean ====
abbrev S4096x8192 : Shape := ⟨2, ![4096, 8192]⟩
abbrev S18528x4096 : Shape := ⟨2, ![18528, 4096]⟩
abbrev S4096x4096 : Shape := ⟨2, ![4096, 4096]⟩
abbrev S8192x4096 : Shape := ⟨2, ![8192, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S18528x4096, .bf16⟩
  | .hbm, ⟨2, _⟩ => ⟨S4096x4096, .f32⟩
  | .hbm, ⟨3, _⟩ => ⟨S8192x4096, .bf16⟩
  | .hbm, ⟨4, _⟩ => ⟨S8192x4096, .f32⟩
  | .hbm, ⟨5, _⟩ => ⟨S4096x8192, .f32⟩
  | .hbm, ⟨6, _⟩ => ⟨S_, .f32⟩
  | .hbm, ⟨7, _⟩ => ⟨S4096x4096, .f32⟩
  | .hbm, ⟨8, _⟩ => ⟨S4096x8192, .f32⟩
  | .hbm, ⟨9, _⟩ => ⟨S4096x8192, .f32⟩
  | .hbm, ⟨10, _⟩ => ⟨S4096x4096, .f32⟩
  | .hbm, ⟨11, _⟩ => ⟨S4096x4096, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel26.lean ====
abbrev S4096x128 : Shape := ⟨2, ![4096, 128]⟩
abbrev S128x4096 : Shape := ⟨2, ![128, 4096]⟩
abbrev S4096x4096 : Shape := ⟨2, ![4096, 4096]⟩
abbrev S1024x128 : Shape := ⟨2, ![1024, 128]⟩
abbrev S128x512 : Shape := ⟨2, ![128, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x128, .bf16⟩
  | .hbm, ⟨1, _⟩ => ⟨S128x4096, .bf16⟩
  | .hbm, ⟨2, _⟩ => ⟨S4096x4096, .f32⟩
  | .hbm, ⟨3, _⟩ => ⟨S4096x4096, .f32⟩
  | .local _ .vmem, ⟨0, _⟩ => ⟨S1024x128, .bf16⟩
  | .local _ .vmem, ⟨1, _⟩ => ⟨S1024x128, .bf16⟩
  | .local _ .vmem, ⟨2, _⟩ => ⟨S128x512, .bf16⟩
  | .local _ .vmem, ⟨3, _⟩ => ⟨S128x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel26Ideal.lean ====
abbrev S4096x128 : Shape := ⟨2, ![4096, 128]⟩
abbrev S128x4096 : Shape := ⟨2, ![128, 4096]⟩
abbrev S4096x4096 : Shape := ⟨2, ![4096, 4096]⟩
abbrev S1024x128 : Shape := ⟨2, ![1024, 128]⟩
abbrev S128x512 : Shape := ⟨2, ![128, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x128, .bf16⟩
  | .hbm, ⟨1, _⟩ => ⟨S128x4096, .bf16⟩
  | .hbm, ⟨2, _⟩ => ⟨S4096x4096, .f32⟩
  | .hbm, ⟨3, _⟩ => ⟨S4096x4096, .f32⟩
  | .local _ .vmem, ⟨0, _⟩ => ⟨S1024x128, .bf16⟩
  | .local _ .vmem, ⟨1, _⟩ => ⟨S1024x128, .bf16⟩
  | .local _ .vmem, ⟨2, _⟩ => ⟨S128x512, .bf16⟩
  | .local _ .vmem, ⟨3, _⟩ => ⟨S128x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference26Ideal.lean ====
abbrev S4096x128 : Shape := ⟨2, ![4096, 128]⟩
abbrev S128x4096 : Shape := ⟨2, ![128, 4096]⟩
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S128x4096, .bf16⟩
  | .hbm, ⟨2, _⟩ => ⟨S4096x4096, .f32⟩
  | .hbm, ⟨3, _⟩ => ⟨S128x4096, .f32⟩
  | .hbm, ⟨4, _⟩ => ⟨S4096x128, .f32⟩
  | .hbm, ⟨5, _⟩ => ⟨S_, .f32⟩
  | .hbm, ⟨6, _⟩ => ⟨S4096x4096, .f32⟩
  | .hbm, ⟨7, _⟩ => ⟨S4096x128, .f32⟩
  | .hbm, ⟨8, _⟩ => ⟨S4096x128, .f32⟩
  | .hbm, ⟨9, _⟩ => ⟨S4096x4096, .f32⟩
  | .hbm, ⟨10, _⟩ => ⟨S4096x4096, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel27.lean ====
abbrev S4096x4096 : Shape := ⟨2, ![4096, 4096]⟩
abbrev S18528x4096 : Shape := ⟨2, ![18528, 4096]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S18528x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel27Ideal.lean ====
abbrev S4096x4096 : Shape := ⟨2, ![4096, 4096]⟩
abbrev S18528x4096 : Shape := ⟨2, ![18528, 4096]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S18528x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S4096x4096 : Shape := ⟨2, ![4096, 4096]⟩
abbrev S18528x4096 : Shape := ⟨2, ![18528, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S18528x4096, .bf16⟩
  | .hbm, ⟨2, _⟩ => ⟨S4096x4096, .bf16⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel28.lean ====
abbrev S4096x4096 : Shape := ⟨2, ![4096, 4096]⟩
abbrev S18528x4096 : Shape := ⟨2, ![18528, 4096]⟩
abbrev S4096x6144 : Shape := ⟨2, ![4096, 6144]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S18528x4096, .bf16⟩
  | .hbm, ⟨2, _⟩ => ⟨S4096x6144, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg1 c8_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel28Ideal.lean ====
abbrev S4096x4096 : Shape := ⟨2, ![4096, 4096]⟩
abbrev S18528x4096 : Shape := ⟨2, ![18528, 4096]⟩
abbrev S4096x6144 : Shape := ⟨2, ![4096, 6144]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S18528x4096, .bf16⟩
  | .hbm, ⟨2, _⟩ => ⟨S4096x6144, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg1 c8_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S4096x4096 : Shape := ⟨2, ![4096, 4096]⟩
abbrev S18528x4096 : Shape := ⟨2, ![18528, 4096]⟩
abbrev S6144x4096 : Shape := ⟨2, ![6144, 4096]⟩
abbrev S4096x6144 : Shape := ⟨2, ![4096, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S18528x4096, .bf16⟩
  | .hbm, ⟨2, _⟩ => ⟨S6144x4096, .bf16⟩
  | .hbm, ⟨3, _⟩ => ⟨S6144x4096, .f32⟩
  | .hbm, ⟨4, _⟩ => ⟨S4096x4096, .f32⟩
  | .hbm, ⟨5, _⟩ => ⟨S4096x6144, .f32⟩
  | .hbm, ⟨6, _⟩ => ⟨S4096x6144, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel29.lean ====
abbrev S4096x4096 : Shape := ⟨2, ![4096, 4096]⟩
abbrev S18528x4096 : Shape := ⟨2, ![18528, 4096]⟩
abbrev S4096x8192 : Shape := ⟨2, ![4096, 8192]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S18528x4096, .bf16⟩
  | .hbm, ⟨2, _⟩ => ⟨S4096x8192, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi arg1 c20_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel29Ideal.lean ====
abbrev S4096x4096 : Shape := ⟨2, ![4096, 4096]⟩
abbrev S18528x4096 : Shape := ⟨2, ![18528, 4096]⟩
abbrev S4096x8192 : Shape := ⟨2, ![4096, 8192]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S18528x4096, .bf16⟩
  | .hbm, ⟨2, _⟩ => ⟨S4096x8192, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi arg1 c20_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S4096x4096 : Shape := ⟨2, ![4096, 4096]⟩
abbrev S18528x4096 : Shape := ⟨2, ![18528, 4096]⟩
abbrev S8192x4096 : Shape := ⟨2, ![8192, 4096]⟩
abbrev S4096x8192 : Shape := ⟨2, ![4096, 8192]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S18528x4096, .bf16⟩
  | .hbm, ⟨2, _⟩ => ⟨S8192x4096, .bf16⟩
  | .hbm, ⟨3, _⟩ => ⟨S8192x4096, .f32⟩
  | .hbm, ⟨4, _⟩ => ⟨S4096x4096, .f32⟩
  | .hbm, ⟨5, _⟩ => ⟨S4096x8192, .f32⟩
  | .hbm, ⟨6, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel30.lean ====
abbrev S4096x4096 : Shape := ⟨2, ![4096, 4096]⟩
abbrev S128x4096 : Shape := ⟨2, ![128, 4096]⟩
abbrev S4096x128 : Shape := ⟨2, ![4096, 128]⟩
abbrev S1024x4096 : Shape := ⟨2, ![1024, 4096]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S128x4096, .bf16⟩
  | .hbm, ⟨2, _⟩ => ⟨S4096x128, .f32⟩
  | .local _ .vmem, ⟨0, _⟩ => ⟨S1024x4096, .bf16⟩
  | .local _ .vmem, ⟨1, _⟩ => ⟨S1024x4096, .bf16⟩
  | .local _ .vmem, ⟨2, _⟩ => ⟨S128x4096, .bf16⟩
  | .local _ .vmem, ⟨3, _⟩ => ⟨S1024x128, .f32⟩
  | .local _ .vmem, ⟨4, _⟩ => ⟨S1024x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel30Ideal.lean ====
abbrev S4096x4096 : Shape := ⟨2, ![4096, 4096]⟩
abbrev S128x4096 : Shape := ⟨2, ![128, 4096]⟩
abbrev S4096x128 : Shape := ⟨2, ![4096, 128]⟩
abbrev S1024x4096 : Shape := ⟨2, ![1024, 4096]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S128x4096, .bf16⟩
  | .hbm, ⟨2, _⟩ => ⟨S4096x128, .f32⟩
  | .local _ .vmem, ⟨0, _⟩ => ⟨S1024x4096, .bf16⟩
  | .local _ .vmem, ⟨1, _⟩ => ⟨S1024x4096, .bf16⟩
  | .local _ .vmem, ⟨2, _⟩ => ⟨S128x4096, .bf16⟩
  | .local _ .vmem, ⟨3, _⟩ => ⟨S1024x128, .f32⟩
  | .local _ .vmem, ⟨4, _⟩ => ⟨S1024x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S4096x4096 : Shape := ⟨2, ![4096, 4096]⟩
abbrev S128x4096 : Shape := ⟨2, ![128, 4096]⟩
abbrev S4096x128 : Shape := ⟨2, ![4096, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S128x4096, .bf16⟩
  | .hbm, ⟨2, _⟩ => ⟨S128x4096, .f32⟩
  | .hbm, ⟨3, _⟩ => ⟨S4096x4096, .f32⟩
  | .hbm, ⟨4, _⟩ => ⟨S4096x128, .f32⟩
  | .hbm, ⟨5, _⟩ => ⟨S4096x128, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel31.lean ====
abbrev S4096x2048 : Shape := ⟨2, ![4096, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel31Ideal.lean ====
abbrev S4096x2048 : Shape := ⟨2, ![4096, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S4096x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel32.lean ====
abbrev S4096x8192 : Shape := ⟨2, ![4096, 8192]⟩
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S8192x4096, .bf16⟩
  | .hbm, ⟨2, _⟩ => ⟨S4096x4096, .f32⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel32Ideal.lean ====
abbrev S4096x8192 : Shape := ⟨2, ![4096, 8192]⟩
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S8192x4096, .bf16⟩
  | .hbm, ⟨2, _⟩ => ⟨S4096x4096, .f32⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference32Ideal.lean ====
abbrev S4096x8192 : Shape := ⟨2, ![4096, 8192]⟩
abbrev S8192x4096 : Shape := ⟨2, ![8192, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x4096, .bf16⟩
  | .hbm, ⟨2, _⟩ => ⟨S4096x4096, .f32⟩
  | .hbm, ⟨3, _⟩ => ⟨S8192x4096, .f32⟩
  | .hbm, ⟨4, _⟩ => ⟨S4096x8192, .f32⟩
  | .hbm, ⟨5, _⟩ => ⟨S4096x4096, .f32⟩
  | .hbm, ⟨6, _⟩ => ⟨S4096x4096, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel33.lean ====
abbrev S4096x4096 : Shape := ⟨2, ![4096, 4096]⟩
abbrev S16416x4096 : Shape := ⟨2, ![16416, 4096]⟩
abbrev S4096x12288 : Shape := ⟨2, ![4096, 12288]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S16416x4096, .bf16⟩
  | .hbm, ⟨2, _⟩ => ⟨S4096x12288, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .bf16⟩
  | .local _ .vmem, ⟨5, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 24, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel33Ideal.lean ====
abbrev S4096x4096 : Shape := ⟨2, ![4096, 4096]⟩
abbrev S16416x4096 : Shape := ⟨2, ![16416, 4096]⟩
abbrev S4096x12288 : Shape := ⟨2, ![4096, 12288]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S16416x4096, .bf16⟩
  | .hbm, ⟨2, _⟩ => ⟨S4096x12288, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .bf16⟩
  | .local _ .vmem, ⟨5, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 24, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference33Ideal.lean ====
abbrev S4096x4096 : Shape := ⟨2, ![4096, 4096]⟩
abbrev S16416x4096 : Shape := ⟨2, ![16416, 4096]⟩
abbrev S12288x4096 : Shape := ⟨2, ![12288, 4096]⟩
abbrev S4096x12288 : Shape := ⟨2, ![4096, 12288]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S16416x4096, .bf16⟩
  | .hbm, ⟨2, _⟩ => ⟨S12288x4096, .bf16⟩
  | .hbm, ⟨3, _⟩ => ⟨S12288x4096, .f32⟩
  | .hbm, ⟨4, _⟩ => ⟨S4096x4096, .f32⟩
  | .hbm, ⟨5, _⟩ => ⟨S4096x12288, .f32⟩
  | .hbm, ⟨6, _⟩ => ⟨S4096x12288, .f32⟩
  | .hbm, ⟨7, _⟩ => ⟨S4096x12288, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel34.lean ====
abbrev S4096x4096 : Shape := ⟨2, ![4096, 4096]⟩
abbrev S16416x4096 : Shape := ⟨2, ![16416, 4096]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S16416x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi arg1 c24_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel34Ideal.lean ====
abbrev S4096x4096 : Shape := ⟨2, ![4096, 4096]⟩
abbrev S16416x4096 : Shape := ⟨2, ![16416, 4096]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S16416x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi arg1 c24_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference34Ideal.lean ====
abbrev S4096x4096 : Shape := ⟨2, ![4096, 4096]⟩
abbrev S16416x4096 : Shape := ⟨2, ![16416, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S16416x4096, .bf16⟩
  | .hbm, ⟨2, _⟩ => ⟨S4096x4096, .bf16⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel35.lean ====
abbrev S4096x4096 : Shape := ⟨2, ![4096, 4096]⟩
abbrev S128x4096 : Shape := ⟨2, ![128, 4096]⟩
abbrev S4096x128 : Shape := ⟨2, ![4096, 128]⟩
abbrev S1024x4096 : Shape := ⟨2, ![1024, 4096]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S128x4096, .bf16⟩
  | .hbm, ⟨2, _⟩ => ⟨S4096x128, .f32⟩
  | .local _ .vmem, ⟨0, _⟩ => ⟨S1024x4096, .bf16⟩
  | .local _ .vmem, ⟨1, _⟩ => ⟨S1024x4096, .bf16⟩
  | .local _ .vmem, ⟨2, _⟩ => ⟨S128x4096, .bf16⟩
  | .local _ .vmem, ⟨3, _⟩ => ⟨S1024x128, .f32⟩
  | .local _ .vmem, ⟨4, _⟩ => ⟨S1024x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel35Ideal.lean ====
abbrev S4096x4096 : Shape := ⟨2, ![4096, 4096]⟩
abbrev S128x4096 : Shape := ⟨2, ![128, 4096]⟩
abbrev S4096x128 : Shape := ⟨2, ![4096, 128]⟩
abbrev S1024x4096 : Shape := ⟨2, ![1024, 4096]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S128x4096, .bf16⟩
  | .hbm, ⟨2, _⟩ => ⟨S4096x128, .f32⟩
  | .local _ .vmem, ⟨0, _⟩ => ⟨S1024x4096, .bf16⟩
  | .local _ .vmem, ⟨1, _⟩ => ⟨S1024x4096, .bf16⟩
  | .local _ .vmem, ⟨2, _⟩ => ⟨S128x4096, .bf16⟩
  | .local _ .vmem, ⟨3, _⟩ => ⟨S1024x128, .f32⟩
  | .local _ .vmem, ⟨4, _⟩ => ⟨S1024x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference35Ideal.lean ====
abbrev S4096x4096 : Shape := ⟨2, ![4096, 4096]⟩
abbrev S128x4096 : Shape := ⟨2, ![128, 4096]⟩
abbrev S4096x128 : Shape := ⟨2, ![4096, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S128x4096, .bf16⟩
  | .hbm, ⟨2, _⟩ => ⟨S128x4096, .f32⟩
  | .hbm, ⟨3, _⟩ => ⟨S4096x4096, .f32⟩
  | .hbm, ⟨4, _⟩ => ⟨S4096x128, .f32⟩
  | .hbm, ⟨5, _⟩ => ⟨S4096x128, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel36.lean ====
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel36Ideal.lean ====
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference36Ideal.lean ====
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel37.lean ====
abbrev S4096x4096 : Shape := ⟨2, ![4096, 4096]⟩
abbrev S4096 : Shape := ⟨1, ![4096]⟩
abbrev S1x4096 : Shape := ⟨2, ![1, 4096]⟩
abbrev S8x4096 : Shape := ⟨2, ![8, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .bf16⟩
  | .hbm, ⟨7, _⟩ => ⟨S8x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .bf16⟩
  | .local _ .vmem, ⟨10, _⟩ => ⟨S256x4096, .bf16⟩
  | .local _ .vmem, ⟨11, _⟩ => ⟨S8x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Kernel37Ideal.lean ====
abbrev S4096x4096 : Shape := ⟨2, ![4096, 4096]⟩
abbrev S4096 : Shape := ⟨1, ![4096]⟩
abbrev S1x4096 : Shape := ⟨2, ![1, 4096]⟩
abbrev S8x4096 : Shape := ⟨2, ![8, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .bf16⟩
  | .hbm, ⟨7, _⟩ => ⟨S8x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .bf16⟩
  | .local _ .vmem, ⟨10, _⟩ => ⟨S256x4096, .bf16⟩
  | .local _ .vmem, ⟨11, _⟩ => ⟨S8x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference37Ideal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S8x4096 : Shape := ⟨2, ![8, 4096]⟩

abbrev nBuf : Space → Nat
  | .hbm => 54
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .bf16⟩
  | .hbm, ⟨52, _⟩ => ⟨S1x4096, .f32⟩
  | .hbm, ⟨53, _⟩ => ⟨S8x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel38.lean ====
abbrev S4096x4096 : Shape := ⟨2, ![4096, 4096]⟩
abbrev S4096 : Shape := ⟨1, ![4096]⟩
abbrev S1x4096 : Shape := ⟨2, ![1, 4096]⟩
abbrev S8x4096 : Shape := ⟨2, ![8, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .bf16⟩
  | .hbm, ⟨7, _⟩ => ⟨S8x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .bf16⟩
  | .local _ .vmem, ⟨10, _⟩ => ⟨S256x4096, .bf16⟩
  | .local _ .vmem, ⟨11, _⟩ => ⟨S8x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Kernel38Ideal.lean ====
abbrev S4096x4096 : Shape := ⟨2, ![4096, 4096]⟩
abbrev S4096 : Shape := ⟨1, ![4096]⟩
abbrev S1x4096 : Shape := ⟨2, ![1, 4096]⟩
abbrev S8x4096 : Shape := ⟨2, ![8, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .bf16⟩
  | .hbm, ⟨7, _⟩ => ⟨S8x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .bf16⟩
  | .local _ .vmem, ⟨10, _⟩ => ⟨S256x4096, .bf16⟩
  | .local _ .vmem, ⟨11, _⟩ => ⟨S8x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference38Ideal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S8x4096 : Shape := ⟨2, ![8, 4096]⟩

abbrev nBuf : Space → Nat
  | .hbm => 54
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .bf16⟩
  | .hbm, ⟨52, _⟩ => ⟨S1x4096, .f32⟩
  | .hbm, ⟨53, _⟩ => ⟨S8x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel39.lean ====
abbrev S4096x4096 : Shape := ⟨2, ![4096, 4096]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S4096x4096, .bf16⟩
  | .hbm, ⟨5, _⟩ => ⟨S4096x4096, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .f32⟩
  | .local _ .vmem, ⟨11, _⟩ => ⟨S512x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel39Ideal.lean ====
abbrev S4096x4096 : Shape := ⟨2, ![4096, 4096]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S4096x4096, .bf16⟩
  | .hbm, ⟨5, _⟩ => ⟨S4096x4096, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .f32⟩
  | .local _ .vmem, ⟨11, _⟩ => ⟨S512x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference39Ideal.lean ====
abbrev S4096x4096 : Shape := ⟨2, ![4096, 4096]⟩
abbrev S_ : Shape := ⟨0, ![]⟩
abbrev S4096x32x128 : Shape := ⟨3, ![4096, 32, 128]⟩
abbrev S4096x32 : Shape := ⟨2, ![4096, 32]⟩

abbrev nBuf : Space → Nat
  | .hbm => 31
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x32x128, .f32⟩
  | .hbm, ⟨25, _⟩ => ⟨S_, .f32⟩
  | .hbm, ⟨26, _⟩ => ⟨S4096x32, .f32⟩
  | .hbm, ⟨27, _⟩ => ⟨S4096x4096, .bf16⟩
  | .hbm, ⟨28, _⟩ => ⟨S4096x4096, .bf16⟩
  | .hbm, ⟨29, _⟩ => ⟨S4096x32x128, .f32⟩
  | .hbm, ⟨30, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel40.lean ====
abbrev S4096x2048 : Shape := ⟨2, ![4096, 2048]⟩
abbrev S4096x4096 : Shape := ⟨2, ![4096, 4096]⟩
abbrev S2048 : Shape := ⟨1, ![2048]⟩
abbrev S1x2048 : Shape := ⟨2, ![1, 2048]⟩
abbrev S8x2048 : Shape := ⟨2, ![8, 2048]⟩
abbrev S256x2048 : Shape := ⟨2, ![256, 2048]⟩

abbrev nBuf : Space → Nat
  | .hbm => 10
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x4096, .f32⟩
  | .hbm, ⟨3, _⟩ => ⟨S4096x2048, .f32⟩
  | .hbm, ⟨4, _⟩ => ⟨S2048, .f32⟩
  | .hbm, ⟨5, _⟩ => ⟨S1x2048, .f32⟩
  | .hbm, ⟨6, _⟩ => ⟨S4096x2048, .f32⟩
  | .hbm, ⟨7, _⟩ => ⟨S4096x2048, .bf16⟩
  | .hbm, ⟨8, _⟩ => ⟨S4096x2048, .bf16⟩
  | .hbm, ⟨9, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== Kernel40Ideal.lean ====
abbrev S4096x2048 : Shape := ⟨2, ![4096, 2048]⟩
abbrev S4096x4096 : Shape := ⟨2, ![4096, 4096]⟩
abbrev S2048 : Shape := ⟨1, ![2048]⟩
abbrev S1x2048 : Shape := ⟨2, ![1, 2048]⟩
abbrev S8x2048 : Shape := ⟨2, ![8, 2048]⟩
abbrev S256x2048 : Shape := ⟨2, ![256, 2048]⟩

abbrev nBuf : Space → Nat
  | .hbm => 10
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x4096, .f32⟩
  | .hbm, ⟨3, _⟩ => ⟨S4096x2048, .f32⟩
  | .hbm, ⟨4, _⟩ => ⟨S2048, .f32⟩
  | .hbm, ⟨5, _⟩ => ⟨S1x2048, .f32⟩
  | .hbm, ⟨6, _⟩ => ⟨S4096x2048, .f32⟩
  | .hbm, ⟨7, _⟩ => ⟨S4096x2048, .bf16⟩
  | .hbm, ⟨8, _⟩ => ⟨S4096x2048, .bf16⟩
  | .hbm, ⟨9, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== Reference40Ideal.lean ====
abbrev S4096x2048 : Shape := ⟨2, ![4096, 2048]⟩
abbrev S4096x4096 : Shape := ⟨2, ![4096, 4096]⟩
abbrev S2048 : Shape := ⟨1, ![2048]⟩
abbrev S_ : Shape := ⟨0, ![]⟩
abbrev S1x2048 : Shape := ⟨2, ![1, 2048]⟩
abbrev S8x2048 : Shape := ⟨2, ![8, 2048]⟩

abbrev nBuf : Space → Nat
  | .hbm => 97
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x4096, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S_, .f32⟩
  | .hbm, ⟨74, _⟩ => ⟨S2048, .f32⟩
  | .hbm, ⟨75, _⟩ => ⟨S1x2048, .f32⟩
  | .hbm, ⟨76, _⟩ => ⟨S_, .f32⟩
  | .hbm, ⟨77, _⟩ => ⟨S2048, .f32⟩
  | .hbm, ⟨78, _⟩ => ⟨S4096x2048, .f32⟩
  | .hbm, ⟨79, _⟩ => ⟨S4096x2048, .f32⟩
  | .hbm, ⟨80, _⟩ => ⟨S_, .f32⟩
  | .hbm, ⟨81, _⟩ => ⟨S4096x2048, .f32⟩
  | .hbm, ⟨82, _⟩ => ⟨S4096x2048, .f32⟩
  | .hbm, ⟨83, _⟩ => ⟨S4096x2048, .f32⟩
  | .hbm, ⟨84, _⟩ => ⟨S_, .f32⟩
  | .hbm, ⟨85, _⟩ => ⟨S4096x2048, .f32⟩
  | .hbm, ⟨86, _⟩ => ⟨S4096x2048, .f32⟩
  | .hbm, ⟨87, _⟩ => ⟨S4096x2048, .f32⟩
  | .hbm, ⟨88, _⟩ => ⟨S_, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .f32⟩
  | .hbm, ⟨93, _⟩ => ⟨S4096x2048, .bf16⟩
  | .hbm, ⟨94, _⟩ => ⟨S4096x2048, .bf16⟩
  | .hbm, ⟨95, _⟩ => ⟨S1x2048, .f32⟩
  | .hbm, ⟨96, _⟩ => ⟨S8x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_v35_2 : Ref sig .tc := ⟨.hbm, 57, rfl⟩
abbrev main_call0_cst_1 : Ref sig .tc := ⟨.hbm, 58, rfl⟩
abbrev main_call0_v6 : Ref sig .tc := ⟨.hbm, 59, rfl⟩
abbrev main_call0_v7 : Ref sig .tc := ⟨.hbm, 60, rfl⟩
abbrev main_v35_1 : Ref sig .tc := ⟨.hbm, 61, rfl⟩
abbrev main_v35_0 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_cst_10 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_11 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_12 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_13 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩

abbrev nD : Nat := 1
abbrev τ : Topo := Topo.v7x

variable {F : FTy → Type} [FloatOps F]
-- ==== Kernel41.lean ====
abbrev S4096x2048 : Shape := ⟨2, ![4096, 2048]⟩
abbrev S256x2048 : Shape := ⟨2, ![256, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel41Ideal.lean ====
abbrev S4096x2048 : Shape := ⟨2, ![4096, 2048]⟩
abbrev S256x2048 : Shape := ⟨2, ![256, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference41Ideal.lean ====
abbrev S4096x2048 : Shape := ⟨2, ![4096, 2048]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel42.lean ====
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S1x4096, .f32⟩
  | .hbm, ⟨3, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel42Ideal.lean ====
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S1x4096, .f32⟩
  | .hbm, ⟨3, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference42Ideal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel43.lean ====
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S1x4096, .f32⟩
  | .hbm, ⟨3, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel43Ideal.lean ====
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S1x4096, .f32⟩
  | .hbm, ⟨3, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference43Ideal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel44.lean ====
abbrev S4096x4096 : Shape := ⟨2, ![4096, 4096]⟩
abbrev S256x4096 : Shape := ⟨2, ![256, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel44Ideal.lean ====
abbrev S4096x4096 : Shape := ⟨2, ![4096, 4096]⟩
abbrev S256x4096 : Shape := ⟨2, ![256, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference44Ideal.lean ====
abbrev S4096x4096 : Shape := ⟨2, ![4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== Kernel45.lean ====
abbrev S4096x6144 : Shape := ⟨2, ![4096, 6144]⟩
abbrev S4096x8192 : Shape := ⟨2, ![4096, 8192]⟩
abbrev S6144 : Shape := ⟨1, ![6144]⟩
abbrev S1x6144 : Shape := ⟨2, ![1, 6144]⟩
abbrev S256x768 : Shape := ⟨2, ![256, 768]⟩
abbrev S1x768 : Shape := ⟨2, ![1, 768]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x6144, .f32⟩
  | .hbm, ⟨1, _⟩ => ⟨S4096x8192, .f32⟩
  | .hbm, ⟨2, _⟩ => ⟨S4096x6144, .f32⟩
  | .hbm, ⟨3, _⟩ => ⟨S6144, .f32⟩
  | .hbm, ⟨4, _⟩ => ⟨S6144, .f32⟩
  | .hbm, ⟨5, _⟩ => ⟨S1x6144, .f32⟩
  | .hbm, ⟨6, _⟩ => ⟨S1x6144, .f32⟩
  | .hbm, ⟨7, _⟩ => ⟨S4096x6144, .bf16⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S1x768, .f32⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S256x768, .bf16⟩
  | .local _ .vmem, ⟨11, _⟩ => ⟨S256x768, .bf16⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel45Ideal.lean ====
abbrev S4096x6144 : Shape := ⟨2, ![4096, 6144]⟩
abbrev S4096x8192 : Shape := ⟨2, ![4096, 8192]⟩
abbrev S6144 : Shape := ⟨1, ![6144]⟩
abbrev S1x6144 : Shape := ⟨2, ![1, 6144]⟩
abbrev S256x768 : Shape := ⟨2, ![256, 768]⟩
abbrev S1x768 : Shape := ⟨2, ![1, 768]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x6144, .f32⟩
  | .hbm, ⟨1, _⟩ => ⟨S4096x8192, .f32⟩
  | .hbm, ⟨2, _⟩ => ⟨S4096x6144, .f32⟩
  | .hbm, ⟨3, _⟩ => ⟨S6144, .f32⟩
  | .hbm, ⟨4, _⟩ => ⟨S6144, .f32⟩
  | .hbm, ⟨5, _⟩ => ⟨S1x6144, .f32⟩
  | .hbm, ⟨6, _⟩ => ⟨S1x6144, .f32⟩
  | .hbm, ⟨7, _⟩ => ⟨S4096x6144, .bf16⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S1x768, .f32⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S256x768, .bf16⟩
  | .local _ .vmem, ⟨11, _⟩ => ⟨S256x768, .bf16⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference45Ideal.lean ====
abbrev S4096x6144 : Shape := ⟨2, ![4096, 6144]⟩
abbrev S4096x8192 : Shape := ⟨2, ![4096, 8192]⟩
abbrev S6144 : Shape := ⟨1, ![6144]⟩
abbrev S1x6144 : Shape := ⟨2, ![1, 6144]⟩
abbrev S_ : Shape := ⟨0, ![]⟩
abbrev S4096x8x768 : Shape := ⟨3, ![4096, 8, 768]⟩
abbrev S4096x8 : Shape := ⟨2, ![4096, 8]⟩
abbrev S4096x8x1 : Shape := ⟨3, ![4096, 8, 1]⟩

abbrev nBuf : Space → Nat
  | .hbm => 39
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4096x8192, .f32⟩
  | .hbm, ⟨2, _⟩ => ⟨S4096x6144, .f32⟩
  | .hbm, ⟨3, _⟩ => ⟨S6144, .f32⟩
  | .hbm, ⟨4, _⟩ => ⟨S6144, .f32⟩
  | .hbm, ⟨5, _⟩ => ⟨S4096x6144, .f32⟩
  | .hbm, ⟨6, _⟩ => ⟨S1x6144, .f32⟩
  | .hbm, ⟨7, _⟩ => ⟨S4096x6144, .f32⟩
  | .hbm, ⟨8, _⟩ => ⟨S4096x6144, .f32⟩
  | .hbm, ⟨9, _⟩ => ⟨S4096x6144, .f32⟩
  | .hbm, ⟨10, _⟩ => ⟨S4096x6144, .f32⟩
  | .hbm, ⟨11, _⟩ => ⟨S4096x6144, .f32⟩
  | .hbm, ⟨12, _⟩ => ⟨S_, .f32⟩
  | .hbm, ⟨13, _⟩ => ⟨S4096x6144, .f32⟩
  | .hbm, ⟨14, _⟩ => ⟨S4096x6144, .f32⟩
  | .hbm, ⟨15, _⟩ => ⟨S_, .f32⟩
  | .hbm, ⟨16, _⟩ => ⟨S4096x6144, .f32⟩
  | .hbm, ⟨17, _⟩ => ⟨S4096x6144, .f32⟩
  | .hbm, ⟨18, _⟩ => ⟨S4096x6144, .f32⟩
  | .hbm, ⟨19, _⟩ => ⟨S4096x6144, .f32⟩
  | .hbm, ⟨20, _⟩ => ⟨S4096x8x768, .f32⟩
  | .hbm, ⟨21, _⟩ => ⟨S4096x8x768, .f32⟩
  | .hbm, ⟨22, _⟩ => ⟨S_, .f32⟩
  | .hbm, ⟨23, _⟩ => ⟨S4096x8, .f32⟩
  | .hbm, ⟨24, _⟩ => ⟨S4096x8x1, .f32⟩
  | .hbm, ⟨25, _⟩ => ⟨S_, .f32⟩
  | .hbm, ⟨26, _⟩ => ⟨S4096x8x1, .f32⟩
  | .hbm, ⟨27, _⟩ => ⟨S4096x8x1, .f32⟩
  | .hbm, ⟨28, _⟩ => ⟨S_, .f32⟩
  | .hbm, ⟨29, _⟩ => ⟨S4096x8x1, .f32⟩
  | .hbm, ⟨30, _⟩ => ⟨S4096x8x1, .f32⟩
  | .hbm, ⟨31, _⟩ => ⟨S4096x8x1, .f32⟩
  | .hbm, ⟨32, _⟩ => ⟨S4096x8x768, .f32⟩
  | .hbm, ⟨33, _⟩ => ⟨S4096x8x768, .f32⟩
  | .hbm, ⟨34, _⟩ => ⟨S4096x6144, .f32⟩
  | .hbm, ⟨35, _⟩ => ⟨S1x6144, .f32⟩
  | .hbm, ⟨36, _⟩ => ⟨S4096x6144, .f32⟩
  | .hbm, ⟨37, _⟩ => ⟨S4096x6144, .f32⟩
  | .hbm, ⟨38, _⟩ => ⟨S4096x6144, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kernel46.lean ====
abbrev S4096x2048 : Shape := ⟨2, ![4096, 2048]⟩
abbrev S4096x4096 : Shape := ⟨2, ![4096, 4096]⟩
abbrev S2048 : Shape := ⟨1, ![2048]⟩
abbrev S1x2048 : Shape := ⟨2, ![1, 2048]⟩
abbrev S256x2048 : Shape := ⟨2, ![256, 2048]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x4096, .f32⟩
  | .hbm, ⟨3, _⟩ => ⟨S2048, .f32⟩
  | .hbm, ⟨4, _⟩ => ⟨S1x2048, .f32⟩
  | .hbm, ⟨5, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel46Ideal.lean ====
abbrev S4096x2048 : Shape := ⟨2, ![4096, 2048]⟩
abbrev S4096x4096 : Shape := ⟨2, ![4096, 4096]⟩
abbrev S2048 : Shape := ⟨1, ![2048]⟩
abbrev S1x2048 : Shape := ⟨2, ![1, 2048]⟩
abbrev S256x2048 : Shape := ⟨2, ![256, 2048]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x4096, .f32⟩
  | .hbm, ⟨3, _⟩ => ⟨S2048, .f32⟩
  | .hbm, ⟨4, _⟩ => ⟨S1x2048, .f32⟩
  | .hbm, ⟨5, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference46Ideal.lean ====
abbrev S4096x2048 : Shape := ⟨2, ![4096, 2048]⟩
abbrev S4096x4096 : Shape := ⟨2, ![4096, 4096]⟩
abbrev S2048 : Shape := ⟨1, ![2048]⟩
abbrev S_ : Shape := ⟨0, ![]⟩
abbrev S1x2048 : Shape := ⟨2, ![1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x4096, .f32⟩
  | .hbm, ⟨3, _⟩ => ⟨S2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Kernel47.lean ====
abbrev S4096x2048 : Shape := ⟨2, ![4096, 2048]⟩
abbrev S256x2048 : Shape := ⟨2, ![256, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Kernel47Ideal.lean ====
abbrev S4096x2048 : Shape := ⟨2, ![4096, 2048]⟩
abbrev S256x2048 : Shape := ⟨2, ![256, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference47Ideal.lean ====
abbrev S4096x2048 : Shape := ⟨2, ![4096, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel48.lean ====
abbrev S4096x4096 : Shape := ⟨2, ![4096, 4096]⟩
abbrev S4096 : Shape := ⟨1, ![4096]⟩
abbrev S1x4096 : Shape := ⟨2, ![1, 4096]⟩
abbrev S8x4096 : Shape := ⟨2, ![8, 4096]⟩
abbrev S256x4096 : Shape := ⟨2, ![256, 4096]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S4096x4096, .bf16⟩
  | .hbm, ⟨6, _⟩ => ⟨S8x4096, .f32⟩
  | .hbm, ⟨7, _⟩ => ⟨S8x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .bf16⟩
  | .local _ .vmem, ⟨8, _⟩ => ⟨S256x4096, .bf16⟩
  | .local _ .vmem, ⟨9, _⟩ => ⟨S8x4096, .f32⟩
  | .local _ .vmem, ⟨10, _⟩ => ⟨S8x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Kernel48Ideal.lean ====
abbrev S4096x4096 : Shape := ⟨2, ![4096, 4096]⟩
abbrev S4096 : Shape := ⟨1, ![4096]⟩
abbrev S1x4096 : Shape := ⟨2, ![1, 4096]⟩
abbrev S8x4096 : Shape := ⟨2, ![8, 4096]⟩
abbrev S256x4096 : Shape := ⟨2, ![256, 4096]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S4096x4096, .bf16⟩
  | .hbm, ⟨6, _⟩ => ⟨S8x4096, .f32⟩
  | .hbm, ⟨7, _⟩ => ⟨S8x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .bf16⟩
  | .local _ .vmem, ⟨8, _⟩ => ⟨S256x4096, .bf16⟩
  | .local _ .vmem, ⟨9, _⟩ => ⟨S8x4096, .f32⟩
  | .local _ .vmem, ⟨10, _⟩ => ⟨S8x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference48Ideal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S8x4096 : Shape := ⟨2, ![8, 4096]⟩

abbrev nBuf : Space → Nat
  | .hbm => 75
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S1x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096, .f32⟩
  | .hbm, ⟨49, _⟩ => ⟨S1x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096, .f32⟩
  | .hbm, ⟨54, _⟩ => ⟨S4096x4096, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x4096, .f32⟩
  | .hbm, ⟨59, _⟩ => ⟨S4096x4096, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S4096x4096, .bf16⟩
  | .hbm, ⟨72, _⟩ => ⟨S1x4096, .f32⟩
  | .hbm, ⟨73, _⟩ => ⟨S8x4096, .f32⟩
  | .hbm, ⟨74, _⟩ => ⟨S8x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel49.lean ====
abbrev S512x4096 : Shape := ⟨2, ![512, 4096]⟩
abbrev S4x512x4096 : Shape := ⟨3, ![4, 512, 4096]⟩
abbrev S32x4096 : Shape := ⟨2, ![32, 4096]⟩
abbrev S4x32x4096 : Shape := ⟨3, ![4, 32, 4096]⟩
abbrev S1x32x4096 : Shape := ⟨3, ![1, 32, 4096]⟩

abbrev nBuf : Space → Nat
  | .hbm => 8
  | .vmem => 16
  | .smem => 0
  | _ => 0

abbrev bufTy : (tb : Table) → Fin (tcTables nBuf tb) → BufTy
  | .hbm, ⟨0, _⟩ => ⟨S512x4096, .f32⟩
  | .hbm, ⟨1, _⟩ => ⟨S4x512x4096, .bf16⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .local _ .vmem, ⟨0, _⟩ => ⟨S32x4096, .f32⟩
  | .local _ .vmem, ⟨1, _⟩ => ⟨S32x4096, .f32⟩
  | .local _ .vmem, ⟨2, _⟩ => ⟨S4x32x4096, .bf16⟩
  | .local _ .vmem, ⟨3, _⟩ => ⟨S4x32x4096, .bf16⟩
  | .local _ .vmem, ⟨4, _⟩ => ⟨S32x4096, .f32⟩
  | .local _ .vmem, ⟨5, _⟩ => ⟨S32x4096, .f32⟩
  | .local _ .vmem, ⟨6, _⟩ => ⟨S32x4096, .f32⟩
  | .local _ .vmem, ⟨7, _⟩ => ⟨S32x4096, .f32⟩
  | .local _ .vmem, ⟨8, _⟩ => ⟨S32x4096, .f32⟩
  | .local _ .vmem, ⟨9, _⟩ => ⟨S32x4096, .f32⟩
  | .local _ .vmem, ⟨10, _⟩ => ⟨S32x4096, .f32⟩
  | .local _ .vmem, ⟨11, _⟩ => ⟨S32x4096, .f32⟩
  | .local _ .vmem, ⟨12, _⟩ => ⟨S32x4096, .f32⟩
  | .local _ .vmem, ⟨13, _⟩ => ⟨S32x4096, .f32⟩
  | .local _ .vmem, ⟨14, _⟩ => ⟨S32x4096, .f32⟩
  | .local _ .vmem, ⟨15, _⟩ => ⟨S32x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x32x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel49Ideal.lean ====
abbrev S512x4096 : Shape := ⟨2, ![512, 4096]⟩
abbrev S4x512x4096 : Shape := ⟨3, ![4, 512, 4096]⟩
abbrev S32x4096 : Shape := ⟨2, ![32, 4096]⟩
abbrev S4x32x4096 : Shape := ⟨3, ![4, 32, 4096]⟩
abbrev S1x32x4096 : Shape := ⟨3, ![1, 32, 4096]⟩

abbrev nBuf : Space → Nat
  | .hbm => 8
  | .vmem => 16
  | .smem => 0
  | _ => 0

abbrev bufTy : (tb : Table) → Fin (tcTables nBuf tb) → BufTy
  | .hbm, ⟨0, _⟩ => ⟨S512x4096, .f32⟩
  | .hbm, ⟨1, _⟩ => ⟨S4x512x4096, .bf16⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .local _ .vmem, ⟨0, _⟩ => ⟨S32x4096, .f32⟩
  | .local _ .vmem, ⟨1, _⟩ => ⟨S32x4096, .f32⟩
  | .local _ .vmem, ⟨2, _⟩ => ⟨S4x32x4096, .bf16⟩
  | .local _ .vmem, ⟨3, _⟩ => ⟨S4x32x4096, .bf16⟩
  | .local _ .vmem, ⟨4, _⟩ => ⟨S32x4096, .f32⟩
  | .local _ .vmem, ⟨5, _⟩ => ⟨S32x4096, .f32⟩
  | .local _ .vmem, ⟨6, _⟩ => ⟨S32x4096, .f32⟩
  | .local _ .vmem, ⟨7, _⟩ => ⟨S32x4096, .f32⟩
  | .local _ .vmem, ⟨8, _⟩ => ⟨S32x4096, .f32⟩
  | .local _ .vmem, ⟨9, _⟩ => ⟨S32x4096, .f32⟩
  | .local _ .vmem, ⟨10, _⟩ => ⟨S32x4096, .f32⟩
  | .local _ .vmem, ⟨11, _⟩ => ⟨S32x4096, .f32⟩
  | .local _ .vmem, ⟨12, _⟩ => ⟨S32x4096, .f32⟩
  | .local _ .vmem, ⟨13, _⟩ => ⟨S32x4096, .f32⟩
  | .local _ .vmem, ⟨14, _⟩ => ⟨S32x4096, .f32⟩
  | .local _ .vmem, ⟨15, _⟩ => ⟨S32x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x32x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference49Ideal.lean ====
abbrev S512x4096 : Shape := ⟨2, ![512, 4096]⟩
abbrev S4x512x4096 : Shape := ⟨3, ![4, 512, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4x512x4096, .bf16⟩
  | .hbm, ⟨2, _⟩ => ⟨S512x4096, .f32⟩
  | .hbm, ⟨3, _⟩ => ⟨S512x4096, .f32⟩
  | .hbm, ⟨4, _⟩ => ⟨S4x512x4096, .f32⟩
  | .hbm, ⟨5, _⟩ => ⟨S_, .f32⟩
  | .hbm, ⟨6, _⟩ => ⟨S512x4096, .f32⟩
  | .hbm, ⟨7, _⟩ => ⟨S_, .f32⟩
  | .hbm, ⟨8, _⟩ => ⟨S512x4096, .f32⟩
  | .hbm, ⟨9, _⟩ => ⟨S512x4096, .f32⟩
  | .hbm, ⟨10, _⟩ => ⟨S_, .f32⟩
  | .hbm, ⟨11, _⟩ => ⟨S512x4096, .f32⟩
  | .hbm, ⟨12, _⟩ => ⟨S512x4096, .f32⟩
  | .hbm, ⟨13, _⟩ => ⟨S512x4096, .f32⟩
  | .hbm, ⟨14, _⟩ => ⟨S_, .f32⟩
  | .hbm, ⟨15, _⟩ => ⟨S512x4096, .f32⟩
  | .hbm, ⟨16, _⟩ => ⟨S512x4096, .f32⟩
  | .hbm, ⟨17, _⟩ => ⟨S512x4096, .f32⟩
  | .hbm, ⟨18, _⟩ => ⟨S_, .f32⟩
  | .hbm, ⟨19, _⟩ => ⟨S512x4096, .f32⟩
  | .hbm, ⟨20, _⟩ => ⟨S512x4096, .f32⟩
  | .hbm, ⟨21, _⟩ => ⟨S512x4096, .f32⟩
  | .hbm, ⟨22, _⟩ => ⟨S_, .f32⟩
  | .hbm, ⟨23, _⟩ => ⟨S512x4096, .f32⟩
  | .hbm, ⟨24, _⟩ => ⟨S512x4096, .f32⟩
  | .hbm, ⟨25, _⟩ => ⟨S_, .f32⟩
  | .hbm, ⟨26, _⟩ => ⟨S512x4096, .f32⟩
  | .hbm, ⟨27, _⟩ => ⟨S512x4096, .f32⟩
  | .hbm, ⟨28, _⟩ => ⟨S512x4096, .f32⟩
  | .hbm, ⟨29, _⟩ => ⟨S_, .f32⟩
  | .hbm, ⟨30, _⟩ => ⟨S512x4096, .f32⟩
  | .hbm, ⟨31, _⟩ => ⟨S512x4096, .f32⟩
  | .hbm, ⟨32, _⟩ => ⟨S512x4096, .f32⟩
  | .hbm, ⟨33, _⟩ => ⟨S_, .f32⟩
  | .hbm, ⟨34, _⟩ => ⟨S512x4096, .f32⟩
  | .hbm, ⟨35, _⟩ => ⟨S512x4096, .f32⟩
  | .hbm, ⟨36, _⟩ => ⟨S512x4096, .f32⟩
  | .hbm, ⟨37, _⟩ => ⟨S_, .f32⟩
  | .hbm, ⟨38, _⟩ => ⟨S512x4096, .f32⟩
  | .hbm, ⟨39, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel50.lean ====
abbrev S2052x4096 : Shape := ⟨2, ![2052, 4096]⟩
abbrev S4x2052x4096 : Shape := ⟨3, ![4, 2052, 4096]⟩
abbrev S2052x128 : Shape := ⟨2, ![2052, 128]⟩
abbrev S4x2052x128 : Shape := ⟨3, ![4, 2052, 128]⟩
abbrev S1x2052x128 : Shape := ⟨3, ![1, 2052, 128]⟩

abbrev nBuf : Space → Nat
  | .hbm => 8
  | .vmem => 16
  | .smem => 0
  | _ => 0

abbrev bufTy : (tb : Table) → Fin (tcTables nBuf tb) → BufTy
  | .hbm, ⟨0, _⟩ => ⟨S2052x4096, .f32⟩
  | .hbm, ⟨1, _⟩ => ⟨S4x2052x4096, .bf16⟩
  | .hbm, ⟨2, _⟩ => ⟨S2052x4096, .f32⟩
  | .hbm, ⟨3, _⟩ => ⟨S2052x4096, .f32⟩
  | .hbm, ⟨4, _⟩ => ⟨S2052x4096, .f32⟩
  | .hbm, ⟨5, _⟩ => ⟨S2052x4096, .f32⟩
  | .hbm, ⟨6, _⟩ => ⟨S2052x4096, .f32⟩
  | .hbm, ⟨7, _⟩ => ⟨S2052x4096, .f32⟩
  | .local _ .vmem, ⟨0, _⟩ => ⟨S2052x128, .f32⟩
  | .local _ .vmem, ⟨1, _⟩ => ⟨S2052x128, .f32⟩
  | .local _ .vmem, ⟨2, _⟩ => ⟨S4x2052x128, .bf16⟩
  | .local _ .vmem, ⟨3, _⟩ => ⟨S4x2052x128, .bf16⟩
  | .local _ .vmem, ⟨4, _⟩ => ⟨S2052x128, .f32⟩
  | .local _ .vmem, ⟨5, _⟩ => ⟨S2052x128, .f32⟩
  | .local _ .vmem, ⟨6, _⟩ => ⟨S2052x128, .f32⟩
  | .local _ .vmem, ⟨7, _⟩ => ⟨S2052x128, .f32⟩
  | .local _ .vmem, ⟨8, _⟩ => ⟨S2052x128, .f32⟩
  | .local _ .vmem, ⟨9, _⟩ => ⟨S2052x128, .f32⟩
  | .local _ .vmem, ⟨10, _⟩ => ⟨S2052x128, .f32⟩
  | .local _ .vmem, ⟨11, _⟩ => ⟨S2052x128, .f32⟩
  | .local _ .vmem, ⟨12, _⟩ => ⟨S2052x128, .f32⟩
  | .local _ .vmem, ⟨13, _⟩ => ⟨S2052x128, .f32⟩
  | .local _ .vmem, ⟨14, _⟩ => ⟨S2052x128, .f32⟩
  | .local _ .vmem, ⟨15, _⟩ => ⟨S2052x128, .f32⟩
  | _, _ => ⟨S2052x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2052x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x2052x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2052x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2052x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2052x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2052x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2052x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2052x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel50Ideal.lean ====
abbrev S2052x4096 : Shape := ⟨2, ![2052, 4096]⟩
abbrev S4x2052x4096 : Shape := ⟨3, ![4, 2052, 4096]⟩
abbrev S2052x128 : Shape := ⟨2, ![2052, 128]⟩
abbrev S4x2052x128 : Shape := ⟨3, ![4, 2052, 128]⟩
abbrev S1x2052x128 : Shape := ⟨3, ![1, 2052, 128]⟩

abbrev nBuf : Space → Nat
  | .hbm => 8
  | .vmem => 16
  | .smem => 0
  | _ => 0

abbrev bufTy : (tb : Table) → Fin (tcTables nBuf tb) → BufTy
  | .hbm, ⟨0, _⟩ => ⟨S2052x4096, .f32⟩
  | .hbm, ⟨1, _⟩ => ⟨S4x2052x4096, .bf16⟩
  | .hbm, ⟨2, _⟩ => ⟨S2052x4096, .f32⟩
  | .hbm, ⟨3, _⟩ => ⟨S2052x4096, .f32⟩
  | .hbm, ⟨4, _⟩ => ⟨S2052x4096, .f32⟩
  | .hbm, ⟨5, _⟩ => ⟨S2052x4096, .f32⟩
  | .hbm, ⟨6, _⟩ => ⟨S2052x4096, .f32⟩
  | .hbm, ⟨7, _⟩ => ⟨S2052x4096, .f32⟩
  | .local _ .vmem, ⟨0, _⟩ => ⟨S2052x128, .f32⟩
  | .local _ .vmem, ⟨1, _⟩ => ⟨S2052x128, .f32⟩
  | .local _ .vmem, ⟨2, _⟩ => ⟨S4x2052x128, .bf16⟩
  | .local _ .vmem, ⟨3, _⟩ => ⟨S4x2052x128, .bf16⟩
  | .local _ .vmem, ⟨4, _⟩ => ⟨S2052x128, .f32⟩
  | .local _ .vmem, ⟨5, _⟩ => ⟨S2052x128, .f32⟩
  | .local _ .vmem, ⟨6, _⟩ => ⟨S2052x128, .f32⟩
  | .local _ .vmem, ⟨7, _⟩ => ⟨S2052x128, .f32⟩
  | .local _ .vmem, ⟨8, _⟩ => ⟨S2052x128, .f32⟩
  | .local _ .vmem, ⟨9, _⟩ => ⟨S2052x128, .f32⟩
  | .local _ .vmem, ⟨10, _⟩ => ⟨S2052x128, .f32⟩
  | .local _ .vmem, ⟨11, _⟩ => ⟨S2052x128, .f32⟩
  | .local _ .vmem, ⟨12, _⟩ => ⟨S2052x128, .f32⟩
  | .local _ .vmem, ⟨13, _⟩ => ⟨S2052x128, .f32⟩
  | .local _ .vmem, ⟨14, _⟩ => ⟨S2052x128, .f32⟩
  | .local _ .vmem, ⟨15, _⟩ => ⟨S2052x128, .f32⟩
  | _, _ => ⟨S2052x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2052x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x2052x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2052x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2052x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2052x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2052x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2052x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2052x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference50Ideal.lean ====
abbrev S2052x4096 : Shape := ⟨2, ![2052, 4096]⟩
abbrev S4x2052x4096 : Shape := ⟨3, ![4, 2052, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2052x4096, .f32⟩
  | .hbm, ⟨1, _⟩ => ⟨S4x2052x4096, .bf16⟩
  | .hbm, ⟨2, _⟩ => ⟨S2052x4096, .f32⟩
  | .hbm, ⟨3, _⟩ => ⟨S2052x4096, .f32⟩
  | .hbm, ⟨4, _⟩ => ⟨S4x2052x4096, .f32⟩
  | .hbm, ⟨5, _⟩ => ⟨S_, .f32⟩
  | .hbm, ⟨6, _⟩ => ⟨S2052x4096, .f32⟩
  | .hbm, ⟨7, _⟩ => ⟨S_, .f32⟩
  | .hbm, ⟨8, _⟩ => ⟨S2052x4096, .f32⟩
  | .hbm, ⟨9, _⟩ => ⟨S2052x4096, .f32⟩
  | .hbm, ⟨10, _⟩ => ⟨S_, .f32⟩
  | .hbm, ⟨11, _⟩ => ⟨S2052x4096, .f32⟩
  | .hbm, ⟨12, _⟩ => ⟨S2052x4096, .f32⟩
  | .hbm, ⟨13, _⟩ => ⟨S2052x4096, .f32⟩
  | .hbm, ⟨14, _⟩ => ⟨S_, .f32⟩
  | .hbm, ⟨15, _⟩ => ⟨S2052x4096, .f32⟩
  | .hbm, ⟨16, _⟩ => ⟨S2052x4096, .f32⟩
  | .hbm, ⟨17, _⟩ => ⟨S2052x4096, .f32⟩
  | .hbm, ⟨18, _⟩ => ⟨S_, .f32⟩
  | .hbm, ⟨19, _⟩ => ⟨S2052x4096, .f32⟩
  | .hbm, ⟨20, _⟩ => ⟨S2052x4096, .f32⟩
  | .hbm, ⟨21, _⟩ => ⟨S2052x4096, .f32⟩
  | .hbm, ⟨22, _⟩ => ⟨S_, .f32⟩
  | .hbm, ⟨23, _⟩ => ⟨S2052x4096, .f32⟩
  | .hbm, ⟨24, _⟩ => ⟨S2052x4096, .f32⟩
  | .hbm, ⟨25, _⟩ => ⟨S_, .f32⟩
  | .hbm, ⟨26, _⟩ => ⟨S2052x4096, .f32⟩
  | .hbm, ⟨27, _⟩ => ⟨S2052x4096, .f32⟩
  | .hbm, ⟨28, _⟩ => ⟨S2052x4096, .f32⟩
  | .hbm, ⟨29, _⟩ => ⟨S_, .f32⟩
  | .hbm, ⟨30, _⟩ => ⟨S2052x4096, .f32⟩
  | .hbm, ⟨31, _⟩ => ⟨S2052x4096, .f32⟩
  | .hbm, ⟨32, _⟩ => ⟨S2052x4096, .f32⟩
  | .hbm, ⟨33, _⟩ => ⟨S_, .f32⟩
  | .hbm, ⟨34, _⟩ => ⟨S2052x4096, .f32⟩
  | .hbm, ⟨35, _⟩ => ⟨S2052x4096, .f32⟩
  | .hbm, ⟨36, _⟩ => ⟨S2052x4096, .f32⟩
  | .hbm, ⟨37, _⟩ => ⟨S_, .f32⟩
  | .hbm, ⟨38, _⟩ => ⟨S2052x4096, .f32⟩
  | .hbm, ⟨39, _⟩ => ⟨S2052x4096, .f32⟩
  | _, _ => ⟨S2052x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel51.lean ====
abbrev S1024x4096 : Shape := ⟨2, ![1024, 4096]⟩
abbrev S4x1024x4096 : Shape := ⟨3, ![4, 1024, 4096]⟩
abbrev S32x4096 : Shape := ⟨2, ![32, 4096]⟩
abbrev S4x32x4096 : Shape := ⟨3, ![4, 32, 4096]⟩
abbrev S1x32x4096 : Shape := ⟨3, ![1, 32, 4096]⟩

abbrev nBuf : Space → Nat
  | .hbm => 8
  | .vmem => 16
  | .smem => 0
  | _ => 0

abbrev bufTy : (tb : Table) → Fin (tcTables nBuf tb) → BufTy
  | .hbm, ⟨0, _⟩ => ⟨S1024x4096, .f32⟩
  | .hbm, ⟨1, _⟩ => ⟨S4x1024x4096, .bf16⟩
  | .hbm, ⟨2, _⟩ => ⟨S1024x4096, .f32⟩
  | .hbm, ⟨3, _⟩ => ⟨S1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S1024x4096, .f32⟩
  | .local _ .vmem, ⟨0, _⟩ => ⟨S32x4096, .f32⟩
  | .local _ .vmem, ⟨1, _⟩ => ⟨S32x4096, .f32⟩
  | .local _ .vmem, ⟨2, _⟩ => ⟨S4x32x4096, .bf16⟩
  | .local _ .vmem, ⟨3, _⟩ => ⟨S4x32x4096, .bf16⟩
  | .local _ .vmem, ⟨4, _⟩ => ⟨S32x4096, .f32⟩
  | .local _ .vmem, ⟨5, _⟩ => ⟨S32x4096, .f32⟩
  | .local _ .vmem, ⟨6, _⟩ => ⟨S32x4096, .f32⟩
  | .local _ .vmem, ⟨7, _⟩ => ⟨S32x4096, .f32⟩
  | .local _ .vmem, ⟨8, _⟩ => ⟨S32x4096, .f32⟩
  | .local _ .vmem, ⟨9, _⟩ => ⟨S32x4096, .f32⟩
  | .local _ .vmem, ⟨10, _⟩ => ⟨S32x4096, .f32⟩
  | .local _ .vmem, ⟨11, _⟩ => ⟨S32x4096, .f32⟩
  | .local _ .vmem, ⟨12, _⟩ => ⟨S32x4096, .f32⟩
  | .local _ .vmem, ⟨13, _⟩ => ⟨S32x4096, .f32⟩
  | .local _ .vmem, ⟨14, _⟩ => ⟨S32x4096, .f32⟩
  | .local _ .vmem, ⟨15, _⟩ => ⟨S32x4096, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x32x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel51Ideal.lean ====
abbrev S1024x4096 : Shape := ⟨2, ![1024, 4096]⟩
abbrev S4x1024x4096 : Shape := ⟨3, ![4, 1024, 4096]⟩
abbrev S32x4096 : Shape := ⟨2, ![32, 4096]⟩
abbrev S4x32x4096 : Shape := ⟨3, ![4, 32, 4096]⟩
abbrev S1x32x4096 : Shape := ⟨3, ![1, 32, 4096]⟩

abbrev nBuf : Space → Nat
  | .hbm => 8
  | .vmem => 16
  | .smem => 0
  | _ => 0

abbrev bufTy : (tb : Table) → Fin (tcTables nBuf tb) → BufTy
  | .hbm, ⟨0, _⟩ => ⟨S1024x4096, .f32⟩
  | .hbm, ⟨1, _⟩ => ⟨S4x1024x4096, .bf16⟩
  | .hbm, ⟨2, _⟩ => ⟨S1024x4096, .f32⟩
  | .hbm, ⟨3, _⟩ => ⟨S1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S1024x4096, .f32⟩
  | .local _ .vmem, ⟨0, _⟩ => ⟨S32x4096, .f32⟩
  | .local _ .vmem, ⟨1, _⟩ => ⟨S32x4096, .f32⟩
  | .local _ .vmem, ⟨2, _⟩ => ⟨S4x32x4096, .bf16⟩
  | .local _ .vmem, ⟨3, _⟩ => ⟨S4x32x4096, .bf16⟩
  | .local _ .vmem, ⟨4, _⟩ => ⟨S32x4096, .f32⟩
  | .local _ .vmem, ⟨5, _⟩ => ⟨S32x4096, .f32⟩
  | .local _ .vmem, ⟨6, _⟩ => ⟨S32x4096, .f32⟩
  | .local _ .vmem, ⟨7, _⟩ => ⟨S32x4096, .f32⟩
  | .local _ .vmem, ⟨8, _⟩ => ⟨S32x4096, .f32⟩
  | .local _ .vmem, ⟨9, _⟩ => ⟨S32x4096, .f32⟩
  | .local _ .vmem, ⟨10, _⟩ => ⟨S32x4096, .f32⟩
  | .local _ .vmem, ⟨11, _⟩ => ⟨S32x4096, .f32⟩
  | .local _ .vmem, ⟨12, _⟩ => ⟨S32x4096, .f32⟩
  | .local _ .vmem, ⟨13, _⟩ => ⟨S32x4096, .f32⟩
  | .local _ .vmem, ⟨14, _⟩ => ⟨S32x4096, .f32⟩
  | .local _ .vmem, ⟨15, _⟩ => ⟨S32x4096, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x32x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference51Ideal.lean ====
abbrev S1024x4096 : Shape := ⟨2, ![1024, 4096]⟩
abbrev S4x1024x4096 : Shape := ⟨3, ![4, 1024, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4x1024x4096, .bf16⟩
  | .hbm, ⟨2, _⟩ => ⟨S1024x4096, .f32⟩
  | .hbm, ⟨3, _⟩ => ⟨S1024x4096, .f32⟩
  | .hbm, ⟨4, _⟩ => ⟨S4x1024x4096, .f32⟩
  | .hbm, ⟨5, _⟩ => ⟨S_, .f32⟩
  | .hbm, ⟨6, _⟩ => ⟨S1024x4096, .f32⟩
  | .hbm, ⟨7, _⟩ => ⟨S_, .f32⟩
  | .hbm, ⟨8, _⟩ => ⟨S1024x4096, .f32⟩
  | .hbm, ⟨9, _⟩ => ⟨S1024x4096, .f32⟩
  | .hbm, ⟨10, _⟩ => ⟨S_, .f32⟩
  | .hbm, ⟨11, _⟩ => ⟨S1024x4096, .f32⟩
  | .hbm, ⟨12, _⟩ => ⟨S1024x4096, .f32⟩
  | .hbm, ⟨13, _⟩ => ⟨S1024x4096, .f32⟩
  | .hbm, ⟨14, _⟩ => ⟨S_, .f32⟩
  | .hbm, ⟨15, _⟩ => ⟨S1024x4096, .f32⟩
  | .hbm, ⟨16, _⟩ => ⟨S1024x4096, .f32⟩
  | .hbm, ⟨17, _⟩ => ⟨S1024x4096, .f32⟩
  | .hbm, ⟨18, _⟩ => ⟨S_, .f32⟩
  | .hbm, ⟨19, _⟩ => ⟨S1024x4096, .f32⟩
  | .hbm, ⟨20, _⟩ => ⟨S1024x4096, .f32⟩
  | .hbm, ⟨21, _⟩ => ⟨S1024x4096, .f32⟩
  | .hbm, ⟨22, _⟩ => ⟨S_, .f32⟩
  | .hbm, ⟨23, _⟩ => ⟨S1024x4096, .f32⟩
  | .hbm, ⟨24, _⟩ => ⟨S1024x4096, .f32⟩
  | .hbm, ⟨25, _⟩ => ⟨S_, .f32⟩
  | .hbm, ⟨26, _⟩ => ⟨S1024x4096, .f32⟩
  | .hbm, ⟨27, _⟩ => ⟨S1024x4096, .f32⟩
  | .hbm, ⟨28, _⟩ => ⟨S1024x4096, .f32⟩
  | .hbm, ⟨29, _⟩ => ⟨S_, .f32⟩
  | .hbm, ⟨30, _⟩ => ⟨S1024x4096, .f32⟩
  | .hbm, ⟨31, _⟩ => ⟨S1024x4096, .f32⟩
  | .hbm, ⟨32, _⟩ => ⟨S1024x4096, .f32⟩
  | .hbm, ⟨33, _⟩ => ⟨S_, .f32⟩
  | .hbm, ⟨34, _⟩ => ⟨S1024x4096, .f32⟩
  | .hbm, ⟨35, _⟩ => ⟨S1024x4096, .f32⟩
  | .hbm, ⟨36, _⟩ => ⟨S1024x4096, .f32⟩
  | .hbm, ⟨37, _⟩ => ⟨S_, .f32⟩
  | .hbm, ⟨38, _⟩ => ⟨S1024x4096, .f32⟩
  | .hbm, ⟨39, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel52.lean ====
abbrev S4x1024 : Shape := ⟨2, ![4, 1024]⟩
abbrev S4x4x1024 : Shape := ⟨3, ![4, 4, 1024]⟩
abbrev S1x4x1024 : Shape := ⟨3, ![1, 4, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x1024, .f32⟩
  | .hbm, ⟨1, _⟩ => ⟨S4x4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .local _ .vmem, ⟨0, _⟩ => ⟨S4x1024, .f32⟩
  | .local _ .vmem, ⟨1, _⟩ => ⟨S4x4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | .local _ .vmem, ⟨7, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel52Ideal.lean ====
abbrev S4x1024 : Shape := ⟨2, ![4, 1024]⟩
abbrev S4x4x1024 : Shape := ⟨3, ![4, 4, 1024]⟩
abbrev S1x4x1024 : Shape := ⟨3, ![1, 4, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x1024, .f32⟩
  | .hbm, ⟨1, _⟩ => ⟨S4x4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .local _ .vmem, ⟨0, _⟩ => ⟨S4x1024, .f32⟩
  | .local _ .vmem, ⟨1, _⟩ => ⟨S4x4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | .local _ .vmem, ⟨7, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference52Ideal.lean ====
abbrev S4x1024 : Shape := ⟨2, ![4, 1024]⟩
abbrev S4x4x1024 : Shape := ⟨3, ![4, 4, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S_, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S_, .f32⟩
  | .hbm, ⟨18, _⟩ => ⟨S4x1024, .f32⟩
  | .hbm, ⟨19, _⟩ => ⟨S4x1024, .f32⟩
  | .hbm, ⟨20, _⟩ => ⟨S4x1024, .f32⟩
  | .hbm, ⟨21, _⟩ => ⟨S_, .f32⟩
  | .hbm, ⟨22, _⟩ => ⟨S4x1024, .f32⟩
  | .hbm, ⟨23, _⟩ => ⟨S4x1024, .f32⟩
  | .hbm, ⟨24, _⟩ => ⟨S_, .f32⟩
  | .hbm, ⟨25, _⟩ => ⟨S4x1024, .f32⟩
  | .hbm, ⟨26, _⟩ => ⟨S4x1024, .f32⟩
  | .hbm, ⟨27, _⟩ => ⟨S4x1024, .f32⟩
  | .hbm, ⟨28, _⟩ => ⟨S_, .f32⟩
  | .hbm, ⟨29, _⟩ => ⟨S4x1024, .f32⟩
  | .hbm, ⟨30, _⟩ => ⟨S4x1024, .f32⟩
  | .hbm, ⟨31, _⟩ => ⟨S4x1024, .f32⟩
  | .hbm, ⟨32, _⟩ => ⟨S_, .f32⟩
  | .hbm, ⟨33, _⟩ => ⟨S4x1024, .f32⟩
  | .hbm, ⟨34, _⟩ => ⟨S4x1024, .f32⟩
  | .hbm, ⟨35, _⟩ => ⟨S4x1024, .f32⟩
  | .hbm, ⟨36, _⟩ => ⟨S_, .f32⟩
  | .hbm, ⟨37, _⟩ => ⟨S4x1024, .f32⟩
  | .hbm, ⟨38, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel53.lean ====
abbrev S256x2048 : Shape := ⟨2, ![256, 2048]⟩
abbrev S4x256x2048 : Shape := ⟨3, ![4, 256, 2048]⟩
abbrev S64x2048 : Shape := ⟨2, ![64, 2048]⟩
abbrev S4x64x2048 : Shape := ⟨3, ![4, 64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S256x2048, .f32⟩
  | .hbm, ⟨1, _⟩ => ⟨S4x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S64x2048, .f32⟩
  | .local _ .vmem, ⟨1, _⟩ => ⟨S64x2048, .f32⟩
  | .local _ .vmem, ⟨2, _⟩ => ⟨S4x64x2048, .bf16⟩
  | .local _ .vmem, ⟨3, _⟩ => ⟨S4x64x2048, .bf16⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel53Ideal.lean ====
abbrev S256x2048 : Shape := ⟨2, ![256, 2048]⟩
abbrev S4x256x2048 : Shape := ⟨3, ![4, 256, 2048]⟩
abbrev S64x2048 : Shape := ⟨2, ![64, 2048]⟩
abbrev S4x64x2048 : Shape := ⟨3, ![4, 64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S256x2048, .f32⟩
  | .hbm, ⟨1, _⟩ => ⟨S4x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S64x2048, .f32⟩
  | .local _ .vmem, ⟨1, _⟩ => ⟨S64x2048, .f32⟩
  | .local _ .vmem, ⟨2, _⟩ => ⟨S4x64x2048, .bf16⟩
  | .local _ .vmem, ⟨3, _⟩ => ⟨S4x64x2048, .bf16⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference53Ideal.lean ====
abbrev S256x2048 : Shape := ⟨2, ![256, 2048]⟩
abbrev S4x256x2048 : Shape := ⟨3, ![4, 256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S4x256x2048, .bf16⟩
  | .hbm, ⟨2, _⟩ => ⟨S256x2048, .f32⟩
  | .hbm, ⟨3, _⟩ => ⟨S256x2048, .f32⟩
  | .hbm, ⟨4, _⟩ => ⟨S4x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel54.lean ====
abbrev S2316x4096 : Shape := ⟨2, ![2316, 4096]⟩
abbrev S4x2316x4096 : Shape := ⟨3, ![4, 2316, 4096]⟩
abbrev S2316x128 : Shape := ⟨2, ![2316, 128]⟩
abbrev S4x2316x128 : Shape := ⟨3, ![4, 2316, 128]⟩
abbrev S1x2316x128 : Shape := ⟨3, ![1, 2316, 128]⟩

abbrev nBuf : Space → Nat
  | .hbm => 8
  | .vmem => 16
  | .smem => 0
  | _ => 0

abbrev bufTy : (tb : Table) → Fin (tcTables nBuf tb) → BufTy
  | .hbm, ⟨0, _⟩ => ⟨S2316x4096, .f32⟩
  | .hbm, ⟨1, _⟩ => ⟨S4x2316x4096, .bf16⟩
  | .hbm, ⟨2, _⟩ => ⟨S2316x4096, .f32⟩
  | .hbm, ⟨3, _⟩ => ⟨S2316x4096, .f32⟩
  | .hbm, ⟨4, _⟩ => ⟨S2316x4096, .f32⟩
  | .hbm, ⟨5, _⟩ => ⟨S2316x4096, .f32⟩
  | .hbm, ⟨6, _⟩ => ⟨S2316x4096, .f32⟩
  | .hbm, ⟨7, _⟩ => ⟨S2316x4096, .f32⟩
  | .local _ .vmem, ⟨0, _⟩ => ⟨S2316x128, .f32⟩
  | .local _ .vmem, ⟨1, _⟩ => ⟨S2316x128, .f32⟩
  | .local _ .vmem, ⟨2, _⟩ => ⟨S4x2316x128, .bf16⟩
  | .local _ .vmem, ⟨3, _⟩ => ⟨S4x2316x128, .bf16⟩
  | .local _ .vmem, ⟨4, _⟩ => ⟨S2316x128, .f32⟩
  | .local _ .vmem, ⟨5, _⟩ => ⟨S2316x128, .f32⟩
  | .local _ .vmem, ⟨6, _⟩ => ⟨S2316x128, .f32⟩
  | .local _ .vmem, ⟨7, _⟩ => ⟨S2316x128, .f32⟩
  | .local _ .vmem, ⟨8, _⟩ => ⟨S2316x128, .f32⟩
  | .local _ .vmem, ⟨9, _⟩ => ⟨S2316x128, .f32⟩
  | .local _ .vmem, ⟨10, _⟩ => ⟨S2316x128, .f32⟩
  | .local _ .vmem, ⟨11, _⟩ => ⟨S2316x128, .f32⟩
  | .local _ .vmem, ⟨12, _⟩ => ⟨S2316x128, .f32⟩
  | .local _ .vmem, ⟨13, _⟩ => ⟨S2316x128, .f32⟩
  | .local _ .vmem, ⟨14, _⟩ => ⟨S2316x128, .f32⟩
  | .local _ .vmem, ⟨15, _⟩ => ⟨S2316x128, .f32⟩
  | _, _ => ⟨S2316x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2316x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x2316x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2316x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2316x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2316x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2316x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2316x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2316x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel54Ideal.lean ====
abbrev S2316x4096 : Shape := ⟨2, ![2316, 4096]⟩
abbrev S4x2316x4096 : Shape := ⟨3, ![4, 2316, 4096]⟩
abbrev S2316x128 : Shape := ⟨2, ![2316, 128]⟩
abbrev S4x2316x128 : Shape := ⟨3, ![4, 2316, 128]⟩
abbrev S1x2316x128 : Shape := ⟨3, ![1, 2316, 128]⟩

abbrev nBuf : Space → Nat
  | .hbm => 8
  | .vmem => 16
  | .smem => 0
  | _ => 0

abbrev bufTy : (tb : Table) → Fin (tcTables nBuf tb) → BufTy
  | .hbm, ⟨0, _⟩ => ⟨S2316x4096, .f32⟩
  | .hbm, ⟨1, _⟩ => ⟨S4x2316x4096, .bf16⟩
  | .hbm, ⟨2, _⟩ => ⟨S2316x4096, .f32⟩
  | .hbm, ⟨3, _⟩ => ⟨S2316x4096, .f32⟩
  | .hbm, ⟨4, _⟩ => ⟨S2316x4096, .f32⟩
  | .hbm, ⟨5, _⟩ => ⟨S2316x4096, .f32⟩
  | .hbm, ⟨6, _⟩ => ⟨S2316x4096, .f32⟩
  | .hbm, ⟨7, _⟩ => ⟨S2316x4096, .f32⟩
  | .local _ .vmem, ⟨0, _⟩ => ⟨S2316x128, .f32⟩
  | .local _ .vmem, ⟨1, _⟩ => ⟨S2316x128, .f32⟩
  | .local _ .vmem, ⟨2, _⟩ => ⟨S4x2316x128, .bf16⟩
  | .local _ .vmem, ⟨3, _⟩ => ⟨S4x2316x128, .bf16⟩
  | .local _ .vmem, ⟨4, _⟩ => ⟨S2316x128, .f32⟩
  | .local _ .vmem, ⟨5, _⟩ => ⟨S2316x128, .f32⟩
  | .local _ .vmem, ⟨6, _⟩ => ⟨S2316x128, .f32⟩
  | .local _ .vmem, ⟨7, _⟩ => ⟨S2316x128, .f32⟩
  | .local _ .vmem, ⟨8, _⟩ => ⟨S2316x128, .f32⟩
  | .local _ .vmem, ⟨9, _⟩ => ⟨S2316x128, .f32⟩
  | .local _ .vmem, ⟨10, _⟩ => ⟨S2316x128, .f32⟩
  | .local _ .vmem, ⟨11, _⟩ => ⟨S2316x128, .f32⟩
  | .local _ .vmem, ⟨12, _⟩ => ⟨S2316x128, .f32⟩
  | .local _ .vmem, ⟨13, _⟩ => ⟨S2316x128, .f32⟩
  | .local _ .vmem, ⟨14, _⟩ => ⟨S2316x128, .f32⟩
  | .local _ .vmem, ⟨15, _⟩ => ⟨S2316x128, .f32⟩
  | _, _ => ⟨S2316x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2316x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x2316x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2316x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2316x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2316x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2316x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2316x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2316x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference54Ideal.lean ====
abbrev S2316x4096 : Shape := ⟨2, ![2316, 4096]⟩
abbrev S4x2316x4096 : Shape := ⟨3, ![4, 2316, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2316x4096, .f32⟩
  | .hbm, ⟨1, _⟩ => ⟨S4x2316x4096, .bf16⟩
  | .hbm, ⟨2, _⟩ => ⟨S2316x4096, .f32⟩
  | .hbm, ⟨3, _⟩ => ⟨S2316x4096, .f32⟩
  | .hbm, ⟨4, _⟩ => ⟨S4x2316x4096, .f32⟩
  | .hbm, ⟨5, _⟩ => ⟨S_, .f32⟩
  | .hbm, ⟨6, _⟩ => ⟨S2316x4096, .f32⟩
  | .hbm, ⟨7, _⟩ => ⟨S_, .f32⟩
  | .hbm, ⟨8, _⟩ => ⟨S2316x4096, .f32⟩
  | .hbm, ⟨9, _⟩ => ⟨S2316x4096, .f32⟩
  | .hbm, ⟨10, _⟩ => ⟨S_, .f32⟩
  | .hbm, ⟨11, _⟩ => ⟨S2316x4096, .f32⟩
  | .hbm, ⟨12, _⟩ => ⟨S2316x4096, .f32⟩
  | .hbm, ⟨13, _⟩ => ⟨S2316x4096, .f32⟩
  | .hbm, ⟨14, _⟩ => ⟨S_, .f32⟩
  | .hbm, ⟨15, _⟩ => ⟨S2316x4096, .f32⟩
  | .hbm, ⟨16, _⟩ => ⟨S2316x4096, .f32⟩
  | .hbm, ⟨17, _⟩ => ⟨S2316x4096, .f32⟩
  | .hbm, ⟨18, _⟩ => ⟨S_, .f32⟩
  | .hbm, ⟨19, _⟩ => ⟨S2316x4096, .f32⟩
  | .hbm, ⟨20, _⟩ => ⟨S2316x4096, .f32⟩
  | .hbm, ⟨21, _⟩ => ⟨S2316x4096, .f32⟩
  | .hbm, ⟨22, _⟩ => ⟨S_, .f32⟩
  | .hbm, ⟨23, _⟩ => ⟨S2316x4096, .f32⟩
  | .hbm, ⟨24, _⟩ => ⟨S2316x4096, .f32⟩
  | .hbm, ⟨25, _⟩ => ⟨S_, .f32⟩
  | .hbm, ⟨26, _⟩ => ⟨S2316x4096, .f32⟩
  | .hbm, ⟨27, _⟩ => ⟨S2316x4096, .f32⟩
  | .hbm, ⟨28, _⟩ => ⟨S2316x4096, .f32⟩
  | .hbm, ⟨29, _⟩ => ⟨S_, .f32⟩
  | .hbm, ⟨30, _⟩ => ⟨S2316x4096, .f32⟩
  | .hbm, ⟨31, _⟩ => ⟨S2316x4096, .f32⟩
  | .hbm, ⟨32, _⟩ => ⟨S2316x4096, .f32⟩
  | .hbm, ⟨33, _⟩ => ⟨S_, .f32⟩
  | .hbm, ⟨34, _⟩ => ⟨S2316x4096, .f32⟩
  | .hbm, ⟨35, _⟩ => ⟨S2316x4096, .f32⟩
  | .hbm, ⟨36, _⟩ => ⟨S2316x4096, .f32⟩
  | .hbm, ⟨37, _⟩ => ⟨S_, .f32⟩
  | .hbm, ⟨38, _⟩ => ⟨S2316x4096, .f32⟩
  | .hbm, ⟨39, _⟩ => ⟨S2316x4096, .f32⟩
  | _, _ => ⟨S2316x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel55.lean ====
abbrev S4472x128 : Shape := ⟨2, ![4472, 128]⟩
abbrev S8x4472x128 : Shape := ⟨3, ![8, 4472, 128]⟩
abbrev S344x128 : Shape := ⟨2, ![344, 128]⟩
abbrev S8x344x128 : Shape := ⟨3, ![8, 344, 128]⟩
abbrev S1x344x128 : Shape := ⟨3, ![1, 344, 128]⟩

abbrev nBuf : Space → Nat
  | .hbm => 8
  | .vmem => 16
  | .smem => 0
  | _ => 0

abbrev bufTy : (tb : Table) → Fin (tcTables nBuf tb) → BufTy
  | .hbm, ⟨0, _⟩ => ⟨S4472x128, .f32⟩
  | .hbm, ⟨1, _⟩ => ⟨S8x4472x128, .f32⟩
  | .hbm, ⟨2, _⟩ => ⟨S4472x128, .f32⟩
  | .hbm, ⟨3, _⟩ => ⟨S4472x128, .f32⟩
  | .hbm, ⟨4, _⟩ => ⟨S4472x128, .f32⟩
  | .hbm, ⟨5, _⟩ => ⟨S4472x128, .f32⟩
  | .hbm, ⟨6, _⟩ => ⟨S4472x128, .f32⟩
  | .hbm, ⟨7, _⟩ => ⟨S4472x128, .f32⟩
  | .local _ .vmem, ⟨0, _⟩ => ⟨S344x128, .f32⟩
  | .local _ .vmem, ⟨1, _⟩ => ⟨S344x128, .f32⟩
  | .local _ .vmem, ⟨2, _⟩ => ⟨S8x344x128, .f32⟩
  | .local _ .vmem, ⟨3, _⟩ => ⟨S8x344x128, .f32⟩
  | .local _ .vmem, ⟨4, _⟩ => ⟨S344x128, .f32⟩
  | .local _ .vmem, ⟨5, _⟩ => ⟨S344x128, .f32⟩
  | .local _ .vmem, ⟨6, _⟩ => ⟨S344x128, .f32⟩
  | .local _ .vmem, ⟨7, _⟩ => ⟨S344x128, .f32⟩
  | .local _ .vmem, ⟨8, _⟩ => ⟨S344x128, .f32⟩
  | .local _ .vmem, ⟨9, _⟩ => ⟨S344x128, .f32⟩
  | .local _ .vmem, ⟨10, _⟩ => ⟨S344x128, .f32⟩
  | .local _ .vmem, ⟨11, _⟩ => ⟨S344x128, .f32⟩
  | .local _ .vmem, ⟨12, _⟩ => ⟨S344x128, .f32⟩
  | .local _ .vmem, ⟨13, _⟩ => ⟨S344x128, .f32⟩
  | .local _ .vmem, ⟨14, _⟩ => ⟨S344x128, .f32⟩
  | .local _ .vmem, ⟨15, _⟩ => ⟨S344x128, .f32⟩
  | _, _ => ⟨S4472x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S344x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x344x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S344x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S344x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S344x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S344x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S344x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S344x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference55Ideal.lean ====
abbrev S4472x128 : Shape := ⟨2, ![4472, 128]⟩
abbrev S8x4472x128 : Shape := ⟨3, ![8, 4472, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4472x128, .f32⟩
  | .hbm, ⟨1, _⟩ => ⟨S8x4472x128, .f32⟩
  | .hbm, ⟨2, _⟩ => ⟨S4472x128, .f32⟩
  | .hbm, ⟨3, _⟩ => ⟨S4472x128, .f32⟩
  | .hbm, ⟨4, _⟩ => ⟨S_, .f32⟩
  | .hbm, ⟨5, _⟩ => ⟨S4472x128, .f32⟩
  | .hbm, ⟨6, _⟩ => ⟨S_, .f32⟩
  | .hbm, ⟨7, _⟩ => ⟨S4472x128, .f32⟩
  | .hbm, ⟨8, _⟩ => ⟨S4472x128, .f32⟩
  | .hbm, ⟨9, _⟩ => ⟨S_, .f32⟩
  | .hbm, ⟨10, _⟩ => ⟨S4472x128, .f32⟩
  | .hbm, ⟨11, _⟩ => ⟨S4472x128, .f32⟩
  | .hbm, ⟨12, _⟩ => ⟨S4472x128, .f32⟩
  | .hbm, ⟨13, _⟩ => ⟨S_, .f32⟩
  | .hbm, ⟨14, _⟩ => ⟨S4472x128, .f32⟩
  | .hbm, ⟨15, _⟩ => ⟨S4472x128, .f32⟩
  | .hbm, ⟨16, _⟩ => ⟨S4472x128, .f32⟩
  | .hbm, ⟨17, _⟩ => ⟨S_, .f32⟩
  | .hbm, ⟨18, _⟩ => ⟨S4472x128, .f32⟩
  | .hbm, ⟨19, _⟩ => ⟨S4472x128, .f32⟩
  | .hbm, ⟨20, _⟩ => ⟨S4472x128, .f32⟩
  | .hbm, ⟨21, _⟩ => ⟨S_, .f32⟩
  | .hbm, ⟨22, _⟩ => ⟨S4472x128, .f32⟩
  | .hbm, ⟨23, _⟩ => ⟨S4472x128, .f32⟩
  | .hbm, ⟨24, _⟩ => ⟨S_, .f32⟩
  | .hbm, ⟨25, _⟩ => ⟨S4472x128, .f32⟩
  | .hbm, ⟨26, _⟩ => ⟨S4472x128, .f32⟩
  | .hbm, ⟨27, _⟩ => ⟨S4472x128, .f32⟩
  | .hbm, ⟨28, _⟩ => ⟨S_, .f32⟩
  | .hbm, ⟨29, _⟩ => ⟨S4472x128, .f32⟩
  | .hbm, ⟨30, _⟩ => ⟨S4472x128, .f32⟩
  | .hbm, ⟨31, _⟩ => ⟨S4472x128, .f32⟩
  | .hbm, ⟨32, _⟩ => ⟨S_, .f32⟩
  | .hbm, ⟨33, _⟩ => ⟨S4472x128, .f32⟩
  | .hbm, ⟨34, _⟩ => ⟨S4472x128, .f32⟩
  | .hbm, ⟨35, _⟩ => ⟨S4472x128, .f32⟩
  | .hbm, ⟨36, _⟩ => ⟨S_, .f32⟩
  | .hbm, ⟨37, _⟩ => ⟨S4472x128, .f32⟩
  | .hbm, ⟨38, _⟩ => ⟨S4472x128, .f32⟩
  | _, _ => ⟨S4472x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Points
public import proofs.«01_k».proof.Proof.Gen.KernelIdeal.Launch
public import proofs.«01_k».proof.Proof.Gen.KernelIdeal.Skeleton
public import Idealize.ShloMosaic.Lib.Pipeline.FrameBody

@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
/-- The resource algebra of the frame kit. -/
local notation "𝕄" => MT nD τ sig Unit (Elt F) ℕ (UR sig nD τ) ℕ

/-! ## What the body computes, over whole arrays -/

/-- The three sums a key tile carries: its gradients of `k`, of `v` and of the key side's gate sum. -/
abbrev Carry (F : FTy → Type) : Type := FVec F S512x128 .f32 × FVec F S512x128 .f32 × FVec F S1x512 .f32

/-- The rows a trip of the loop over query tiles reads and writes. -/
abbrev rQ (i : grid0.Coords) (k : Fin (k0_t1_loop i).trips) : Rect S4096x128 :=
  Rect.unit (s := S4096x128) (k0_off4 i k) S512x128.size (k0_off4_inb i k)
/-- The trip's eight rows of the tiles' first gate sums. -/
abbrev rC (i : grid0.Coords) (k : Fin (k0_t1_loop i).trips) : Rect S64x128 :=
  Rect.unit (s := S64x128) (k0_off5 i k) S8x128.size (k0_off5_inb i k)
/-- The trip's rows of one lane of the log-sums and of the row sums. -/
abbrev rL (i : grid0.Coords) (k : Fin (k0_t1_loop i).trips) : Rect S4096x128 :=
  Rect.unit (s := S4096x128) (k0_off6 i k) S512x1.size (k0_off6_inb i k)
/-- The diagonal tile's rows. -/
abbrev rD (i : grid0.Coords) : Rect S4096x128 :=
  Rect.unit (s := S4096x128) (k0_off1 i) S512x128.size (k0_off1_inb i)
abbrev rDC (i : grid0.Coords) : Rect S64x128 :=
  Rect.unit (s := S64x128) (k0_off2 i) S8x128.size (k0_off2_inb i)
abbrev rDL (i : grid0.Coords) : Rect S4096x128 :=
  Rect.unit (s := S4096x128) (k0_off3 i) S512x1.size (k0_off3_inb i)
abbrev wT : Rect S512x128 := Rect.unit (s := S512x128) ![0, 0] S512x128.size inb_S512x128_S512x128_0_0
abbrev wC : Rect S1x1x512 := Rect.unit (s := S1x1x512) ![0, 0, 0] S1x1x512.size inb_S1x1x512_S1x1x512_0_0_0
abbrev wF : Rect S4096x128 := Rect.unit (s := S4096x128) ![0, 0] S4096x128.size inb_S4096x128_S4096x128_0_0

/-- What the body finds in its input blocks. -/
structure Ins (F : FTy → Type) where
  q : Vec F S4096x128 .bf16
  k : Vec F S512x128 .bf16
  v : Vec F S512x128 .bf16
  g : Vec F S4096x128 .bf16
  lse : Vec F S4096x128 .f32
  dl : Vec F S4096x128 .f32
  c0 : Vec F S64x128 .f32
  ck : Vec F S1x1x512 .f32

variable (i : grid0.Coords) (X : Ins F)

/-- A trip's `ds`, off the diagonal. -/
def tripDs (t : Fin (k0_t1_loop i).trips) : FVec F S512x512 .f32 :=
  k0_pay13 (View.ld X.k wT) (View.ld X.v wT) (k0_pay23 (View.ld X.ck wC)) (View.ld X.q (rQ i t)) (View.ld X.g (rQ i t)) (View.ld X.c0 (rC i t)) (View.ld X.lse (rL i t)) (View.ld X.dl (rL i t))
/-- The carried sums after a trip. -/
def tripAcc (t : Fin (k0_t1_loop i).trips) (a : Carry F) : Carry F :=
  (k0_pay14 (View.ld X.k wT) (View.ld X.v wT) (k0_pay23 (View.ld X.ck wC)) a.1 (View.ld X.q (rQ i t)) (View.ld X.g (rQ i t)) (View.ld X.c0 (rC i t)) (View.ld X.lse (rL i t)) (View.ld X.dl (rL i t)),
   k0_pay12 (View.ld X.k wT) (k0_pay23 (View.ld X.ck wC)) a.2.1 (View.ld X.q (rQ i t)) (View.ld X.g (rQ i t)) (View.ld X.c0 (rC i t)) (View.ld X.lse (rL i t)),
   k0_pay3 a.2.2 (tripDs i X t))
/-- The rows of `dq` a trip stores. -/
def tripQ (t : Fin (k0_t1_loop i).trips) (a : Vec F S512x128 .f32) : FVec F S512x128 .f32 :=
  k0_pay1 a (k0_pay15 (View.ld X.k wT) (View.ld X.v wT) (k0_pay23 (View.ld X.ck wC)) (View.ld X.q (rQ i t)) (View.ld X.g (rQ i t)) (View.ld X.c0 (rC i t)) (View.ld X.lse (rL i t)) (View.ld X.dl (rL i t)))
/-- The rows of the query side's gate sums a trip stores. -/
def tripC (t : Fin (k0_t1_loop i).trips) (a : Vec F S512x128 .f32) : FVec F S512x128 .f32 :=
  k0_pay2 (tripDs i X t) a
/-- The state before trip `n`: the carried sums, the query side's gate sums, the `dq` accumulator. -/
def St (s0 : Carry F × Vec F S4096x128 .f32 × Vec F S4096x128 .f32) : ℕ → Carry F × Vec F S4096x128 .f32 × Vec F S4096x128 .f32
  | 0 => s0
  | n + 1 => if h : n < (k0_t1_loop i).trips then
      (tripAcc i X ⟨n, h⟩ (St s0 n).1, (rQ i ⟨n, h⟩).overlay (St s0 n).2.1 (tripC i X ⟨n, h⟩ (View.ld (St s0 n).2.1 (rQ i ⟨n, h⟩))),
        (rQ i ⟨n, h⟩).overlay (St s0 n).2.2 (tripQ i X ⟨n, h⟩ (View.ld (St s0 n).2.2 (rQ i ⟨n, h⟩))))
    else St s0 n

/-- The diagonal tile's masked scores. -/
def diagS : FVec F S512x512 .f32 := k0_pay27 (View.ld X.k wT) (View.ld X.ck wC) (View.ld X.q (rD i)) (View.ld X.c0 (rDC i))
/-- The state the diagonal tile leaves, from what the accumulators hold. -/
def diagSt (A13 A15 : Vec F S4096x128 .f32) : Carry F × Vec F S4096x128 .f32 × Vec F S4096x128 .f32 :=
  ((k0_pay31 (View.ld X.v wT) (k0_pay24 (F := F)) (View.ld X.q (rD i)) (View.ld X.g (rD i)) (diagS i X) (View.ld X.lse (rDL i)) (View.ld X.dl (rDL i)),
    k0_pay29 (k0_pay25 (F := F)) (View.ld X.g (rD i)) (diagS i X) (View.ld X.lse (rDL i)),
    k0_pay34 (View.ld X.v wT) (k0_pay26 (F := F)) (View.ld X.g (rD i)) (diagS i X) (View.ld X.lse (rDL i)) (View.ld X.dl (rDL i))),
   (rD i).overlay A13 (k0_pay33 (View.ld X.v wT) (View.ld X.g (rD i)) (diagS i X) (View.ld X.lse (rDL i)) (View.ld X.dl (rDL i)) (View.ld A13 (rD i))),
   (rD i).overlay A15 (k0_pay32 (View.ld X.k wT) (View.ld X.v wT) (View.ld X.g (rD i)) (diagS i X) (View.ld X.lse (rDL i)) (View.ld X.dl (rDL i)) (View.ld A15 (rD i))))
/-- What a point leaves, from what the accumulators hold. -/
def ptSt (A13 A15 : Vec F S4096x128 .f32) : Carry F × Vec F S4096x128 .f32 × Vec F S4096x128 .f32 :=
  St i X (diagSt i X A13 A15) (k0_t1_loop i).trips
/-- Whether the point is a head's first. -/
abbrev isFirst (i : grid0.Coords) : Prop := Scalar.cmpi .ne (Scalar.extui (Scalar.cmpi .eq (BitVec.ofNat 32 (i 1).val) 0#32)) 0#32 = 1#1
/-- The accumulators as the point's tiles find them: zero at a head's first point. -/
def z13 (A13 : Vec F S4096x128 .f32) : Vec F S4096x128 .f32 := if isFirst i then k0_pay22 (F := F) else A13
def z15 (A15 : Vec F S4096x128 .f32) : Vec F S4096x128 .f32 := if isFirst i then k0_pay21 (F := F) else A15

/-! ## The runs -/

/-- A write of one piece reads as the piece laid over what was there. -/
theorem read_writes_one {sp : Space} {s : Shape} {e : EltTy} (v : View sig .tc sp s e) (f : v.ty.Contents (Elt F)) (r : Rect s) (w : r.shape.Idx → Elt F e) (L : List (View.Piece (Elt F) s e)) :
    v.read (Elt F) (v.writes (Elt F) f (⟨r, w⟩ :: L)) = r.overlay (v.read (Elt F) (v.writes (Elt F) f L)) w := by
  funext y
  by_cases hy : y ∈ r.set
  · obtain ⟨x, rfl⟩ : ∃ x, r.emb x = y := r.exists_idx_of_mem hy
    rw [View.read_writes_cons_emb, Rect.overlay_emb]
  · rw [View.read_writes_cons_miss _ _ _ _ _ hy, Rect.overlay_of_not_mem _ _ _ hy]

/-- A rectangle that is the whole array, laid over anything, is the piece. -/
theorem overlay_wF {α : Type} (A w : S4096x128.Idx → α) : wF.overlay A w = w := by
  have h : ∀ x : S4096x128.Idx, wF.emb x = x := fun x => by
    funext a; apply Fin.ext
    match a with
    | ⟨0, _⟩ => exact (Nat.zero_add _).trans (Nat.one_mul _)
    | ⟨1, _⟩ => exact (Nat.zero_add _).trans (Nat.one_mul _)
  funext y
  have := Rect.overlay_emb wF A w y
  rwa [h y] at this
theorem overlay_wT {α : Type} (A w : S512x128.Idx → α) : wT.overlay A w = w := by
  have h : ∀ x : S512x128.Idx, wT.emb x = x := fun x => by
    funext a; apply Fin.ext
    match a with
    | ⟨0, _⟩ => exact (Nat.zero_add _).trans (Nat.one_mul _)
    | ⟨1, _⟩ => exact (Nat.zero_add _).trans (Nat.one_mul _)
  funext y
  have := Rect.overlay_emb wT A w y
  rwa [h y] at this
theorem overlay_wC {α : Type} (A w : S1x1x512.Idx → α) : wC.overlay A w = w := by
  have h : ∀ x : S1x1x512.Idx, wC.emb x = x := fun x => by
    funext a; apply Fin.ext
    match a with
    | ⟨0, _⟩ => exact (Nat.zero_add _).trans (Nat.one_mul _)
    | ⟨1, _⟩ => exact (Nat.zero_add _).trans (Nat.one_mul _)
    | ⟨2, _⟩ => exact (Nat.zero_add _).trans (Nat.one_mul _)
  funext y
  have := Rect.overlay_emb wC A w y
  rwa [h y] at this
/-- A program run before another, with what the other needs kept aside. -/
theorem run_bind {α β : Type} {c : Dev nD} {p : Prog (TpuEff nD τ sig (Elt F) Λ₀ .tc) α} {kk : α → Prog (TpuEff nD τ sig (Elt F) Λ₀ .tc) β}
    {P R : sProp 𝕄} {Ψ : α → sProp 𝕄} {Q : β → sProp 𝕄}
    (h : P ⊢ wp frame (wpE (defs₀ (F := F)) Variants.none (c : Thread nD τ) none) Set.univ p Ψ)
    (hk : ∀ a, iprop(Ψ a ∗ R) ⊢ wp frame (wpE (defs₀ (F := F)) Variants.none (c : Thread nD τ) none) Set.univ (kk a) Q) :
    iprop(P ∗ R) ⊢ wp frame (wpE (defs₀ (F := F)) Variants.none (c : Thread nD τ) none) Set.univ (p >>= kk) Q := by
  rw [wp_bind]
  exact (sep_mono_left h).trans ((wp_frame_r _ _ _).trans (wp_mono _ _ _ hk))

/-- The input blocks, each whole at what it holds. -/
abbrev Held (c : Dev nD) (X : Ins F) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S64x128 .f32) (harg8 : arg8.IsWhole) (arg9 : Memref sig .tc .vmem S1x1x512 .f32) (harg9 : arg9.IsWhole) : sProp 𝕄 :=
  iprop(owns (c : Thread nD τ) arg2 fullShare X.q ∗ owns (c : Thread nD τ) arg3 fullShare X.k ∗ owns (c : Thread nD τ) arg4 fullShare X.v ∗ owns (c : Thread nD τ) arg5 fullShare X.g ∗ owns (c : Thread nD τ) arg6 fullShare X.lse ∗ owns (c : Thread nD τ) arg7 fullShare X.dl ∗ owns (c : Thread nD τ) arg8 fullShare X.c0 ∗ owns (c : Thread nD τ) arg9 fullShare X.ck)

set_option maxHeartbeats 1000000 in
/-- One trip of the loop over query tiles. -/
theorem trip_run (c : Dev nD) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S64x128 .f32) (harg8 : arg8.IsWhole) (arg9 : Memref sig .tc .vmem S1x1x512 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole) (arg14 : Memref sig .tc .vmem S1x1x512 .f32) (harg14 : arg14.IsWhole) (arg15 : Memref sig .tc .vmem S4096x128 .f32) (harg15 : arg15.IsWhole) (v79 : BitVec 32) (t : Fin (k0_t1_loop i).trips) (a : Carry F) (A13 A15 : Vec F S4096x128 .f32) :
    iprop(Held c X arg2 harg2 arg3 harg3 arg4 harg4 arg5 harg5 arg6 harg6 arg7 harg7 arg8 harg8 arg9 harg9 ∗ owns (c : Thread nD τ) arg13 fullShare A13 ∗ owns (c : Thread nD τ) arg15 fullShare A15)
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 (View.ld X.k wT) (View.ld X.v wT) (k0_pay23 (View.ld X.ck wC)) v79 t a)
        (fun y => iprop(⌜y = tripAcc i X t a⌝ ∗ Held c X arg2 harg2 arg3 harg3 arg4 harg4 arg5 harg5 arg6 harg6 arg7 harg7 arg8 harg8 arg9 harg9 ∗ owns (c : Thread nD τ) arg13 fullShare ((rQ i t).overlay A13 (tripC i X t (View.ld A13 (rQ i t)))) ∗ owns (c : Thread nD τ) arg15 fullShare ((rQ i t).overlay A15 (tripQ i X t (View.ld A15 (rQ i t)))))) := by
  obtain ⟨Xq, Xk, Xv, Xg, Xl, Xd, Xc, Xck⟩ := X
  dsimp only [Held]
  unfold owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩⟩, ⟨%f13, %h13, H13⟩, ⟨%f15, %h15, H15⟩⟩
  subst h2 h3 h4 h5 h6 h7 h8 h9 h13 h15
  unfold k0_t1_body
  sl_exec
  sl_step
  isplitr
  · ipureintro; rfl
  isplitl [H2 H3 H4 H5 H6 H7 H8 H9]
  · isplitl [H2]
    · iexists f2; isplitr
      · ipureintro; rfl
      · iexact H2
    isplitl [H3]
    · iexists f3; isplitr
      · ipureintro; rfl
      · iexact H3
    isplitl [H4]
    · iexists f4; isplitr
      · ipureintro; rfl
      · iexact H4
    isplitl [H5]
    · iexists f5; isplitr
      · ipureintro; rfl
      · iexact H5
    isplitl [H6]
    · iexists f6; isplitr
      · ipureintro; rfl
      · iexact H6
    isplitl [H7]
    · iexists f7; isplitr
      · ipureintro; rfl
      · iexact H7
    isplitl [H8]
    · iexists f8; isplitr
      · ipureintro; rfl
      · iexact H8
    iexists f9; isplitr
    · ipureintro; rfl
    · iexact H9
  isplitl [H13]
  · iexists _; isplitr; swap
    · iexact H13
    ipureintro; rw [read_writes_one]; rfl
  iexists _; isplitr; swap
  · iexact H15
  ipureintro; rw [read_writes_one]; rfl

set_option maxHeartbeats 1000000 in
/-- The body's first part: the accumulators cleared at a head's first point, and the diagonal tile's loads. -/
theorem part3_run (c : Dev nD) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S64x128 .f32) (harg8 : arg8.IsWhole) (arg9 : Memref sig .tc .vmem S1x1x512 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole) (arg14 : Memref sig .tc .vmem S1x1x512 .f32) (harg14 : arg14.IsWhole) (arg15 : Memref sig .tc .vmem S4096x128 .f32) (harg15 : arg15.IsWhole) (A13 A15 : Vec F S4096x128 .f32) :
    iprop(Held c X arg2 harg2 arg3 harg3 arg4 harg4 arg5 harg5 arg6 harg6 arg7 harg7 arg8 harg8 arg9 harg9 ∗ owns (c : Thread nD τ) arg13 fullShare A13 ∗ owns (c : Thread nD τ) arg15 fullShare A15)
      ⊢ wp frame (wpE (defs₀ (F := F)) Variants.none (c : Thread nD τ) none) Set.univ (k0_part3 (F := F) i arg2 harg2 arg3 harg3 arg4 harg4 arg5 harg5 arg6 harg6 arg7 harg7 arg8 harg8 arg9 harg9 arg10 harg10 arg11 harg11 arg12 harg12 arg13 harg13 arg14 harg14 arg15 harg15)
        (fun y => iprop(⌜y = ⟨BitVec.ofNat 32 (i 1).val, View.ld X.k wT, View.ld X.v wT, k0_pay23 (View.ld X.ck wC), k0_pay24, k0_pay25, k0_pay26, Scalar.muli (BitVec.ofNat 32 (i 1).val) 512#32, View.ld X.q (rD i), View.ld X.g (rD i), diagS i X, View.ld X.lse (rDL i)⟩⌝
          ∗ Held c X arg2 harg2 arg3 harg3 arg4 harg4 arg5 harg5 arg6 harg6 arg7 harg7 arg8 harg8 arg9 harg9 ∗ owns (c : Thread nD τ) arg13 fullShare (z13 i A13) ∗ owns (c : Thread nD τ) arg15 fullShare (z15 i A15))) := by
  obtain ⟨Xq, Xk, Xv, Xg, Xl, Xd, Xc, Xck⟩ := X
  dsimp only [Held]
  unfold owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩⟩, ⟨%f13, %h13, H13⟩, ⟨%f15, %h15, H15⟩⟩
  subst h2 h3 h4 h5 h6 h7 h8 h9 h13 h15
  rw [k0_part3_eq_skeleton]
  unfold k0_part3_skel
  unfold z13 z15
  rcases Classical.em (isFirst i) with hi | hi
  · rw [if_pos hi, if_pos hi]
    sl_exec
    sl_step
    isplitr
    · ipureintro; rfl
    isplitl [H2 H3 H4 H5 H6 H7 H8 H9]
    · isplitl [H2]
      · iexists f2; isplitr
        · ipureintro; rfl
        · iexact H2
      isplitl [H3]
      · iexists f3; isplitr
        · ipureintro; rfl
        · iexact H3
      isplitl [H4]
      · iexists f4; isplitr
        · ipureintro; rfl
        · iexact H4
      isplitl [H5]
      · iexists f5; isplitr
        · ipureintro; rfl
        · iexact H5
      isplitl [H6]
      · iexists f6; isplitr
        · ipureintro; rfl
        · iexact H6
      isplitl [H7]
      · iexists f7; isplitr
        · ipureintro; rfl
        · iexact H7
      isplitl [H8]
      · iexists f8; isplitr
        · ipureintro; rfl
        · iexact H8
      iexists f9; isplitr
      · ipureintro; rfl
      · iexact H9
    isplitl [H13]
    · iexists _; isplitr; swap
      · iexact H13
      ipureintro; rw [read_writes_one, overlay_wF]
    iexists _; isplitr; swap
    · iexact H15
    ipureintro; rw [read_writes_one, overlay_wF]
  · rw [if_neg hi, if_neg hi]
    sl_exec
    sl_step
    isplitr
    · ipureintro; rfl
    isplitl [H2 H3 H4 H5 H6 H7 H8 H9]
    · isplitl [H2]
      · iexists f2; isplitr
        · ipureintro; rfl
        · iexact H2
      isplitl [H3]
      · iexists f3; isplitr
        · ipureintro; rfl
        · iexact H3
      isplitl [H4]
      · iexists f4; isplitr
        · ipureintro; rfl
        · iexact H4
      isplitl [H5]
      · iexists f5; isplitr
        · ipureintro; rfl
        · iexact H5
      isplitl [H6]
      · iexists f6; isplitr
        · ipureintro; rfl
        · iexact H6
      isplitl [H7]
      · iexists f7; isplitr
        · ipureintro; rfl
        · iexact H7
      isplitl [H8]
      · iexists f8; isplitr
        · ipureintro; rfl
        · iexact H8
      iexists f9; isplitr
      · ipureintro; rfl
      · iexact H9
    isplitl [H13]
    · iexists _; isplitr; swap
      · iexact H13
      ipureintro; rfl
    iexists _; isplitr; swap
    · iexact H15
    ipureintro; rfl

set_option maxHeartbeats 1000000 in
/-- The body's second part: the diagonal tile. -/
theorem part4_run (c : Dev nD) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S64x128 .f32) (harg8 : arg8.IsWhole) (arg9 : Memref sig .tc .vmem S1x1x512 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole) (arg14 : Memref sig .tc .vmem S1x1x512 .f32) (harg14 : arg14.IsWhole) (arg15 : Memref sig .tc .vmem S4096x128 .f32) (harg15 : arg15.IsWhole) (v1 v2 : BitVec 32) (A13 A15 : Vec F S4096x128 .f32) :
    iprop(Held c X arg2 harg2 arg3 harg3 arg4 harg4 arg5 harg5 arg6 harg6 arg7 harg7 arg8 harg8 arg9 harg9 ∗ owns (c : Thread nD τ) arg13 fullShare A13 ∗ owns (c : Thread nD τ) arg15 fullShare A15)
      ⊢ wp frame (wpE (defs₀ (F := F)) Variants.none (c : Thread nD τ) none) Set.univ (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 v1 (View.ld X.k wT) (View.ld X.v wT) (k0_pay24 (F := F)) (k0_pay25 (F := F)) (k0_pay26 (F := F)) v2 (View.ld X.q (rD i)) (View.ld X.g (rD i)) (diagS i X) (View.ld X.lse (rDL i)))
        (fun y => iprop(⌜y = ⟨(diagSt i X A13 A15).1.2.1, (diagSt i X A13 A15).1.1, (diagSt i X A13 A15).1.2.2, Scalar.addi v1 1#32⟩⌝
          ∗ Held c X arg2 harg2 arg3 harg3 arg4 harg4 arg5 harg5 arg6 harg6 arg7 harg7 arg8 harg8 arg9 harg9 ∗ owns (c : Thread nD τ) arg13 fullShare (diagSt i X A13 A15).2.1 ∗ owns (c : Thread nD τ) arg15 fullShare (diagSt i X A13 A15).2.2)) := by
  obtain ⟨Xq, Xk, Xv, Xg, Xl, Xd, Xc, Xck⟩ := X
  dsimp only [Held]
  unfold owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩⟩, ⟨%f13, %h13, H13⟩, ⟨%f15, %h15, H15⟩⟩
  subst h2 h3 h4 h5 h6 h7 h8 h9 h13 h15
  rw [k0_part4_eq_skeleton]
  unfold k0_part4_skel
  sl_exec
  sl_step
  isplitr
  · ipureintro; rfl
  isplitl [H2 H3 H4 H5 H6 H7 H8 H9]
  · isplitl [H2]
    · iexists f2; isplitr
      · ipureintro; rfl
      · iexact H2
    isplitl [H3]
    · iexists f3; isplitr
      · ipureintro; rfl
      · iexact H3
    isplitl [H4]
    · iexists f4; isplitr
      · ipureintro; rfl
      · iexact H4
    isplitl [H5]
    · iexists f5; isplitr
      · ipureintro; rfl
      · iexact H5
    isplitl [H6]
    · iexists f6; isplitr
      · ipureintro; rfl
      · iexact H6
    isplitl [H7]
    · iexists f7; isplitr
      · ipureintro; rfl
      · iexact H7
    isplitl [H8]
    · iexists f8; isplitr
      · ipureintro; rfl
      · iexact H8
    iexists f9; isplitr
    · ipureintro; rfl
    · iexact H9
  isplitl [H13]
  · iexists _; isplitr; swap
    · iexact H13
    ipureintro; rw [read_writes_one]; rfl
  iexists _; isplitr; swap
  · iexact H15
  ipureintro; rw [read_writes_one]; rfl

/-- The loop over query tiles. -/
theorem loop_run (c : Dev nD) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S64x128 .f32) (harg8 : arg8.IsWhole) (arg9 : Memref sig .tc .vmem S1x1x512 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole) (arg14 : Memref sig .tc .vmem S1x1x512 .f32) (harg14 : arg14.IsWhole) (arg15 : Memref sig .tc .vmem S4096x128 .f32) (harg15 : arg15.IsWhole) (v79 : BitVec 32) (s0 : Carry F × Vec F S4096x128 .f32 × Vec F S4096x128 .f32) :
    iprop(Held c X arg2 harg2 arg3 harg3 arg4 harg4 arg5 harg5 arg6 harg6 arg7 harg7 arg8 harg8 arg9 harg9 ∗ owns (c : Thread nD τ) arg13 fullShare s0.2.1 ∗ owns (c : Thread nD τ) arg15 fullShare s0.2.2)
      ⊢ wp frame (wpE (defs₀ (F := F)) Variants.none (c : Thread nD τ) none) Set.univ (Scf.Loop.for (k0_t1_loop i) (k0_t1_ok i) s0.1 (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 (View.ld X.k wT) (View.ld X.v wT) (k0_pay23 (View.ld X.ck wC)) v79))
        (fun y => iprop(⌜y = (St i X s0 (k0_t1_loop i).trips).1⌝ ∗ Held c X arg2 harg2 arg3 harg3 arg4 harg4 arg5 harg5 arg6 harg6 arg7 harg7 arg8 harg8 arg9 harg9 ∗ owns (c : Thread nD τ) arg13 fullShare (St i X s0 (k0_t1_loop i).trips).2.1 ∗ owns (c : Thread nD τ) arg15 fullShare (St i X s0 (k0_t1_loop i).trips).2.2)) := by
  refine BIBase.Entails.trans ?_ (Scf.wp_for frame (wpE (defs₀ (F := F)) Variants.none (c : Thread nD τ) none) Set.univ _ _ _ (k0_t1_ok i) s0.1 _
    (fun n acc => iprop(⌜acc = (St i X s0 n).1⌝ ∗ Held c X arg2 harg2 arg3 harg3 arg4 harg4 arg5 harg5 arg6 harg6 arg7 harg7 arg8 harg8 arg9 harg9 ∗ owns (c : Thread nD τ) arg13 fullShare (St i X s0 n).2.1 ∗ owns (c : Thread nD τ) arg15 fullShare (St i X s0 n).2.2)) ?_)
  · iintro H
    isplitl [H]
    · isplitr
      · ipureintro; rfl
      iexact H
    iintro %acc H; iexact H
  · intro t acc
    iintro ⟨%hacc, H⟩
    subst hacc
    have hst : St i X s0 (t.val + 1) = _ := dif_pos t.isLt
    rw [hst]
    iapply (trip_run i X c arg2 harg2 arg3 harg3 arg4 harg4 arg5 harg5 arg6 harg6 arg7 harg7 arg8 harg8 arg9 harg9 arg10 harg10 arg11 harg11 arg12 harg12 arg13 harg13 arg14 harg14 arg15 harg15 v79 t (St i X s0 t.val).1 (St i X s0 t.val).2.1 (St i X s0 t.val).2.2)
    iexact H

/-- The remainder loop has no trips. -/
theorem t2_trips : (k0_t2_loop i).trips = 0 := Nat.le_zero.1 (k0_t2_abs i).2.1
/-- The remainder loop gives back its initial values. -/
theorem loop2_run (c : Dev nD) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S64x128 .f32) (harg8 : arg8.IsWhole) (arg9 : Memref sig .tc .vmem S1x1x512 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole) (arg14 : Memref sig .tc .vmem S1x1x512 .f32) (harg14 : arg14.IsWhole) (arg15 : Memref sig .tc .vmem S4096x128 .f32) (harg15 : arg15.IsWhole) (v3 v4 : Vec F S512x128 .bf16) (v6 : FVec F S1x512 .f32) (v84 : BitVec 32) (a : Carry F) (P : sProp 𝕄) :
    P ⊢ wp frame (wpE (defs₀ (F := F)) Variants.none (c : Thread nD τ) none) Set.univ (Scf.Loop.for (k0_t2_loop i) (k0_t2_ok i) a (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 v3 v4 v6 v84))
        (fun y => iprop(⌜y = a⌝ ∗ P)) := by
  refine BIBase.Entails.trans ?_ (Scf.wp_for frame (wpE (defs₀ (F := F)) Variants.none (c : Thread nD τ) none) Set.univ _ _ _ (k0_t2_ok i) a _
    (fun n acc => iprop(⌜acc = a⌝ ∗ P)) ?_)
  · iintro H
    isplitl [H]
    · isplitr
      · ipureintro; rfl
      iexact H
    iintro %acc H; iexact H
  · intro t acc
    exact absurd (lt_of_lt_of_le t.isLt (k0_t2_abs i).2.1) (Nat.not_lt_zero _)

set_option maxHeartbeats 1000000 in
/-- The body: what a point leaves in each buffer. -/
theorem body_run (c : Dev nD) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S64x128 .f32) (harg8 : arg8.IsWhole) (arg9 : Memref sig .tc .vmem S1x1x512 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole) (arg14 : Memref sig .tc .vmem S1x1x512 .f32) (harg14 : arg14.IsWhole) (arg15 : Memref sig .tc .vmem S4096x128 .f32) (harg15 : arg15.IsWhole) (A13 A15 : Vec F S4096x128 .f32) (A10 : Vec F S4096x128 .bf16) (A11 A12 : Vec F S512x128 .bf16) (A14 : Vec F S1x1x512 .f32) :
    iprop((Held c X arg2 harg2 arg3 harg3 arg4 harg4 arg5 harg5 arg6 harg6 arg7 harg7 arg8 harg8 arg9 harg9 ∗ owns (c : Thread nD τ) arg13 fullShare A13 ∗ owns (c : Thread nD τ) arg15 fullShare A15) ∗ (owns (c : Thread nD τ) arg10 fullShare A10 ∗ owns (c : Thread nD τ) arg11 fullShare A11 ∗ owns (c : Thread nD τ) arg12 fullShare A12 ∗ owns (c : Thread nD τ) arg14 fullShare A14))
      ⊢ wp frame (wpE (defs₀ (F := F)) Variants.none (c : Thread nD τ) none) Set.univ (cc0_fox_attn_bwd (F := F) i arg2 harg2 arg3 harg3 arg4 harg4 arg5 harg5 arg6 harg6 arg7 harg7 arg8 harg8 arg9 harg9 arg10 harg10 arg11 harg11 arg12 harg12 arg13 harg13 arg14 harg14 arg15 harg15)
        (fun _ => iprop(Held c X arg2 harg2 arg3 harg3 arg4 harg4 arg5 harg5 arg6 harg6 arg7 harg7 arg8 harg8 arg9 harg9 ∗ owns (c : Thread nD τ) arg10 fullShare (if k0_cond2 i = 1#1 then k0_pay10 (View.ld (ptSt i X (z13 i A13) (z15 i A15)).2.2 wF) else A10) ∗ owns (c : Thread nD τ) arg11 fullShare (k0_pay7 (ptSt i X (z13 i A13) (z15 i A15)).1.1) ∗ owns (c : Thread nD τ) arg12 fullShare (k0_pay8 (ptSt i X (z13 i A13) (z15 i A15)).1.2.1)
          ∗ owns (c : Thread nD τ) arg13 fullShare (ptSt i X (z13 i A13) (z15 i A15)).2.1 ∗ owns (c : Thread nD τ) arg14 fullShare (k0_pay9 (ptSt i X (z13 i A13) (z15 i A15)).1.2.2) ∗ owns (c : Thread nD τ) arg15 fullShare (ptSt i X (z13 i A13) (z15 i A15)).2.2)) := by
  rw [cc0_fox_attn_bwd_eq_skeleton]
  unfold cc0_fox_attn_bwd_skel
  refine run_bind (part3_run i X c arg2 harg2 arg3 harg3 arg4 harg4 arg5 harg5 arg6 harg6 arg7 harg7 arg8 harg8 arg9 harg9 arg10 harg10 arg11 harg11 arg12 harg12 arg13 harg13 arg14 harg14 arg15 harg15 A13 A15) fun y => ?_
  iintro ⟨⟨%hy, HI⟩, HO⟩
  subst hy
  dsimp only
  iapply (run_bind (part4_run i X c arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) (Scalar.muli (BitVec.ofNat 32 (i 1).val) 512#32) (z13 i A13) (z15 i A15)) ?_)
  rotate_left
  · isplitl [HI]
    · iexact HI
    · iexact HO
  intro y
  iintro ⟨⟨%hy, HI⟩, HO⟩
  subst hy
  dsimp only
  iapply (run_bind (loop_run i X c arg2 harg2 arg3 harg3 arg4 harg4 arg5 harg5 arg6 harg6 arg7 harg7 arg8 harg8 arg9 harg9 arg10 harg10 arg11 harg11 arg12 harg12 arg13 harg13 arg14 harg14 arg15 harg15 _ (diagSt i X (z13 i A13) (z15 i A15))) ?_)
  rotate_left
  · isplitl [HI]
    · iexact HI
    · iexact HO
  intro y
  iintro ⟨⟨%hy, HI⟩, HO⟩
  subst hy
  dsimp only
  iapply (run_bind (loop2_run i c arg2 harg2 arg3 harg3 arg4 harg4 arg5 harg5 arg6 harg6 arg7 harg7 arg8 harg8 arg9 harg9 arg10 harg10 arg11 harg11 arg12 harg12 arg13 harg13 arg14 harg14 arg15 harg15 _ _ _ _ (ptSt i X (z13 i A13) (z15 i A15)).1 _) ?_)
  rotate_left
  · isplitl [HI]
    · iexact HI
    · iexact HO
  intro y
  unfold owns
  iintro ⟨⟨%hy, ⟨HI, ⟨%f13, %h13, H13⟩, ⟨%f15, %h15, H15⟩⟩⟩, ⟨⟨%f10, %h10, H10⟩, ⟨%f11, %h11, H11⟩, ⟨%f12, %h12, H12⟩, ⟨%f14, %h14, H14⟩⟩⟩
  subst hy
  dsimp only
  have hp : St i X (diagSt i X (z13 i A13) (z15 i A15)) (k0_t1_loop i).trips = (ptSt i X (z13 i A13) (z15 i A15)) := rfl
  rw [hp] at h13 h15
  generalize (ptSt i X (z13 i A13) (z15 i A15)) = st at *
  rcases Classical.em (k0_cond2 i = 1#1) with hi | hi
  · rw [if_pos hi]
    sl_exec
    sl_step
    isplitl [HI]
    · iexact HI
    isplitl [H10]
    · iexists _; isplitr; swap
      · iexact H10
      ipureintro; rw [read_writes_one, overlay_wF, ← h15]; rfl
    isplitl [H11]
    · iexists _; isplitr; swap
      · iexact H11
      ipureintro; rw [read_writes_one, overlay_wT]
    isplitl [H12]
    · iexists _; isplitr; swap
      · iexact H12
      ipureintro; rw [read_writes_one, overlay_wT]
    isplitl [H13]
    · iexists f13; isplitr
      · ipureintro; exact h13
      iexact H13
    isplitl [H14]
    · iexists _; isplitr; swap
      · iexact H14
      ipureintro; rw [read_writes_one, overlay_wC]
    iexists f15; isplitr
    · ipureintro; exact h15
    iexact H15
  · rw [if_neg hi]
    sl_exec
    sl_step
    isplitl [HI]
    · iexact HI
    isplitl [H10]
    · iexists f10; isplitr
      · ipureintro; exact h10
      iexact H10
    isplitl [H11]
    · iexists _; isplitr; swap
      · iexact H11
      ipureintro; rw [read_writes_one, overlay_wT]
    isplitl [H12]
    · iexists _; isplitr; swap
      · iexact H12
      ipureintro; rw [read_writes_one, overlay_wT]
    isplitl [H13]
    · iexists f13; isplitr
      · ipureintro; exact h13
      iexact H13
    isplitl [H14]
    · iexists _; isplitr; swap
      · iexact H14
      ipureintro; rw [read_writes_one, overlay_wC]
    iexists f15; isplitr
    · ipureintro; exact h15
    iexact H15

end Cert.KernelIdeal.Hand

end
-- ==== Proof.Run.lean ====
module

public import proofs.«01_k».proof.Proof.Body

@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
/-- The resource algebra of the frame kit. -/
local notation "𝕄" => MT nD τ sig Unit (Elt F) ℕ (UR sig nD τ) ℕ

variable (m : (ℓ : Loc nD τ sig) → Buf (Elt F) ℓ) (ρ : Dev nD → PrngReg)

/-! ## The states over the points -/

/-- What the body finds in its input blocks at point `t`. -/
def insAt (c : Dev nD) (t : Fin cfg0.N) : Ins F :=
  ⟨iblk m c 0 t, iblk m c 1 t, iblk m c 2 t, iblk m c 3 t, iblk m c 4 t, iblk m c 5 t, iblk m c 6 t, iblk m c 7 t⟩
/-- What the two accumulators hold before point `n` (the query side's gate sums, the gradient of `q`). -/
def accAt (c : Dev nD) : ℕ → Vec F S4096x128 .f32 × Vec F S4096x128 .f32
  | 0 => (k0_pay22 (F := F), k0_pay21 (F := F))
  | n + 1 => if h : n < cfg0.N then
      (ptSt (grid0.coords ⟨n, h⟩) (insAt m c ⟨n, h⟩) (z13 (grid0.coords ⟨n, h⟩) (accAt c n).1) (z15 (grid0.coords ⟨n, h⟩) (accAt c n).2)).2
    else accAt c n
/-- The state point `t` leaves. -/
def stAt (c : Dev nD) (t : Fin cfg0.N) : Carry F × Vec F S4096x128 .f32 × Vec F S4096x128 .f32 :=
  ptSt (grid0.coords t) (insAt m c t) (z13 (grid0.coords t) (accAt m c t.val).1) (z15 (grid0.coords t) (accAt m c t.val).2)
theorem accAt_succ (c : Dev nD) (t : Fin cfg0.N) : accAt m c (t.val + 1) = (stAt m c t).2 := dif_pos t.isLt

theorem isFirst_iff : ∀ t : Fin cfg0.N, isFirst (grid0.coords t) ↔ t.val % 8 = 0 :=
  (by decide +kernel : ∀ t : Fin grid0.N, isFirst (grid0.coords t) ↔ t.val % 8 = 0)
theorem isLast_iff : ∀ t : Fin cfg0.N, k0_cond2 (grid0.coords t) = 1#1 ↔ t.val % 8 = 7 :=
  (by decide +kernel : ∀ t : Fin grid0.N, k0_cond2 (grid0.coords t) = 1#1 ↔ t.val % 8 = 7)

/-- Before point `n`: the accumulator of `dq` at what the points before left, except that a head's first point may find
    anything; and the core's random-number register. -/
def PhiAt (c : Dev nD) (n : ℕ) : sProp 𝕄 :=
  iprop((∃ A, ⌜n % 8 ≠ 0 → A = (accAt m c n).2⌝ ∗ owns (c : Thread nD τ) (Memref.whole cc0_scratch0) fullShare A) ∗ ∃ r, prngReg c r)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay10 (View.ld (stAt m c t).2.2 wF)
    | ⟨9, _⟩ => k0_pay7 (stAt m c t).1.1
    | ⟨10, _⟩ => k0_pay8 (stAt m c t).1.2.1
    | ⟨11, _⟩ => (stAt m c t).2.1
    | ⟨12, _⟩ => k0_pay9 (stAt m c t).1.2.2
  Φ t := PhiAt m c t.val
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = k0_pay10 (View.ld (stAt m c t).2.2 wF) := by dsimp only [dats]
theorem after0_9 (c : Dev nD) (t : Fin cfg0.N) : (dats m 0 c).after 9 t = k0_pay7 (stAt m c t).1.1 := by dsimp only [dats]
theorem after0_10 (c : Dev nD) (t : Fin cfg0.N) : (dats m 0 c).after 10 t = k0_pay8 (stAt m c t).1.2.1 := by dsimp only [dats]
theorem after0_11 (c : Dev nD) (t : Fin cfg0.N) : (dats m 0 c).after 11 t = (stAt m c t).2.1 := by dsimp only [dats]
theorem after0_12 (c : Dev nD) (t : Fin cfg0.N) : (dats m 0 c).after 12 t = k0_pay9 (stAt m c t).1.2.2 := by dsimp only [dats]

/-- The query side's gate sums, at a point that is not a head's first, are what the point before left. -/
theorem before0_11 (c : Dev nD) (t : Fin cfg0.N) (ht : t.val % 8 ≠ 0) (d) : (dats m 0 c).before 11 t d = (accAt m c t.val).1 := by
  have h0 : t.val ≠ 0 := fun h => ht (by rw [h])
  have hf : (cfg0.win 11).flush ⟨t.val - 1, Nat.lt_of_le_of_lt (Nat.sub_le _ _) t.isLt⟩ = false := by
    rw [Bool.eq_false_iff]; intro h
    have := (flush0_11 _).1 h
    dsimp only at this; omega
  rw [Pipeline.Dat.before_out_kept (dats m 0 c) 11 rfl t h0 hf (fun _ => rfl) (fun _ _ => rfl) d, after0_11]
  have := accAt_succ m c ⟨t.val - 1, Nat.lt_of_le_of_lt (Nat.sub_le _ _) t.isLt⟩
  rw [← this]
  dsimp only
  rw [Nat.sub_add_cancel (Nat.pos_of_ne_zero h0)]

/-- The point's state from what its buffers hold. -/
theorem stAt_of (c : Dev nD) (t : Fin cfg0.N) (A13 A15 : Vec F S4096x128 .f32)
    (h13 : t.val % 8 ≠ 0 → A13 = (accAt m c t.val).1) (h15 : t.val % 8 ≠ 0 → A15 = (accAt m c t.val).2) :
    ptSt (grid0.coords t) (insAt m c t) (z13 (grid0.coords t) A13) (z15 (grid0.coords t) A15) = stAt m c t := by
  unfold stAt
  rcases Classical.em (isFirst (grid0.coords t)) with h | h
  · unfold z13 z15; rw [if_pos h, if_pos h, if_pos h, if_pos h]
  · have h' := fun h0 => h ((isFirst_iff t).2 h0)
    rw [h13 h', h15 h']

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (match cfg0.idle 8 (cfg0.grid.coords t) with
      | true => match (cfg0.win 8).flush t with
        | false => iprop(∃ d, owns (c : Thread nD τ) (st0_8 t) fullShare ((dats m 0 c).before 8 t d))
        | true => owns (c : Thread nD τ) (st0_8 t) fullShare ((dats m 0 c).after 8 t)
      | false => owns (c : Thread nD τ) (st0_8 t) fullShare ((dats m 0 c).after 8 t))
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 1000000 in
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = PhiAt m c (t.val + 1) from rfl, show (dats m 0 c).Φ t.castSucc = PhiAt m c t.val from rfl]
  unfold Dat.owesAt Pipeline.owesWithin
  rw [show (dats m 0 c).owed t.castSucc = 0 from rfl, show (dats m 0 c).owed t.succ = 0 from rfl]
  simp only [before0_0, after0_0, before0_1, after0_1, before0_2, after0_2, before0_3, after0_3, before0_4, after0_4, before0_5, after0_5, before0_6, after0_6, before0_7, after0_7, after0_8, after0_9, after0_10, after0_11, after0_12]
  unfold PhiAt
  iintro ⟨⟨⟨%A15, %h15, HS⟩, Hp⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have h13 : t.val % 8 ≠ 0 → (dats m 0 c).before 11 t d11 = (accAt m c t.val).1 := fun h => before0_11 m c t h d11
  have hst := stAt_of m c t _ A15 h13 h15
  generalize hA13 : (dats m 0 c).before 11 t d11 = A13 at *
  have hrun := body_run (grid0.coords t) (insAt m c t) c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) A13 A15 ((dats m 0 c).before 8 t d8) ((dats m 0 c).before 9 t d9) ((dats m 0 c).before 10 t d10) ((dats m 0 c).before 12 t d12)
  rw [hst] at hrun
  iapply (wp_wand_r frame (wpE (defs₀ (F := F)) Variants.none (c : Thread nD τ) none) Set.univ)
  isplitl [HS H0 H1 H2 H3 H4 H5 H6 H7 H8 H9 H10 H11 H12]
  · iapply hrun
    isplitl [HS H11 H0 H1 H2 H3 H4 H5 H6 H7]
    · isplitl [H0 H1 H2 H3 H4 H5 H6 H7]
      · unfold Held
        isplitl [H0]
        · iexact H0
        isplitl [H1]
        · iexact H1
        isplitl [H2]
        · iexact H2
        isplitl [H3]
        · iexact H3
        isplitl [H4]
        · iexact H4
        isplitl [H5]
        · iexact H5
        isplitl [H6]
        · iexact H6
        iexact H7
      isplitl [H11]
      · iexact H11
      · iexact HS
    isplitl [H8]
    · iexact H8
    isplitl [H9]
    · iexact H9
    isplitl [H10]
    · iexact H10
    iexact H12
  unfold Held
  iintro %u ⟨⟨H0, H1, H2, H3, H4, H5, H6, H7⟩, H8, H9, H10, H11, H12, HS⟩
  isplitl [HS Hp]
  · isplitl [HS]
    · iexists _; isplitr; swap
      · iexact HS
      ipureintro; intro _; rw [accAt_succ]
    · iexact Hp
  isplitl [HW]
  · iexists W; isplitr
    · ipureintro; exact fun _ _ => Or.inl trivial
    iexact HW
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · rcases Classical.em (k0_cond2 (grid0.coords t) = 1#1) with hl | hl
    · have hi : idle0 8 (grid0.coords t) = false := by
        show (!(k0_cond2 (grid0.coords t) == 1#1)) = false
        rw [hl]; rfl
      rw [hi, if_pos hl]
      dsimp only
      iexact H8
    · have hi : idle0 8 (grid0.coords t) = true := by
        show (!(k0_cond2 (grid0.coords t) == 1#1)) = true
        rw [beq_eq_false_iff_ne.2 hl]; rfl
      have hf : (win0 8).flush t = false := by
        rw [Bool.eq_false_iff]; exact fun h => hl ((isLast_iff t).2 ((flush0_8 t).1 h))
      rw [hi, hf, if_neg hl]
      dsimp only
      iexists d8
      iexact H8
  isplitl [H9]
  · iexact H9
  isplitl [H10]
  · iexact H10
  isplitl [H11]
  · iexact H11
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem enter (c : Dev nD) : Pipeline.ΦA spec0 c ⊢ PhiAt m c 0 := by
  unfold Pipeline.ΦA PhiAt
  rw [scopedRest0_eq]
  unfold owns
  iintro ⟨⟨%f, H⟩, Hp⟩
  isplitl [H]
  · iexists ((Memref.whole cc0_scratch0).view.read (Elt F) f)
    isplitr
    · ipureintro; intro h; exact absurd rfl h
    iexists f
    isplitr
    · ipureintro; rfl
    rw [View.set_whole]
    iexact H
  · iexact Hp
theorem leave (c : Dev nD) (n : ℕ) : PhiAt m c n ⊢ Pipeline.ΦA spec0 c := by
  unfold Pipeline.ΦA PhiAt
  rw [scopedRest0_eq]
  unfold owns
  iintro ⟨⟨%A, -, ⟨%f, -, H⟩⟩, Hp⟩
  isplitl [H]
  · iexists f
    rw [View.set_whole]
    iexact H
  · iexact Hp

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := enter m) (hout := fun c => leave m c _)

/-- The frame: every run ends, no argument array is changed, every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 2).trans (((dats m 0 c).arrAt_in 2 rfl _).trans ((A_eq m c 2).trans (V_main_arg0 m c))),
      ((h.1 c).1 3).trans (((dats m 0 c).arrAt_in 3 rfl _).trans ((A_eq m c 3).trans (V_main_arg1 m c))),
      ((h.1 c).2 main_arg2 (Pipeline.mem_restRefs_of main_arg2 (by decide) (by decide))).trans (V_main_arg2 m c)⟩, h.2⟩) (run_main m ρ)

end Cert.KernelIdeal.Hand

end
-- ==== Proof.Math.lean ====
module

public import Idealize.ShloMosaic.Lib.IdealHost
public import Idealize.ShloMosaic.Lib.Pointwise
public import Idealize.ShloMosaic.Lib.WordCmp
public import Mathlib.Analysis.SpecialFunctions.Log.Basic

@[expose] public section
noncomputable section
namespace Cert.Fox
open Idealize.ShloMosaic

/-! The attention's gradient over the reals, one head at a time, and the extended-real operations on finite numbers. -/

/-- A sum of finite numbers is finite. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]
/-- A quotient of finite numbers, the divisor not zero. -/
theorem div_coe (a b : ℝ) (hb : b ≠ 0) : Ideal.div (a : EReal) (b : EReal) = ((a / b : ℝ) : EReal) := by
  unfold Ideal.div
  rw [if_neg (by simpa using hb), ← EReal.coe_inv, ← EReal.coe_mul, div_eq_mul_inv]
theorem exp_coe (a : ℝ) : Ideal.exp (a : EReal) = ((Real.exp a : ℝ) : EReal) := rfl
theorem log_coe (a : ℝ) (ha : 0 < a) : Ideal.log (a : EReal) = ((Real.log a : ℝ) : EReal) := by
  have : Ideal.log (a : EReal) = if a ≤ 0 then ⊥ else ((Real.log a : ℝ) : EReal) := rfl
  rw [this, if_neg (not_le.2 ha)]
/-- A choice by a signed comparison of small numbers is a choice by their order. -/
theorem select_sle {α : Type} (a b : ℕ) (ha : a < 2 ^ 31) (hb : b < 2 ^ 31) (x y : α) :
    Scalar.select (IntOp.cmpi .sle (BitVec.ofNat 32 a) (BitVec.ofNat 32 b)) x y = if a ≤ b then x else y := by
  have e : IntOp.cmpi .sle (BitVec.ofNat 32 a) (BitVec.ofNat 32 b) = BitVec.ofBool (decide (a ≤ b)) := WordCmp.cmpi_sle_ofNat ha hb
  rw [e]
  by_cases h : a ≤ b
  · rw [if_pos h, decide_eq_true h]; rfl
  · rw [if_neg h, decide_eq_false h]; rfl
/-- The scale of the scores is a finite number. -/
theorem scale_real : ∃ s : ℝ, Ideal.ofBits .f32 0x3DB504F3#32 = (s : EReal) := by
  have h : Ideal.ofBits .f32 0x3DB504F3#32 ≠ ⊤ ∧ Ideal.ofBits .f32 0x3DB504F3#32 ≠ ⊥ := by
    simp [Ideal.ofBits, Ideal.ieee, -EReal.coe_mul]
  exact ⟨_, (EReal.coe_toReal h.1 h.2).symm⟩
/-- The scale of the scores. -/
def σ : ℝ := Classical.choose scale_real
theorem scale_eq : Ideal.ofBits .f32 0x3DB504F3#32 = (σ : EReal) := Classical.choose_spec scale_real

/-- A running greatest of numbers none of which is infinite above and one of which is finite is finite. -/
theorem fold_max_real {n : ℕ} (f : Fin n → EReal) (ht : ∀ j, f j ≠ ⊤) (j0 : Fin n) (hb : f j0 ≠ ⊥) :
    ∃ r : ℝ, (Finset.univ : Finset (Fin n)).fold max ⊥ f = (r : EReal) := by
  have h1 : (Finset.univ : Finset (Fin n)).fold max ⊥ f < ⊤ :=
    (Finset.fold_max_lt _).2 ⟨bot_lt_top, fun x _ => lt_top_iff_ne_top.2 (ht x)⟩
  have h2 : ⊥ < (Finset.univ : Finset (Fin n)).fold max ⊥ f :=
    (Finset.lt_fold_max _).2 (.inr ⟨j0, Finset.mem_univ _, bot_lt_iff_ne_bot.2 hb⟩)
  exact ⟨_, (EReal.coe_toReal h1.ne h2.ne').symm⟩

/-- One head's queries, keys, values and output gradients by row and lane, and its gate sums by row. -/
structure Head where
  q : ℕ → Fin 128 → ℝ
  k : ℕ → Fin 128 → ℝ
  v : ℕ → Fin 128 → ℝ
  g : ℕ → Fin 128 → ℝ
  c : ℕ → ℝ

namespace Head
variable (H : Head)

def qk (i j : ℕ) : ℝ := ∑ d, H.q i d * H.k j d
/-- The scores. -/
def x (i j : ℕ) : ℝ := H.qk i j * σ + (H.c i - H.c j)
/-- The weights, before they are made to sum to one: zero for a key after the query. -/
def w (i j : ℕ) : ℝ := if j ≤ i then Real.exp (H.x i j) else 0
def Z (i : ℕ) : ℝ := ∑ j : Fin 4096, H.w i j
/-- The attention's weights. -/
def P (i j : ℕ) : ℝ := H.w i j / H.Z i
def gv (i j : ℕ) : ℝ := ∑ d, H.g i d * H.v j d
def dl (i : ℕ) : ℝ := ∑ j : Fin 4096, H.P i j * H.gv i j
/-- The gradient of the scores. -/
def ds (i j : ℕ) : ℝ := H.P i j * (H.gv i j - H.dl i)
/-- The gradients of the queries, the keys, the values and the two sides of the gate sums. -/
def dq (i : ℕ) (d : Fin 128) : ℝ := ∑ j : Fin 4096, H.ds i j * H.k j d * σ
def dk (j : ℕ) (d : Fin 128) : ℝ := ∑ i : Fin 4096, H.ds i j * H.q i d * σ
def dv (j : ℕ) (d : Fin 128) : ℝ := ∑ i : Fin 4096, H.P i j * H.g i d
def dcq (i : ℕ) : ℝ := ∑ j : Fin 4096, H.ds i j
def dck (j : ℕ) : ℝ := ∑ i : Fin 4096, - H.ds i j

theorem w_nonneg (i j : ℕ) : 0 ≤ H.w i j := by
  unfold w; split
  · exact (Real.exp_pos _).le
  · exact le_rfl
theorem Z_pos (i : ℕ) (hi : i < 4096) : 0 < H.Z i := by
  refine Finset.sum_pos' (fun j _ => H.w_nonneg i j) ⟨⟨i, hi⟩, Finset.mem_univ _, ?_⟩
  unfold w; rw [if_pos le_rfl]; exact Real.exp_pos _
theorem P_masked (i j : ℕ) (h : i < j) : H.P i j = 0 := by
  unfold P w; rw [if_neg (not_le.2 h), zero_div]
theorem ds_masked (i j : ℕ) (h : i < j) : H.ds i j = 0 := by
  unfold ds; rw [H.P_masked i j h, zero_mul]

/-- The weight from the scores shifted by a tile's gate sum and the logarithm of the sums shifted alike. -/
theorem P_of_shift (c0 : ℝ) (i j : ℕ) (hi : i < 4096) (h : j ≤ i) :
    Real.exp (H.qk i j * σ + (c0 - H.c j) - (Real.log (H.Z i) + (c0 - H.c i))) = H.P i j := by
  have hZ := H.Z_pos i hi
  have : H.qk i j * σ + (c0 - H.c j) - (Real.log (H.Z i) + (c0 - H.c i)) = H.x i j - Real.log (H.Z i) := by unfold x; ring
  rw [this, Real.exp_sub, Real.exp_log hZ]
  unfold P w; rw [if_pos h]

/-- The weights with the row's scores less `M`. -/
def e (M : ℝ) (i j : ℕ) : ℝ := if j ≤ i then Real.exp (H.x i j - M) else 0
theorem e_eq (M : ℝ) (i j : ℕ) : H.e M i j = H.w i j * Real.exp (-M) := by
  unfold e w; split
  · rw [sub_eq_add_neg, Real.exp_add]
  · rw [zero_mul]
theorem sum_e (M : ℝ) (i : ℕ) : ∑ j : Fin 4096, H.e M i j = H.Z i * Real.exp (-M) := by
  unfold Z; rw [Finset.sum_mul]; exact Finset.sum_congr rfl fun j _ => H.e_eq M i j
theorem sum_e_pos (M : ℝ) (i : ℕ) (hi : i < 4096) : 0 < H.Z i * Real.exp (-M) := mul_pos (H.Z_pos i hi) (Real.exp_pos _)
theorem log_sum_e (M : ℝ) (i : ℕ) (hi : i < 4096) : M + Real.log (H.Z i * Real.exp (-M)) = Real.log (H.Z i) := by
  rw [Real.log_mul (H.Z_pos i hi).ne' (Real.exp_pos _).ne', Real.log_exp]; ring
theorem e_div (M : ℝ) (i j : ℕ) : H.e M i j / (H.Z i * Real.exp (-M)) = H.P i j := by
  rw [e_eq]; unfold P; exact mul_div_mul_right _ _ (Real.exp_pos _).ne'
/-- The gradient of the scores as automatic differentiation writes it. -/
theorem ds_of_quotient (M : ℝ) (i j : ℕ) (hi : i < 4096) :
    (H.gv i j / (H.Z i * Real.exp (-M)) + -∑ x : Fin 4096, H.gv i x * (1 / ((H.Z i * Real.exp (-M)) * (H.Z i * Real.exp (-M)))) * H.e M i x) * H.e M i j
      = H.ds i j := by
  have hL := (H.sum_e_pos M i hi).ne'
  have h1 : ∑ x : Fin 4096, H.gv i x * (1 / ((H.Z i * Real.exp (-M)) * (H.Z i * Real.exp (-M)))) * H.e M i x
      = H.dl i / (H.Z i * Real.exp (-M)) := by
    unfold dl; rw [Finset.sum_div]
    refine Finset.sum_congr rfl fun x _ => ?_
    rw [← H.e_div M i x]; field_simp
  rw [h1]; unfold ds; rw [← H.e_div M i j]; field_simp; ring

/-- The row sums of the output's products with its gradient are the sums of the weights with the products of values and gradients. -/
theorem dl_eq (i : ℕ) : ∑ d, (∑ j : Fin 4096, H.v j d * H.P i j) * H.g i d = H.dl i := by
  unfold dl gv
  simp only [Finset.sum_mul, Finset.mul_sum]
  rw [Finset.sum_comm]
  exact Finset.sum_congr rfl fun j _ => Finset.sum_congr rfl fun d _ => by ring

end Head

/-- A sum over the rows, by tiles of 512. -/
theorem sum_tiles (f : ℕ → ℝ) : ∑ j : Fin 4096, f j = ∑ u ∈ Finset.range 8, ∑ a : Fin 512, f (512 * u + a) := by
  rw [Fin.sum_univ_tiles 8 512 rfl (fun k : Fin 4096 => f k), ← Fin.sum_univ_eq_sum_range (fun u => ∑ a : Fin 512, f (512 * u + a)) 8]
  refine Finset.sum_congr rfl fun u _ => Finset.sum_congr rfl fun a _ => ?_
  exact congrArg f (congrArg (· + a.val) (Nat.mul_comm _ _))
/-- A sum over the rows of what is zero before tile `j`. -/
theorem sum_tiles_from (f : ℕ → ℝ) (j : ℕ) (hj : j ≤ 8) (h0 : ∀ i, i < 512 * j → f i = 0) :
    ∑ i : Fin 4096, f i = ∑ u ∈ Finset.range (8 - j), ∑ a : Fin 512, f (512 * (j + u) + a) := by
  rw [sum_tiles, Finset.range_eq_Ico, ← Finset.sum_Ico_consecutive _ (Nat.zero_le j) hj, Finset.sum_eq_zero, zero_add,
    Finset.sum_Ico_eq_sum_range, Finset.range_eq_Ico]
  intro u hu
  refine Finset.sum_eq_zero fun a _ => h0 _ ?_
  have := (Finset.mem_Ico.1 hu).2; have := a.isLt; omega

/-! ## A head of the three arguments -/

section Args
variable (A : FVec Ideal (⟨2, ![4096, 12288]⟩ : Shape) .bf16) (D : FVec Ideal (⟨2, ![4096, 4096]⟩ : Shape) .bf16) (C : FVec Ideal (⟨2, ![4096, 32]⟩ : Shape) .f32)
/-- Head `h` of the packed queries, keys and values, of the output gradient and of the gate sums. -/
def headAt (h : Fin 32) : Head where
  q i d := if hi : i < 4096 then (A (ix2 ⟨i, hi⟩ ⟨h.val * 128 + d.val, by omega⟩)).toReal else 0
  k i d := if hi : i < 4096 then (A (ix2 ⟨i, hi⟩ ⟨4096 + (h.val * 128 + d.val), by omega⟩)).toReal else 0
  v i d := if hi : i < 4096 then (A (ix2 ⟨i, hi⟩ ⟨8192 + (h.val * 128 + d.val), by omega⟩)).toReal else 0
  g i d := if hi : i < 4096 then (D (ix2 ⟨i, hi⟩ ⟨h.val * 128 + d.val, by omega⟩)).toReal else 0
  c i := if hi : i < 4096 then (C (ix2 ⟨i, hi⟩ h)).toReal else 0
variable (hA : ∀ x, A x ≠ ⊤ ∧ A x ≠ ⊥) (hD : ∀ x, D x ≠ ⊤ ∧ D x ≠ ⊥) (hC : ∀ x, C x ≠ ⊤ ∧ C x ≠ ⊥) (h : Fin 32) (i : Fin 4096) (d : Fin 128)
include hA in
theorem headAt_q : A (ix2 i ⟨h.val * 128 + d.val, by omega⟩) = (((headAt A D C h).q i d : ℝ) : EReal) := by
  unfold headAt; dsimp only; rw [dif_pos i.isLt]; exact (EReal.coe_toReal (hA _).1 (hA _).2).symm
include hA in
theorem headAt_k : A (ix2 i ⟨4096 + (h.val * 128 + d.val), by omega⟩) = (((headAt A D C h).k i d : ℝ) : EReal) := by
  unfold headAt; dsimp only; rw [dif_pos i.isLt]; exact (EReal.coe_toReal (hA _).1 (hA _).2).symm
include hA in
theorem headAt_v : A (ix2 i ⟨8192 + (h.val * 128 + d.val), by omega⟩) = (((headAt A D C h).v i d : ℝ) : EReal) := by
  unfold headAt; dsimp only; rw [dif_pos i.isLt]; exact (EReal.coe_toReal (hA _).1 (hA _).2).symm
include hD in
theorem headAt_g : D (ix2 i ⟨h.val * 128 + d.val, by omega⟩) = (((headAt A D C h).g i d : ℝ) : EReal) := by
  unfold headAt; dsimp only; rw [dif_pos i.isLt]; exact (EReal.coe_toReal (hD _).1 (hD _).2).symm
include hC in
theorem headAt_c : C (ix2 i h) = (((headAt A D C h).c i : ℝ) : EReal) := by
  unfold headAt; dsimp only; rw [dif_pos i.isLt]; exact (EReal.coe_toReal (hC _).1 (hC _).2).symm
end Args

/-- A greatest along the last of three axes is the greatest along it. -/
theorem reduce_max_at {n0 n1 n2 : ℕ} {u : Shape} (x : FVec Ideal (⟨3, ![n0, n1, n2]⟩ : Shape) .f32) (init : FVec Ideal u .f32)
    (h : (⟨3, ![n0, n1, n2]⟩ : Shape).ReducesTo [2] ⟨2, ![n0, n1]⟩) (hu : 0 < u.numel) (a : Fin n0) (b : Fin n1) :
    Host.reduce FloatOps.maximumf x init h hu (ix2 a b) = (Finset.univ : Finset (Fin n2)).fold max (init (Shape.Idx.first hu)) (fun k => x (ix3 a b k)) := by
  rw [Ideal.maximumf_eq_max, Host.reduce_eq_fold, Shape.ReducesTo.fold_fiber_r3_a2]
  rfl

end Cert.Fox
-- ==== Proof.Host.lean ====
module

public import proofs.«01_k».proof.Proof.Gen.KernelIdeal.Frame
public import Idealize.ShloMosaic.Lib.Claim
public import proofs.«01_k».proof.Proof.Math

@[expose] public section
set_option maxRecDepth 16384
noncomputable section
namespace Cert.KernelIdeal.Hand
open Cert.KernelIdeal Cert.KernelIdeal.Gen Cert.Fox
open Idealize.ShloMosaic Idealize.ShloMosaic.TcCoe Idealize.SL.Sem
variable (A : FVec Ideal S4096x12288 .bf16) (D : FVec Ideal S4096x4096 .bf16) (C : FVec Ideal S4096x32 .f32)

/-! ## What the host operations before the region compute -/

def hQ : FVec Ideal S4096x32x128 .f32 := shapeCast _ (extf .f32 (extractStridedSlice S4096x4096 ![0, 0] A slices_S4096x12288_S4096x4096_0_0) bitsLt_bf16_f32) shapeCasts_S4096x4096_S4096x32x128
def hK : FVec Ideal S4096x32x128 .f32 := shapeCast _ (extf .f32 (extractStridedSlice S4096x4096 ![0, 4096] A slices_S4096x12288_S4096x4096_0_4096) bitsLt_bf16_f32) shapeCasts_S4096x4096_S4096x32x128
def hV : FVec Ideal S4096x32x128 .f32 := shapeCast _ (extf .f32 (extractStridedSlice S4096x4096 ![0, 8192] A slices_S4096x12288_S4096x4096_0_8192) bitsLt_bf16_f32) shapeCasts_S4096x4096_S4096x32x128
def hO : FVec Ideal S4096x32x128 .f32 := shapeCast _ (extf .f32 D bitsLt_bf16_f32) shapeCasts_S4096x4096_S4096x32x128
def hMask : IVec S32x4096x4096 1 :=
  broadcastInDim S32x4096x4096 ![1, 2] bcast_S4096x4096_S32x4096x4096_1_2 (cmpi .sle
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))
/-- The masked scores. -/
def hS : FVec Ideal S32x4096x4096 .f32 :=
  select hMask
    (addf (mulf (Host.dotGeneral dot_S4096x32x128_S4096x32x128_S32x4096x4096_2_2_0_0_1_1 none (hQ A) (hK A))
        (broadcastInDim S32x4096x4096 ![] bcast_S_S32x4096x4096 (constant S_ .f32 0x3DB504F3#32)))
      (subf
        (broadcastInDim S32x4096x4096 ![0, 1, 2] bcast_S32x4096x1_S32x4096x4096_0_1_2 (broadcastInDim S32x4096x1 ![0, 1] bcast_S32x4096_S32x4096x1_0_1 (transpose S32x4096 [1, 0] C transposes_S4096x32_S32x4096_1_0)))
        (broadcastInDim S32x4096x4096 ![0, 1, 2] bcast_S32x1x4096_S32x4096x4096_0_1_2 (broadcastInDim S32x1x4096 ![0, 2] bcast_S32x4096_S32x1x4096_0_2 (transpose S32x4096 [1, 0] C transposes_S4096x32_S32x4096_1_0)))))
    (broadcastInDim S32x4096x4096 ![] bcast_S_S32x4096x4096 (constant S_ .f32 0xFF800000#32))
/-- The greatest score of each row. -/
def hR : FVec Ideal S32x4096 .f32 :=
  Host.reduce FloatOps.maximumf (hS A C) (constant S_ .f32 0xFF800000#32) reducesTo_S32x4096x4096_S32x4096_d2 h_S_
def hE : FVec Ideal S32x4096x4096 .f32 :=
  Host.exp (subf (hS A C) (broadcastInDim S32x4096x4096 ![0, 1, 2] bcast_S32x4096x1_S32x4096x4096_0_1_2 (broadcastInDim S32x4096x1 ![0, 1] bcast_S32x4096_S32x4096x1_0_1 (hR A C))))
def hL : FVec Ideal S32x4096 .f32 :=
  Host.reduceAdd (hE A C) (constant S_ .f32 0x00000000#32) reducesTo_S32x4096x4096_S32x4096_d2 h_S_
def hP : FVec Ideal S32x4096x4096 .f32 :=
  Host.divf (hE A C) (broadcastInDim S32x4096x4096 ![0, 1, 2] bcast_S32x4096x1_S32x4096x4096_0_1_2 (broadcastInDim S32x4096x1 ![0, 1] bcast_S32x4096_S32x4096x1_0_1 (hL A C)))
/-- The attention's output. -/
def hAtt : FVec Ideal S4096x32x128 .f32 :=
  transpose S4096x32x128 [2, 0, 1] (Host.dotGeneral dot_S4096x32x128_S32x4096x4096_S32x128x4096_0_2_2_1_1_0 none (hV A) (hP A C)) transposes_S32x128x4096_S4096x32x128_2_0_1
/-- The gate sum of each tile's first row, by eight rows a tile. -/
def hC0 : FVec Ideal S64x4096 .f32 :=
  shapeCast _ (broadcastInDim S8x8x4096 ![0, 2] bcast_S8x4096_S8x8x4096_0_2
    (shapeCast _ (broadcastInDim S8x32x128 ![0, 1] bcast_S8x32_S8x32x128_0_1 (Host.slice S8x32 ![0, 0] ![512, 1] C slicesBy_S4096x32_S8x32_0s512_0s1)) shapeCasts_S8x32x128_S8x4096 : FVec Ideal S8x4096 .f32)) shapeCasts_S8x8x4096_S64x4096
/-- The logarithms of the sums, shifted by the gate sums. -/
def hLsOf (R L : FVec Ideal S32x4096 .f32) : FVec Ideal S4096x32 .f32 :=
  addf (transpose S4096x32 [1, 0]
      (shapeCast _ (addf (broadcastInDim S32x4096x1 ![0, 1] bcast_S32x4096_S32x4096x1_0_1 R) (Host.log (broadcastInDim S32x4096x1 ![0, 1] bcast_S32x4096_S32x4096x1_0_1 L))) shapeCasts_S32x4096x1_S32x4096 : FVec Ideal S32x4096 .f32) transposes_S32x4096_S4096x32_1_0)
    (subf (shapeCast _ (broadcastInDim S8x512x32 ![0, 2] bcast_S8x32_S8x512x32_0_2 (Host.slice S8x32 ![0, 0] ![512, 1] C slicesBy_S4096x32_S8x32_0s512_0s1)) shapeCasts_S8x512x32_S4096x32) C)
def hLs : FVec Ideal S4096x32 .f32 := hLsOf C (hR A C) (hL A C)
def hLse : FVec Ideal S4096x4096 .f32 :=
  shapeCast _ (broadcastInDim S4096x32x128 ![0, 1] bcast_S4096x32_S4096x32x128_0_1 (hLs A C)) shapeCasts_S4096x32x128_S4096x4096
/-- The row sums of the output's products with its gradient. -/
def hDs : FVec Ideal S4096x32 .f32 :=
  Host.reduceAdd (mulf (hAtt A C) (hO D)) (constant S_ .f32 0x00000000#32) reducesTo_S4096x32x128_S4096x32_d2 h_S_
def hDl : FVec Ideal S4096x4096 .f32 :=
  shapeCast _ (broadcastInDim S4096x32x128 ![0, 1] bcast_S4096x32_S4096x32x128_0_1 (hDs A D C)) shapeCasts_S4096x32x128_S4096x4096
def hCt : FVec Ideal S32x1x4096 .f32 := shapeCast _ (transpose S32x4096 [1, 0] C transposes_S4096x32_S32x4096_1_0) shapeCasts_S32x4096_S32x1x4096

section Entry
variable (m : (ℓ : Loc nD τ sig) → Buf (Elt Ideal) ℓ) (c : Dev nD)
theorem V_v57 : V m c main_v57 = hCt (m ((c : Thread nD τ).loc main_arg2)) := by
  dsimp only [V, hostOps0, hostOps0_1, hostOps0_2, List.flatten_cons, List.flatten_nil, List.cons_append, List.nil_append, List.append_nil]
  entry_read
  rfl
theorem V_v42 : V m c main_v42 = hC0 (m ((c : Thread nD τ).loc main_arg2)) := by
  dsimp only [V, hostOps0, hostOps0_1, hostOps0_2, List.flatten_cons, List.flatten_nil, List.cons_append, List.nil_append, List.append_nil]
  entry_read
  rfl
theorem V_v61 : V m c main_v61 = hDl (m ((c : Thread nD τ).loc main_arg0)) (m ((c : Thread nD τ).loc main_arg1)) (m ((c : Thread nD τ).loc main_arg2)) := by
  dsimp only [V, hostOps0, hostOps0_1, hostOps0_2, List.flatten_cons, List.flatten_nil, List.cons_append, List.nil_append, List.append_nil]
  entry_read
  rfl
theorem V_v59 : V m c main_v59 = hLse (m ((c : Thread nD τ).loc main_arg0)) (m ((c : Thread nD τ).loc main_arg2)) := by
  dsimp only [V, hostOps0, hostOps0_1, hostOps0_2, List.flatten_cons, List.flatten_nil, List.cons_append, List.nil_append, List.append_nil]
  entry_read
  rfl
end Entry

/-! ## Element by element -/

theorem hQ_at (i : Fin 4096) (h : Fin 32) (d : Fin 128) : hQ A (ix3 i h d) = A (ix2 i ⟨h.val * 128 + d.val, by omega⟩) := by
  pointwise [hQ]
theorem hK_at (i : Fin 4096) (h : Fin 32) (d : Fin 128) : hK A (ix3 i h d) = A (ix2 i ⟨4096 + (h.val * 128 + d.val), by omega⟩) := by
  pointwise [hK]
theorem hV_at (i : Fin 4096) (h : Fin 32) (d : Fin 128) : hV A (ix3 i h d) = A (ix2 i ⟨8192 + (h.val * 128 + d.val), by omega⟩) := by
  pointwise [hV]
theorem hO_at (i : Fin 4096) (h : Fin 32) (d : Fin 128) : hO D (ix3 i h d) = D (ix2 i ⟨h.val * 128 + d.val, by omega⟩) := by
  pointwise [hO]
theorem hMask_at (h : Fin 32) (i j : Fin 4096) : hMask (ix3 h i j) = IntOp.cmpi .sle (BitVec.ofNat 32 j.val) (BitVec.ofNat 32 i.val) := by
  pointwise [hMask]
theorem neg_inf : Ideal.ofBits .f32 0xFF800000#32 = (⊥ : EReal) := by
  simp [Ideal.ofBits, Ideal.ieee]
theorem hS_at (h : Fin 32) (i j : Fin 4096) : hS A C (ix3 h i j)
    = if j.val ≤ i.val then (∑ x, hQ A (ix3 i h x) * hK A (ix3 j h x)) * Ideal.ofBits .f32 0x3DB504F3#32 + (C (ix2 i h) - C (ix2 j h)) else ⊥ := by
  have e : hS A C (ix3 h i j) = Scalar.select (hMask (ix3 h i j))
      ((∑ x, hQ A (ix3 i h x) * hK A (ix3 j h x)) * Ideal.ofBits .f32 0x3DB504F3#32 + (C (ix2 i h) - C (ix2 j h))) (Ideal.ofBits .f32 0xFF800000#32) := by
    pointwise [hS]
  rw [e, hMask_at, neg_inf, select_sle _ _ (by omega) (by omega)]
theorem hE_at (h : Fin 32) (i j : Fin 4096) : hE A C (ix3 h i j) = Ideal.exp (hS A C (ix3 h i j) - hR A C (ix2 h i)) := by
  pointwise [hE]
theorem hL_at (h : Fin 32) (i  : Fin 4096) : hL A C (ix2 h i) = ∑ x, hE A C (ix3 h i x) := by
  pointwise [hL]
theorem hP_at (h : Fin 32) (i j : Fin 4096) : hP A C (ix3 h i j) = Ideal.div (hE A C (ix3 h i j)) (hL A C (ix2 h i)) := by
  pointwise [hP]
theorem hAtt_at (i : Fin 4096) (h : Fin 32) (d : Fin 128) : hAtt A C (ix3 i h d) = ∑ x, hV A (ix3 x h d) * hP A C (ix3 h i x) := by
  pointwise [hAtt]
theorem hDs_at (i : Fin 4096) (h : Fin 32) : hDs A D C (ix2 i h) = ∑ x, hAtt A C (ix3 i h x) * hO D (ix3 i h x) := by
  pointwise [hDs]
theorem hDl_at (i e : Fin 4096) : hDl A D C (ix2 i e) = hDs A D C (ix2 i ⟨e.val / 128, by omega⟩) := by
  pointwise [hDl]
theorem hCt_at (h : Fin 32) (e : Fin 4096) : hCt C (ix3 h 0 e) = C (ix2 e h) := by
  pointwise [hCt]
theorem hC0_at (r : Fin 64) (e : Fin 4096) : hC0 C (ix2 r e) = C (ix2 ⟨512 * (r.val / 8), by omega⟩ ⟨e.val / 128, by omega⟩) := by
  pointwise [hC0]
theorem hLsOf_at (R L : FVec Ideal S32x4096 .f32) (i : Fin 4096) (h : Fin 32) : hLsOf C R L (ix2 i h)
    = (R (ix2 h i) + Ideal.log (L (ix2 h i))) + (C (ix2 ⟨512 * (i.val / 512), by omega⟩ h) - C (ix2 i h)) := by
  pointwise [hLsOf]
theorem hLs_at (i : Fin 4096) (h : Fin 32) : hLs A C (ix2 i h)
    = (hR A C (ix2 h i) + Ideal.log (hL A C (ix2 h i))) + (C (ix2 ⟨512 * (i.val / 512), by omega⟩ h) - C (ix2 i h)) :=
  hLsOf_at C (hR A C) (hL A C) i h
theorem hLse_at (i e : Fin 4096) : hLse A C (ix2 i e) = hLs A C (ix2 i ⟨e.val / 128, by omega⟩) := by
  pointwise [hLse]

/-! ## On finite arguments -/

variable (hA : ∀ x, A x ≠ ⊤ ∧ A x ≠ ⊥) (hD : ∀ x, D x ≠ ⊤ ∧ D x ≠ ⊥) (hC : ∀ x, C x ≠ ⊤ ∧ C x ≠ ⊥)
include hA in
theorem hQ_real (i : Fin 4096) (h : Fin 32) (d : Fin 128) : hQ A (ix3 i h d) = (((headAt A D C h).q i d : ℝ) : EReal) := by
  rw [hQ_at]; exact headAt_q A D C hA h i d
include hA in
theorem hK_real (i : Fin 4096) (h : Fin 32) (d : Fin 128) : hK A (ix3 i h d) = (((headAt A D C h).k i d : ℝ) : EReal) := by
  rw [hK_at]; exact headAt_k A D C hA h i d
include hA in
theorem hV_real (i : Fin 4096) (h : Fin 32) (d : Fin 128) : hV A (ix3 i h d) = (((headAt A D C h).v i d : ℝ) : EReal) := by
  rw [hV_at]; exact headAt_v A D C hA h i d
include hD in
theorem hO_real (i : Fin 4096) (h : Fin 32) (d : Fin 128) : hO D (ix3 i h d) = (((headAt A D C h).g i d : ℝ) : EReal) := by
  rw [hO_at]; exact headAt_g A D C hD h i d
include hA hC in
theorem hS_real (h : Fin 32) (i j : Fin 4096) : hS A C (ix3 h i j)
    = if j.val ≤ i.val then (((headAt A D C h).x i j : ℝ) : EReal) else ⊥ := by
  rw [hS_at]
  refine if_congr Iff.rfl ?_ rfl
  simp only [hQ_real A D C hA, hK_real A D C hA, ← EReal.coe_mul, coe_sum, scale_eq]
  rw [headAt_c A D C hC h i, headAt_c A D C hC h j, ← EReal.coe_sub, ← EReal.coe_add]
  rfl
include hA hC in
/-- The greatest score of a row is a finite number. -/
theorem hR_real (h : Fin 32) (i : Fin 4096) : ∃ r : ℝ, hR A C (ix2 h i) = (r : EReal) := by
  have e : hR A C (ix2 h i) = (Finset.univ : Finset (Fin 4096)).fold max ⊥ (fun j => hS A C (ix3 h i j)) := by
    unfold hR
    rw [reduce_max_at]
    exact congrArg (fun b => Finset.fold max b (fun j => hS A C (ix3 h i j)) Finset.univ) neg_inf
  rw [e]
  refine fold_max_real _ (fun j => ?_) i ?_
  · rw [hS_real A (fun _ => 0) C hA hC]; split <;> simp
  · rw [hS_real A (fun _ => 0) C hA hC, if_pos le_rfl]; simp
variable (h : Fin 32) (i : Fin 4096) (M : ℝ) (hM : hR A C (ix2 h i) = (M : EReal))
include hA hC hM in
theorem hE_real (j : Fin 4096) : hE A C (ix3 h i j) = (((headAt A D C h).e M i j : ℝ) : EReal) := by
  rw [hE_at, hM, hS_real A D C hA hC]
  unfold Head.e
  split
  · rw [← EReal.coe_sub, exp_coe]
  · rw [EReal.bot_sub]; rfl
include hA hC hM in
theorem hL_real : hL A C (ix2 h i) = (((headAt A D C h).Z i * Real.exp (-M) : ℝ) : EReal) := by
  rw [hL_at, Finset.sum_congr rfl fun j _ => hE_real A D C hA hC h i M hM j, coe_sum, Head.sum_e]
omit M in
include hA hC in
theorem hP_real (j : Fin 4096) : hP A C (ix3 h i j) = (((headAt A D C h).P i j : ℝ) : EReal) := by
  obtain ⟨M, hM⟩ := hR_real A C hA hC h i
  rw [hP_at, hE_real A D C hA hC h i M hM, hL_real A D C hA hC h i M hM, div_coe _ _ ((headAt A D C h).sum_e_pos M i i.isLt).ne', Head.e_div]
omit M in
include hA hC in
/-- The shifted logarithm of the row's sum. -/
theorem hLs_real : hLs A C (ix2 i h) = ((Real.log ((headAt A D C h).Z i)
    + ((headAt A D C h).c (512 * (i.val / 512)) - (headAt A D C h).c i) : ℝ) : EReal) := by
  obtain ⟨M, hM⟩ := hR_real A C hA hC h i
  rw [hLs_at, hM, hL_real A D C hA hC h i M hM, log_coe _ ((headAt A D C h).sum_e_pos M i i.isLt), ← EReal.coe_add,
    Head.log_sum_e _ _ _ i.isLt, headAt_c A D C hC h i, headAt_c A D C hC h, ← EReal.coe_sub, ← EReal.coe_add]
omit M in
include hA hD hC in
theorem hDs_real : hDs A D C (ix2 i h) = (((headAt A D C h).dl i : ℝ) : EReal) := by
  rw [hDs_at]
  simp only [hAtt_at, hV_real A D C hA, hP_real A D C hA hC, hO_real A D C hD, ← EReal.coe_mul, coe_sum]
  rw [Head.dl_eq]
end Cert.KernelIdeal.Hand
-- ==== Proof.Pay.lean ====
module

public import proofs.«01_k».proof.Proof.Gen.KernelIdeal.Skeleton
public import proofs.«01_k».proof.Proof.Math
public import Idealize.ShloMosaic.Lib.Pointwise
public import Idealize.ShloMosaic.Lib.WordCmp

@[expose] public section
set_option maxRecDepth 16384
noncomputable section
namespace Cert.KernelIdeal.Hand
open Cert.KernelIdeal Cert.KernelIdeal.Gen Cert.Fox
open Idealize.ShloMosaic Idealize.ShloMosaic.TcCoe Idealize.SL.Sem

/-! The body's computed values, element by element, on finite blocks. -/

theorem mask_eq : Named.named (F := Ideal) (φ := .f32) κ "mask" 0xF149F2CA#32 = (⊥ : EReal) := rfl

variable (k v q g : FVec Ideal S512x128 .bf16) (ck : FVec Ideal S1x512 .f32) (c0 : FVec Ideal S8x128 .f32) (l dl : FVec Ideal S512x1 .f32)
  (a b : FVec Ideal S512x128 .f32) (ak : FVec Ideal S1x512 .f32) (s : FVec Ideal S512x512 .f32)

theorem pay11_at (r t : Fin 512) : k0_pay11 (F := Ideal) k ck q c0 l (ix2 r t)
    = Ideal.exp ((∑ x, q (ix2 r x) * k (ix2 t x)) * Ideal.ofBits .f32 0x3DB504F3#32 + (c0 (ix2 0 0) - ck (ix2 0 t)) - l (ix2 r 0)) := by
  pointwise [k0_pay11]
theorem pay13_at (r t : Fin 512) : k0_pay13 (F := Ideal) k v ck q g c0 l dl (ix2 r t)
    = k0_pay11 (F := Ideal) k ck q c0 l (ix2 r t) * (∑ x, g (ix2 r x) * v (ix2 t x) - dl (ix2 r 0)) := by
  pointwise [k0_pay13]
theorem pay14_at (t : Fin 512) (d : Fin 128) : k0_pay14 (F := Ideal) k v ck a q g c0 l dl (ix2 t d)
    = a (ix2 t d) + (∑ x, k0_pay13 (F := Ideal) k v ck q g c0 l dl (ix2 x t) * q (ix2 x d)) * Ideal.ofBits .f32 0x3DB504F3#32 := by
  pointwise [k0_pay14]
theorem pay12_at (t : Fin 512) (d : Fin 128) : k0_pay12 (F := Ideal) k ck a q g c0 l (ix2 t d)
    = a (ix2 t d) + ∑ x, k0_pay11 (F := Ideal) k ck q c0 l (ix2 x t) * g (ix2 x d) := by
  pointwise [k0_pay12]
theorem pay15_at (r : Fin 512) (d : Fin 128) : k0_pay15 (F := Ideal) k v ck q g c0 l dl (ix2 r d)
    = ∑ x, k0_pay13 (F := Ideal) k v ck q g c0 l dl (ix2 r x) * k (ix2 x d) := by
  pointwise [k0_pay15]
theorem pay1_at (r : Fin 512) (d : Fin 128) : k0_pay1 (F := Ideal) a b (ix2 r d) = a (ix2 r d) + b (ix2 r d) * Ideal.ofBits .f32 0x3DB504F3#32 := by
  pointwise [k0_pay1]
theorem pay2_at (r : Fin 512) (d : Fin 128) : k0_pay2 (F := Ideal) s a (ix2 r d) = a (ix2 r d) + ∑ x, s (ix2 r x) := by
  pointwise [k0_pay2]
theorem pay3_at (t : Fin 512) : k0_pay3 (F := Ideal) ak s (ix2 0 t) = ak (ix2 0 t) + ∑ x, s (ix2 x t) := by
  pointwise [k0_pay3]
theorem pay7_at (r : Fin 512) (d : Fin 128) : k0_pay7 (F := Ideal) a (ix2 r d) = a (ix2 r d) := by
  pointwise [k0_pay7]
theorem pay8_at (r : Fin 512) (d : Fin 128) : k0_pay8 (F := Ideal) a (ix2 r d) = a (ix2 r d) := by
  pointwise [k0_pay8]
theorem pay9_at (t : Fin 512) : k0_pay9 (F := Ideal) ak (ix3 0 0 t) = 0 - ak (ix2 0 t) := by
  pointwise [k0_pay9]
theorem pay10_at (A : FVec Ideal S4096x128 .f32) (r : Fin 4096) (d : Fin 128) : k0_pay10 (F := Ideal) A (ix2 r d) = A (ix2 r d) := by
  pointwise [k0_pay10]
theorem pay21_at (r : Fin 4096) (d : Fin 128) : k0_pay21 (F := Ideal) (ix2 r d) = 0 := by
  pointwise [k0_pay21]
theorem pay22_at (r : Fin 4096) (d : Fin 128) : k0_pay22 (F := Ideal) (ix2 r d) = 0 := by
  pointwise [k0_pay22]
theorem pay23_at (c3 : FVec Ideal S1x1x512 .f32) (t : Fin 512) : k0_pay23 (F := Ideal) c3 (ix2 0 t) = c3 (ix3 0 0 t) := by
  pointwise [k0_pay23]
theorem pay24_at (r : Fin 512) (d : Fin 128) : k0_pay24 (F := Ideal) (ix2 r d) = 0 := by
  pointwise [k0_pay24]
theorem pay25_at (r : Fin 512) (d : Fin 128) : k0_pay25 (F := Ideal) (ix2 r d) = 0 := by
  pointwise [k0_pay25]
theorem pay26_at (t : Fin 512) : k0_pay26 (F := Ideal) (ix2 0 t) = 0 := by
  pointwise [k0_pay26]
theorem pay27_at (c3 : FVec Ideal S1x1x512 .f32) (r t : Fin 512) : k0_pay27 (F := Ideal) k c3 q c0 (ix2 r t)
    = if t.val ≤ r.val then (∑ x, q (ix2 r x) * k (ix2 t x)) * Ideal.ofBits .f32 0x3DB504F3#32 + (c0 (ix2 0 0) - c3 (ix3 0 0 t)) else ⊥ := by
  have h : k0_pay27 (F := Ideal) k c3 q c0 (ix2 r t)
      = Scalar.select (IntOp.cmpi .sle (BitVec.ofNat 32 t.val) (BitVec.ofNat 32 r.val))
        ((∑ x, q (ix2 r x) * k (ix2 t x)) * Ideal.ofBits .f32 0x3DB504F3#32 + (c0 (ix2 0 0) - c3 (ix3 0 0 t))) (Named.named (F := Ideal) (φ := .f32) κ "mask" 0xF149F2CA#32) := by
    pointwise [k0_pay27, k0_pay23]
  rw [h, mask_eq, select_sle _ _ (by omega) (by omega)]
theorem pay28_at (r t : Fin 512) : k0_pay28 (F := Ideal) s l (ix2 r t) = Ideal.exp (s (ix2 r t) - l (ix2 r 0)) := by
  pointwise [k0_pay28]
theorem pay30_at (r t : Fin 512) : k0_pay30 (F := Ideal) v g s l dl (ix2 r t)
    = k0_pay28 (F := Ideal) s l (ix2 r t) * (∑ x, g (ix2 r x) * v (ix2 t x) - dl (ix2 r 0)) := by
  pointwise [k0_pay30]
theorem pay29_at (t : Fin 512) (d : Fin 128) : k0_pay29 (F := Ideal) a g s l (ix2 t d)
    = a (ix2 t d) + ∑ x, k0_pay28 (F := Ideal) s l (ix2 x t) * g (ix2 x d) := by
  pointwise [k0_pay29]
theorem pay31_at (t : Fin 512) (d : Fin 128) : k0_pay31 (F := Ideal) v a q g s l dl (ix2 t d)
    = a (ix2 t d) + (∑ x, k0_pay30 (F := Ideal) v g s l dl (ix2 x t) * q (ix2 x d)) * Ideal.ofBits .f32 0x3DB504F3#32 := by
  pointwise [k0_pay31]
theorem pay32_at (r : Fin 512) (d : Fin 128) : k0_pay32 (F := Ideal) k v g s l dl a (ix2 r d)
    = a (ix2 r d) + (∑ x, k0_pay30 (F := Ideal) v g s l dl (ix2 r x) * k (ix2 x d)) * Ideal.ofBits .f32 0x3DB504F3#32 := by
  pointwise [k0_pay32]
theorem pay33_at (r : Fin 512) (d : Fin 128) : k0_pay33 (F := Ideal) v g s l dl a (ix2 r d)
    = a (ix2 r d) + ∑ x, k0_pay30 (F := Ideal) v g s l dl (ix2 r x) := by
  pointwise [k0_pay33]
theorem pay34_at (t : Fin 512) : k0_pay34 (F := Ideal) v ak g s l dl (ix2 0 t)
    = ak (ix2 0 t) + ∑ x, k0_pay30 (F := Ideal) v g s l dl (ix2 x t) := by
  pointwise [k0_pay34]
end Cert.KernelIdeal.Hand
-- ==== Proof.Tile.lean ====
module

public import proofs.«01_k».proof.Proof.Run
public import proofs.«01_k».proof.Proof.Pay

@[expose] public section
set_option maxRecDepth 16384
noncomputable section
namespace Cert.KernelIdeal.Hand
open Cert.KernelIdeal Cert.KernelIdeal.Gen Cert.Fox
open Idealize.ShloMosaic Idealize.ShloMosaic.TcCoe Idealize.SL.Sem

/-! ## Where a point's tiles lie -/

theorem off1_eq : ∀ t : Fin cfg0.N, k0_off1 (grid0.coords t) = ![512 * (t.val % 8), 0] :=
  (by decide +kernel : ∀ t : Fin grid0.N, k0_off1 (grid0.coords t) = ![512 * (t.val % 8), 0])
theorem off2_eq : ∀ t : Fin cfg0.N, k0_off2 (grid0.coords t) = ![8 * (t.val % 8), 0] :=
  (by decide +kernel : ∀ t : Fin grid0.N, k0_off2 (grid0.coords t) = ![8 * (t.val % 8), 0])
theorem off3_eq : ∀ t : Fin cfg0.N, k0_off3 (grid0.coords t) = ![512 * (t.val % 8), 0] :=
  (by decide +kernel : ∀ t : Fin grid0.N, k0_off3 (grid0.coords t) = ![512 * (t.val % 8), 0])
theorem trips_eq : ∀ t : Fin cfg0.N, (k0_t1_loop (grid0.coords t)).trips = 7 - t.val % 8 :=
  (by decide +kernel : ∀ t : Fin grid0.N, (k0_t1_loop (grid0.coords t)).trips = 7 - t.val % 8)
theorem off4_eq : ∀ (t : Fin cfg0.N) (u : Fin (k0_t1_loop (grid0.coords t)).trips), k0_off4 (grid0.coords t) u = ![512 * (t.val % 8 + (u.val + 1)), 0] :=
  (by decide +kernel : ∀ (t : Fin grid0.N) (u : Fin (k0_t1_loop (grid0.coords t)).trips), k0_off4 (grid0.coords t) u = ![512 * (t.val % 8 + (u.val + 1)), 0])
theorem off5_eq : ∀ (t : Fin cfg0.N) (u : Fin (k0_t1_loop (grid0.coords t)).trips), k0_off5 (grid0.coords t) u = ![8 * (t.val % 8 + (u.val + 1)), 0] :=
  (by decide +kernel : ∀ (t : Fin grid0.N) (u : Fin (k0_t1_loop (grid0.coords t)).trips), k0_off5 (grid0.coords t) u = ![8 * (t.val % 8 + (u.val + 1)), 0])
theorem off6_eq : ∀ (t : Fin cfg0.N) (u : Fin (k0_t1_loop (grid0.coords t)).trips), k0_off6 (grid0.coords t) u = ![512 * (t.val % 8 + (u.val + 1)), 0] :=
  (by decide +kernel : ∀ (t : Fin grid0.N) (u : Fin (k0_t1_loop (grid0.coords t)).trips), k0_off6 (grid0.coords t) u = ![512 * (t.val % 8 + (u.val + 1)), 0])

/-- A tile of rows read at an index. -/
theorem ld_rows {e : EltTy} (X : Vec Ideal S4096x128 e) (off : Fin 2 → ℕ) (inb : ∀ a, off a + S512x128.size a ≤ S4096x128.size a)
    (n : ℕ) (hn : n < 8) (h : off = ![512 * n, 0]) (a : Fin 512) (d : Fin 128) :
    View.ld X (Rect.unit (s := S4096x128) off S512x128.size inb) (ix2 a d) = X (ix2 ⟨512 * n + a.val, by omega⟩ d) := by
  subst h
  refine congrArg X (funext fun b => Fin.ext ?_)
  match b with
  | ⟨0, _⟩ => exact congrArg (512 * n + ·) (Nat.one_mul _)
  | ⟨1, _⟩ => exact (Nat.zero_add _).trans (Nat.one_mul _)
theorem ld_lane {e : EltTy} (X : Vec Ideal S4096x128 e) (off : Fin 2 → ℕ) (inb : ∀ a, off a + S512x1.size a ≤ S4096x128.size a)
    (n : ℕ) (hn : n < 8) (h : off = ![512 * n, 0]) (a : Fin 512) :
    View.ld X (Rect.unit (s := S4096x128) off S512x1.size inb) (ix2 a 0) = X (ix2 ⟨512 * n + a.val, by omega⟩ 0) := by
  subst h
  refine congrArg X (funext fun b => Fin.ext ?_)
  match b with
  | ⟨0, _⟩ => exact congrArg (512 * n + ·) (Nat.one_mul _)
  | ⟨1, _⟩ => rfl
theorem ld_first {e : EltTy} (X : Vec Ideal S64x128 e) (off : Fin 2 → ℕ) (inb : ∀ a, off a + S8x128.size a ≤ S64x128.size a)
    (n : ℕ) (hn : n < 8) (h : off = ![8 * n, 0]) :
    View.ld X (Rect.unit (s := S64x128) off S8x128.size inb) (ix2 0 0) = X (ix2 ⟨8 * n, by omega⟩ 0) := by
  subst h
  refine congrArg X (funext fun b => Fin.ext ?_)
  match b with
  | ⟨0, _⟩ => rfl
  | ⟨1, _⟩ => rfl
theorem ld_wT {e : EltTy} (X : Vec Ideal S512x128 e) (a : Fin 512) (d : Fin 128) : View.ld X wT (ix2 a d) = X (ix2 a d) := by
  refine congrArg X (funext fun b => Fin.ext ?_)
  match b with
  | ⟨0, _⟩ => exact (Nat.zero_add _).trans (Nat.one_mul _)
  | ⟨1, _⟩ => exact (Nat.zero_add _).trans (Nat.one_mul _)
theorem ld_wC {e : EltTy} (X : Vec Ideal S1x1x512 e) (a : Fin 512) : View.ld X wC (ix3 0 0 a) = X (ix3 0 0 a) := by
  refine congrArg X (funext fun b => Fin.ext ?_)
  match b with
  | ⟨0, _⟩ => rfl
  | ⟨1, _⟩ => rfl
  | ⟨2, _⟩ => exact (Nat.zero_add _).trans (Nat.one_mul _)
theorem ld_wF {e : EltTy} (X : Vec Ideal S4096x128 e) (a : Fin 4096) (d : Fin 128) : View.ld X wF (ix2 a d) = X (ix2 a d) := by
  refine congrArg X (funext fun b => Fin.ext ?_)
  match b with
  | ⟨0, _⟩ => exact (Nat.zero_add _).trans (Nat.one_mul _)
  | ⟨1, _⟩ => exact (Nat.zero_add _).trans (Nat.one_mul _)
/-- A tile of rows laid over an array, read at an index. -/
theorem overlay_rows {α : Type} (A : S4096x128.Idx → α) (off : Fin 2 → ℕ) (inb : ∀ a, off a + S512x128.size a ≤ S4096x128.size a)
    (w : S512x128.Idx → α) (n : ℕ) (hn : n < 8) (h : off = ![512 * n, 0]) (i : Fin 4096) (d : Fin 128) :
    (Rect.unit (s := S4096x128) off S512x128.size inb).overlay A w (ix2 i d)
      = if i.val / 512 = n then w (ix2 ⟨i.val % 512, by omega⟩ d) else A (ix2 i d) := by
  subst h
  by_cases hi : i.val / 512 = n
  · rw [if_pos hi]
    have e : (Rect.unit (s := S4096x128) ![512 * n, 0] S512x128.size inb).emb (ix2 ⟨i.val % 512, by omega⟩ d) = ix2 i d := by
      refine funext fun b => Fin.ext ?_
      match b with
      | ⟨0, _⟩ =>
        refine (congrArg (512 * n + ·) (Nat.one_mul (i.val % 512))).trans ?_
        show 512 * n + i.val % 512 = i.val
        omega
      | ⟨1, _⟩ => exact (Nat.zero_add _).trans (Nat.one_mul _)
    rw [← e]; exact Rect.overlay_emb _ _ _ _
  · rw [if_neg hi]
    refine Rect.overlay_of_not_mem _ _ _ fun hm => hi ?_
    have := (Rect.mem_set_unit.1 hm) 0
    have h1 : 512 * n ≤ i.val := this.1
    have h2 : i.val < 512 * n + 512 := this.2
    omega

/-! ## A tile's arithmetic on finite blocks -/

/-- What a block of rows holds. -/
structure Rows (H : Head) (n : ℕ) (q g : FVec Ideal S512x128 .bf16) (c0 : FVec Ideal S8x128 .f32) (l dl : FVec Ideal S512x1 .f32) : Prop where
  q : ∀ (a : Fin 512) (d : Fin 128), q (ix2 a d) = ((H.q (512 * n + a) d : ℝ) : EReal)
  g : ∀ (a : Fin 512) (d : Fin 128), g (ix2 a d) = ((H.g (512 * n + a) d : ℝ) : EReal)
  c0 : c0 (ix2 0 0) = ((H.c (512 * n) : ℝ) : EReal)
  l : ∀ a : Fin 512, l (ix2 a 0) = ((Real.log (H.Z (512 * n + a)) + (H.c (512 * n) - H.c (512 * n + a)) : ℝ) : EReal)
  dl : ∀ a : Fin 512, dl (ix2 a 0) = ((H.dl (512 * n + a) : ℝ) : EReal)
/-- What a block of keys holds. -/
structure Keys (H : Head) (j : ℕ) (k v : FVec Ideal S512x128 .bf16) (c : FVec Ideal S1x1x512 .f32) : Prop where
  k : ∀ (a : Fin 512) (d : Fin 128), k (ix2 a d) = ((H.k (512 * j + a) d : ℝ) : EReal)
  v : ∀ (a : Fin 512) (d : Fin 128), v (ix2 a d) = ((H.v (512 * j + a) d : ℝ) : EReal)
  c : ∀ a : Fin 512, c (ix3 0 0 a) = ((H.c (512 * j + a) : ℝ) : EReal)

section Block
variable {H : Head} {n j : ℕ} {k v q g : FVec Ideal S512x128 .bf16} {c3 : FVec Ideal S1x1x512 .f32} {c0 : FVec Ideal S8x128 .f32} {l dl : FVec Ideal S512x1 .f32}
  (R : Rows H n q g c0 l dl) (K : Keys H j k v c3) (hn : n < 8)
include R K hn
/-- Off the diagonal the tile's weights are the attention's. -/
theorem tile_P (hj : j < n) (r t : Fin 512) : k0_pay11 (F := Ideal) k (k0_pay23 (F := Ideal) c3) q c0 l (ix2 r t) = ((H.P (512 * n + r) (512 * j + t) : ℝ) : EReal) := by
  rw [pay11_at, pay23_at, K.c, R.c0, R.l, scale_eq]
  simp only [R.q, K.k, ← EReal.coe_mul, coe_sum, ← EReal.coe_sub, ← EReal.coe_add]
  rw [exp_coe, ← H.P_of_shift (H.c (512 * n)) (512 * n + r) (512 * j + t) (by omega) (by omega)]
  rfl
/-- On the diagonal likewise, where a key after its query weighs nothing. -/
theorem diag_P (hj : j = n) (r t : Fin 512) : k0_pay28 (F := Ideal) (k0_pay27 (F := Ideal) k c3 q c0) l (ix2 r t) = ((H.P (512 * n + r) (512 * j + t) : ℝ) : EReal) := by
  rw [pay28_at, pay27_at]
  split
  · rw [K.c, R.c0, R.l, scale_eq]
    simp only [R.q, K.k, ← EReal.coe_mul, coe_sum, ← EReal.coe_sub, ← EReal.coe_add]
    rw [exp_coe, ← H.P_of_shift (H.c (512 * n)) (512 * n + r) (512 * j + t) (by omega) (by omega)]
    rfl
  · rw [R.l, EReal.bot_sub, H.P_masked _ _ (by omega)]; rfl
theorem tile_ds (hj : j < n) (r t : Fin 512) : k0_pay13 (F := Ideal) k v (k0_pay23 (F := Ideal) c3) q g c0 l dl (ix2 r t) = ((H.ds (512 * n + r) (512 * j + t) : ℝ) : EReal) := by
  rw [pay13_at, tile_P R K hn hj, R.dl]
  simp only [R.g, K.v, ← EReal.coe_mul, coe_sum, ← EReal.coe_sub]
  rfl
theorem diag_ds (hj : j = n) (r t : Fin 512) : k0_pay30 (F := Ideal) v g (k0_pay27 (F := Ideal) k c3 q c0) l dl (ix2 r t) = ((H.ds (512 * n + r) (512 * j + t) : ℝ) : EReal) := by
  rw [pay30_at, diag_P R K hn hj, R.dl]
  simp only [R.g, K.v, ← EReal.coe_mul, coe_sum, ← EReal.coe_sub]
  rfl
end Block

end Cert.KernelIdeal.Hand

namespace Cert.Fox.Head
variable (H : Head)
/-! What row tile `n` adds to key tile `j`'s sums, and what key tile `j` adds to row `i`'s. -/
def tdk (n j : ℕ) (t : Fin 512) (d : Fin 128) : ℝ := (∑ x : Fin 512, H.ds (512 * n + x) (512 * j + t) * H.q (512 * n + x) d) * σ
def tdv (n j : ℕ) (t : Fin 512) (d : Fin 128) : ℝ := ∑ x : Fin 512, H.P (512 * n + x) (512 * j + t) * H.g (512 * n + x) d
def tdc (n j : ℕ) (t : Fin 512) : ℝ := ∑ x : Fin 512, H.ds (512 * n + x) (512 * j + t)
def rdq (i j : ℕ) (d : Fin 128) : ℝ := (∑ x : Fin 512, H.ds i (512 * j + x) * H.k (512 * j + x) d) * σ
def rdc (i j : ℕ) : ℝ := ∑ x : Fin 512, H.ds i (512 * j + x)
theorem rdq_masked (i j : ℕ) (d : Fin 128) (h : i < 512 * j) : H.rdq i j d = 0 := by
  unfold rdq; rw [Finset.sum_eq_zero fun x _ => by rw [H.ds_masked _ _ (by omega), zero_mul], zero_mul]
theorem rdc_masked (i j : ℕ) (h : i < 512 * j) : H.rdc i j = 0 :=
  Finset.sum_eq_zero fun x _ => H.ds_masked _ _ (by omega)
end Cert.Fox.Head

namespace Cert.KernelIdeal.Hand
open Cert.KernelIdeal Cert.KernelIdeal.Gen Cert.Fox
open Idealize.ShloMosaic Idealize.ShloMosaic.TcCoe Idealize.SL.Sem

/-! ## A point's state -/

/-- What the body's input blocks hold, for head `H` and key tile `j`. -/
structure Fits (X : Ins Ideal) (H : Head) (j : ℕ) : Prop where
  q : ∀ (r : Fin 4096) (d : Fin 128), X.q (ix2 r d) = ((H.q r d : ℝ) : EReal)
  k : ∀ (a : Fin 512) (d : Fin 128), X.k (ix2 a d) = ((H.k (512 * j + a) d : ℝ) : EReal)
  v : ∀ (a : Fin 512) (d : Fin 128), X.v (ix2 a d) = ((H.v (512 * j + a) d : ℝ) : EReal)
  g : ∀ (r : Fin 4096) (d : Fin 128), X.g (ix2 r d) = ((H.g r d : ℝ) : EReal)
  lse : ∀ (r : Fin 4096) (d : Fin 128), X.lse (ix2 r d) = ((Real.log (H.Z r) + (H.c (512 * (r.val / 512)) - H.c r) : ℝ) : EReal)
  dl : ∀ (r : Fin 4096) (d : Fin 128), X.dl (ix2 r d) = ((H.dl r : ℝ) : EReal)
  c0 : ∀ (r : Fin 64) (d : Fin 128), X.c0 (ix2 r d) = ((H.c (512 * (r.val / 8)) : ℝ) : EReal)
  ck : ∀ a : Fin 512, X.ck (ix3 0 0 a) = ((H.c (512 * j + a) : ℝ) : EReal)

theorem Fits.keys {X : Ins Ideal} {H : Head} {j : ℕ} (f : Fits X H j) : Keys H j (View.ld X.k wT) (View.ld X.v wT) (View.ld X.ck wC) where
  k a d := by rw [ld_wT]; exact f.k a d
  v a d := by rw [ld_wT]; exact f.v a d
  c a := by rw [ld_wC]; exact f.ck a
theorem Fits.rows {X : Ins Ideal} {H : Head} {j : ℕ} (f : Fits X H j) (n : ℕ) (hn : n < 8) (o1 o2 o3 : Fin 2 → ℕ)
    (i1 : ∀ a, o1 a + S512x128.size a ≤ S4096x128.size a) (i2 : ∀ a, o2 a + S8x128.size a ≤ S64x128.size a) (i3 : ∀ a, o3 a + S512x1.size a ≤ S4096x128.size a)
    (h1 : o1 = ![512 * n, 0]) (h2 : o2 = ![8 * n, 0]) (h3 : o3 = ![512 * n, 0]) :
    Rows H n (View.ld X.q (Rect.unit (s := S4096x128) o1 S512x128.size i1)) (View.ld X.g (Rect.unit (s := S4096x128) o1 S512x128.size i1))
      (View.ld X.c0 (Rect.unit (s := S64x128) o2 S8x128.size i2)) (View.ld X.lse (Rect.unit (s := S4096x128) o3 S512x1.size i3)) (View.ld X.dl (Rect.unit (s := S4096x128) o3 S512x1.size i3)) where
  q a d := by rw [ld_rows _ _ _ n hn h1]; exact f.q _ d
  g a d := by rw [ld_rows _ _ _ n hn h1]; exact f.g _ d
  c0 := by
    rw [ld_first _ _ _ n hn h2, f.c0]
    have : 8 * n / 8 = n := by omega
    dsimp only; rw [this]
  l a := by
    rw [ld_lane _ _ _ n hn h3, f.lse]
    have : (512 * n + a.val) / 512 = n := by omega
    dsimp only; rw [this]
  dl a := by rw [ld_lane _ _ _ n hn h3]; exact f.dl _ 0

/-- The state after the diagonal and `n` further row tiles, from accumulators holding `B13` and `B15`. -/
structure Inv (H : Head) (j n : ℕ) (B13 B15 : Fin 4096 → Fin 128 → ℝ) (s : Carry Ideal × Vec Ideal S4096x128 .f32 × Vec Ideal S4096x128 .f32) : Prop where
  dk : ∀ (a : Fin 512) (d : Fin 128), s.1.1 (ix2 a d) = ((∑ u ∈ Finset.range (n + 1), H.tdk (j + u) j a d : ℝ) : EReal)
  dv : ∀ (a : Fin 512) (d : Fin 128), s.1.2.1 (ix2 a d) = ((∑ u ∈ Finset.range (n + 1), H.tdv (j + u) j a d : ℝ) : EReal)
  dc : ∀ a : Fin 512, s.1.2.2 (ix2 0 a) = ((∑ u ∈ Finset.range (n + 1), H.tdc (j + u) j a : ℝ) : EReal)
  cq : ∀ (i : Fin 4096) (d : Fin 128), s.2.1 (ix2 i d) = ((B13 i d + if j ≤ i.val / 512 ∧ i.val / 512 < j + (n + 1) then H.rdc i j else 0 : ℝ) : EReal)
  dq : ∀ (i : Fin 4096) (d : Fin 128), s.2.2 (ix2 i d) = ((B15 i d + if j ≤ i.val / 512 ∧ i.val / 512 < j + (n + 1) then H.rdq i j d else 0 : ℝ) : EReal)

variable (t : Fin cfg0.N) {X : Ins Ideal} {H : Head} (f : Fits X H (t.val % 8)) {B13 B15 : Fin 4096 → Fin 128 → ℝ}
include f
theorem diag_inv {A13 A15 : Vec Ideal S4096x128 .f32} (h13 : ∀ i d, A13 (ix2 i d) = ((B13 i d : ℝ) : EReal)) (h15 : ∀ i d, A15 (ix2 i d) = ((B15 i d : ℝ) : EReal)) :
    Inv H (t.val % 8) 0 B13 B15 (diagSt (grid0.coords t) X A13 A15) := by
  have hn : t.val % 8 < 8 := by omega
  have R := f.rows (t.val % 8) hn _ _ _ (k0_off1_inb (grid0.coords t)) (k0_off2_inb (grid0.coords t)) (k0_off3_inb (grid0.coords t)) (off1_eq t) (off2_eq t) (off3_eq t)
  have K := f.keys
  unfold diagSt diagS
  constructor
  · intro a d
    dsimp only
    rw [pay31_at, pay24_at, zero_add, scale_eq, Finset.sum_range_one]
    simp only [diag_ds R K hn rfl, R.q, ← EReal.coe_mul, coe_sum]
    rfl
  · intro a d
    dsimp only
    rw [pay29_at, pay25_at, zero_add, Finset.sum_range_one]
    simp only [diag_P R K hn rfl, R.g, ← EReal.coe_mul, coe_sum]
    rfl
  · intro a
    dsimp only
    rw [pay34_at, pay26_at, zero_add, Finset.sum_range_one]
    simp only [diag_ds R K hn rfl, coe_sum]
    rfl
  · intro i d
    dsimp only
    rw [overlay_rows _ _ _ _ _ hn (off1_eq t)]
    by_cases hi : i.val / 512 = t.val % 8
    · rw [if_pos hi, if_pos (by omega), pay33_at, ld_rows _ _ _ _ hn (off1_eq t), h13]
      simp only [diag_ds R K hn rfl, coe_sum, ← EReal.coe_add]
      have : 512 * (t.val % 8) + i.val % 512 = i.val := by omega
      simp only [this]
      rfl
    · rw [if_neg hi, if_neg (by omega), h13, add_zero]
  · intro i d
    dsimp only
    rw [overlay_rows _ _ _ _ _ hn (off1_eq t)]
    by_cases hi : i.val / 512 = t.val % 8
    · rw [if_pos hi, if_pos (by omega), pay32_at, ld_rows _ _ _ _ hn (off1_eq t), h15, scale_eq]
      simp only [diag_ds R K hn rfl, K.k, ← EReal.coe_mul, coe_sum, ← EReal.coe_add]
      have : 512 * (t.val % 8) + i.val % 512 = i.val := by omega
      simp only [this]
      rfl
    · rw [if_neg hi, if_neg (by omega), h15, add_zero]

theorem trip_inv {s0 : Carry Ideal × Vec Ideal S4096x128 .f32 × Vec Ideal S4096x128 .f32} (h0 : Inv H (t.val % 8) 0 B13 B15 s0) :
    ∀ n, n ≤ 7 - t.val % 8 → Inv H (t.val % 8) n B13 B15 (St (grid0.coords t) X s0 n)
  | 0, _ => h0
  | n + 1, hle => by
    have ih := trip_inv h0 n (by omega)
    have hlt : n < (k0_t1_loop (grid0.coords t)).trips := by rw [trips_eq]; omega
    have hst : St (grid0.coords t) X s0 (n + 1) = _ := dif_pos hlt
    rw [hst]
    have hn : t.val % 8 + (n + 1) < 8 := by omega
    have hj : t.val % 8 < t.val % 8 + (n + 1) := by omega
    have R := f.rows (t.val % 8 + (n + 1)) hn _ _ _ (k0_off4_inb (grid0.coords t) ⟨n, hlt⟩) (k0_off5_inb (grid0.coords t) ⟨n, hlt⟩) (k0_off6_inb (grid0.coords t) ⟨n, hlt⟩)
      (off4_eq t ⟨n, hlt⟩) (off5_eq t ⟨n, hlt⟩) (off6_eq t ⟨n, hlt⟩)
    have K := f.keys
    unfold tripAcc tripC tripQ tripDs
    constructor
    · intro a d
      dsimp only
      rw [pay14_at, ih.dk, scale_eq, Finset.sum_range_succ _ (n + 1)]
      simp only [tile_ds R K hn hj, R.q, ← EReal.coe_mul, coe_sum, ← EReal.coe_add]
      rfl
    · intro a d
      dsimp only
      rw [pay12_at, ih.dv, Finset.sum_range_succ _ (n + 1)]
      simp only [tile_P R K hn hj, R.g, ← EReal.coe_mul, coe_sum, ← EReal.coe_add]
      rfl
    · intro a
      dsimp only
      rw [pay3_at, ih.dc, Finset.sum_range_succ _ (n + 1)]
      simp only [tile_ds R K hn hj, coe_sum, ← EReal.coe_add]
      rfl
    · intro i d
      dsimp only
      rw [overlay_rows _ _ _ _ _ hn (off4_eq t ⟨n, hlt⟩)]
      by_cases hi : i.val / 512 = t.val % 8 + (n + 1)
      · rw [if_pos hi, if_pos (by omega), pay2_at, ld_rows _ _ _ _ hn (off4_eq t ⟨n, hlt⟩), ih.cq]
        simp only [tile_ds R K hn hj, coe_sum, ← EReal.coe_add]
        have : 512 * (t.val % 8 + (n + 1)) + i.val % 512 = i.val := by omega
        simp only [this, Fin.eta]
        rw [if_neg (by omega), add_zero]
        rfl
      · rw [if_neg hi, ih.cq]
        exact congrArg _ (congrArg _ (if_congr (by omega) rfl rfl))
    · intro i d
      dsimp only
      rw [overlay_rows _ _ _ _ _ hn (off4_eq t ⟨n, hlt⟩)]
      by_cases hi : i.val / 512 = t.val % 8 + (n + 1)
      · rw [if_pos hi, if_pos (by omega), pay1_at, pay15_at, ld_rows _ _ _ _ hn (off4_eq t ⟨n, hlt⟩), ih.dq, scale_eq]
        simp only [tile_ds R K hn hj, K.k, ← EReal.coe_mul, coe_sum, ← EReal.coe_add]
        have : 512 * (t.val % 8 + (n + 1)) + i.val % 512 = i.val := by omega
        simp only [this, Fin.eta]
        rw [if_neg (by omega), add_zero]
        rfl
      · rw [if_neg hi, ih.dq]
        exact congrArg _ (congrArg _ (if_congr (by omega) rfl rfl))

/-- What a point leaves. -/
theorem pt_inv {A13 A15 : Vec Ideal S4096x128 .f32} (h13 : ∀ i d, A13 (ix2 i d) = ((B13 i d : ℝ) : EReal)) (h15 : ∀ i d, A15 (ix2 i d) = ((B15 i d : ℝ) : EReal)) :
    Inv H (t.val % 8) (7 - t.val % 8) B13 B15 (ptSt (grid0.coords t) X A13 A15) := by
  unfold ptSt
  rw [trips_eq]
  exact trip_inv t f (diag_inv t f h13 h15) _ le_rfl
omit f in
theorem Inv.cq_all {s : Carry Ideal × Vec Ideal S4096x128 .f32 × Vec Ideal S4096x128 .f32} (v : Inv H (t.val % 8) (7 - t.val % 8) B13 B15 s) (i : Fin 4096) (d : Fin 128) :
    s.2.1 (ix2 i d) = ((B13 i d + H.rdc i (t.val % 8) : ℝ) : EReal) := by
  rw [v.cq]
  by_cases hi : t.val % 8 ≤ i.val / 512
  · rw [if_pos ⟨hi, by omega⟩]
  · rw [if_neg fun h => hi h.1, H.rdc_masked _ _ (by omega)]
omit f in
theorem Inv.dq_all {s : Carry Ideal × Vec Ideal S4096x128 .f32 × Vec Ideal S4096x128 .f32} (v : Inv H (t.val % 8) (7 - t.val % 8) B13 B15 s) (i : Fin 4096) (d : Fin 128) :
    s.2.2 (ix2 i d) = ((B15 i d + H.rdq i (t.val % 8) d : ℝ) : EReal) := by
  rw [v.dq]
  by_cases hi : t.val % 8 ≤ i.val / 512
  · rw [if_pos ⟨hi, by omega⟩]
  · rw [if_neg fun h => hi h.1, H.rdq_masked _ _ _ (by omega)]
end Cert.KernelIdeal.Hand
-- ==== Proof.Blocks.lean ====
module

public import proofs.«01_k».proof.Proof.Host
public import proofs.«01_k».proof.Proof.Tile
public import Idealize.ShloMosaic.Lib.Pipeline.ValueKit
public import Idealize.ShloMosaic.Lib.Claim

@[expose] public section
set_option maxRecDepth 16384
noncomputable section
namespace Cert.KernelIdeal.Hand
open Cert.KernelIdeal Cert.KernelIdeal.Gen Cert.Fox
open Idealize.ShloMosaic Idealize.ShloMosaic.TcCoe Idealize.SL.Sem

/-! ## The windows' blocks -/

theorem idx_in : ∀ t : Fin cfg0.N, win0_0.index t = ![0, t.val / 8] ∧ win0_1.index t = ![t.val % 8, 32 + t.val / 8]
    ∧ win0_2.index t = ![t.val % 8, 64 + t.val / 8] ∧ win0_3.index t = ![0, t.val / 8] ∧ win0_4.index t = ![0, t.val / 8]
    ∧ win0_5.index t = ![0, t.val / 8] ∧ win0_6.index t = ![0, t.val / 8] ∧ win0_7.index t = ![t.val / 8, 0, t.val % 8] :=
  (by decide +kernel : ∀ t : Fin grid0.N, _)
theorem idx_out : ∀ t : Fin cfg0.N, win0_8.index t = ![0, t.val / 8] ∧ win0_9.index t = ![t.val % 8, t.val / 8]
    ∧ win0_10.index t = ![t.val % 8, t.val / 8] ∧ win0_11.index t = ![0, t.val / 8] ∧ win0_12.index t = ![t.val / 8, 0, t.val % 8] :=
  (by decide +kernel : ∀ t : Fin grid0.N, _)

variable (m : (ℓ : Loc nD τ sig) → Buf (Elt Ideal) ℓ) (c : Dev nD)

/-- The head a point works on. -/
def hd (t : Fin cfg0.N) : Fin 32 := ⟨t.val / 8, by have : t.val < 256 := t.isLt; omega⟩

theorem blk0 (t : Fin cfg0.N) (r : Fin 4096) (d : Fin 128) : iblk m c 0 t (ix2 r d) = V m c main_arg0 (ix2 r ⟨(hd t).val * 128 + d.val, by omega⟩) := by
  obtain ⟨h0, h1, h2, h3, h4, h5, h6, h7⟩ := idx_in t
  unfold hd
  blk_simp [iblk]
  blk_ext [h0]
theorem blk1 (t : Fin cfg0.N) (a : Fin 512) (d : Fin 128) : iblk m c 1 t (ix2 a d)
    = V m c main_arg0 (ix2 ⟨512 * (t.val % 8) + a.val, by omega⟩ ⟨4096 + ((hd t).val * 128 + d.val), by omega⟩) := by
  obtain ⟨h0, h1, h2, h3, h4, h5, h6, h7⟩ := idx_in t
  unfold hd
  blk_simp [iblk]
  blk_ext [h1]
theorem blk2 (t : Fin cfg0.N) (a : Fin 512) (d : Fin 128) : iblk m c 2 t (ix2 a d)
    = V m c main_arg0 (ix2 ⟨512 * (t.val % 8) + a.val, by omega⟩ ⟨8192 + ((hd t).val * 128 + d.val), by omega⟩) := by
  obtain ⟨h0, h1, h2, h3, h4, h5, h6, h7⟩ := idx_in t
  unfold hd
  blk_simp [iblk]
  blk_ext [h2]
theorem blk3 (t : Fin cfg0.N) (r : Fin 4096) (d : Fin 128) : iblk m c 3 t (ix2 r d) = V m c main_arg1 (ix2 r ⟨(hd t).val * 128 + d.val, by omega⟩) := by
  obtain ⟨h0, h1, h2, h3, h4, h5, h6, h7⟩ := idx_in t
  unfold hd
  blk_simp [iblk]
  blk_ext [h3]
theorem blk4_of (G : Buf (Elt Ideal) ((cfg0.win 4).arr.view.loc (c.tc : Thread nD τ))) (t : Fin cfg0.N) (r : Fin 4096) (d : Fin 128) :
    ((cfg0.win 4).blk t).view.read (Elt Ideal) G (ix2 r d) = G (ix2 r ⟨(hd t).val * 128 + d.val, by omega⟩) := by
  obtain ⟨h0, h1, h2, h3, h4, h5, h6, h7⟩ := idx_in t
  unfold hd
  blk_simp
  blk_ext [h4]
theorem blk4 (t : Fin cfg0.N) (r : Fin 4096) (d : Fin 128) : iblk m c 4 t (ix2 r d) = V m c main_v59 (ix2 r ⟨(hd t).val * 128 + d.val, by omega⟩) :=
  blk4_of c (V m c main_v59) t r d
theorem blk5 (t : Fin cfg0.N) (r : Fin 4096) (d : Fin 128) : iblk m c 5 t (ix2 r d) = V m c main_v61 (ix2 r ⟨(hd t).val * 128 + d.val, by omega⟩) := by
  obtain ⟨h0, h1, h2, h3, h4, h5, h6, h7⟩ := idx_in t
  unfold hd
  blk_simp [iblk]
  blk_ext [h5]
theorem blk6 (t : Fin cfg0.N) (r : Fin 64) (d : Fin 128) : iblk m c 6 t (ix2 r d) = V m c main_v42 (ix2 r ⟨(hd t).val * 128 + d.val, by omega⟩) := by
  obtain ⟨h0, h1, h2, h3, h4, h5, h6, h7⟩ := idx_in t
  unfold hd
  blk_simp [iblk]
  blk_ext [h6]
theorem blk7 (t : Fin cfg0.N) (a : Fin 512) : iblk m c 7 t (ix3 0 0 a) = V m c main_v57 (ix3 (hd t) 0 ⟨512 * (t.val % 8) + a.val, by omega⟩) := by
  obtain ⟨h0, h1, h2, h3, h4, h5, h6, h7⟩ := idx_in t
  unfold hd
  blk_simp [iblk]
  blk_ext [h7]
end Cert.KernelIdeal.Hand
-- ==== Proof.Final.lean ====
module

public import proofs.«01_k».proof.Proof.Blocks

@[expose] public section
set_option maxRecDepth 16384
noncomputable section
namespace Cert.KernelIdeal.Hand
open Cert.KernelIdeal Cert.KernelIdeal.Gen Cert.Fox
open Idealize.ShloMosaic Idealize.ShloMosaic.TcCoe Idealize.SL.Sem
variable (m : (ℓ : Loc nD τ sig) → Buf (Elt Ideal) ℓ) (c : Dev nD)

/-! ## A point's state, by induction over the points -/

section Points
/-- The arguments the call is launched on. -/
abbrev argA : FVec Ideal S4096x12288 .bf16 := m ((c : Thread nD τ).loc main_arg0)
abbrev argD : FVec Ideal S4096x4096 .bf16 := m ((c : Thread nD τ).loc main_arg1)
abbrev argC : FVec Ideal S4096x32 .f32 := m ((c : Thread nD τ).loc main_arg2)
variable (hA : ∀ x, argA m c x ≠ ⊤ ∧ argA m c x ≠ ⊥) (hD : ∀ x, argD m c x ≠ ⊤ ∧ argD m c x ≠ ⊥) (hC : ∀ x, argC m c x ≠ ⊤ ∧ argC m c x ≠ ⊥)

/-- The head of the arguments a point works on. -/
def Hd (t : Fin cfg0.N) : Head := headAt (argA m c) (argD m c) (argC m c) (hd t)

theorem lane_div (h : Fin 32) (d : Fin 128) (p : (h.val * 128 + d.val) / 128 < 32) : (⟨(h.val * 128 + d.val) / 128, p⟩ : Fin 32) = h :=
  Fin.ext (by dsimp only; omega)

include hA in
theorem fit_q (t : Fin cfg0.N) (r : Fin 4096) (d : Fin 128) : iblk m c 0 t (ix2 r d) = (((Hd m c t).q r d : ℝ) : EReal) := by
  rw [blk0, V_main_arg0]; exact headAt_q (argA m c) (argD m c) (argC m c) hA (hd t) r d
include hA in
theorem fit_k (t : Fin cfg0.N) (a : Fin 512) (d : Fin 128) : iblk m c 1 t (ix2 a d) = (((Hd m c t).k (512 * (t.val % 8) + a) d : ℝ) : EReal) := by
  rw [blk1, V_main_arg0]; exact headAt_k (argA m c) (argD m c) (argC m c) hA (hd t) ⟨512 * (t.val % 8) + a.val, by omega⟩ d
include hA in
theorem fit_v (t : Fin cfg0.N) (a : Fin 512) (d : Fin 128) : iblk m c 2 t (ix2 a d) = (((Hd m c t).v (512 * (t.val % 8) + a) d : ℝ) : EReal) := by
  rw [blk2, V_main_arg0]; exact headAt_v (argA m c) (argD m c) (argC m c) hA (hd t) ⟨512 * (t.val % 8) + a.val, by omega⟩ d
include hD in
theorem fit_g (t : Fin cfg0.N) (r : Fin 4096) (d : Fin 128) : iblk m c 3 t (ix2 r d) = (((Hd m c t).g r d : ℝ) : EReal) := by
  rw [blk3, V_main_arg1]; exact headAt_g (argA m c) (argD m c) (argC m c) hD (hd t) r d
include hA hC in
theorem fit_lse (t : Fin cfg0.N) (r : Fin 4096) (d : Fin 128) : iblk m c 4 t (ix2 r d)
    = ((Real.log ((Hd m c t).Z r) + ((Hd m c t).c (512 * (r.val / 512)) - (Hd m c t).c r) : ℝ) : EReal) := by
  refine (blk4 m c t r d).trans ((congrFun (V_v59 m c) _).trans ((hLse_at (argA m c) (argC m c) r _).trans ?_))
  rw [lane_div]
  exact hLs_real (argA m c) (argD m c) (argC m c) hA hC (hd t) r
include hA hD hC in
theorem fit_dl (t : Fin cfg0.N) (r : Fin 4096) (d : Fin 128) : iblk m c 5 t (ix2 r d) = (((Hd m c t).dl r : ℝ) : EReal) := by
  refine (blk5 m c t r d).trans ((congrFun (V_v61 m c) _).trans ((hDl_at (argA m c) (argD m c) (argC m c) r _).trans ?_))
  rw [lane_div]
  exact hDs_real (argA m c) (argD m c) (argC m c) hA hD hC (hd t) r
include hC in
theorem fit_c0 (t : Fin cfg0.N) (r : Fin 64) (d : Fin 128) : iblk m c 6 t (ix2 r d) = (((Hd m c t).c (512 * (r.val / 8)) : ℝ) : EReal) := by
  refine (blk6 m c t r d).trans ((congrFun (V_v42 m c) _).trans ((hC0_at (argC m c) r _).trans ?_))
  rw [lane_div]
  exact headAt_c (argA m c) (argD m c) (argC m c) hC (hd t) ⟨512 * (r.val / 8), by omega⟩
include hC in
theorem fit_ck (t : Fin cfg0.N) (a : Fin 512) : iblk m c 7 t (ix3 0 0 a) = (((Hd m c t).c (512 * (t.val % 8) + a) : ℝ) : EReal) := by
  refine (blk7 m c t a).trans ((congrFun (V_v57 m c) _).trans ((hCt_at (argC m c) _ _).trans ?_))
  exact headAt_c (argA m c) (argD m c) (argC m c) hC (hd t) ⟨512 * (t.val % 8) + a.val, by omega⟩

omit hA hD hC in
theorem Fits.of {H : Head} {j : ℕ} {q : Vec Ideal S4096x128 .bf16} {k v : Vec Ideal S512x128 .bf16} {g : Vec Ideal S4096x128 .bf16}
    {ls dl : Vec Ideal S4096x128 .f32} {c0 : Vec Ideal S64x128 .f32} {ck : Vec Ideal S1x1x512 .f32}
    (hq : ∀ (r : Fin 4096) (d : Fin 128), q (ix2 r d) = ((H.q r d : ℝ) : EReal))
    (hk : ∀ (a : Fin 512) (d : Fin 128), k (ix2 a d) = ((H.k (512 * j + a) d : ℝ) : EReal))
    (hv : ∀ (a : Fin 512) (d : Fin 128), v (ix2 a d) = ((H.v (512 * j + a) d : ℝ) : EReal))
    (hg : ∀ (r : Fin 4096) (d : Fin 128), g (ix2 r d) = ((H.g r d : ℝ) : EReal))
    (hl : ∀ (r : Fin 4096) (d : Fin 128), ls (ix2 r d) = ((Real.log (H.Z r) + (H.c (512 * (r.val / 512)) - H.c r) : ℝ) : EReal))
    (hd : ∀ (r : Fin 4096) (d : Fin 128), dl (ix2 r d) = ((H.dl r : ℝ) : EReal))
    (h0 : ∀ (r : Fin 64) (d : Fin 128), c0 (ix2 r d) = ((H.c (512 * (r.val / 8)) : ℝ) : EReal))
    (hc : ∀ a : Fin 512, ck (ix3 0 0 a) = ((H.c (512 * j + a) : ℝ) : EReal)) : Fits ⟨q, k, v, g, ls, dl, c0, ck⟩ H j :=
  ⟨hq, hk, hv, hg, hl, hd, h0, hc⟩

include hA hD hC
/-- A point's blocks hold its head's rows and its key tile. -/
theorem fits (t : Fin cfg0.N) : Fits (insAt m c t) (Hd m c t) (t.val % 8) :=
  have hq := fit_q m c hA t
  have hk := fit_k m c hA t
  have hv := fit_v m c hA t
  have hg := fit_g m c hD t
  have hl := fit_lse m c hA hC t
  have hd := fit_dl m c hA hD hC t
  have h0 := fit_c0 m c hC t
  have hc := fit_ck m c hC t
  Fits.of (q := iblk m c 0 t) (k := iblk m c 1 t) (v := iblk m c 2 t) (g := iblk m c 3 t) (ls := iblk m c 4 t) (dl := iblk m c 5 t)
    (c0 := iblk m c 6 t) (ck := iblk m c 7 t) hq hk hv hg hl hd h0 hc

/-- What point `n` leaves: the sums over the key tiles up to its own. -/
theorem st_inv (n : ℕ) : ∀ hn : n < cfg0.N, Inv (Hd m c ⟨n, hn⟩) (n % 8) (7 - n % 8)
    (fun i _ => ∑ u ∈ Finset.range (n % 8), (Hd m c ⟨n, hn⟩).rdc i u) (fun i d => ∑ u ∈ Finset.range (n % 8), (Hd m c ⟨n, hn⟩).rdq i u d)
    (stAt m c ⟨n, hn⟩) := by
  induction n with
  | zero =>
    intro hn
    refine pt_inv ⟨0, hn⟩ (fits m c hA hD hC ⟨0, hn⟩) (fun i d => ?_) (fun i d => ?_)
    · rw [z13, if_pos ((isFirst_iff ⟨0, hn⟩).2 rfl), pay22_at]; simp
    · rw [z15, if_pos ((isFirst_iff ⟨0, hn⟩).2 rfl), pay21_at]; simp
  | succ n ih =>
    intro hn
    refine pt_inv ⟨n + 1, hn⟩ (fits m c hA hD hC ⟨n + 1, hn⟩) (fun i d => ?_) (fun i d => ?_)
    · by_cases h : (n + 1) % 8 = 0
      · rw [z13, if_pos ((isFirst_iff ⟨n + 1, hn⟩).2 h), pay22_at, h]; simp
      · rw [z13, if_neg (fun q => h ((isFirst_iff ⟨n + 1, hn⟩).1 q))]
        have hn' : n < cfg0.N := by omega
        have e : hd ⟨n, hn'⟩ = hd ⟨n + 1, hn⟩ := Fin.ext (by unfold hd; dsimp only; omega)
        have e' : (n + 1) % 8 = n % 8 + 1 := by omega
        have := (ih hn').cq_all ⟨n, hn'⟩ i d
        rw [← accAt_succ m c ⟨n, hn'⟩] at this
        rw [e', Finset.sum_range_succ]
        unfold Hd at this ⊢
        rw [← e]
        exact this
    · by_cases h : (n + 1) % 8 = 0
      · rw [z15, if_pos ((isFirst_iff ⟨n + 1, hn⟩).2 h), pay21_at, h]; simp
      · rw [z15, if_neg (fun q => h ((isFirst_iff ⟨n + 1, hn⟩).1 q))]
        have hn' : n < cfg0.N := by omega
        have e : hd ⟨n, hn'⟩ = hd ⟨n + 1, hn⟩ := Fin.ext (by unfold hd; dsimp only; omega)
        have e' : (n + 1) % 8 = n % 8 + 1 := by omega
        have := (ih hn').dq_all ⟨n, hn'⟩ i d
        rw [← accAt_succ m c ⟨n, hn'⟩] at this
        rw [e', Finset.sum_range_succ]
        unfold Hd at this ⊢
        rw [← e]
        exact this
end Points
end Cert.KernelIdeal.Hand
-- ==== Proof.RefTerm.lean ====
module

public import proofs.«01_k».proof.Proof.Gen.ReferenceIdeal.Run
public import Idealize.ShloMosaic.Lib.Pointwise

@[expose] public section
set_option maxRecDepth 16384
noncomputable section
namespace Cert.ReferenceIdeal.Hand
open Cert.ReferenceIdeal Cert.ReferenceIdeal.Gen Cert.ReferenceIdeal.Value
open Idealize.ShloMosaic Idealize.ShloMosaic.TcCoe Idealize.SL.Sem

/-! The reference's composed terms, by their parts. -/

/-- The queries, by head. -/
def refQ (A : FVec Ideal S4096x12288 .bf16) : FVec Ideal S4096x32x128 .f32 :=
  (shapeCast _ (extf .f32 (extractStridedSlice S4096x4096 ![0, 0] A slices_S4096x12288_S4096x4096_0_0) bitsLt_bf16_f32) shapeCasts_S4096x4096_S4096x32x128)
/-- The keys, by head. -/
def refK (A : FVec Ideal S4096x12288 .bf16) : FVec Ideal S4096x32x128 .f32 :=
  (shapeCast _ (extf .f32 (extractStridedSlice S4096x4096 ![0, 4096] A slices_S4096x12288_S4096x4096_0_4096) bitsLt_bf16_f32) shapeCasts_S4096x4096_S4096x32x128)
/-- The values, by head. -/
def refV (A : FVec Ideal S4096x12288 .bf16) : FVec Ideal S4096x32x128 .f32 :=
  (shapeCast _ (extf .f32 (extractStridedSlice S4096x4096 ![0, 8192] A slices_S4096x12288_S4096x4096_0_8192) bitsLt_bf16_f32) shapeCasts_S4096x4096_S4096x32x128)
/-- The gradient of the attention's output, by head. -/
def refO (D : FVec Ideal S4096x4096 .bf16) : FVec Ideal S4096x32x128 .f32 :=
  (shapeCast _ (extf .f32 D bitsLt_bf16_f32) shapeCasts_S4096x4096_S4096x32x128)
/-- Which keys a query sees. -/
def refMask : IVec S32x4096x4096 1 :=
  (broadcastInDim S32x4096x4096 ![1, 2] bcast_S4096x4096_S32x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
/-- The masked scores. -/
def refS (A : FVec Ideal S4096x12288 .bf16) (C : FVec Ideal S4096x32 .f32) : FVec Ideal S32x4096x4096 .f32 :=
  (select refMask (addf (mulf (Host.dotGeneral dot_S4096x32x128_S4096x32x128_S32x4096x4096_2_2_0_0_1_1 none (refQ A) (refK A)) (broadcastInDim S32x4096x4096 ![] bcast_S_S32x4096x4096 (constant S_ .f32 0x3DB504F3#32))) (subf (broadcastInDim S32x4096x4096 ![0, 1, 2] bcast_S32x4096x1_S32x4096x4096_0_1_2 (broadcastInDim S32x4096x1 ![0, 1] bcast_S32x4096_S32x4096x1_0_1 (transpose S32x4096 [1, 0] C transposes_S4096x32_S32x4096_1_0))) (broadcastInDim S32x4096x4096 ![0, 1, 2] bcast_S32x1x4096_S32x4096x4096_0_1_2 (broadcastInDim S32x1x4096 ![0, 2] bcast_S32x4096_S32x1x4096_0_2 (transpose S32x4096 [1, 0] C transposes_S4096x32_S32x4096_1_0))))) (broadcastInDim S32x4096x4096 ![] bcast_S_S32x4096x4096 (id (constant S_ .f32 0xFF800000#32))))
/-- The greatest score of each row, from the scores. -/
def refR (A : FVec Ideal S4096x12288 .bf16) (C : FVec Ideal S4096x32 .f32) : FVec Ideal S32x4096 .f32 :=
  (Host.reduce FloatOps.maximumf (refS A C) (constant S_ .f32 0xFF800000#32) reducesTo_S32x4096x4096_S32x4096_d2 h_S_)
/-- The greatest score of each row. -/
def refM (A : FVec Ideal S4096x12288 .bf16) (C : FVec Ideal S4096x32 .f32) : FVec Ideal S32x4096 .f32 :=
  (maximumf (broadcastInDim S32x4096 ![] bcast_S_S32x4096 (constant S_ .f32 0xFF800000#32)) (refR A C))
/-- The exponentials of the scores less the greatest. -/
def refE (A : FVec Ideal S4096x12288 .bf16) (C : FVec Ideal S4096x32 .f32) : FVec Ideal S32x4096x4096 .f32 :=
  (Host.exp (subf (refS A C) (broadcastInDim S32x4096x4096 ![0, 1, 2] bcast_S32x4096x1_S32x4096x4096_0_1_2 (broadcastInDim S32x4096x1 ![0, 1] bcast_S32x4096_S32x4096x1_0_1 (refM A C)))))
/-- The sums of the exponentials. -/
def refL (A : FVec Ideal S4096x12288 .bf16) (C : FVec Ideal S4096x32 .f32) : FVec Ideal S32x4096 .f32 :=
  (Host.reduceAdd (refE A C) (constant S_ .f32 0x00000000#32) reducesTo_S32x4096x4096_S32x4096_d2 h_S_)
/-- The products of the output gradient with the values. -/
def refG (A : FVec Ideal S4096x12288 .bf16) (D : FVec Ideal S4096x4096 .bf16) : FVec Ideal S32x4096x4096 .f32 :=
  (Host.dotGeneral dot_S32x128x4096_S4096x32x128_S32x4096x4096_1_2_2_0_0_1 none (transpose S32x128x4096 [1, 2, 0] (refO D) transposes_S4096x32x128_S32x128x4096_1_2_0) (refV A))
/-- The gradient of the masked scores. -/
def refDS (A : FVec Ideal S4096x12288 .bf16) (D : FVec Ideal S4096x4096 .bf16) (C : FVec Ideal S4096x32 .f32) : FVec Ideal S32x4096x4096 .f32 :=
  (select refMask (mulf (addf (Host.divf (refG A D) (broadcastInDim S32x4096x4096 ![0, 1, 2] bcast_S32x4096x1_S32x4096x4096_0_1_2 (broadcastInDim S32x4096x1 ![0, 1] bcast_S32x4096_S32x4096x1_0_1 (refL A C)))) (broadcastInDim S32x4096x4096 ![0, 1] bcast_S32x4096_S32x4096x4096_0_1 (Host.reduceAdd (Host.negf (shapeCast _ (Host.reduceAdd (mulf (mulf (refG A D) (broadcastInDim S32x4096x4096 ![0, 1, 2] bcast_S32x4096x1_S32x4096x4096_0_1_2 (Host.divf (broadcastInDim S32x4096x1 ![] bcast_S_S32x4096x1 (constant S_ .f32 0x3F800000#32)) (mulf (broadcastInDim S32x4096x1 ![0, 1] bcast_S32x4096_S32x4096x1_0_1 (refL A C)) (broadcastInDim S32x4096x1 ![0, 1] bcast_S32x4096_S32x4096x1_0_1 (refL A C)))))) (refE A C)) (constant S_ .f32 0x00000000#32) reducesTo_S32x4096x4096_S32x4096_d2 h_S_) shapeCasts_S32x4096_S32x4096x1)) (constant S_ .f32 0x00000000#32) reducesTo_S32x4096x1_S32x4096_d2 h_S_))) (refE A C)) (broadcastInDim S32x4096x4096 ![] bcast_S_S32x4096x4096 (constant S_ .f32 0x00000000#32)))
/-- The gradient of the queries. -/
def refDq (A : FVec Ideal S4096x12288 .bf16) (D : FVec Ideal S4096x4096 .bf16) (C : FVec Ideal S4096x32 .f32) : FVec Ideal S4096x4096 .bf16 :=
  truncf .bf16 (shapeCast _ (transpose S4096x32x128 [1, 0, 2] (Host.dotGeneral dot_S32x4096x4096_S4096x32x128_S32x4096x128_2_0_1_2_0_1 none (mulf (refDS A D C) (broadcastInDim S32x4096x4096 ![] bcast_S_S32x4096x4096 (constant S_ .f32 0x3DB504F3#32))) (refK A)) transposes_S32x4096x128_S4096x32x128_1_0_2) shapeCasts_S4096x32x128_S4096x4096) bitsLt_bf16_f32
/-- The gradient of the keys. -/
def refDk (A : FVec Ideal S4096x12288 .bf16) (D : FVec Ideal S4096x4096 .bf16) (C : FVec Ideal S4096x32 .f32) : FVec Ideal S4096x4096 .bf16 :=
  truncf .bf16 (shapeCast _ (transpose S4096x32x128 [1, 0, 2] (Host.dotGeneral dot_S32x4096x4096_S4096x32x128_S32x4096x128_1_0_2_2_0_1 none (mulf (refDS A D C) (broadcastInDim S32x4096x4096 ![] bcast_S_S32x4096x4096 (constant S_ .f32 0x3DB504F3#32))) (refQ A)) transposes_S32x4096x128_S4096x32x128_1_0_2) shapeCasts_S4096x32x128_S4096x4096) bitsLt_bf16_f32
/-- The gradient of the values. -/
def refDv (A : FVec Ideal S4096x12288 .bf16) (D : FVec Ideal S4096x4096 .bf16) (C : FVec Ideal S4096x32 .f32) : FVec Ideal S4096x4096 .bf16 :=
  truncf .bf16 (shapeCast _ (transpose S4096x32x128 [2, 0, 1] (Host.dotGeneral dot_S32x128x4096_S32x4096x4096_S32x128x4096_2_1_1_2_0_0 none (transpose S32x128x4096 [1, 2, 0] (refO D) transposes_S4096x32x128_S32x128x4096_1_2_0) (Host.divf (refE A C) (broadcastInDim S32x4096x4096 ![0, 1, 2] bcast_S32x4096x1_S32x4096x4096_0_1_2 (broadcastInDim S32x4096x1 ![0, 1] bcast_S32x4096_S32x4096x1_0_1 (refL A C))))) transposes_S32x128x4096_S4096x32x128_2_0_1) shapeCasts_S4096x32x128_S4096x4096) bitsLt_bf16_f32
/-- The gradient of the query side's gate sums. -/
def refDcq (A : FVec Ideal S4096x12288 .bf16) (D : FVec Ideal S4096x4096 .bf16) (C : FVec Ideal S4096x32 .f32) : FVec Ideal S4096x4096 .f32 :=
  shapeCast _ (broadcastInDim S4096x32x128 ![0, 1] bcast_S4096x32_S4096x32x128_0_1 (transpose S4096x32 [1, 0] (Host.reduceAdd (shapeCast _ (Host.reduceAdd (refDS A D C) (constant S_ .f32 0x00000000#32) reducesTo_S32x4096x4096_S32x4096_d2 h_S_) shapeCasts_S32x4096_S32x4096x1) (constant S_ .f32 0x00000000#32) reducesTo_S32x4096x1_S32x4096_d2 h_S_) transposes_S32x4096_S4096x32_1_0)) shapeCasts_S4096x32x128_S4096x4096
/-- The gradient of the key side's gate sums. -/
def refDck (A : FVec Ideal S4096x12288 .bf16) (D : FVec Ideal S4096x4096 .bf16) (C : FVec Ideal S4096x32 .f32) : FVec Ideal S32x1x4096 .f32 :=
  shapeCast _ (Host.reduceAdd (shapeCast _ (Host.reduceAdd (Host.negf (refDS A D C)) (constant S_ .f32 0x00000000#32) reducesTo_S32x4096x4096_S32x4096_d1 h_S_) shapeCasts_S32x4096_S32x1x4096) (constant S_ .f32 0x00000000#32) reducesTo_S32x1x4096_S32x4096_d1 h_S_) shapeCasts_S32x4096_S32x1x4096
variable (m : (ℓ : Loc nD τ sig) → Buf (Elt Ideal) ℓ) (c : Dev nD)
theorem out0_eq : res_out0 (F := Ideal) m c = refDq (m ((c.tc : Thread nD τ).loc main_arg0)) (m ((c.tc : Thread nD τ).loc main_arg1)) (m ((c.tc : Thread nD τ).loc main_arg2)) := rfl
theorem out1_eq : res_out1 (F := Ideal) m c = refDk (m ((c.tc : Thread nD τ).loc main_arg0)) (m ((c.tc : Thread nD τ).loc main_arg1)) (m ((c.tc : Thread nD τ).loc main_arg2)) := rfl
theorem out2_eq : res_out2 (F := Ideal) m c = refDv (m ((c.tc : Thread nD τ).loc main_arg0)) (m ((c.tc : Thread nD τ).loc main_arg1)) (m ((c.tc : Thread nD τ).loc main_arg2)) := rfl
theorem out3_eq : res_out3 (F := Ideal) m c = refDcq (m ((c.tc : Thread nD τ).loc main_arg0)) (m ((c.tc : Thread nD τ).loc main_arg1)) (m ((c.tc : Thread nD τ).loc main_arg2)) := rfl
theorem out4_eq : res_out4 (F := Ideal) m c = refDck (m ((c.tc : Thread nD τ).loc main_arg0)) (m ((c.tc : Thread nD τ).loc main_arg1)) (m ((c.tc : Thread nD τ).loc main_arg2)) := rfl

end Cert.ReferenceIdeal.Hand
-- ==== Proof.RefAt.lean ====
module

public import proofs.«01_k».proof.Proof.RefTerm
public import proofs.«01_k».proof.Proof.Math

@[expose] public section
set_option maxRecDepth 16384
noncomputable section
namespace Cert.ReferenceIdeal.Hand
open Cert.ReferenceIdeal Cert.ReferenceIdeal.Gen Cert.ReferenceIdeal.Value Cert.Fox
open Idealize.ShloMosaic Idealize.ShloMosaic.TcCoe Idealize.SL.Sem
variable (A : FVec Ideal S4096x12288 .bf16) (D : FVec Ideal S4096x4096 .bf16) (C : FVec Ideal S4096x32 .f32)

/-! The reference's parts, element by element. -/

/-- The lane of a head in a row of all heads. -/
abbrev lane (h : Fin 32) (d : Fin 128) : Fin 4096 := ⟨h.val * 128 + d.val, by omega⟩
abbrev headOf (e : Fin 4096) : Fin 32 := ⟨e.val / 128, by omega⟩
abbrev laneOf (e : Fin 4096) : Fin 128 := ⟨e.val % 128, by omega⟩

theorem refQ_at (i : Fin 4096) (h : Fin 32) (d : Fin 128) : refQ A (ix3 i h d) = A (ix2 i ⟨h.val * 128 + d.val, by omega⟩) := by
  pointwise [refQ]
theorem refK_at (i : Fin 4096) (h : Fin 32) (d : Fin 128) : refK A (ix3 i h d) = A (ix2 i ⟨4096 + (h.val * 128 + d.val), by omega⟩) := by
  pointwise [refK]
theorem refV_at (i : Fin 4096) (h : Fin 32) (d : Fin 128) : refV A (ix3 i h d) = A (ix2 i ⟨8192 + (h.val * 128 + d.val), by omega⟩) := by
  pointwise [refV]
theorem refO_at (i : Fin 4096) (h : Fin 32) (d : Fin 128) : refO D (ix3 i h d) = D (ix2 i (lane h d)) := by
  pointwise [refO]
theorem refMask_at (h : Fin 32) (i j : Fin 4096) : refMask (ix3 h i j) = IntOp.cmpi .sle (BitVec.ofNat 32 j.val) (BitVec.ofNat 32 i.val) := by
  pointwise [refMask]
theorem neg_inf : Ideal.ofBits .f32 0xFF800000#32 = (⊥ : EReal) := by
  simp [Ideal.ofBits, Ideal.ieee]
theorem refS_at (h : Fin 32) (i j : Fin 4096) : refS A C (ix3 h i j)
    = if j.val ≤ i.val then (∑ x, refQ A (ix3 i h x) * refK A (ix3 j h x)) * Ideal.ofBits .f32 0x3DB504F3#32 + (C (ix2 i h) - C (ix2 j h)) else ⊥ := by
  have e : refS A C (ix3 h i j) = Scalar.select (refMask (ix3 h i j))
      ((∑ x, refQ A (ix3 i h x) * refK A (ix3 j h x)) * Ideal.ofBits .f32 0x3DB504F3#32 + (C (ix2 i h) - C (ix2 j h))) (Ideal.ofBits .f32 0xFF800000#32) := by
    pointwise [refS]
    rfl
  rw [e, refMask_at, neg_inf, select_sle _ _ (by omega) (by omega)]
theorem refE_at (h : Fin 32) (i j : Fin 4096) : refE A C (ix3 h i j) = Ideal.exp (refS A C (ix3 h i j) - refM A C (ix2 h i)) := by
  pointwise [refE]
theorem refL_at (h : Fin 32) (i  : Fin 4096) : refL A C (ix2 h i) = ∑ x, refE A C (ix3 h i x) := by
  pointwise [refL]
theorem refG_at (h : Fin 32) (i j : Fin 4096) : refG A D (ix3 h i j) = ∑ x, refO D (ix3 i h x) * refV A (ix3 j h x) := by
  pointwise [refG]
theorem refDS_at (h : Fin 32) (i j : Fin 4096) : refDS A D C (ix3 h i j)
    = if j.val ≤ i.val then (Ideal.div (refG A D (ix3 h i j)) (refL A C (ix2 h i))
        + -∑ x, refG A D (ix3 h i x) * Ideal.div 1 (refL A C (ix2 h i) * refL A C (ix2 h i)) * refE A C (ix3 h i x)) * refE A C (ix3 h i j) else 0 := by
  have e : refDS A D C (ix3 h i j) = Scalar.select (refMask (ix3 h i j))
      ((Ideal.div (refG A D (ix3 h i j)) (refL A C (ix2 h i))
        + -∑ x, refG A D (ix3 h i x) * Ideal.div 1 (refL A C (ix2 h i) * refL A C (ix2 h i)) * refE A C (ix3 h i x)) * refE A C (ix3 h i j)) 0 := by
    pointwise [refDS]
    simp only [Finset.univ_unique, Finset.sum_singleton]
  rw [e, refMask_at, select_sle _ _ (by omega) (by omega)]
theorem refDq_at (i e : Fin 4096) : refDq A D C (ix2 i e)
    = ∑ x, refDS A D C (ix3 (headOf e) i x) * Ideal.ofBits .f32 0x3DB504F3#32 * refK A (ix3 x (headOf e) (laneOf e)) := by
  pointwise [refDq]
theorem refDk_at (i e : Fin 4096) : refDk A D C (ix2 i e)
    = ∑ x, refDS A D C (ix3 (headOf e) x i) * Ideal.ofBits .f32 0x3DB504F3#32 * refQ A (ix3 x (headOf e) (laneOf e)) := by
  pointwise [refDk]
theorem refDv_at (i e : Fin 4096) : refDv A D C (ix2 i e)
    = ∑ x, refO D (ix3 x (headOf e) (laneOf e)) * Ideal.div (refE A C (ix3 (headOf e) x i)) (refL A C (ix2 (headOf e) x)) := by
  pointwise [refDv]
theorem refDcq_at (i e : Fin 4096) : refDcq A D C (ix2 i e) = ∑ x, refDS A D C (ix3 (headOf e) i x) := by
  pointwise [refDcq]
  simp only [Finset.univ_unique, Finset.sum_singleton]
theorem refDck_at (h : Fin 32) (e : Fin 4096) : refDck A D C (ix3 h 0 e) = ∑ x, -refDS A D C (ix3 h x e) := by
  pointwise [refDck]
  simp only [Finset.univ_unique, Finset.sum_singleton]

theorem max_neg_inf_at (R : FVec Ideal S32x4096 .f32) (h : Fin 32) (i : Fin 4096) :
    maximumf (broadcastInDim S32x4096 ![] bcast_S_S32x4096 (constant S_ .f32 0xFF800000#32)) R (ix2 h i) = max ⊥ (R (ix2 h i)) := by
  have e : maximumf (broadcastInDim S32x4096 ![] bcast_S_S32x4096 (constant S_ .f32 0xFF800000#32)) R (ix2 h i) = max (Ideal.ofBits .f32 0xFF800000#32) (R (ix2 h i)) := by
    pointwise
  rw [e, neg_inf]
theorem refM_at (h : Fin 32) (i : Fin 4096) : refM A C (ix2 h i) = max ⊥ (refR A C (ix2 h i)) := by
  unfold refM
  rw [max_neg_inf_at]

/-! The reference's parts on finite arguments. -/

variable (hA : ∀ x, A x ≠ ⊤ ∧ A x ≠ ⊥) (hD : ∀ x, D x ≠ ⊤ ∧ D x ≠ ⊥) (hC : ∀ x, C x ≠ ⊤ ∧ C x ≠ ⊥)
include hA in
theorem refQ_real (i : Fin 4096) (h : Fin 32) (d : Fin 128) : refQ A (ix3 i h d) = (((headAt A D C h).q i d : ℝ) : EReal) := by
  rw [refQ_at]; exact (headAt_q A D C hA h i d)
include hA in
theorem refK_real (i : Fin 4096) (h : Fin 32) (d : Fin 128) : refK A (ix3 i h d) = (((headAt A D C h).k i d : ℝ) : EReal) := by
  rw [refK_at]; exact (headAt_k A D C hA h i d)
include hA in
theorem refV_real (i : Fin 4096) (h : Fin 32) (d : Fin 128) : refV A (ix3 i h d) = (((headAt A D C h).v i d : ℝ) : EReal) := by
  rw [refV_at]; exact (headAt_v A D C hA h i d)
include hD in
theorem refO_real (i : Fin 4096) (h : Fin 32) (d : Fin 128) : refO D (ix3 i h d) = (((headAt A D C h).g i d : ℝ) : EReal) := by
  rw [refO_at]; exact (headAt_g A D C hD h i d)
include hA hC in
theorem refS_real (h : Fin 32) (i j : Fin 4096) : refS A C (ix3 h i j)
    = if j.val ≤ i.val then (((headAt A D C h).x i j : ℝ) : EReal) else ⊥ := by
  rw [refS_at]
  refine if_congr Iff.rfl ?_ rfl
  simp only [refQ_real A D C hA, refK_real A D C hA, ← EReal.coe_mul, coe_sum, scale_eq]
  rw [headAt_c A D C hC h i, headAt_c A D C hC h j, ← EReal.coe_sub, ← EReal.coe_add]
  rfl
include hA hC in
/-- The greatest score of a row is a finite number. -/
theorem refR_real (h : Fin 32) (i : Fin 4096) : ∃ r : ℝ, refR A C (ix2 h i) = (r : EReal) := by
  have e : refR A C (ix2 h i) = (Finset.univ : Finset (Fin 4096)).fold max ⊥ (fun j => refS A C (ix3 h i j)) := by
    unfold refR
    rw [reduce_max_at]
    exact congrArg (fun b => Finset.fold max b (fun j => refS A C (ix3 h i j)) Finset.univ) neg_inf
  rw [e]
  refine fold_max_real _ (fun j => ?_) i ?_
  · rw [refS_real A (fun _ => 0) C hA hC]; split <;> simp
  · rw [refS_real A (fun _ => 0) C hA hC, if_pos le_rfl]; simp
variable (h : Fin 32) (i : Fin 4096) (M : ℝ) (hM : refR A C (ix2 h i) = (M : EReal))
include hA hC hM in
theorem refE_real (j : Fin 4096) : refE A C (ix3 h i j) = (((headAt A D C h).e M i j : ℝ) : EReal) := by
  rw [refE_at, refM_at, hM, refS_real A D C hA hC]
  have : max (⊥ : EReal) (M : EReal) = (M : EReal) := max_eq_right bot_le
  rw [this]; unfold Head.e
  split
  · rw [← EReal.coe_sub, exp_coe]
  · rw [EReal.bot_sub]; rfl
include hA hC hM in
theorem refL_real : refL A C (ix2 h i) = (((headAt A D C h).Z i * Real.exp (-M) : ℝ) : EReal) := by
  rw [refL_at, Finset.sum_congr rfl fun j _ => refE_real A D C hA hC h i M hM j, coe_sum, Head.sum_e]
omit i M in
include hA hD in
theorem refG_real (i j : Fin 4096) : refG A D (ix3 h i j) = (((headAt A D C h).gv i j : ℝ) : EReal) := by
  rw [refG_at]
  simp only [refO_real A D C hD, refV_real A D C hA, ← EReal.coe_mul, coe_sum]
  rfl
include hA hC hM in
theorem refP_real (j : Fin 4096) : Ideal.div (refE A C (ix3 h i j)) (refL A C (ix2 h i)) = (((headAt A D C h).P i j : ℝ) : EReal) := by
  rw [refE_real A D C hA hC h i M hM, refL_real A D C hA hC h i M hM, div_coe _ _ ((headAt A D C h).sum_e_pos M i i.isLt).ne', Head.e_div]
omit i M in
include hA hD hC in
theorem refDS_real (i j : Fin 4096) : refDS A D C (ix3 h i j) = (((headAt A D C h).ds i j : ℝ) : EReal) := by
  obtain ⟨M, hM⟩ := refR_real A C hA hC h i
  have hL := ((headAt A D C h).sum_e_pos M i i.isLt).ne'
  rw [refDS_at]
  split
  · simp only [refG_real A D C hA hD, refE_real A D C hA hC h i M hM, refL_real A D C hA hC h i M hM]
    rw [← EReal.coe_one]
    simp only [← EReal.coe_mul]
    rw [div_coe _ _ (mul_ne_zero hL hL), div_coe _ _ hL]
    simp only [← EReal.coe_mul, coe_sum, ← EReal.coe_neg, ← EReal.coe_add]
    rw [Head.ds_of_quotient _ _ _ _ i.isLt]
  · rw [Head.ds_masked _ _ _ (by omega)]; rfl

omit h i M in
include hA hD hC in
theorem refDq_real (i e : Fin 4096) : refDq A D C (ix2 i e) = (((headAt A D C (headOf e)).dq i (laneOf e) : ℝ) : EReal) := by
  rw [refDq_at]
  simp only [refDS_real A D C hA hD hC, refK_real A D C hA, scale_eq, ← EReal.coe_mul, coe_sum]
  unfold Head.dq
  exact congrArg _ (Finset.sum_congr rfl fun x _ => by ring)
omit h i M in
include hA hD hC in
theorem refDk_real (i e : Fin 4096) : refDk A D C (ix2 i e) = (((headAt A D C (headOf e)).dk i (laneOf e) : ℝ) : EReal) := by
  rw [refDk_at]
  simp only [refDS_real A D C hA hD hC, refQ_real A D C hA, scale_eq, ← EReal.coe_mul, coe_sum]
  unfold Head.dk
  exact congrArg _ (Finset.sum_congr rfl fun x _ => by ring)
omit h i M in
include hA hD hC in
theorem refDv_real (i e : Fin 4096) : refDv A D C (ix2 i e) = (((headAt A D C (headOf e)).dv i (laneOf e) : ℝ) : EReal) := by
  rw [refDv_at]
  have : ∀ x : Fin 4096, refO D (ix3 x (headOf e) (laneOf e)) * Ideal.div (refE A C (ix3 (headOf e) x i)) (refL A C (ix2 (headOf e) x))
      = (((headAt A D C (headOf e)).P x i * (headAt A D C (headOf e)).g x (laneOf e) : ℝ) : EReal) := fun x => by
    obtain ⟨M, hM⟩ := refR_real A C hA hC (headOf e) x
    rw [refO_real A D C hD, refP_real A D C hA hC _ _ M hM, ← EReal.coe_mul, mul_comm]
  rw [Finset.sum_congr rfl fun x _ => this x, coe_sum]
  rfl
omit h i M in
include hA hD hC in
theorem refDcq_real (i e : Fin 4096) : refDcq A D C (ix2 i e) = (((headAt A D C (headOf e)).dcq i : ℝ) : EReal) := by
  rw [refDcq_at]
  simp only [refDS_real A D C hA hD hC, coe_sum]
  rfl
omit i M in
include hA hD hC in
theorem refDck_real (e : Fin 4096) : refDck A D C (ix3 h 0 e) = (((headAt A D C h).dck e : ℝ) : EReal) := by
  rw [refDck_at]
  simp only [refDS_real A D C hA hD hC, ← EReal.coe_neg, coe_sum]
  rfl
end Cert.ReferenceIdeal.Hand
-- ==== Proof.Out.lean ====
module

public import proofs.«01_k».proof.Proof.Final
public import proofs.«01_k».proof.Proof.RefAt

@[expose] public section
set_option maxRecDepth 16384
noncomputable section

namespace Cert.Fox.Head
variable (H : Head)
/-! ## The gradients, tile by tile -/

theorem dq_tiles (i : ℕ) (d : Fin 128) : H.dq i d = ∑ u ∈ Finset.range 8, H.rdq i u d := by
  unfold dq
  rw [sum_tiles (fun j => H.ds i j * H.k j d * σ)]
  exact Finset.sum_congr rfl fun u _ => (Finset.sum_mul _ _ _).symm
theorem dcq_tiles (i : ℕ) : H.dcq i = ∑ u ∈ Finset.range 8, H.rdc i u := by
  unfold dcq
  rw [sum_tiles (fun j => H.ds i j)]
  rfl
theorem dk_tiles (j : ℕ) (hj : j < 8) (a : Fin 512) (d : Fin 128) : H.dk (512 * j + a) d = ∑ u ∈ Finset.range (7 - j + 1), H.tdk (j + u) j a d := by
  unfold dk
  rw [sum_tiles_from (fun i => H.ds i (512 * j + a) * H.q i d * σ) j (by omega) fun i hi => by rw [H.ds_masked _ _ (by omega), zero_mul, zero_mul],
    show 8 - j = 7 - j + 1 by omega]
  exact Finset.sum_congr rfl fun u _ => (Finset.sum_mul _ _ _).symm
theorem dv_tiles (j : ℕ) (hj : j < 8) (a : Fin 512) (d : Fin 128) : H.dv (512 * j + a) d = ∑ u ∈ Finset.range (7 - j + 1), H.tdv (j + u) j a d := by
  unfold dv
  rw [sum_tiles_from (fun i => H.P i (512 * j + a) * H.g i d) j (by omega) fun i hi => by rw [H.P_masked _ _ (by omega), zero_mul],
    show 8 - j = 7 - j + 1 by omega]
  rfl
theorem dck_tiles (j : ℕ) (hj : j < 8) (a : Fin 512) : H.dck (512 * j + a) = - ∑ u ∈ Finset.range (7 - j + 1), H.tdc (j + u) j a := by
  unfold dck
  rw [Finset.sum_neg_distrib, sum_tiles_from (fun i => H.ds i (512 * j + a)) j (by omega) fun i hi => H.ds_masked _ _ (by omega),
    show 8 - j = 7 - j + 1 by omega]
  rfl
end Cert.Fox.Head

namespace Cert.KernelIdeal.Hand
open Cert.KernelIdeal Cert.KernelIdeal.Gen Cert.Fox
open Idealize.ShloMosaic Idealize.ShloMosaic.TcCoe Idealize.SL.Sem
variable (m : (ℓ : Loc nD τ sig) → Buf (Elt Ideal) ℓ) (c : Dev nD)
variable (hA : ∀ x, argA m c x ≠ ⊤ ∧ argA m c x ≠ ⊥) (hD : ∀ x, argD m c x ≠ ⊤ ∧ argD m c x ≠ ⊥) (hC : ∀ x, argC m c x ≠ ⊤ ∧ argC m c x ≠ ⊥)

/-! ## What a point writes back -/
include hA hD hC
theorem left_dq (t : Fin cfg0.N) (ht : t.val % 8 = 7) (i : Fin 4096) (d : Fin 128) :
    k0_pay10 (F := Ideal) (View.ld (stAt m c t).2.2 wF) (ix2 i d) = (((Hd m c t).dq i d : ℝ) : EReal) := by
  rw [pay10_at, ld_wF, (st_inv m c hA hD hC t.val t.isLt).dq_all t i d, Head.dq_tiles, ht, Finset.sum_range_succ _ 7]
theorem left_dcq (t : Fin cfg0.N) (ht : t.val % 8 = 7) (i : Fin 4096) (d : Fin 128) :
    (stAt m c t).2.1 (ix2 i d) = (((Hd m c t).dcq i : ℝ) : EReal) := by
  rw [(st_inv m c hA hD hC t.val t.isLt).cq_all t i d, Head.dcq_tiles, ht, Finset.sum_range_succ _ 7]
theorem left_dk (t : Fin cfg0.N) (a : Fin 512) (d : Fin 128) :
    k0_pay7 (F := Ideal) (stAt m c t).1.1 (ix2 a d) = (((Hd m c t).dk (512 * (t.val % 8) + a) d : ℝ) : EReal) := by
  rw [pay7_at, (st_inv m c hA hD hC t.val t.isLt).dk a d, Head.dk_tiles _ _ (by omega)]
theorem left_dv (t : Fin cfg0.N) (a : Fin 512) (d : Fin 128) :
    k0_pay8 (F := Ideal) (stAt m c t).1.2.1 (ix2 a d) = (((Hd m c t).dv (512 * (t.val % 8) + a) d : ℝ) : EReal) := by
  rw [pay8_at, (st_inv m c hA hD hC t.val t.isLt).dv a d, Head.dv_tiles _ _ (by omega)]
theorem left_dck (t : Fin cfg0.N) (a : Fin 512) :
    k0_pay9 (F := Ideal) (stAt m c t).1.2.2 (ix3 0 0 a) = (((Hd m c t).dck (512 * (t.val % 8) + a) : ℝ) : EReal) := by
  rw [pay9_at, (st_inv m c hA hD hC t.val t.isLt).dc a, Head.dck_tiles _ _ (by omega), zero_sub, EReal.coe_neg]

/-! ## The arrays the call leaves -/

omit hA hD hC in
theorem emb8 (t : Fin cfg0.N) (i : Fin 4096) (d : Fin 128) : (win0_8.blk t).view.emb (ix2 i d) = ix2 (n0 := 4096) (n1 := 4096) i ⟨(hd t).val * 128 + d.val, by omega⟩ := by
  obtain ⟨h8, h9, h10, h11, h12⟩ := idx_out t
  unfold hd
  blk_ext [h8]
omit hA hD hC in
theorem emb9 (t : Fin cfg0.N) (a : Fin 512) (d : Fin 128) : (win0_9.blk t).view.emb (ix2 a d)
    = ix2 (n0 := 4096) (n1 := 4096) ⟨512 * (t.val % 8) + a.val, by omega⟩ ⟨(hd t).val * 128 + d.val, by omega⟩ := by
  obtain ⟨h8, h9, h10, h11, h12⟩ := idx_out t
  unfold hd
  blk_ext [h9]
omit hA hD hC in
theorem emb10 (t : Fin cfg0.N) (a : Fin 512) (d : Fin 128) : (win0_10.blk t).view.emb (ix2 a d)
    = ix2 (n0 := 4096) (n1 := 4096) ⟨512 * (t.val % 8) + a.val, by omega⟩ ⟨(hd t).val * 128 + d.val, by omega⟩ := by
  obtain ⟨h8, h9, h10, h11, h12⟩ := idx_out t
  unfold hd
  blk_ext [h10]
omit hA hD hC in
theorem emb11 (t : Fin cfg0.N) (i : Fin 4096) (d : Fin 128) : (win0_11.blk t).view.emb (ix2 i d) = ix2 (n0 := 4096) (n1 := 4096) i ⟨(hd t).val * 128 + d.val, by omega⟩ := by
  obtain ⟨h8, h9, h10, h11, h12⟩ := idx_out t
  unfold hd
  blk_ext [h11]
omit hA hD hC in
theorem emb12 (t : Fin cfg0.N) (a : Fin 512) : (win0_12.blk t).view.emb (ix3 0 0 a)
    = ix3 (n0 := 32) (n1 := 1) (n2 := 4096) (hd t) 0 ⟨512 * (t.val % 8) + a.val, by omega⟩ := by
  obtain ⟨h8, h9, h10, h11, h12⟩ := idx_out t
  unfold hd
  blk_ext [h12]
omit hA hD hC in
theorem headOf_lane (h : Fin 32) (d : Fin 128) (p : h.val * 128 + d.val < 4096) : Cert.ReferenceIdeal.Hand.headOf ⟨h.val * 128 + d.val, p⟩ = h :=
  Fin.ext (by unfold Cert.ReferenceIdeal.Hand.headOf; dsimp only; omega)
omit hA hD hC in
theorem laneOf_lane (h : Fin 32) (d : Fin 128) (p : h.val * 128 + d.val < 4096) : Cert.ReferenceIdeal.Hand.laneOf ⟨h.val * 128 + d.val, p⟩ = d :=
  Fin.ext (by unfold Cert.ReferenceIdeal.Hand.laneOf; dsimp only; omega)

omit hA hD hC in
theorem row_ix3 (y : (⟨3, ![1, 1, 512]⟩ : Shape).Idx) : ∃ a : Fin 512, y = ix3 (n0 := 1) (n1 := 1) (n2 := 512) 0 0 a :=
  ⟨y 2, (eq_ix3 y).trans (by
    have h : ∀ b : Fin 1, b = 0 := fun b => Subsingleton.elim _ _
    exact congrArg₂ (fun a b : Fin 1 => ix3 a b (y 2)) (h (y 0)) (h (y 1)))⟩
theorem arr_dq : (dats m 0 c).arrAt 8 cfg0.N = Cert.ReferenceIdeal.Hand.refDq (argA m c) (argD m c) (argC m c) := by
  refine (dats m 0 c).arrAt_eq_of_covers 8 _ (by decide +kernel) fun t hf y => ?_
  have ht := (flush0_8 t).1 hf
  blk_simp
  rw [after0_8]
  obtain ⟨i, d, rfl⟩ : ∃ (i : Fin 4096) (d : Fin 128), y = ix2 i d := ⟨y 0, y 1, eq_ix2 y⟩
  rw [left_dq m c hA hD hC t ht, emb8, Cert.ReferenceIdeal.Hand.refDq_real (argA m c) (argD m c) (argC m c) hA hD hC, headOf_lane, laneOf_lane]
  rfl
theorem arr_dk : (dats m 0 c).arrAt 9 cfg0.N = Cert.ReferenceIdeal.Hand.refDk (argA m c) (argD m c) (argC m c) := by
  refine (dats m 0 c).arrAt_eq_of_covers 9 _ (by decide +kernel) fun t hf y => ?_
  blk_simp
  rw [after0_9]
  obtain ⟨a, d, rfl⟩ : ∃ (a : Fin 512) (d : Fin 128), y = ix2 a d := ⟨y 0, y 1, eq_ix2 y⟩
  rw [left_dk m c hA hD hC t, emb9, Cert.ReferenceIdeal.Hand.refDk_real (argA m c) (argD m c) (argC m c) hA hD hC, headOf_lane, laneOf_lane]
  rfl
theorem arr_dv : (dats m 0 c).arrAt 10 cfg0.N = Cert.ReferenceIdeal.Hand.refDv (argA m c) (argD m c) (argC m c) := by
  refine (dats m 0 c).arrAt_eq_of_covers 10 _ (by decide +kernel) fun t hf y => ?_
  blk_simp
  rw [after0_10]
  obtain ⟨a, d, rfl⟩ : ∃ (a : Fin 512) (d : Fin 128), y = ix2 a d := ⟨y 0, y 1, eq_ix2 y⟩
  rw [left_dv m c hA hD hC t, emb10, Cert.ReferenceIdeal.Hand.refDv_real (argA m c) (argD m c) (argC m c) hA hD hC, headOf_lane, laneOf_lane]
  rfl
theorem arr_dcq : (dats m 0 c).arrAt 11 cfg0.N = Cert.ReferenceIdeal.Hand.refDcq (argA m c) (argD m c) (argC m c) := by
  refine (dats m 0 c).arrAt_eq_of_covers 11 _ (by decide +kernel) fun t hf y => ?_
  have ht := (flush0_11 t).1 hf
  blk_simp
  rw [after0_11]
  obtain ⟨i, d, rfl⟩ : ∃ (i : Fin 4096) (d : Fin 128), y = ix2 i d := ⟨y 0, y 1, eq_ix2 y⟩
  rw [left_dcq m c hA hD hC t ht, emb11, Cert.ReferenceIdeal.Hand.refDcq_real (argA m c) (argD m c) (argC m c) hA hD hC, headOf_lane]
  rfl
theorem arr_dck : (dats m 0 c).arrAt 12 cfg0.N = Cert.ReferenceIdeal.Hand.refDck (argA m c) (argD m c) (argC m c) := by
  refine (dats m 0 c).arrAt_eq_of_covers 12 _ (by decide +kernel) fun t hf y => ?_
  blk_simp
  rw [after0_12]
  obtain ⟨a, rfl⟩ : ∃ a : Fin 512, y = ix3 (n0 := 1) (n1 := 1) (n2 := 512) 0 0 a := row_ix3 y
  rw [left_dck m c hA hD hC t, emb12, Cert.ReferenceIdeal.Hand.refDck_real (argA m c) (argD m c) (argC m c) hA hD hC]
  rfl

omit hA hD hC in
/-- The run on finite arguments: the five results are the reference's gradients of the arguments. -/
theorem run_grads (ρ : Dev nD → PrngReg) (hA : ∀ c x, argA m c x ≠ ⊤ ∧ argA m c x ≠ ⊥) (hD : ∀ c x, argD m c x ≠ ⊤ ∧ argD m c x ≠ ⊥) (hC : ∀ c x, argC m c x ≠ ⊤ ∧ argC m c x ≠ ⊥) :
    θ_run defs (onTc (τ := τ) (main (F := Ideal))) ⟨m, fun _ => 0, ρ⟩ (fun r => ∀ c : Dev nD,
      r.2.mem ((c.tc : Thread nD τ).loc main_v62_0) = Cert.ReferenceIdeal.Hand.refDq (argA m c) (argD m c) (argC m c)
      ∧ r.2.mem ((c.tc : Thread nD τ).loc main_v62_1) = Cert.ReferenceIdeal.Hand.refDk (argA m c) (argD m c) (argC m c)
      ∧ r.2.mem ((c.tc : Thread nD τ).loc main_v62_2) = Cert.ReferenceIdeal.Hand.refDv (argA m c) (argD m c) (argC m c)
      ∧ r.2.mem ((c.tc : Thread nD τ).loc main_v62_3) = Cert.ReferenceIdeal.Hand.refDcq (argA m c) (argD m c) (argC m c)
      ∧ r.2.mem ((c.tc : Thread nD τ).loc main_v62_4) = Cert.ReferenceIdeal.Hand.refDck (argA m c) (argD m c) (argC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  obtain ⟨h, -⟩ := h
  obtain ⟨hw, hr⟩ := h c
  refine ⟨?_, ?_, ?_, ?_, ?_, ?_, ?_, ?_⟩
  · rw [← arr_dq m c (hA c) (hD c) (hC c)]; exact hw 8
  · rw [← arr_dk m c (hA c) (hD c) (hC c)]; exact hw 9
  · rw [← arr_dv m c (hA c) (hD c) (hC c)]; exact hw 10
  · rw [← arr_dcq m c (hA c) (hD c) (hC c)]; exact hw 11
  · rw [← arr_dck m c (hA c) (hD c) (hC c)]; exact hw 12
  · exact (hw 2).trans (((dats m 0 c).arrAt_in 2 rfl _).trans ((A_eq m c 2).trans (V_main_arg0 m c)))
  · exact (hw 3).trans (((dats m 0 c).arrAt_in 3 rfl _).trans ((A_eq m c 3).trans (V_main_arg1 m c)))
  · exact (hr main_arg2 (Pipeline.mem_restRefs_of main_arg2 (by decide) (by decide))).trans (V_main_arg2 m c)
end Cert.KernelIdeal.Hand

namespace Cert.ReferenceIdeal.Hand
open Cert.ReferenceIdeal Cert.ReferenceIdeal.Gen
open Idealize.ShloMosaic Idealize.ShloMosaic.TcCoe Idealize.SL.Sem
/-- The reference's run, its results by their parts. -/
theorem run_grads (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v90) = refDq (m ((c.tc : Thread nD τ).loc main_arg0)) (m ((c.tc : Thread nD τ).loc main_arg1)) (m ((c.tc : Thread nD τ).loc main_arg2))
      ∧ r.2.mem ((c.tc : Thread nD τ).loc main_v92) = refDk (m ((c.tc : Thread nD τ).loc main_arg0)) (m ((c.tc : Thread nD τ).loc main_arg1)) (m ((c.tc : Thread nD τ).loc main_arg2))
      ∧ r.2.mem ((c.tc : Thread nD τ).loc main_v94) = refDv (m ((c.tc : Thread nD τ).loc main_arg0)) (m ((c.tc : Thread nD τ).loc main_arg1)) (m ((c.tc : Thread nD τ).loc main_arg2))
      ∧ r.2.mem ((c.tc : Thread nD τ).loc main_v97) = refDcq (m ((c.tc : Thread nD τ).loc main_arg0)) (m ((c.tc : Thread nD τ).loc main_arg1)) (m ((c.tc : Thread nD τ).loc main_arg2))
      ∧ r.2.mem ((c.tc : Thread nD τ).loc main_v98) = refDck (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Value.run (F := Ideal) m ρ)
  obtain ⟨h0, h1, h2, h3, h4, ha⟩ := h c
  exact ⟨h0.trans (out0_eq m c), h1.trans (out1_eq m c), h2.trans (out2_eq m c), h3.trans (out3_eq m c), h4.trans (out4_eq m c), ha⟩
end Cert.ReferenceIdeal.Hand
-- ==== Proof.Part.lean ====
module

public import Idealize.ShloMosaic.Lib.Pipeline.ValueKit
public import Idealize.ShloMosaic.Lib.Claim

@[expose] public section
noncomputable section
namespace Cert.Part
open Idealize.ShloMosaic Idealize.SL Idealize.SL.RA
open Idealize.ShloMosaic.Pipeline (Dat Cfg)

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {cfg : Cfg sig Λ₀} {c : Dev nD} (dat : Dat τ Val Ix Name U Lvl cfg c)

/-- A window whose blocks cover part of its array leaves the array at `G` when its blocks are `G`'s and the rest of
    the array held `G` at entry. -/
theorem arrAt_eq (w : Fin cfg.W) (G : Buf Val ((cfg.win w).arr.view.loc (c.tc : Thread nD τ)))
    (Q : (Fin (cfg.win w).shape.rank → Nat) → Prop) [DecidablePred Q] (hW : (cfg.win w).CoversWhere Q)
    (hG : ∀ t, (cfg.win w).flush t = true → ∀ y : ((cfg.win w).xblock (cfg.grid.coords t)).Idx,
      _root_.cast (congrArg Val ((cfg.win w).blk t).view.elt_eq.symm) (dat.after w t ((cfg.win w).xinj (cfg.grid.coords t) y))
        = G (((cfg.win w).blk t).view.emb y))
    (hE : ∀ j : (cfg.win w).shape.Idx, ¬Q ((cfg.win w).cell j) →
      dat.A w ((cfg.win w).arr.view.emb j) = G ((cfg.win w).arr.view.emb j))
    (harr : (cfg.win w).arr.IsWhole := by first | exact Memref.isWhole_whole _ | assumption) :
    dat.arrAt w cfg.N = G := by
  funext i
  obtain ⟨j, rfl⟩ := View.exists_emb_of_mem_set _
    (show i ∈ (cfg.win w).arr.view.set from harr.set_eq_univ ▸ Finset.mem_univ _)
  rw [dat.arrAt_emb_eq_of_coversWhere w G Q hW hG j]
  by_cases hq : Q ((cfg.win w).cell j)
  · rw [if_pos hq]
  · rw [if_neg hq]; exact hE j hq

end Cert.Part
-- ==== Proof.Mm2.lean ====
module

public import proofs.«01_k».proof.Defs
public import proofs.«01_k».proof.Proof.Gen.Kernel2.Frame
public import proofs.«01_k».proof.Proof.Gen.Kernel2Ideal.Frame
public import proofs.«01_k».proof.Proof.Gen.Reference2Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference2Ideal.Hand
open Cert.Kernel2Ideal.Gen
open Cert.Kernel2Ideal (cfg0 grid0 win0_0 win0_1 win0_2)

/-- Where the windows' blocks of `l1_out_dx` lie. -/
theorem idx : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The reference of `l1_out_dx` leaves its arguments as they were. -/
theorem frame : Cert.quiescent_Reference2Ideal := by
  intro m g _
  hlo_run
  · exact fun _ => ⟨trivial, trivial⟩
  · exact sem_eq_zero_of_no_sems (by decide) r.2

/-- The array `l1_out_dx` returns is its reference's. -/
theorem algebraic : Cert.algebraic_Kernel2Ideal_Reference2Ideal := by
  pair_intro
  · run_from Cert.Kernel2Ideal.Gen.run_main m g
  · hlo_run
    refine Eq.symm ?_
    refine (dats m 0 c).arrAt_eq_of_covers 2 _ (by decide +kernel) fun t _ y => ?_
    blk_simp
    rw [after0_2]; frame_out
    pointwise [k0_pay1]
    blk_point [iblk, V, idx t]
end Cert.Reference2Ideal.Hand
-- ==== Proof.Mm3.lean ====
module

public import proofs.«01_k».proof.Defs
public import proofs.«01_k».proof.Proof.Gen.Kernel3.Frame
public import proofs.«01_k».proof.Proof.Gen.Kernel3Ideal.Frame
public import proofs.«01_k».proof.Proof.Gen.Reference3Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference3Ideal.Hand
open Cert.Kernel3Ideal.Gen
open Cert.Kernel3Ideal (cfg0 grid0 win0_0 win0_1 win0_2)

/-- Where the windows' blocks of `l1_out_dw` lie. -/
theorem idx : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- The reference of `l1_out_dw` leaves its arguments as they were. -/
theorem frame : Cert.quiescent_Reference3Ideal := by
  intro m g _
  hlo_run
  · exact fun _ => ⟨trivial, trivial⟩
  · exact sem_eq_zero_of_no_sems (by decide) r.2

/-- The array `l1_out_dw` returns is its reference's. -/
theorem algebraic : Cert.algebraic_Kernel3Ideal_Reference3Ideal := by
  pair_intro
  · run_from Cert.Kernel3Ideal.Gen.run_main m g
  · hlo_run
    refine Eq.symm ?_
    refine (dats m 0 c).arrAt_eq_of_covers 2 _ (by decide +kernel) fun t _ y => ?_
    blk_simp
    rw [after0_2]; frame_out
    pointwise [k0_pay1]
    show (_ : EReal) = _
    refine (Finset.sum_congr rfl fun k _ => mul_comm _ _).trans ?_
    blk_point [iblk, V, idx t]
end Cert.Reference3Ideal.Hand
-- ==== Proof.Mm4.lean ====
module

public import proofs.«01_k».proof.Defs
public import proofs.«01_k».proof.Proof.Gen.Kernel4.Frame
public import proofs.«01_k».proof.Proof.Gen.Kernel4Ideal.Frame
public import proofs.«01_k».proof.Proof.Gen.Reference4Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference4Ideal.Hand
open Cert.Kernel4Ideal.Gen
open Cert.Kernel4Ideal (cfg0 grid0 win0_0 win0_1 win0_2)

/-- Where the windows' blocks of `l1_in_dx_q` lie. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The reference of `l1_in_dx_q` leaves its arguments as they were. -/
theorem frame : Cert.quiescent_Reference4Ideal := by
  intro m g _
  hlo_run
  · exact fun _ => ⟨trivial, trivial⟩
  · exact sem_eq_zero_of_no_sems (by decide) r.2

/-- The array `l1_in_dx_q` returns is its reference's. -/
theorem algebraic : Cert.algebraic_Kernel4Ideal_Reference4Ideal := by
  pair_intro
  · run_from Cert.Kernel4Ideal.Gen.run_main m g
  · hlo_run
    refine Eq.symm ?_
    refine (dats m 0 c).arrAt_eq_of_covers 2 _ (by decide +kernel) fun t _ y => ?_
    blk_simp
    rw [after0_2]; unfold outsAt0; frame_out
    pointwise [k0_pay1]
    blk_point [iblk, V, idx t]
    refine (dif_pos (moved0_1 t _)).trans ?_
    blk_ext [iblk, V, idx t]
end Cert.Reference4Ideal.Hand
-- ==== Proof.Mm5.lean ====
module

public import proofs.«01_k».proof.Defs
public import proofs.«01_k».proof.Proof.Gen.Kernel5.Frame
public import proofs.«01_k».proof.Proof.Gen.Kernel5Ideal.Frame
public import proofs.«01_k».proof.Proof.Gen.Reference5Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference5Ideal.Hand
open Cert.Kernel5Ideal.Gen
open Cert.Kernel5Ideal (cfg0 grid0 win0_0 win0_1 win0_2 win0_3)

/-- Where the windows' blocks of `l1_in_dx_k` lie. -/
theorem idx : ∀ t : Fin cfg0.N, win0_0.index t = ![(grid0.coords t 0).val, 0] ∧ win0_1.index t = ![1, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

/-- The reference of `l1_in_dx_k` leaves its arguments as they were. -/
theorem frame : Cert.quiescent_Reference5Ideal := by
  intro m g _
  hlo_run
  · exact fun _ => ⟨trivial, trivial, trivial⟩
  · exact sem_eq_zero_of_no_sems (by decide) r.2

/-- The array `l1_in_dx_k` returns is its reference's. -/
theorem algebraic : Cert.algebraic_Kernel5Ideal_Reference5Ideal := by
  pair_intro
  · run_from Cert.Kernel5Ideal.Gen.run_main m g
  · hlo_run
    refine Eq.symm ?_
    refine (dats m 0 c).arrAt_eq_of_covers 3 _ (by decide +kernel) fun t _ y => ?_
    blk_simp
    rw [after0_3]; unfold outsAt0; frame_out
    pointwise [k0_pay1]
    blk_point [iblk, V, idx t]
    refine (dif_pos (moved0_1 t _)).trans ?_
    blk_ext [iblk, V, idx t]
end Cert.Reference5Ideal.Hand
-- ==== Proof.Mm6.lean ====
module

public import proofs.«01_k».proof.Defs
public import proofs.«01_k».proof.Proof.Gen.Kernel6.Frame
public import proofs.«01_k».proof.Proof.Gen.Kernel6Ideal.Frame
public import proofs.«01_k».proof.Proof.Gen.Reference6Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference6Ideal.Hand
open Cert.Kernel6Ideal.Gen
open Cert.Kernel6Ideal (cfg0 grid0 win0_0 win0_1 win0_2 win0_3)

/-- Where the windows' blocks of `l1_in_dx_v` lie. -/
theorem idx : ∀ t : Fin cfg0.N, win0_0.index t = ![(grid0.coords t 0).val, 0] ∧ win0_1.index t = ![2, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

/-- The reference of `l1_in_dx_v` leaves its arguments as they were. -/
theorem frame : Cert.quiescent_Reference6Ideal := by
  intro m g _
  hlo_run
  · exact fun _ => ⟨trivial, trivial, trivial⟩
  · exact sem_eq_zero_of_no_sems (by decide) r.2

/-- The array `l1_in_dx_v` returns is its reference's. -/
theorem algebraic : Cert.algebraic_Kernel6Ideal_Reference6Ideal := by
  pair_intro
  · run_from Cert.Kernel6Ideal.Gen.run_main m g
  · hlo_run
    refine Eq.symm ?_
    refine (dats m 0 c).arrAt_eq_of_covers 3 _ (by decide +kernel) fun t _ y => ?_
    blk_simp
    rw [after0_3]; unfold outsAt0; frame_out
    pointwise [k0_pay1]
    blk_point [iblk, V, idx t]
    refine (dif_pos (moved0_1 t _)).trans ?_
    blk_ext [iblk, V, idx t]
end Cert.Reference6Ideal.Hand
-- ==== Proof.Mm7.lean ====
module

public import proofs.«01_k».proof.Defs
public import proofs.«01_k».proof.Proof.Gen.Kernel7.Frame
public import proofs.«01_k».proof.Proof.Gen.Kernel7Ideal.Frame
public import proofs.«01_k».proof.Proof.Gen.Reference7Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference7Ideal.Hand
open Cert.Kernel7Ideal.Gen
open Cert.Kernel7Ideal (cfg0 grid0 win0_0 win0_1 win0_2 win0_3)

/-- Where the windows' blocks of `l1_in_dx_gate` lie. -/
theorem idx : ∀ t : Fin cfg0.N, win0_0.index t = ![(grid0.coords t 0).val, 0] ∧ win0_1.index t = ![3, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

/-- The reference of `l1_in_dx_gate` leaves its arguments as they were. -/
theorem frame : Cert.quiescent_Reference7Ideal := by
  intro m g _
  hlo_run
  · exact fun _ => ⟨trivial, trivial, trivial⟩
  · exact sem_eq_zero_of_no_sems (by decide) r.2

/-- The array `l1_in_dx_gate` returns is its reference's. -/
theorem algebraic : Cert.algebraic_Kernel7Ideal_Reference7Ideal := by
  pair_intro
  · run_from Cert.Kernel7Ideal.Gen.run_main m g
  · hlo_run
    refine Eq.symm ?_
    refine (dats m 0 c).arrAt_eq_of_covers 3 _ (by decide +kernel) fun t _ y => ?_
    blk_simp
    rw [after0_3]; unfold outsAt0; frame_out
    pointwise [k0_pay1]
    blk_point [iblk, V, idx t]
    refine (dif_pos (moved0_1 t _)).trans ?_
    blk_ext [iblk, V, idx t]
end Cert.Reference7Ideal.Hand
-- ==== Proof.Mm8.lean ====
module

public import proofs.«01_k».proof.Defs
public import proofs.«01_k».proof.Proof.Gen.Kernel8.Frame
public import proofs.«01_k».proof.Proof.Gen.Kernel8Ideal.Frame
public import proofs.«01_k».proof.Proof.Gen.Reference8Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference8Ideal.Hand
open Cert.Kernel8Ideal.Gen
open Cert.Kernel8Ideal (cfg0 grid0 win0_0 win0_1 win0_2 win0_3)

/-- Where the windows' blocks of `l1_in_dx_f` lie. -/
theorem idx : ∀ t : Fin cfg0.N, win0_0.index t = ![(grid0.coords t 0).val, 0] ∧ win0_1.index t = ![0, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

/-- The reference of `l1_in_dx_f` leaves its arguments as they were. -/
theorem frame : Cert.quiescent_Reference8Ideal := by
  intro m g _
  hlo_run
  · exact fun _ => ⟨trivial, trivial, trivial⟩
  · exact sem_eq_zero_of_no_sems (by decide) r.2

/-- The array `l1_in_dx_f` returns is its reference's. -/
theorem algebraic : Cert.algebraic_Kernel8Ideal_Reference8Ideal := by
  pair_intro
  · run_from Cert.Kernel8Ideal.Gen.run_main m g
  · hlo_run
    refine Eq.symm ?_
    refine (dats m 0 c).arrAt_eq_of_covers 3 _ (by decide +kernel) fun t _ y => ?_
    blk_simp
    rw [after0_3]; frame_out
    pointwise [k0_pay1]
    blk_point [iblk, V, idx t]
end Cert.Reference8Ideal.Hand
-- ==== Proof.Mm9.lean ====
module

public import proofs.«01_k».proof.Defs
public import proofs.«01_k».proof.Proof.Gen.Kernel9.Frame
public import proofs.«01_k».proof.Proof.Gen.Kernel9Ideal.Frame
public import proofs.«01_k».proof.Proof.Gen.Reference9Ideal.Run
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference9Ideal.Hand
open Cert.Kernel9Ideal.Gen
open Cert.Kernel9Ideal (cfg0 grid0 win0_0 win0_1 win0_2)

/-- Where the windows' blocks of `l1_in_dw_q` lie. -/
theorem idx : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- No block of the result is cut. -/
theorem whole : ∀ t : Fin cfg0.N, (cfg0.win 2).xsize (cfg0.grid.coords t) (0 : Fin 2) = 1024 :=
  (by decide +kernel : ∀ t : Fin grid0.N, _)

/-- The reference of `l1_in_dw_q` leaves its arguments as they were. -/
theorem frame : Cert.quiescent_Reference9Ideal := by
  intro m g _
  hlo_run
  · exact fun _ => ⟨trivial, trivial, trivial⟩
  · exact sem_eq_zero_of_no_sems (by decide) r.2

/-- The array `l1_in_dw_q` returns is its reference's. -/
theorem algebraic : Cert.algebraic_Kernel9Ideal_Reference9Ideal := by
  pair_intro
  · run_from Cert.Kernel9Ideal.Gen.run_main m g
  · run_from Cert.Reference9Ideal.Value.run m' g'
    refine Eq.symm ?_
    obtain ⟨h0, h1, h2⟩ := hagree c
    rw [h2]
    refine Cert.Part.arrAt_eq (dats m 0 c) 2 _ (fun β => β (0 : Fin 2) < 4) (by decide +kernel)
      (fun t _ y => ?_) (fun j hj => ?_)
    · have hy : (y 0 : ℕ) < 1024 := lt_of_lt_of_eq (y 0).isLt (whole t)
      have hc : (grid0.coords t 0 : ℕ) < 4 := (grid0.coords t 0).isLt
      blk_simp
      rw [after0_2]; unfold outsAt0; frame_out
      pointwise [k0_pay1]
      split
      · blk_point [iblk, V, idx t]
      · exfalso
        rename_i h
        blk_simp [idx t] at h
        omega
    · blk_simp [Pipeline.Window.cell_apply] at hj
      rw [A_eq]
      entry_read
      pointwise
      split
      · exfalso
        rename_i h
        blk_simp at h
        skip
        omega
      · rename_i h
        blk_simp at h
        skip
        blk_ext
end Cert.Reference9Ideal.Hand
-- ==== Proof.Mm10.lean ====
module

public import proofs.«01_k».proof.Defs
public import proofs.«01_k».proof.Proof.Gen.Kernel10.Frame
public import proofs.«01_k».proof.Proof.Gen.Kernel10Ideal.Frame
public import proofs.«01_k».proof.Proof.Gen.Reference10Ideal.Run
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference10Ideal.Hand
open Cert.Kernel10Ideal.Gen
open Cert.Kernel10Ideal (cfg0 grid0 win0_0 win0_1 win0_2)

/-- Where the windows' blocks of `l1_in_dw_k` lie. -/
theorem idx : ∀ t : Fin cfg0.N, win0_0.index t = ![0, (grid0.coords t 0).val] ∧ win0_1.index t = ![0, (grid0.coords t 1).val]
    ∧ win0_2.index t = ![(grid0.coords t 0).val + 4, (grid0.coords t 1).val] :=
  (by decide +kernel : ∀ t : Fin grid0.N, _)

/-- No block of the result is cut. -/
theorem whole : ∀ t : Fin cfg0.N, (cfg0.win 2).xsize (cfg0.grid.coords t) (0 : Fin 2) = 1024 :=
  (by decide +kernel : ∀ t : Fin grid0.N, _)

/-- The reference of `l1_in_dw_k` leaves its arguments as they were. -/
theorem frame : Cert.quiescent_Reference10Ideal := by
  intro m g _
  hlo_run
  · exact fun _ => ⟨trivial, trivial, trivial⟩
  · exact sem_eq_zero_of_no_sems (by decide) r.2

/-- The array `l1_in_dw_k` returns is its reference's. -/
theorem algebraic : Cert.algebraic_Kernel10Ideal_Reference10Ideal := by
  pair_intro
  · run_from Cert.Kernel10Ideal.Gen.run_main m g
  · run_from Cert.Reference10Ideal.Value.run m' g'
    refine Eq.symm ?_
    obtain ⟨h0, h1, h2⟩ := hagree c
    rw [h2]
    refine Cert.Part.arrAt_eq (dats m 0 c) 2 _ (fun β => 4 ≤ β (0 : Fin 2) ∧ β (0 : Fin 2) < 8) (by decide +kernel)
      (fun t _ y => ?_) (fun j hj => ?_)
    · have hy : (y 0 : ℕ) < 1024 := lt_of_lt_of_eq (y 0).isLt (whole t)
      have hc : (grid0.coords t 0 : ℕ) < 4 := (grid0.coords t 0).isLt
      blk_simp
      rw [after0_2]; unfold outsAt0; frame_out
      pointwise [k0_pay1]
      split
      · exfalso
        rename_i h
        blk_simp [idx t] at h
        omega
      split
      · blk_point [iblk, V, idx t]
      · exfalso
        rename_i h
        blk_simp [idx t] at h
        omega
    · blk_simp [Pipeline.Window.cell_apply] at hj
      rw [A_eq]
      entry_read
      pointwise
      split
      · rfl
      split
      · exfalso
        rename_i h
        blk_simp at h
        rename_i h'; blk_simp at h'
        omega
      · rename_i h
        blk_simp at h
        rename_i h'; blk_simp at h'
        blk_ext
end Cert.Reference10Ideal.Hand
-- ==== Proof.Mm11.lean ====
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference11Ideal.Hand
open Cert.Kernel11Ideal.Gen
open Cert.Kernel11Ideal (cfg0 grid0 win0_0 win0_1 win0_2)

/-- Where the windows' blocks of `l1_in_dw_v` lie. -/
theorem idx : ∀ t : Fin cfg0.N, win0_0.index t = ![0, (grid0.coords t 0).val] ∧ win0_1.index t = ![0, (grid0.coords t 1).val]
    ∧ win0_2.index t = ![(grid0.coords t 0).val + 8, (grid0.coords t 1).val] :=
  (by decide +kernel : ∀ t : Fin grid0.N, _)

/-- No block of the result is cut. -/
theorem whole : ∀ t : Fin cfg0.N, (cfg0.win 2).xsize (cfg0.grid.coords t) (0 : Fin 2) = 1024 :=
  (by decide +kernel : ∀ t : Fin grid0.N, _)

/-- The reference of `l1_in_dw_v` leaves its arguments as they were. -/
theorem frame : Cert.quiescent_Reference11Ideal := by
  intro m g _
  hlo_run
  · exact fun _ => ⟨trivial, trivial, trivial⟩
  · exact sem_eq_zero_of_no_sems (by decide) r.2

/-- The array `l1_in_dw_v` returns is its reference's. -/
theorem algebraic : Cert.algebraic_Kernel11Ideal_Reference11Ideal := by
  pair_intro
  · run_from Cert.Kernel11Ideal.Gen.run_main m g
  · run_from Cert.Reference11Ideal.Value.run m' g'
    refine Eq.symm ?_
    obtain ⟨h0, h1, h2⟩ := hagree c
    rw [h2]
    refine Cert.Part.arrAt_eq (dats m 0 c) 2 _ (fun β => 8 ≤ β (0 : Fin 2) ∧ β (0 : Fin 2) < 12) (by decide +kernel)
      (fun t _ y => ?_) (fun j hj => ?_)
    · have hy : (y 0 : ℕ) < 1024 := lt_of_lt_of_eq (y 0).isLt (whole t)
      have hc : (grid0.coords t 0 : ℕ) < 4 := (grid0.coords t 0).isLt
      blk_simp
      rw [after0_2]; unfold outsAt0; frame_out
      pointwise [k0_pay1]
      split
      · exfalso
        rename_i h
        blk_simp [idx t] at h
        omega
      split
      · blk_point [iblk, V, idx t]
      · exfalso
        rename_i h
        blk_simp [idx t] at h
        omega
    · blk_simp [Pipeline.Window.cell_apply] at hj
      rw [A_eq]
      entry_read
      pointwise
      split
      · rfl
      split
      · exfalso
        rename_i h
        blk_simp at h
        rename_i h'; blk_simp at h'
        omega
      · rename_i h
        blk_simp at h
        rename_i h'; blk_simp at h'
        blk_ext
end Cert.Reference11Ideal.Hand
-- ==== Proof.Mm12.lean ====
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference12Ideal.Hand
open Cert.Kernel12Ideal.Gen
open Cert.Kernel12Ideal (cfg0 grid0 win0_0 win0_1 win0_2)

/-- Where the windows' blocks of `l1_in_dw_gate` lie. -/
theorem idx : ∀ t : Fin cfg0.N, win0_0.index t = ![0, (grid0.coords t 0).val] ∧ win0_1.index t = ![0, (grid0.coords t 1).val]
    ∧ win0_2.index t = ![(grid0.coords t 0).val + 12, (grid0.coords t 1).val] :=
  (by decide +kernel : ∀ t : Fin grid0.N, _)

/-- No block of the result is cut. -/
theorem whole : ∀ t : Fin cfg0.N, (cfg0.win 2).xsize (cfg0.grid.coords t) (0 : Fin 2) = 1024 :=
  (by decide +kernel : ∀ t : Fin grid0.N, _)

/-- The reference of `l1_in_dw_gate` leaves its arguments as they were. -/
theorem frame : Cert.quiescent_Reference12Ideal := by
  intro m g _
  hlo_run
  · exact fun _ => ⟨trivial, trivial, trivial⟩
  · exact sem_eq_zero_of_no_sems (by decide) r.2

/-- The array `l1_in_dw_gate` returns is its reference's. -/
theorem algebraic : Cert.algebraic_Kernel12Ideal_Reference12Ideal := by
  pair_intro
  · run_from Cert.Kernel12Ideal.Gen.run_main m g
  · run_from Cert.Reference12Ideal.Value.run m' g'
    refine Eq.symm ?_
    obtain ⟨h0, h1, h2⟩ := hagree c
    rw [h2]
    refine Cert.Part.arrAt_eq (dats m 0 c) 2 _ (fun β => 12 ≤ β (0 : Fin 2) ∧ β (0 : Fin 2) < 16) (by decide +kernel)
      (fun t _ y => ?_) (fun j hj => ?_)
    · have hy : (y 0 : ℕ) < 1024 := lt_of_lt_of_eq (y 0).isLt (whole t)
      have hc : (grid0.coords t 0 : ℕ) < 4 := (grid0.coords t 0).isLt
      blk_simp
      rw [after0_2]; unfold outsAt0; frame_out
      pointwise [k0_pay1]
      split
      · exfalso
        rename_i h
        blk_simp [idx t] at h
        omega
      split
      · blk_point [iblk, V, idx t]
      · exfalso
        rename_i h
        blk_simp [idx t] at h
        omega
    · blk_simp [Pipeline.Window.cell_apply] at hj
      rw [A_eq]
      entry_read
      pointwise
      split
      · rfl
      split
      · exfalso
        rename_i h
        blk_simp at h
        rename_i h'; blk_simp at h'
        omega
      · rename_i h
        blk_simp at h
        rename_i h'; blk_simp at h'
        blk_ext
end Cert.Reference12Ideal.Hand
-- ==== Proof.Mm13.lean ====
module

public import proofs.«01_k».proof.Defs
public import proofs.«01_k».proof.Proof.Gen.Kernel13.Frame
public import proofs.«01_k».proof.Proof.Gen.Kernel13Ideal.Frame
public import proofs.«01_k».proof.Proof.Gen.Reference13Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference13Ideal.Hand
open Cert.Kernel13Ideal.Gen
open Cert.Kernel13Ideal (cfg0 grid0 win0_0 win0_1 win0_2)

/-- Where the windows' blocks of `l1_in_dw_f` lie. -/
theorem idx : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- The reference of `l1_in_dw_f` leaves its arguments as they were. -/
theorem frame : Cert.quiescent_Reference13Ideal := by
  intro m g _
  hlo_run
  · exact fun _ => ⟨trivial, trivial⟩
  · exact sem_eq_zero_of_no_sems (by decide) r.2

/-- The array `l1_in_dw_f` returns is its reference's. -/
theorem algebraic : Cert.algebraic_Kernel13Ideal_Reference13Ideal := by
  pair_intro
  · run_from Cert.Kernel13Ideal.Gen.run_main m g
  · hlo_run
    refine Eq.symm ?_
    refine (dats m 0 c).arrAt_eq_of_covers 2 _ (by decide +kernel) fun t _ y => ?_
    blk_simp
    rw [after0_2]; frame_out
    pointwise [k0_pay1]
    blk_point [iblk, V, idx t]
end Cert.Reference13Ideal.Hand
-- ==== Proof.Mm14.lean ====
module

public import proofs.«01_k».proof.Defs
public import proofs.«01_k».proof.Proof.Gen.Kernel14.Frame
public import proofs.«01_k».proof.Proof.Gen.Kernel14Ideal.Frame
public import proofs.«01_k».proof.Proof.Gen.Reference14Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference14Ideal.Hand
open Cert.Kernel14Ideal.Gen
open Cert.Kernel14Ideal (cfg0 grid0 win0_0 win0_1 win0_2)

/-- Where the windows' blocks of `l0_out_dx_s5` lie. -/
theorem idx : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The reference of `l0_out_dx_s5` leaves its arguments as they were. -/
theorem frame : Cert.quiescent_Reference14Ideal := by
  intro m g _
  hlo_run
  · exact fun _ => ⟨trivial, trivial⟩
  · exact sem_eq_zero_of_no_sems (by decide) r.2

/-- The array `l0_out_dx_s5` returns is its reference's. -/
theorem algebraic : Cert.algebraic_Kernel14Ideal_Reference14Ideal := by
  pair_intro
  · run_from Cert.Kernel14Ideal.Gen.run_main m g
  · hlo_run
    refine Eq.symm ?_
    refine (dats m 0 c).arrAt_eq_of_covers 2 _ (by decide +kernel) fun t _ y => ?_
    blk_simp
    rw [after0_2]; frame_out
    pointwise [k0_pay1]
    blk_point [iblk, V, idx t]
end Cert.Reference14Ideal.Hand
-- ==== Proof.Mm15.lean ====
module

public import proofs.«01_k».proof.Defs
public import proofs.«01_k».proof.Proof.Gen.Kernel15.Frame
public import proofs.«01_k».proof.Proof.Gen.Kernel15Ideal.Frame
public import proofs.«01_k».proof.Proof.Gen.Reference15Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference15Ideal.Hand
open Cert.Kernel15Ideal.Gen
open Cert.Kernel15Ideal (cfg0 grid0 win0_0 win0_1 win0_2)

/-- Where the windows' blocks of `l0_out_dx_ssd` lie. -/
theorem idx : ∀ t : Fin cfg0.N, win0_0.index t = ![(grid0.coords t 0).val, 0] ∧ win0_1.index t = ![(grid0.coords t 1).val + 4, 0]
    ∧ win0_2.index t = ![(grid0.coords t 0).val, (grid0.coords t 1).val] :=
  (by decide +kernel : ∀ t : Fin grid0.N, _)

/-- The reference of `l0_out_dx_ssd` leaves its arguments as they were. -/
theorem frame : Cert.quiescent_Reference15Ideal := by
  intro m g _
  hlo_run
  · exact fun _ => ⟨trivial, trivial⟩
  · exact sem_eq_zero_of_no_sems (by decide) r.2

/-- The array `l0_out_dx_ssd` returns is its reference's. -/
theorem algebraic : Cert.algebraic_Kernel15Ideal_Reference15Ideal := by
  pair_intro
  · run_from Cert.Kernel15Ideal.Gen.run_main m g
  · hlo_run
    refine Eq.symm ?_
    refine (dats m 0 c).arrAt_eq_of_covers 2 _ (by decide +kernel) fun t _ y => ?_
    blk_simp
    rw [after0_2]; frame_out
    pointwise [k0_pay1]
    blk_point [iblk, V, idx t]
end Cert.Reference15Ideal.Hand
-- ==== Proof.Mm16.lean ====
module

public import proofs.«01_k».proof.Defs
public import proofs.«01_k».proof.Proof.Gen.Kernel16.Frame
public import proofs.«01_k».proof.Proof.Gen.Kernel16Ideal.Frame
public import proofs.«01_k».proof.Proof.Gen.Reference16Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference16Ideal.Hand
open Cert.Kernel16Ideal.Gen
open Cert.Kernel16Ideal (cfg0 grid0 win0_0 win0_1 win0_2)

/-- Where the windows' blocks of `l0_out_dw` lie. -/
theorem idx : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- The reference of `l0_out_dw` leaves its arguments as they were. -/
theorem frame : Cert.quiescent_Reference16Ideal := by
  intro m g _
  hlo_run
  · exact fun _ => ⟨trivial, trivial⟩
  · exact sem_eq_zero_of_no_sems (by decide) r.2

/-- The array `l0_out_dw` returns is its reference's. -/
theorem algebraic : Cert.algebraic_Kernel16Ideal_Reference16Ideal := by
  pair_intro
  · run_from Cert.Kernel16Ideal.Gen.run_main m g
  · hlo_run
    refine Eq.symm ?_
    refine (dats m 0 c).arrAt_eq_of_covers 2 _ (by decide +kernel) fun t _ y => ?_
    blk_simp
    rw [after0_2]; frame_out
    pointwise [k0_pay1]
    show (_ : EReal) = _
    refine (Finset.sum_congr rfl fun k _ => mul_comm _ _).trans ?_
    blk_point [iblk, V, idx t]
end Cert.Reference16Ideal.Hand
-- ==== Proof.Mm17.lean ====
module

public import proofs.«01_k».proof.Defs
public import proofs.«01_k».proof.Proof.Gen.Kernel17.Frame
public import proofs.«01_k».proof.Proof.Gen.Kernel17Ideal.Frame
public import proofs.«01_k».proof.Proof.Gen.Reference17Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference17Ideal.Hand
open Cert.Kernel17Ideal.Gen
open Cert.Kernel17Ideal (cfg0 grid0 win0_0 win0_1 win0_2)

/-- Where the windows' blocks of `s5_glu_dw` lie. -/
theorem idx : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- The reference of `s5_glu_dw` leaves its arguments as they were. -/
theorem frame : Cert.quiescent_Reference17Ideal := by
  intro m g _
  hlo_run
  · exact fun _ => ⟨trivial, trivial⟩
  · exact sem_eq_zero_of_no_sems (by decide) r.2

/-- The array `s5_glu_dw` returns is its reference's. -/
theorem algebraic : Cert.algebraic_Kernel17Ideal_Reference17Ideal := by
  pair_intro
  · run_from Cert.Kernel17Ideal.Gen.run_main m g
  · hlo_run
    refine Eq.symm ?_
    refine (dats m 0 c).arrAt_eq_of_covers 2 _ (by decide +kernel) fun t _ y => ?_
    blk_simp
    rw [after0_2]; frame_out
    pointwise [k0_pay1]
    show (_ : EReal) = _
    refine (Finset.sum_congr rfl fun k _ => mul_comm _ _).trans ?_
    blk_point [iblk, V, idx t]
end Cert.Reference17Ideal.Hand
-- ==== Proof.Mm18.lean ====
module

public import proofs.«01_k».proof.Defs
public import proofs.«01_k».proof.Proof.Gen.Kernel18.Frame
public import proofs.«01_k».proof.Proof.Gen.Kernel18Ideal.Frame
public import proofs.«01_k».proof.Proof.Gen.Reference18Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference18Ideal.Hand
open Cert.Kernel18Ideal.Gen
open Cert.Kernel18Ideal (cfg0 grid0 win0_0 win0_1 win0_2)

/-- Where the windows' blocks of `s5_glu_dx` lie. -/
theorem idx : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The reference of `s5_glu_dx` leaves its arguments as they were. -/
theorem frame : Cert.quiescent_Reference18Ideal := by
  intro m g _
  hlo_run
  · exact fun _ => ⟨trivial, trivial⟩
  · exact sem_eq_zero_of_no_sems (by decide) r.2

/-- The array `s5_glu_dx` returns is its reference's. -/
theorem algebraic : Cert.algebraic_Kernel18Ideal_Reference18Ideal := by
  pair_intro
  · run_from Cert.Kernel18Ideal.Gen.run_main m g
  · hlo_run
    refine Eq.symm ?_
    refine (dats m 0 c).arrAt_eq_of_covers 2 _ (by decide +kernel) fun t _ y => ?_
    blk_simp
    rw [after0_2]; frame_out
    pointwise [k0_pay1]
    blk_point [iblk, V, idx t]
end Cert.Reference18Ideal.Hand
-- ==== Proof.Mm19.lean ====
module

public import proofs.«01_k».proof.Defs
public import proofs.«01_k».proof.Proof.Gen.Kernel19.Frame
public import proofs.«01_k».proof.Proof.Gen.Kernel19Ideal.Frame
public import proofs.«01_k».proof.Proof.Gen.Reference19Ideal.Run
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference19Ideal.Hand
open Cert.Kernel19Ideal.Gen
open Cert.Kernel19Ideal (cfg0 grid0 win0_0 win0_1 win0_2)

/-- Where the windows' blocks of `l0_in_dw_s5` lie. -/
theorem idx : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- No block of the result is cut. -/
theorem whole : ∀ t : Fin cfg0.N, (cfg0.win 2).xsize (cfg0.grid.coords t) (0 : Fin 2) = 1024 :=
  (by decide +kernel : ∀ t : Fin grid0.N, _)

/-- The reference of `l0_in_dw_s5` leaves its arguments as they were. -/
theorem frame : Cert.quiescent_Reference19Ideal := by
  intro m g _
  hlo_run
  · exact fun _ => ⟨trivial, trivial, trivial⟩
  · exact sem_eq_zero_of_no_sems (by decide) r.2

/-- The array `l0_in_dw_s5` returns is its reference's. -/
theorem algebraic : Cert.algebraic_Kernel19Ideal_Reference19Ideal := by
  pair_intro
  · run_from Cert.Kernel19Ideal.Gen.run_main m g
  · run_from Cert.Reference19Ideal.Value.run m' g'
    refine Eq.symm ?_
    obtain ⟨h0, h1, h2⟩ := hagree c
    rw [h2]
    refine Cert.Part.arrAt_eq (dats m 0 c) 2 _ (fun β => β (0 : Fin 2) < 4) (by decide +kernel)
      (fun t _ y => ?_) (fun j hj => ?_)
    · have hy : (y 0 : ℕ) < 1024 := lt_of_lt_of_eq (y 0).isLt (whole t)
      have hc : (grid0.coords t 0 : ℕ) < 4 := (grid0.coords t 0).isLt
      blk_simp
      rw [after0_2]; unfold outsAt0; frame_out
      pointwise [k0_pay1]
      split
      · blk_point [iblk, V, idx t]
      · exfalso
        rename_i h
        blk_simp [idx t] at h
        omega
    · blk_simp [Pipeline.Window.cell_apply] at hj
      rw [A_eq]
      entry_read
      pointwise
      split
      · exfalso
        rename_i h
        blk_simp at h
        skip
        omega
      · rename_i h
        blk_simp at h
        skip
        blk_ext
end Cert.Reference19Ideal.Hand
-- ==== Proof.Mm20.lean ====
module

public import proofs.«01_k».proof.Defs
public import proofs.«01_k».proof.Proof.Gen.Kernel20.Frame
public import proofs.«01_k».proof.Proof.Gen.Kernel20Ideal.Frame
public import proofs.«01_k».proof.Proof.Gen.Reference20Ideal.Run
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference20Ideal.Hand
open Cert.Kernel20Ideal.Gen
open Cert.Kernel20Ideal (cfg0 grid0 win0_0 win0_1 win0_2)

/-- Where the windows' blocks of `l0_in_dw_z` lie. -/
theorem idx : ∀ t : Fin cfg0.N, win0_0.index t = ![0, (grid0.coords t 0).val] ∧ win0_1.index t = ![0, (grid0.coords t 1).val]
    ∧ win0_2.index t = ![(grid0.coords t 0).val + 4, (grid0.coords t 1).val] :=
  (by decide +kernel : ∀ t : Fin grid0.N, _)

/-- No block of the result is cut. -/
theorem whole : ∀ t : Fin cfg0.N, (cfg0.win 2).xsize (cfg0.grid.coords t) (0 : Fin 2) = 1024 :=
  (by decide +kernel : ∀ t : Fin grid0.N, _)

/-- The reference of `l0_in_dw_z` leaves its arguments as they were. -/
theorem frame : Cert.quiescent_Reference20Ideal := by
  intro m g _
  hlo_run
  · exact fun _ => ⟨trivial, trivial, trivial⟩
  · exact sem_eq_zero_of_no_sems (by decide) r.2

/-- The array `l0_in_dw_z` returns is its reference's. -/
theorem algebraic : Cert.algebraic_Kernel20Ideal_Reference20Ideal := by
  pair_intro
  · run_from Cert.Kernel20Ideal.Gen.run_main m g
  · run_from Cert.Reference20Ideal.Value.run m' g'
    refine Eq.symm ?_
    obtain ⟨h0, h1, h2⟩ := hagree c
    rw [h2]
    refine Cert.Part.arrAt_eq (dats m 0 c) 2 _ (fun β => 4 ≤ β (0 : Fin 2) ∧ β (0 : Fin 2) < 10) (by decide +kernel)
      (fun t _ y => ?_) (fun j hj => ?_)
    · have hy : (y 0 : ℕ) < 1024 := lt_of_lt_of_eq (y 0).isLt (whole t)
      have hc : (grid0.coords t 0 : ℕ) < 6 := (grid0.coords t 0).isLt
      blk_simp
      rw [after0_2]; unfold outsAt0; frame_out
      pointwise [k0_pay1]
      split
      · exfalso
        rename_i h
        blk_simp [idx t] at h
        omega
      split
      · blk_point [iblk, V, idx t]
      · exfalso
        rename_i h
        blk_simp [idx t] at h
        omega
    · blk_simp [Pipeline.Window.cell_apply] at hj
      rw [A_eq]
      entry_read
      pointwise
      split
      · rfl
      split
      · exfalso
        rename_i h
        blk_simp at h
        rename_i h'; blk_simp at h'
        omega
      · rename_i h
        blk_simp at h
        rename_i h'; blk_simp at h'
        blk_ext
end Cert.Reference20Ideal.Hand
-- ==== Proof.Mm21.lean ====
module

public import proofs.«01_k».proof.Defs
public import proofs.«01_k».proof.Proof.Gen.Kernel21.Frame
public import proofs.«01_k».proof.Proof.Gen.Kernel21Ideal.Frame
public import proofs.«01_k».proof.Proof.Gen.Reference21Ideal.Run
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference21Ideal.Hand
open Cert.Kernel21Ideal.Gen
open Cert.Kernel21Ideal (cfg0 grid0 win0_0 win0_1 win0_2)

/-- Where the windows' blocks of `l0_in_dw_xbc` lie. -/
theorem idx : ∀ t : Fin cfg0.N, win0_0.index t = ![0, (grid0.coords t 0).val] ∧ win0_1.index t = ![0, (grid0.coords t 1).val]
    ∧ win0_2.index t = ![(grid0.coords t 0).val + 10, (grid0.coords t 1).val] :=
  (by decide +kernel : ∀ t : Fin grid0.N, _)

/-- No block of the result is cut. -/
theorem whole : ∀ t : Fin cfg0.N, (cfg0.win 2).xsize (cfg0.grid.coords t) (0 : Fin 2) = 1024 :=
  (by decide +kernel : ∀ t : Fin grid0.N, _)

/-- The reference of `l0_in_dw_xbc` leaves its arguments as they were. -/
theorem frame : Cert.quiescent_Reference21Ideal := by
  intro m g _
  hlo_run
  · exact fun _ => ⟨trivial, trivial, trivial⟩
  · exact sem_eq_zero_of_no_sems (by decide) r.2

/-- The array `l0_in_dw_xbc` returns is its reference's. -/
theorem algebraic : Cert.algebraic_Kernel21Ideal_Reference21Ideal := by
  pair_intro
  · run_from Cert.Kernel21Ideal.Gen.run_main m g
  · run_from Cert.Reference21Ideal.Value.run m' g'
    refine Eq.symm ?_
    obtain ⟨h0, h1, h2⟩ := hagree c
    rw [h2]
    refine Cert.Part.arrAt_eq (dats m 0 c) 2 _ (fun β => 10 ≤ β (0 : Fin 2) ∧ β (0 : Fin 2) < 18) (by decide +kernel)
      (fun t _ y => ?_) (fun j hj => ?_)
    · have hy : (y 0 : ℕ) < 1024 := lt_of_lt_of_eq (y 0).isLt (whole t)
      have hc : (grid0.coords t 0 : ℕ) < 8 := (grid0.coords t 0).isLt
      blk_simp
      rw [after0_2]; unfold outsAt0; frame_out
      pointwise [k0_pay1]
      split
      · exfalso
        rename_i h
        blk_simp [idx t] at h
        omega
      split
      · blk_point [iblk, V, idx t]
      · exfalso
        rename_i h
        blk_simp [idx t] at h
        omega
    · blk_simp [Pipeline.Window.cell_apply] at hj
      rw [A_eq]
      entry_read
      pointwise
      split
      · rfl
      split
      · exfalso
        rename_i h
        blk_simp at h
        rename_i h'; blk_simp at h'
        omega
      · rename_i h
        blk_simp at h
        rename_i h'; blk_simp at h'
        blk_ext
end Cert.Reference21Ideal.Hand
-- ==== Proof.Mm22.lean ====
module

public import proofs.«01_k».proof.Defs
public import proofs.«01_k».proof.Proof.Gen.Kernel22.Frame
public import proofs.«01_k».proof.Proof.Gen.Kernel22Ideal.Frame
public import proofs.«01_k».proof.Proof.Gen.Reference22Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference22Ideal.Hand
open Cert.Kernel22Ideal.Gen
open Cert.Kernel22Ideal (cfg0 grid0 win0_0 win0_1 win0_2)

/-- Where the windows' blocks of `l0_in_dw_dt` lie. -/
theorem idx : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- The reference of `l0_in_dw_dt` leaves its arguments as they were. -/
theorem frame : Cert.quiescent_Reference22Ideal := by
  intro m g _
  hlo_run
  · exact fun _ => ⟨trivial, trivial⟩
  · exact sem_eq_zero_of_no_sems (by decide) r.2

/-- The array `l0_in_dw_dt` returns is its reference's. -/
theorem algebraic : Cert.algebraic_Kernel22Ideal_Reference22Ideal := by
  pair_intro
  · run_from Cert.Kernel22Ideal.Gen.run_main m g
  · hlo_run
    refine Eq.symm ?_
    refine (dats m 0 c).arrAt_eq_of_covers 2 _ (by decide +kernel) fun t _ y => ?_
    blk_simp
    rw [after0_2]; frame_out
    pointwise [k0_pay1]
    blk_point [iblk, V, idx t]
end Cert.Reference22Ideal.Hand
-- ==== Proof.Mm23.lean ====
module

public import proofs.«01_k».proof.Defs
public import proofs.«01_k».proof.Proof.Gen.Kernel23.Frame
public import proofs.«01_k».proof.Proof.Gen.Kernel23Ideal.Frame
public import proofs.«01_k».proof.Proof.Gen.Reference23Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference23Ideal.Hand
open Cert.Kernel23Ideal.Gen
open Cert.Kernel23Ideal (cfg0 grid0 win0_0 win0_1 win0_2)

/-- Where the windows' blocks of `l0_in_dx_s5` lie. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The reference of `l0_in_dx_s5` leaves its arguments as they were. -/
theorem frame : Cert.quiescent_Reference23Ideal := by
  intro m g _
  hlo_run
  · exact fun _ => ⟨trivial, trivial⟩
  · exact sem_eq_zero_of_no_sems (by decide) r.2

/-- The array `l0_in_dx_s5` returns is its reference's. -/
theorem algebraic : Cert.algebraic_Kernel23Ideal_Reference23Ideal := by
  pair_intro
  · run_from Cert.Kernel23Ideal.Gen.run_main m g
  · hlo_run
    refine Eq.symm ?_
    refine (dats m 0 c).arrAt_eq_of_covers 2 _ (by decide +kernel) fun t _ y => ?_
    blk_simp
    rw [after0_2]; unfold outsAt0; frame_out
    pointwise [k0_pay1]
    blk_point [iblk, V, idx t]
    refine (dif_pos (moved0_1 t _)).trans ?_
    blk_ext [iblk, V, idx t]
end Cert.Reference23Ideal.Hand
-- ==== Proof.Mm24.lean ====
module

public import proofs.«01_k».proof.Defs
public import proofs.«01_k».proof.Proof.Gen.Kernel24.Frame
public import proofs.«01_k».proof.Proof.Gen.Kernel24Ideal.Frame
public import proofs.«01_k».proof.Proof.Gen.Reference24Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference24Ideal.Hand
open Cert.Kernel24Ideal.Gen
open Cert.Kernel24Ideal (cfg0 grid0 win0_0 win0_1 win0_2 win0_3)

/-- Where the windows' blocks of `l0_in_dx_z` lie. -/
theorem idx : ∀ t : Fin cfg0.N, win0_0.index t = ![(grid0.coords t 0).val, (grid0.coords t 2).val] ∧ win0_1.index t = ![(grid0.coords t 2).val + 2, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

/-- The part of the product over the columns `2048 s` and on: the summand of the running sum. -/
def part (A : Vec Ideal Cert.Kernel24Ideal.S4096x6144 .bf16) (B : Vec Ideal Cert.Kernel24Ideal.S18528x4096 .bf16)
    (r : Fin 4096) (q : Fin 4096) (s : ℕ) (hs : s < 3) : EReal :=
  ∑ k : Fin 2048, A (ix2 r (⟨s * 2048 + k.val, by omega⟩ : Fin 6144)) * B (ix2 (⟨4096 + (s * 2048 + k.val), by omega⟩ : Fin 18528) q)

/-- The parts sum to the whole product. -/
theorem parts (A : Vec Ideal Cert.Kernel24Ideal.S4096x6144 .bf16) (B : Vec Ideal Cert.Kernel24Ideal.S18528x4096 .bf16) (r : Fin 4096) (q : Fin 4096) :
    (∑ l : Fin 6144, A (ix2 r l) * B (ix2 (⟨4096 + l.val, by omega⟩ : Fin 18528) q) : EReal)
      = part A B r q 0 (by omega) + part A B r q 1 (by omega) + part A B r q 2 (by omega) := by
  rw [← Fin.sum_mul_add_fin 3 2048 (fun l : Fin 6144 => (A (ix2 r l) * B (ix2 (⟨4096 + l.val, by omega⟩ : Fin 18528) q) : EReal))]
  exact Fin.sum_univ_three _

section
variable (m : (ℓ : Loc Kernel24Ideal.nD Kernel24Ideal.τ Kernel24Ideal.sig) → Buf (Elt Ideal) ℓ) (c : Dev Kernel24Ideal.nD)

/-- Where a point lies in the grid. -/
theorem place : ∀ t : Fin cfg0.N, (grid0.coords t 0).val = t.val / 24 ∧ (grid0.coords t 1).val = t.val / 3 % 8
    ∧ (grid0.coords t 2).val = t.val % 3 :=
  (by decide +kernel : ∀ t : Fin grid0.N, _)

/-- What the body multiplies at a point is the part of the point's columns. -/
theorem part_at (t : Fin cfg0.N) (y : Kernel24Ideal.S1024x512.Idx) (r : Fin 4096) (q : Fin 4096)
    (hr : r.val = t.val / 24 * 1024 + (y 0).val) (hq : q.val = t.val / 3 % 8 * 512 + (y 1).val)
    (s : ℕ) (hs : s < 3) (h : t.val % 3 = s) :
    (k0_pay1 (F := Ideal) (iblk m c 0 t) (X0_1 m c t) y : EReal)
      = part (V m c Kernel24Ideal.main_arg0) (V m c Kernel24Ideal.main_arg1) r q s hs := by
  obtain ⟨p0, p1, p2⟩ := place t
  subst h
  unfold part
  pointwise [k0_pay1]
  blk_point [iblk, V, idx t]
  refine (dif_pos (moved0_1 t _)).trans ?_
  blk_ext [iblk, V, idx t]

/-- The sum kept between points starts at the first part. -/
theorem keep_first (t : Fin cfg0.N) (h : t.val % 3 = 0) (y : Kernel24Ideal.S1024x512.Idx) :
    ((outsAt0 m c t.val t.isLt).2 y : EReal) = k0_pay1 (F := Ideal) (iblk m c 0 t) (X0_1 m c t) y := by
  rw [outsAt0_A m c t h (by omega) (by omega)]
  dsimp only
  frame_out
  pointwise [k0_pay2]

/-- It then grows by one part a point. -/
theorem keep_next (t : Fin cfg0.N) (h : 1 ≤ t.val % 3 ∧ t.val % 3 ≤ 1) (y : Kernel24Ideal.S1024x512.Idx) :
    ((outsAt0 m c t.val t.isLt).2 y : EReal)
      = (outsAt0 m c (t.val - 1) (Nat.lt_of_le_of_lt (Nat.sub_le _ _) t.isLt)).2 y
        + k0_pay1 (F := Ideal) (iblk m c 0 t) (X0_1 m c t) y := by
  rw [outsAt0_B m c t (by omega) (by omega) (by omega)]
  dsimp only
  frame_out
  rw [read_unread_whole]
  pointwise [k0_pay3]

/-- Before a run's last point it is the sum of the run's other parts. -/
theorem kept (t : Fin cfg0.N) (h : t.val % 3 = 2) (y : Kernel24Ideal.S1024x512.Idx) (r : Fin 4096) (q : Fin 4096)
    (hr : r.val = t.val / 24 * 1024 + (y 0).val) (hq : q.val = t.val / 3 % 8 * 512 + (y 1).val) :
    ((outsAt0 m c (t.val - 1) (Nat.lt_of_le_of_lt (Nat.sub_le _ _) t.isLt)).2 y : EReal)
      = part (V m c Kernel24Ideal.main_arg0) (V m c Kernel24Ideal.main_arg1) r q 0 (by omega) + part (V m c Kernel24Ideal.main_arg0) (V m c Kernel24Ideal.main_arg1) r q 1 (by omega) := by
  have ht := t.isLt
  have e1 := keep_next m c ⟨t.val - 1, by omega⟩ (by dsimp only; omega) y
  rw [part_at m c ⟨t.val - 1, by omega⟩ y r q (by dsimp only; omega) (by dsimp only; omega) 1 (by omega) (by dsimp only; omega)] at e1
  have e2 := keep_first m c ⟨t.val - 2, by omega⟩ (by dsimp only; omega) y
  rw [part_at m c ⟨t.val - 2, by omega⟩ y r q (by dsimp only; omega) (by dsimp only; omega) 0 (by omega) (by dsimp only; omega)] at e2
  dsimp only at e1 e2
  have s2 : t.val - 1 - 1 = t.val - 2 := by omega
  simp only [s2] at e1
  rw [e1, e2]

end

/-- The reference of `l0_in_dx_z` leaves its arguments as they were. -/
theorem frame : Cert.quiescent_Reference24Ideal := by
  intro m g _
  hlo_run
  · exact fun _ => ⟨trivial, trivial, trivial⟩
  · exact sem_eq_zero_of_no_sems (by decide) r.2

/-- The array `l0_in_dx_z` returns is its reference's. -/
theorem algebraic : Cert.algebraic_Kernel24Ideal_Reference24Ideal := by
  pair_intro
  · run_from Cert.Kernel24Ideal.Gen.run_main m g
  · hlo_run
    refine Eq.symm ?_
    refine (dats m 0 c).arrAt_eq_of_covers 3 _ (by decide +kernel) fun t hf y => ?_
    have h3 : t.val % 3 = 2 := (flush0_3 t).mp hf
    have hi := (idx t).2.2.2
    obtain ⟨p0, p1, p2⟩ := place t
    blk_simp
    rw [after0_3, outsAt0_C m c t (by omega) (by omega) h3]
    frame_out
    rw [read_unread_whole]
    pointwise [k0_pay4]
    refine congrArg₂ (fun a b : EReal => a + b) ?_ (by blk_ext [iblk, V, idx t])
    refine Eq.trans ?_ (parts (V m c Kernel24Ideal.main_arg0) (V m c Kernel24Ideal.main_arg1) _ _).symm
    refine congrArg₂ (fun a b : EReal => a + b) (kept m c t h3 y _ _ ?_ ?_) (part_at m c t y _ _ ?_ ?_ _ _ h3)
    all_goals first | exact h3 | blk_simp [idx t, p0, p1]
end Cert.Reference24Ideal.Hand
-- ==== Proof.Mm25.lean ====
module

public import proofs.«01_k».proof.Defs
public import proofs.«01_k».proof.Proof.Gen.Kernel25.Frame
public import proofs.«01_k».proof.Proof.Gen.Kernel25Ideal.Frame
public import proofs.«01_k».proof.Proof.Gen.Reference25Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference25Ideal.Hand
open Cert.Kernel25Ideal.Gen
open Cert.Kernel25Ideal (cfg0 grid0 win0_0 win0_1 win0_2 win0_3)

/-- Where the windows' blocks of `l0_in_dx_xbc` lie. -/
theorem idx : ∀ t : Fin cfg0.N, win0_0.index t = ![(grid0.coords t 0).val, (grid0.coords t 2).val] ∧ win0_1.index t = ![(grid0.coords t 2).val + 5, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

/-- The part of the product over the columns `2048 s` and on: the summand of the running sum. -/
def part (A : Vec Ideal Cert.Kernel25Ideal.S4096x8192 .bf16) (B : Vec Ideal Cert.Kernel25Ideal.S18528x4096 .bf16)
    (r : Fin 4096) (q : Fin 4096) (s : ℕ) (hs : s < 4) : EReal :=
  ∑ k : Fin 2048, A (ix2 r (⟨s * 2048 + k.val, by omega⟩ : Fin 8192)) * B (ix2 (⟨10240 + (s * 2048 + k.val), by omega⟩ : Fin 18528) q)

/-- The parts sum to the whole product. -/
theorem parts (A : Vec Ideal Cert.Kernel25Ideal.S4096x8192 .bf16) (B : Vec Ideal Cert.Kernel25Ideal.S18528x4096 .bf16) (r : Fin 4096) (q : Fin 4096) :
    (∑ l : Fin 8192, A (ix2 r l) * B (ix2 (⟨10240 + l.val, by omega⟩ : Fin 18528) q) : EReal)
      = part A B r q 0 (by omega) + part A B r q 1 (by omega) + part A B r q 2 (by omega) + part A B r q 3 (by omega) := by
  rw [← Fin.sum_mul_add_fin 4 2048 (fun l : Fin 8192 => (A (ix2 r l) * B (ix2 (⟨10240 + l.val, by omega⟩ : Fin 18528) q) : EReal))]
  exact Fin.sum_univ_four _

section
variable (m : (ℓ : Loc Kernel25Ideal.nD Kernel25Ideal.τ Kernel25Ideal.sig) → Buf (Elt Ideal) ℓ) (c : Dev Kernel25Ideal.nD)

/-- Where a point lies in the grid. -/
theorem place : ∀ t : Fin cfg0.N, (grid0.coords t 0).val = t.val / 32 ∧ (grid0.coords t 1).val = t.val / 4 % 8
    ∧ (grid0.coords t 2).val = t.val % 4 :=
  (by decide +kernel : ∀ t : Fin grid0.N, _)

/-- What the body multiplies at a point is the part of the point's columns. -/
theorem part_at (t : Fin cfg0.N) (y : Kernel25Ideal.S1024x512.Idx) (r : Fin 4096) (q : Fin 4096)
    (hr : r.val = t.val / 32 * 1024 + (y 0).val) (hq : q.val = t.val / 4 % 8 * 512 + (y 1).val)
    (s : ℕ) (hs : s < 4) (h : t.val % 4 = s) :
    (k0_pay1 (F := Ideal) (iblk m c 0 t) (X0_1 m c t) y : EReal)
      = part (V m c Kernel25Ideal.main_arg0) (V m c Kernel25Ideal.main_arg1) r q s hs := by
  obtain ⟨p0, p1, p2⟩ := place t
  subst h
  unfold part
  pointwise [k0_pay1]
  blk_point [iblk, V, idx t]
  refine (dif_pos (moved0_1 t _)).trans ?_
  blk_ext [iblk, V, idx t]

/-- The sum kept between points starts at the first part. -/
theorem keep_first (t : Fin cfg0.N) (h : t.val % 4 = 0) (y : Kernel25Ideal.S1024x512.Idx) :
    ((outsAt0 m c t.val t.isLt).2 y : EReal) = k0_pay1 (F := Ideal) (iblk m c 0 t) (X0_1 m c t) y := by
  rw [outsAt0_A m c t h (by omega) (by omega)]
  dsimp only
  frame_out
  pointwise [k0_pay2]

/-- It then grows by one part a point. -/
theorem keep_next (t : Fin cfg0.N) (h : 1 ≤ t.val % 4 ∧ t.val % 4 ≤ 2) (y : Kernel25Ideal.S1024x512.Idx) :
    ((outsAt0 m c t.val t.isLt).2 y : EReal)
      = (outsAt0 m c (t.val - 1) (Nat.lt_of_le_of_lt (Nat.sub_le _ _) t.isLt)).2 y
        + k0_pay1 (F := Ideal) (iblk m c 0 t) (X0_1 m c t) y := by
  rw [outsAt0_B m c t (by omega) h (by omega)]
  dsimp only
  frame_out
  rw [read_unread_whole]
  pointwise [k0_pay3]

/-- Before a run's last point it is the sum of the run's other parts. -/
theorem kept (t : Fin cfg0.N) (h : t.val % 4 = 3) (y : Kernel25Ideal.S1024x512.Idx) (r : Fin 4096) (q : Fin 4096)
    (hr : r.val = t.val / 32 * 1024 + (y 0).val) (hq : q.val = t.val / 4 % 8 * 512 + (y 1).val) :
    ((outsAt0 m c (t.val - 1) (Nat.lt_of_le_of_lt (Nat.sub_le _ _) t.isLt)).2 y : EReal)
      = part (V m c Kernel25Ideal.main_arg0) (V m c Kernel25Ideal.main_arg1) r q 0 (by omega) + part (V m c Kernel25Ideal.main_arg0) (V m c Kernel25Ideal.main_arg1) r q 1 (by omega) + part (V m c Kernel25Ideal.main_arg0) (V m c Kernel25Ideal.main_arg1) r q 2 (by omega) := by
  have ht := t.isLt
  have e1 := keep_next m c ⟨t.val - 1, by omega⟩ (by dsimp only; omega) y
  rw [part_at m c ⟨t.val - 1, by omega⟩ y r q (by dsimp only; omega) (by dsimp only; omega) 2 (by omega) (by dsimp only; omega)] at e1
  have e2 := keep_next m c ⟨t.val - 2, by omega⟩ (by dsimp only; omega) y
  rw [part_at m c ⟨t.val - 2, by omega⟩ y r q (by dsimp only; omega) (by dsimp only; omega) 1 (by omega) (by dsimp only; omega)] at e2
  have e3 := keep_first m c ⟨t.val - 3, by omega⟩ (by dsimp only; omega) y
  rw [part_at m c ⟨t.val - 3, by omega⟩ y r q (by dsimp only; omega) (by dsimp only; omega) 0 (by omega) (by dsimp only; omega)] at e3
  dsimp only at e1 e2 e3
  have s2 : t.val - 1 - 1 = t.val - 2 := by omega
  have s3 : t.val - 2 - 1 = t.val - 3 := by omega
  simp only [s2, s3] at e1 e2
  rw [e1, e2, e3]

end

/-- The reference of `l0_in_dx_xbc` leaves its arguments as they were. -/
theorem frame : Cert.quiescent_Reference25Ideal := by
  intro m g _
  hlo_run
  · exact fun _ => ⟨trivial, trivial, trivial⟩
  · exact sem_eq_zero_of_no_sems (by decide) r.2

/-- The array `l0_in_dx_xbc` returns is its reference's. -/
theorem algebraic : Cert.algebraic_Kernel25Ideal_Reference25Ideal := by
  pair_intro
  · run_from Cert.Kernel25Ideal.Gen.run_main m g
  · hlo_run
    refine Eq.symm ?_
    refine (dats m 0 c).arrAt_eq_of_covers 3 _ (by decide +kernel) fun t hf y => ?_
    have h3 : t.val % 4 = 3 := (flush0_3 t).mp hf
    have hi := (idx t).2.2.2
    obtain ⟨p0, p1, p2⟩ := place t
    blk_simp
    rw [after0_3, outsAt0_C m c t (by omega) (by omega) h3]
    frame_out
    rw [read_unread_whole]
    pointwise [k0_pay4]
    refine congrArg₂ (fun a b : EReal => a + b) ?_ (by blk_ext [iblk, V, idx t])
    refine Eq.trans ?_ (parts (V m c Kernel25Ideal.main_arg0) (V m c Kernel25Ideal.main_arg1) _ _).symm
    refine congrArg₂ (fun a b : EReal => a + b) (kept m c t h3 y _ _ ?_ ?_) (part_at m c t y _ _ ?_ ?_ _ _ h3)
    all_goals first | exact h3 | blk_simp [idx t, p0, p1]
end Cert.Reference25Ideal.Hand
-- ==== Proof.Mm26.lean ====
module

public import proofs.«01_k».proof.Defs
public import proofs.«01_k».proof.Proof.Gen.Kernel26.Frame
public import proofs.«01_k».proof.Proof.Gen.Kernel26Ideal.Frame
public import proofs.«01_k».proof.Proof.Gen.Reference26Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference26Ideal.Hand
open Cert.Kernel26Ideal.Gen
open Cert.Kernel26Ideal (cfg0 grid0 win0_0 win0_1 win0_2 win0_3)

/-- Where the windows' blocks of `l0_in_dx_dt` lie. -/
theorem idx : ∀ t : Fin cfg0.N, win0_0.index t = ![(grid0.coords t 0).val, 0] ∧ win0_1.index t = ![0, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

/-- The reference of `l0_in_dx_dt` leaves its arguments as they were. -/
theorem frame : Cert.quiescent_Reference26Ideal := by
  intro m g _
  hlo_run
  · exact fun _ => ⟨trivial, trivial, trivial⟩
  · exact sem_eq_zero_of_no_sems (by decide) r.2

/-- The array `l0_in_dx_dt` returns is its reference's. -/
theorem algebraic : Cert.algebraic_Kernel26Ideal_Reference26Ideal := by
  pair_intro
  · run_from Cert.Kernel26Ideal.Gen.run_main m g
  · hlo_run
    refine Eq.symm ?_
    refine (dats m 0 c).arrAt_eq_of_covers 3 _ (by decide +kernel) fun t _ y => ?_
    blk_simp
    rw [after0_3]; frame_out
    pointwise [k0_pay1]
    blk_point [iblk, V, idx t]
end Cert.Reference26Ideal.Hand
-- ==== Proof.Mm27.lean ====
module

public import proofs.«01_k».proof.Defs
public import proofs.«01_k».proof.Proof.Gen.Kernel27.Frame
public import proofs.«01_k».proof.Proof.Gen.Kernel27Ideal.Frame
public import proofs.«01_k».proof.Proof.Gen.Reference27Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference27Ideal.Hand
open Cert.Kernel27Ideal.Gen
open Cert.Kernel27Ideal (cfg0 grid0 win0_0 win0_1 win0_2)

/-- Where the windows' blocks of `l0_in_s5` lie. -/
theorem idx : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The reference of `l0_in_s5` leaves its arguments as they were. -/
theorem frame : Cert.quiescent_Reference27Ideal := by
  intro m g _
  hlo_run
  · exact fun _ => ⟨trivial, trivial⟩
  · exact sem_eq_zero_of_no_sems (by decide) r.2

/-- The array `l0_in_s5` returns is its reference's. -/
theorem algebraic : Cert.algebraic_Kernel27Ideal_Reference27Ideal := by
  pair_intro
  · run_from Cert.Kernel27Ideal.Gen.run_main m g
  · hlo_run
    refine Eq.symm ?_
    refine (dats m 0 c).arrAt_eq_of_covers 2 _ (by decide +kernel) fun t _ y => ?_
    blk_simp
    rw [after0_2]; unfold outsAt0; frame_out
    pointwise [k0_pay1]
    show (_ : EReal) = _
    refine Finset.sum_congr rfl fun k _ => congrArg₂ (fun a b : EReal => a * b) ?_ ?_
    · blk_point [iblk, V, idx t]
    · refine (dif_pos (moved0_1 t _)).trans ?_
      blk_ext [iblk, V, idx t]
end Cert.Reference27Ideal.Hand
-- ==== Proof.Mm28.lean ====
module

public import proofs.«01_k».proof.Defs
public import proofs.«01_k».proof.Proof.Gen.Kernel28.Frame
public import proofs.«01_k».proof.Proof.Gen.Kernel28Ideal.Frame
public import proofs.«01_k».proof.Proof.Gen.Reference28Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference28Ideal.Hand
open Cert.Kernel28Ideal.Gen
open Cert.Kernel28Ideal (cfg0 grid0 win0_0 win0_1 win0_2)

/-- Where the windows' blocks of `l0_in_z` lie. -/
theorem idx : ∀ t : Fin cfg0.N, win0_0.index t = ![(grid0.coords t 0).val, 0] ∧ win0_1.index t = ![(grid0.coords t 1).val + 8, 0]
    ∧ win0_2.index t = ![(grid0.coords t 0).val, (grid0.coords t 1).val] :=
  (by decide +kernel : ∀ t : Fin grid0.N, _)

/-- The reference of `l0_in_z` leaves its arguments as they were. -/
theorem frame : Cert.quiescent_Reference28Ideal := by
  intro m g _
  hlo_run
  · exact fun _ => ⟨trivial, trivial⟩
  · exact sem_eq_zero_of_no_sems (by decide) r.2

/-- The array `l0_in_z` returns is its reference's. -/
theorem algebraic : Cert.algebraic_Kernel28Ideal_Reference28Ideal := by
  pair_intro
  · run_from Cert.Kernel28Ideal.Gen.run_main m g
  · hlo_run
    refine Eq.symm ?_
    refine (dats m 0 c).arrAt_eq_of_covers 2 _ (by decide +kernel) fun t _ y => ?_
    blk_simp
    rw [after0_2]; unfold outsAt0; frame_out
    pointwise [k0_pay1]
    show (_ : EReal) = _
    refine Finset.sum_congr rfl fun k _ => congrArg₂ (fun a b : EReal => a * b) ?_ ?_
    · blk_point [iblk, V, idx t]
    · refine (dif_pos (moved0_1 t _)).trans ?_
      blk_ext [iblk, V, idx t]
end Cert.Reference28Ideal.Hand
-- ==== Proof.Mm29.lean ====
module

public import proofs.«01_k».proof.Defs
public import proofs.«01_k».proof.Proof.Gen.Kernel29.Frame
public import proofs.«01_k».proof.Proof.Gen.Kernel29Ideal.Frame
public import proofs.«01_k».proof.Proof.Gen.Reference29Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference29Ideal.Hand
open Cert.Kernel29Ideal.Gen
open Cert.Kernel29Ideal (cfg0 grid0 win0_0 win0_1 win0_2)

/-- Where the windows' blocks of `l0_in_xbc` lie. -/
theorem idx : ∀ t : Fin cfg0.N, win0_0.index t = ![(grid0.coords t 0).val, 0] ∧ win0_1.index t = ![(grid0.coords t 1).val + 20, 0]
    ∧ win0_2.index t = ![(grid0.coords t 0).val, (grid0.coords t 1).val] :=
  (by decide +kernel : ∀ t : Fin grid0.N, _)

/-- The reference of `l0_in_xbc` leaves its arguments as they were. -/
theorem frame : Cert.quiescent_Reference29Ideal := by
  intro m g _
  hlo_run
  · exact fun _ => ⟨trivial, trivial⟩
  · exact sem_eq_zero_of_no_sems (by decide) r.2

/-- The array `l0_in_xbc` returns is its reference's. -/
theorem algebraic : Cert.algebraic_Kernel29Ideal_Reference29Ideal := by
  pair_intro
  · run_from Cert.Kernel29Ideal.Gen.run_main m g
  · hlo_run
    refine Eq.symm ?_
    refine (dats m 0 c).arrAt_eq_of_covers 2 _ (by decide +kernel) fun t _ y => ?_
    blk_simp
    rw [after0_2]; unfold outsAt0; frame_out
    pointwise [k0_pay1]
    show (_ : EReal) = _
    refine Finset.sum_congr rfl fun k _ => congrArg₂ (fun a b : EReal => a * b) ?_ ?_
    · blk_point [iblk, V, idx t]
    · refine (dif_pos (moved0_1 t _)).trans ?_
      blk_ext [iblk, V, idx t]
end Cert.Reference29Ideal.Hand
-- ==== Proof.Mm30.lean ====
module

public import proofs.«01_k».proof.Defs
public import proofs.«01_k».proof.Proof.Gen.Kernel30.Frame
public import proofs.«01_k».proof.Proof.Gen.Kernel30Ideal.Frame
public import proofs.«01_k».proof.Proof.Gen.Reference30Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference30Ideal.Hand
open Cert.Kernel30Ideal.Gen
open Cert.Kernel30Ideal (cfg0 grid0 win0_0 win0_1 win0_2)

/-- Where the windows' blocks of `l0_in_dt` lie. -/
theorem idx : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The reference of `l0_in_dt` leaves its arguments as they were. -/
theorem frame : Cert.quiescent_Reference30Ideal := by
  intro m g _
  hlo_run
  · exact fun _ => ⟨trivial, trivial⟩
  · exact sem_eq_zero_of_no_sems (by decide) r.2

/-- The array `l0_in_dt` returns is its reference's. -/
theorem algebraic : Cert.algebraic_Kernel30Ideal_Reference30Ideal := by
  pair_intro
  · run_from Cert.Kernel30Ideal.Gen.run_main m g
  · hlo_run
    refine Eq.symm ?_
    refine (dats m 0 c).arrAt_eq_of_covers 2 _ (by decide +kernel) fun t _ y => ?_
    blk_simp
    rw [after0_2]; frame_out
    pointwise [k0_pay1]
    blk_point [iblk, V, idx t]
end Cert.Reference30Ideal.Hand
-- ==== Proof.Mm31.lean ====
module

public import proofs.«01_k».proof.Defs
public import proofs.«01_k».proof.Proof.Gen.Kernel31.Frame
public import proofs.«01_k».proof.Proof.Gen.Kernel31Ideal.Frame
public import proofs.«01_k».proof.Proof.Gen.Reference31Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference31Ideal.Hand
open Cert.Kernel31Ideal.Gen
open Cert.Kernel31Ideal (cfg0 grid0 win0_0 win0_1 win0_2)

/-- Where the windows' blocks of `s5_glu` lie. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The reference of `s5_glu` leaves its arguments as they were. -/
theorem frame : Cert.quiescent_Reference31Ideal := by
  intro m g _
  hlo_run
  · exact fun _ => ⟨trivial, trivial⟩
  · exact sem_eq_zero_of_no_sems (by decide) r.2

/-- The array `s5_glu` returns is its reference's. -/
theorem algebraic : Cert.algebraic_Kernel31Ideal_Reference31Ideal := by
  pair_intro
  · run_from Cert.Kernel31Ideal.Gen.run_main m g
  · hlo_run
    refine Eq.symm ?_
    refine (dats m 0 c).arrAt_eq_of_covers 2 _ (by decide +kernel) fun t _ y => ?_
    blk_simp
    rw [after0_2]; frame_out
    pointwise [k0_pay1]
    blk_point [iblk, V, idx t]
end Cert.Reference31Ideal.Hand
-- ==== Proof.Mm32.lean ====
module

public import proofs.«01_k».proof.Defs
public import proofs.«01_k».proof.Proof.Gen.Kernel32.Frame
public import proofs.«01_k».proof.Proof.Gen.Kernel32Ideal.Frame
public import proofs.«01_k».proof.Proof.Gen.Reference32Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference32Ideal.Hand
open Cert.Kernel32Ideal.Gen
open Cert.Kernel32Ideal (cfg0 grid0 win0_0 win0_1 win0_2 win0_3)

/-- Where the windows' blocks of `l0_out` lie. -/
theorem idx : ∀ t : Fin cfg0.N, win0_0.index t = ![(grid0.coords t 0).val, (grid0.coords t 2).val] ∧ win0_1.index t = ![(grid0.coords t 2).val, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

/-- The part of the product over the columns `4096 s` and on: the summand of the running sum. -/
def part (A : Vec Ideal Cert.Kernel32Ideal.S4096x8192 .bf16) (B : Vec Ideal Cert.Kernel32Ideal.S8192x4096 .bf16)
    (r : Fin 4096) (q : Fin 4096) (s : ℕ) (hs : s < 2) : EReal :=
  ∑ k : Fin 4096, A (ix2 r (⟨s * 4096 + k.val, by omega⟩ : Fin 8192)) * B (ix2 (⟨s * 4096 + k.val, by omega⟩ : Fin 8192) q)

/-- The parts sum to the whole product. -/
theorem parts (A : Vec Ideal Cert.Kernel32Ideal.S4096x8192 .bf16) (B : Vec Ideal Cert.Kernel32Ideal.S8192x4096 .bf16) (r : Fin 4096) (q : Fin 4096) :
    (∑ l : Fin 8192, A (ix2 r l) * B (ix2 (⟨l.val, by omega⟩ : Fin 8192) q) : EReal)
      = part A B r q 0 (by omega) + part A B r q 1 (by omega) := by
  rw [← Fin.sum_mul_add_fin 2 4096 (fun l : Fin 8192 => (A (ix2 r l) * B (ix2 (⟨l.val, by omega⟩ : Fin 8192) q) : EReal))]
  exact Fin.sum_univ_two _

section
variable (m : (ℓ : Loc Kernel32Ideal.nD Kernel32Ideal.τ Kernel32Ideal.sig) → Buf (Elt Ideal) ℓ) (c : Dev Kernel32Ideal.nD)

/-- Where a point lies in the grid. -/
theorem place : ∀ t : Fin cfg0.N, (grid0.coords t 0).val = t.val / 16 ∧ (grid0.coords t 1).val = t.val / 2 % 8
    ∧ (grid0.coords t 2).val = t.val % 2 :=
  (by decide +kernel : ∀ t : Fin grid0.N, _)

/-- What the body multiplies at a point is the part of the point's columns. -/
theorem part_at (t : Fin cfg0.N) (y : Kernel32Ideal.S1024x512.Idx) (r : Fin 4096) (q : Fin 4096)
    (hr : r.val = t.val / 16 * 1024 + (y 0).val) (hq : q.val = t.val / 2 % 8 * 512 + (y 1).val)
    (s : ℕ) (hs : s < 2) (h : t.val % 2 = s) :
    (k0_pay1 (F := Ideal) (iblk m c 0 t) (iblk m c 1 t) y : EReal)
      = part (V m c Kernel32Ideal.main_arg0) (V m c Kernel32Ideal.main_arg1) r q s hs := by
  obtain ⟨p0, p1, p2⟩ := place t
  subst h
  unfold part
  pointwise [k0_pay1]
  blk_point [iblk, V, idx t]

/-- The sum kept between points starts at the first part. -/
theorem keep_first (t : Fin cfg0.N) (h : t.val % 2 = 0) (y : Kernel32Ideal.S1024x512.Idx) :
    ((outsAt0 m c t.val t.isLt).2 y : EReal) = k0_pay1 (F := Ideal) (iblk m c 0 t) (iblk m c 1 t) y := by
  rw [outsAt0_A m c t h (by omega)]
  dsimp only
  frame_out
  pointwise [k0_pay2]

/-- Before a run's last point it is the sum of the run's other parts. -/
theorem kept (t : Fin cfg0.N) (h : t.val % 2 = 1) (y : Kernel32Ideal.S1024x512.Idx) (r : Fin 4096) (q : Fin 4096)
    (hr : r.val = t.val / 16 * 1024 + (y 0).val) (hq : q.val = t.val / 2 % 8 * 512 + (y 1).val) :
    ((outsAt0 m c (t.val - 1) (Nat.lt_of_le_of_lt (Nat.sub_le _ _) t.isLt)).2 y : EReal)
      = part (V m c Kernel32Ideal.main_arg0) (V m c Kernel32Ideal.main_arg1) r q 0 (by omega) := by
  have ht := t.isLt
  have e1 := keep_first m c ⟨t.val - 1, by omega⟩ (by dsimp only; omega) y
  rw [part_at m c ⟨t.val - 1, by omega⟩ y r q (by dsimp only; omega) (by dsimp only; omega) 0 (by omega) (by dsimp only; omega)] at e1
  dsimp only at e1
  rw [e1]

end

/-- The reference of `l0_out` leaves its arguments as they were. -/
theorem frame : Cert.quiescent_Reference32Ideal := by
  intro m g _
  hlo_run
  · exact fun _ => ⟨trivial, trivial, trivial⟩
  · exact sem_eq_zero_of_no_sems (by decide) r.2

/-- The array `l0_out` returns is its reference's. -/
theorem algebraic : Cert.algebraic_Kernel32Ideal_Reference32Ideal := by
  pair_intro
  · run_from Cert.Kernel32Ideal.Gen.run_main m g
  · hlo_run
    refine Eq.symm ?_
    refine (dats m 0 c).arrAt_eq_of_covers 3 _ (by decide +kernel) fun t hf y => ?_
    have h3 : t.val % 2 = 1 := (flush0_3 t).mp hf
    have hi := (idx t).2.2.2
    obtain ⟨p0, p1, p2⟩ := place t
    blk_simp
    rw [after0_3, outsAt0_B m c t (by omega)]
    frame_out
    rw [read_unread_whole]
    pointwise [k0_pay4]
    refine congrArg₂ (fun a b : EReal => a + b) ?_ (by blk_ext [iblk, V, idx t])
    refine Eq.trans ?_ (parts (V m c Kernel32Ideal.main_arg0) (V m c Kernel32Ideal.main_arg1) _ _).symm
    refine congrArg₂ (fun a b : EReal => a + b) (kept m c t h3 y _ _ ?_ ?_) (part_at m c t y _ _ ?_ ?_ _ _ h3)
    all_goals first | exact h3 | blk_simp [idx t, p0, p1]
end Cert.Reference32Ideal.Hand
-- ==== Proof.Mm33.lean ====
module

public import proofs.«01_k».proof.Defs
public import proofs.«01_k».proof.Proof.Gen.Kernel33.Frame
public import proofs.«01_k».proof.Proof.Gen.Kernel33Ideal.Frame
public import proofs.«01_k».proof.Proof.Gen.Reference33Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference33Ideal.Hand
open Cert.Kernel33Ideal.Gen
open Cert.Kernel33Ideal (cfg0 grid0 win0_0 win0_1 win0_2)

/-- Where the windows' blocks of `l1_in_qkv` lie. -/
theorem idx : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The reference of `l1_in_qkv` leaves its arguments as they were. -/
theorem frame : Cert.quiescent_Reference33Ideal := by
  intro m g _
  hlo_run
  · exact fun _ => ⟨trivial, trivial⟩
  · exact sem_eq_zero_of_no_sems (by decide) r.2

/-- The array `l1_in_qkv` returns is its reference's. -/
theorem algebraic : Cert.algebraic_Kernel33Ideal_Reference33Ideal := by
  pair_intro
  · run_from Cert.Kernel33Ideal.Gen.run_main m g
  · hlo_run
    refine Eq.symm ?_
    refine (dats m 0 c).arrAt_eq_of_covers 2 _ (by decide +kernel) fun t _ y => ?_
    blk_simp
    rw [after0_2]; unfold outsAt0; frame_out
    pointwise [k0_pay1]
    show (_ : EReal) = _
    refine Finset.sum_congr rfl fun k _ => congrArg₂ (fun a b : EReal => a * b) ?_ ?_
    · blk_point [iblk, V, idx t]
    · refine (dif_pos (moved0_1 t _)).trans ?_
      blk_ext [iblk, V, idx t]
end Cert.Reference33Ideal.Hand
-- ==== Proof.Mm34.lean ====
module

public import proofs.«01_k».proof.Defs
public import proofs.«01_k».proof.Proof.Gen.Kernel34.Frame
public import proofs.«01_k».proof.Proof.Gen.Kernel34Ideal.Frame
public import proofs.«01_k».proof.Proof.Gen.Reference34Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference34Ideal.Hand
open Cert.Kernel34Ideal.Gen
open Cert.Kernel34Ideal (cfg0 grid0 win0_0 win0_1 win0_2)

/-- Where the windows' blocks of `l1_in_gate` lie. -/
theorem idx : ∀ t : Fin cfg0.N, win0_0.index t = ![(grid0.coords t 0).val, 0] ∧ win0_1.index t = ![(grid0.coords t 1).val + 24, 0]
    ∧ win0_2.index t = ![(grid0.coords t 0).val, (grid0.coords t 1).val] :=
  (by decide +kernel : ∀ t : Fin grid0.N, _)

/-- The reference of `l1_in_gate` leaves its arguments as they were. -/
theorem frame : Cert.quiescent_Reference34Ideal := by
  intro m g _
  hlo_run
  · exact fun _ => ⟨trivial, trivial⟩
  · exact sem_eq_zero_of_no_sems (by decide) r.2

/-- The array `l1_in_gate` returns is its reference's. -/
theorem algebraic : Cert.algebraic_Kernel34Ideal_Reference34Ideal := by
  pair_intro
  · run_from Cert.Kernel34Ideal.Gen.run_main m g
  · hlo_run
    refine Eq.symm ?_
    refine (dats m 0 c).arrAt_eq_of_covers 2 _ (by decide +kernel) fun t _ y => ?_
    blk_simp
    rw [after0_2]; unfold outsAt0; frame_out
    pointwise [k0_pay1]
    show (_ : EReal) = _
    refine Finset.sum_congr rfl fun k _ => congrArg₂ (fun a b : EReal => a * b) ?_ ?_
    · blk_point [iblk, V, idx t]
    · refine (dif_pos (moved0_1 t _)).trans ?_
      blk_ext [iblk, V, idx t]
end Cert.Reference34Ideal.Hand
-- ==== Proof.Mm35.lean ====
module

public import proofs.«01_k».proof.Defs
public import proofs.«01_k».proof.Proof.Gen.Kernel35.Frame
public import proofs.«01_k».proof.Proof.Gen.Kernel35Ideal.Frame
public import proofs.«01_k».proof.Proof.Gen.Reference35Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference35Ideal.Hand
open Cert.Kernel35Ideal.Gen
open Cert.Kernel35Ideal (cfg0 grid0 win0_0 win0_1 win0_2)

/-- Where the windows' blocks of `l1_in_f` lie. -/
theorem idx : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The reference of `l1_in_f` leaves its arguments as they were. -/
theorem frame : Cert.quiescent_Reference35Ideal := by
  intro m g _
  hlo_run
  · exact fun _ => ⟨trivial, trivial⟩
  · exact sem_eq_zero_of_no_sems (by decide) r.2

/-- The array `l1_in_f` returns is its reference's. -/
theorem algebraic : Cert.algebraic_Kernel35Ideal_Reference35Ideal := by
  pair_intro
  · run_from Cert.Kernel35Ideal.Gen.run_main m g
  · hlo_run
    refine Eq.symm ?_
    refine (dats m 0 c).arrAt_eq_of_covers 2 _ (by decide +kernel) fun t _ y => ?_
    blk_simp
    rw [after0_2]; frame_out
    pointwise [k0_pay1]
    blk_point [iblk, V, idx t]
end Cert.Reference35Ideal.Hand
-- ==== Proof.Mm36.lean ====
module

public import proofs.«01_k».proof.Defs
public import proofs.«01_k».proof.Proof.Gen.Kernel36.Frame
public import proofs.«01_k».proof.Proof.Gen.Kernel36Ideal.Frame
public import proofs.«01_k».proof.Proof.Gen.Reference36Ideal
public import proofs.«01_k».proof.Proof.Part
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Reference36Ideal.Hand
open Cert.Kernel36Ideal.Gen
open Cert.Kernel36Ideal (cfg0 grid0 win0_0 win0_1 win0_2 win0_3)

/-- Where the windows' blocks of `l1_out` lie. -/
theorem idx : ∀ t : Fin cfg0.N, win0_0.index t = ![(grid0.coords t 0).val, 0] ∧ win0_1.index t = ![0, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

/-- The reference of `l1_out` leaves its arguments as they were. -/
theorem frame : Cert.quiescent_Reference36Ideal := by
  intro m g _
  hlo_run
  · exact fun _ => ⟨trivial, trivial, trivial⟩
  · exact sem_eq_zero_of_no_sems (by decide) r.2

/-- The array `l1_out` returns is its reference's. -/
theorem algebraic : Cert.algebraic_Kernel36Ideal_Reference36Ideal := by
  pair_intro
  · run_from Cert.Kernel36Ideal.Gen.run_main m g
  · hlo_run
    refine Eq.symm ?_
    refine (dats m 0 c).arrAt_eq_of_covers 3 _ (by decide +kernel) fun t _ y => ?_
    blk_simp
    rw [after0_3]; frame_out
    pointwise [k0_pay1]
    blk_point [iblk, V, idx t]
end Cert.Reference36Ideal.Hand
-- ==== Proof.Ew37.lean ====
module

public import proofs.«01_k».proof.Defs
public import proofs.«01_k».proof.Proof.Gen.Kernel37.Frame
public import proofs.«01_k».proof.Proof.Gen.Kernel37Ideal.Frame
public import proofs.«01_k».proof.Proof.Gen.Reference37Ideal
public import proofs.«01_k».proof.Proof.Part
public import Idealize.ShloMosaic.Lib.Pipeline.ValueKit
public import Idealize.ShloMosaic.Lib.Pipeline.ReadBack
public import Idealize.ShloMosaic.Lib.Claim

public import proofs.«01_k».proof.Proof.Gen.Reference37Ideal.Run

@[expose] public section
set_option maxRecDepth 16384
noncomputable section
open Idealize.ShloMosaic Idealize.ShloMosaic.TcCoe Idealize.SL.Sem
open Idealize.ShloMosaic.Pipeline (Dat)
namespace Cert.Reference37Ideal.Hand
open Cert.Kernel37Ideal.Gen
open Cert.Kernel37Ideal (cfg0 grid0 win0_0 win0_1 win0_2 win0_3 win0_4 win0_5 win0_6)

/-- Where the windows' blocks of `l1_norm_bwd` lie. -/
theorem idx : ∀ t : Fin cfg0.N, win0_0.index t = ![t.val % 16, t.val / 16]
    ∧ win0_1.index t = ![t.val % 16, t.val / 16]
    ∧ win0_2.index t = ![t.val % 16, t.val / 16]
    ∧ win0_3.index t = ![0, t.val / 16]
    ∧ win0_4.index t = ![t.val % 16, t.val / 16]
    ∧ win0_5.index t = ![t.val % 16, t.val / 16]
    ∧ win0_6.index t = ![0, t.val / 16] :=
  (by decide +kernel : ∀ t : Fin grid0.N, _)

/-- The reference of `l1_norm_bwd` leaves its arguments as they were. -/
theorem frame : Cert.quiescent_Reference37Ideal := by
  intro m g _
  run_from Cert.Reference37Ideal.Value.run m g
  · exact fun _ => ⟨trivial, trivial, trivial, trivial⟩
  · exact sem_eq_zero_of_no_sems (by decide) r.2

/-- The zeros an accumulator starts from. -/
theorem rows_zero (j) : k0_pay2 (F := Ideal) j = 0 := by pointwise [k0_pay2]

/-- One point adds its row to each of the eight rows. -/
theorem rows_step (row : FVec Ideal Cert.Kernel37Ideal.S1x4096 .f32) (acc : Vec Ideal Cert.Kernel37Ideal.S8x4096 .f32) (j) :
    k0_pay3 row acc j = acc j + row (ix2 0 (j 1)) := by
  pointwise [k0_pay3]

set_option maxHeartbeats 2000000 in
/-- The arrays `l1_norm_bwd` returns are the reference's. -/
theorem algebraic : Cert.algebraic_Kernel37Ideal_Reference37Ideal := by
  pair_intro
  · run_from Cert.Kernel37Ideal.Gen.run_main m g
  · run_from Cert.Reference37Ideal.Value.run m' g'
    · refine Eq.symm ?_
      refine (dats m 0 c).arrAt_eq_of_covers 4 _ (by decide +kernel) fun t _ y => ?_
      blk_simp
      rw [after0_4]
      by_cases h : t.val % 16 = 0
      · rw [outsAt0_A m c t h]; frame_out
        pointwise [k0_pay1, k0_pay2, k0_pay3, k0_pay4, k0_pay5, k0_pay6, k0_pay7, k0_pay8, k0_pay9]
        blk_point [iblk, V, idx t]
      · rw [outsAt0_B m c t h]; frame_out
        pointwise [k0_pay1, k0_pay2, k0_pay3, k0_pay4, k0_pay5, k0_pay6, k0_pay7, k0_pay8, k0_pay9]
        blk_point [iblk, V, idx t]
    · refine Eq.symm ?_
      refine (dats m 0 c).arrAt_eq_of_covers 5 _ (by decide +kernel) fun t _ y => ?_
      blk_simp
      rw [after0_5]
      by_cases h : t.val % 16 = 0
      · rw [outsAt0_A m c t h]; frame_out
        pointwise [k0_pay1, k0_pay2, k0_pay3, k0_pay4, k0_pay5, k0_pay6, k0_pay7, k0_pay8, k0_pay9]
        blk_point [iblk, V, idx t]
      · rw [outsAt0_B m c t h]; frame_out
        pointwise [k0_pay1, k0_pay2, k0_pay3, k0_pay4, k0_pay5, k0_pay6, k0_pay7, k0_pay8, k0_pay9]
        blk_point [iblk, V, idx t]
    · refine Eq.symm ?_
      refine (dats m 0 c).arrAt_eq_of_covers 6 _ (by decide +kernel) fun t hf y => ?_
      blk_simp
      rw [after0_6, Pipeline.eq_sum_fin_of_reset_step_apply_of_flush (fun n h => (outsAt0 m c n h).2.2) 16 (fun _ => 0) _
        (fun t h j => by rw [outsAt0_A m c t h]; frame_out; rw [rows_step, rows_zero])
        (fun t h j => by rw [outsAt0_B m c t h]; frame_out; rw [rows_step]) t ((flush0_6 t).mp hf) _, zero_add]
      pointwise [k0_pay1, k0_pay2, k0_pay3, k0_pay4, k0_pay5, k0_pay6, k0_pay7, k0_pay8, k0_pay9]
      rw [Fin.sum_univ_one]
      refine Fin.sum_mul_add_congr fun s k hl => ?_
      blk_point [iblk, V, idx t, idx ⟨_, Pipeline.run_point_lt_of_flush t ((flush0_6 t).mp hf) s⟩]
end Cert.Reference37Ideal.Hand
-- ==== Proof.Ew38.lean ====
module

public import proofs.«01_k».proof.Defs
public import proofs.«01_k».proof.Proof.Gen.Kernel38.Frame
public import proofs.«01_k».proof.Proof.Gen.Kernel38Ideal.Frame
public import proofs.«01_k».proof.Proof.Gen.Reference38Ideal
public import proofs.«01_k».proof.Proof.Part
public import Idealize.ShloMosaic.Lib.Pipeline.ValueKit
public import Idealize.ShloMosaic.Lib.Pipeline.ReadBack
public import Idealize.ShloMosaic.Lib.Claim

public import proofs.«01_k».proof.Proof.Gen.Reference38Ideal.Run

@[expose] public section
set_option maxRecDepth 16384
noncomputable section
open Idealize.ShloMosaic Idealize.ShloMosaic.TcCoe Idealize.SL.Sem
open Idealize.ShloMosaic.Pipeline (Dat)
namespace Cert.Reference38Ideal.Hand
open Cert.Kernel38Ideal.Gen
open Cert.Kernel38Ideal (cfg0 grid0 win0_0 win0_1 win0_2 win0_3 win0_4 win0_5 win0_6)

/-- Where the windows' blocks of `l0_norm_bwd` lie. -/
theorem idx : ∀ t : Fin cfg0.N, win0_0.index t = ![t.val % 16, t.val / 16]
    ∧ win0_1.index t = ![t.val % 16, t.val / 16]
    ∧ win0_2.index t = ![t.val % 16, t.val / 16]
    ∧ win0_3.index t = ![0, t.val / 16]
    ∧ win0_4.index t = ![t.val % 16, t.val / 16]
    ∧ win0_5.index t = ![t.val % 16, t.val / 16]
    ∧ win0_6.index t = ![0, t.val / 16] :=
  (by decide +kernel : ∀ t : Fin grid0.N, _)

/-- The reference of `l0_norm_bwd` leaves its arguments as they were. -/
theorem frame : Cert.quiescent_Reference38Ideal := by
  intro m g _
  run_from Cert.Reference38Ideal.Value.run m g
  · exact fun _ => ⟨trivial, trivial, trivial, trivial⟩
  · exact sem_eq_zero_of_no_sems (by decide) r.2

/-- The zeros an accumulator starts from. -/
theorem rows_zero (j) : k0_pay2 (F := Ideal) j = 0 := by pointwise [k0_pay2]

/-- One point adds its row to each of the eight rows. -/
theorem rows_step (row : FVec Ideal Cert.Kernel38Ideal.S1x4096 .f32) (acc : Vec Ideal Cert.Kernel38Ideal.S8x4096 .f32) (j) :
    k0_pay3 row acc j = acc j + row (ix2 0 (j 1)) := by
  pointwise [k0_pay3]

set_option maxHeartbeats 2000000 in
/-- The arrays `l0_norm_bwd` returns are the reference's. -/
theorem algebraic : Cert.algebraic_Kernel38Ideal_Reference38Ideal := by
  pair_intro
  · run_from Cert.Kernel38Ideal.Gen.run_main m g
  · run_from Cert.Reference38Ideal.Value.run m' g'
    · refine Eq.symm ?_
      refine (dats m 0 c).arrAt_eq_of_covers 4 _ (by decide +kernel) fun t _ y => ?_
      blk_simp
      rw [after0_4]
      by_cases h : t.val % 16 = 0
      · rw [outsAt0_A m c t h]; frame_out
        pointwise [k0_pay1, k0_pay2, k0_pay3, k0_pay4, k0_pay5, k0_pay6, k0_pay7, k0_pay8, k0_pay9]
        blk_point [iblk, V, idx t]
      · rw [outsAt0_B m c t h]; frame_out
        pointwise [k0_pay1, k0_pay2, k0_pay3, k0_pay4, k0_pay5, k0_pay6, k0_pay7, k0_pay8, k0_pay9]
        blk_point [iblk, V, idx t]
    · refine Eq.symm ?_
      refine (dats m 0 c).arrAt_eq_of_covers 5 _ (by decide +kernel) fun t _ y => ?_
      blk_simp
      rw [after0_5]
      by_cases h : t.val % 16 = 0
      · rw [outsAt0_A m c t h]; frame_out
        pointwise [k0_pay1, k0_pay2, k0_pay3, k0_pay4, k0_pay5, k0_pay6, k0_pay7, k0_pay8, k0_pay9]
        blk_point [iblk, V, idx t]
      · rw [outsAt0_B m c t h]; frame_out
        pointwise [k0_pay1, k0_pay2, k0_pay3, k0_pay4, k0_pay5, k0_pay6, k0_pay7, k0_pay8, k0_pay9]
        blk_point [iblk, V, idx t]
    · refine Eq.symm ?_
      refine (dats m 0 c).arrAt_eq_of_covers 6 _ (by decide +kernel) fun t hf y => ?_
      blk_simp
      rw [after0_6, Pipeline.eq_sum_fin_of_reset_step_apply_of_flush (fun n h => (outsAt0 m c n h).2.2) 16 (fun _ => 0) _
        (fun t h j => by rw [outsAt0_A m c t h]; frame_out; rw [rows_step, rows_zero])
        (fun t h j => by rw [outsAt0_B m c t h]; frame_out; rw [rows_step]) t ((flush0_6 t).mp hf) _, zero_add]
      pointwise [k0_pay1, k0_pay2, k0_pay3, k0_pay4, k0_pay5, k0_pay6, k0_pay7, k0_pay8, k0_pay9]
      rw [Fin.sum_univ_one]
      refine Fin.sum_mul_add_congr fun s k hl => ?_
      blk_point [iblk, V, idx t, idx ⟨_, Pipeline.run_point_lt_of_flush t ((flush0_6 t).mp hf) s⟩]
end Cert.Reference38Ideal.Hand
-- ==== Proof.Ew39.lean ====
module

public import proofs.«01_k».proof.Defs
public import proofs.«01_k».proof.Proof.Gen.Kernel39.Frame
public import proofs.«01_k».proof.Proof.Gen.Kernel39Ideal.Frame
public import proofs.«01_k».proof.Proof.Gen.Reference39Ideal
public import proofs.«01_k».proof.Proof.Part
public import Idealize.ShloMosaic.Lib.Pipeline.ValueKit
public import Idealize.ShloMosaic.Lib.Pipeline.ReadBack
public import Idealize.ShloMosaic.Lib.Claim

public import proofs.«01_k».proof.Proof.Gen.Reference39Ideal.Run

@[expose] public section
set_option maxRecDepth 16384
noncomputable section
open Idealize.ShloMosaic Idealize.ShloMosaic.TcCoe Idealize.SL.Sem
open Idealize.ShloMosaic.Pipeline (Dat)
namespace Cert.Reference39Ideal.Hand
open Cert.Kernel39Ideal.Gen
open Cert.Kernel39Ideal (cfg0 grid0 win0_0 win0_1 win0_2 win0_3 win0_4 win0_5)

/-- Where the windows' blocks of `fox_gate_bwd` lie. -/
theorem idx : ∀ t : Fin cfg0.N, win0_0.index t = ![(grid0.coords t 1).val, (grid0.coords t 0).val]
    ∧ win0_1.index t = ![(grid0.coords t 1).val, (grid0.coords t 0).val]
    ∧ win0_2.index t = ![(grid0.coords t 1).val, (grid0.coords t 0).val]
    ∧ win0_3.index t = ![(grid0.coords t 1).val, (grid0.coords t 0).val]
    ∧ win0_4.index t = ![(grid0.coords t 1).val, (grid0.coords t 0).val]
    ∧ win0_5.index t = ![(grid0.coords t 1).val, (grid0.coords t 0).val] :=
  (by decide +kernel : ∀ t : Fin grid0.N, _)

/-- The reference of `fox_gate_bwd` leaves its arguments as they were. -/
theorem frame : Cert.quiescent_Reference39Ideal := by
  intro m g _
  run_from Cert.Reference39Ideal.Value.run m g
  · exact fun _ => ⟨trivial, trivial, trivial⟩
  · exact sem_eq_zero_of_no_sems (by decide) r.2

set_option maxHeartbeats 2000000 in
/-- The arrays `fox_gate_bwd` returns are the reference's. -/
theorem algebraic : Cert.algebraic_Kernel39Ideal_Reference39Ideal := by
  pair_intro
  · run_from Cert.Kernel39Ideal.Gen.run_main m g
  · run_from Cert.Reference39Ideal.Value.run m' g'
    · refine Eq.symm ?_
      refine (dats m 0 c).arrAt_eq_of_covers 3 _ (by decide +kernel) fun t _ y => ?_
      blk_simp
      rw [after0_3]; frame_out
      pointwise [k0_pay1, k0_pay2, k0_pay3, k0_pay4, k0_pay5]
      simp only [Ideal.logistic]
      blk_point [iblk, V, idx t]
    · refine Eq.symm ?_
      refine (dats m 0 c).arrAt_eq_of_covers 4 _ (by decide +kernel) fun t _ y => ?_
      blk_simp
      rw [after0_4]; frame_out
      pointwise [k0_pay1, k0_pay2, k0_pay3, k0_pay4, k0_pay5]
      simp only [Ideal.logistic]
      blk_point [iblk, V, idx t]
    · refine Eq.symm ?_
      refine (dats m 0 c).arrAt_eq_of_covers 5 _ (by decide +kernel) fun t _ y => ?_
      blk_simp
      rw [after0_5]; frame_out
      pointwise [k0_pay1, k0_pay2, k0_pay3, k0_pay4, k0_pay5]
      simp only [Ideal.logistic]
      blk_point [iblk, V, idx t]
end Cert.Reference39Ideal.Hand
-- ==== Proof.Ew40.lean ====
module

public import proofs.«01_k».proof.Defs
public import proofs.«01_k».proof.Proof.Gen.Kernel40.Frame
public import proofs.«01_k».proof.Proof.Gen.Kernel40Ideal.Frame
public import proofs.«01_k».proof.Proof.Gen.Reference40Ideal
public import proofs.«01_k».proof.Proof.Part
public import Idealize.ShloMosaic.Lib.Pipeline.ValueKit
public import Idealize.ShloMosaic.Lib.Pipeline.ReadBack
public import Idealize.ShloMosaic.Lib.Claim

public import proofs.«01_k».proof.Proof.Gen.Reference40Ideal.Run

@[expose] public section
set_option maxRecDepth 16384
noncomputable section
open Idealize.ShloMosaic Idealize.ShloMosaic.TcCoe Idealize.SL.Sem
open Idealize.ShloMosaic.Pipeline (Dat)
namespace Cert.Reference40Ideal.Hand
open Cert.Kernel40Ideal.Gen
open Cert.Kernel40Ideal (cfg0 grid0 win0_0 win0_1 win0_2 win0_3 win0_4 win0_5 win0_6 win0_7 win0_8)

/-- Where the windows' blocks of `s5_out_bwd` lie. -/
theorem idx : ∀ t : Fin cfg0.N, win0_0.index t = ![t.val % 16, t.val / 16]
    ∧ win0_1.index t = ![t.val % 16, t.val / 16]
    ∧ win0_2.index t = ![t.val % 16, t.val / 16 + 1]
    ∧ win0_3.index t = ![t.val % 16, t.val / 16]
    ∧ win0_4.index t = ![0, t.val / 16]
    ∧ win0_5.index t = ![t.val % 16, t.val / 16]
    ∧ win0_6.index t = ![t.val % 16, t.val / 16]
    ∧ win0_7.index t = ![t.val % 16, t.val / 16]
    ∧ win0_8.index t = ![0, t.val / 16] :=
  (by decide +kernel : ∀ t : Fin grid0.N, _)

/-- The reference of `s5_out_bwd` leaves its arguments as they were. -/
theorem frame : Cert.quiescent_Reference40Ideal := by
  intro m g _
  run_from Cert.Reference40Ideal.Value.run m g
  · exact fun _ => ⟨trivial, trivial, trivial, trivial, trivial⟩
  · exact sem_eq_zero_of_no_sems (by decide) r.2

/-- The zeros the accumulator starts from. -/
theorem rows_zero (j) : k0_pay6 (F := Ideal) j = 0 := by pointwise [k0_pay6]

/-- One point adds its column sums to each of the eight rows. -/
theorem rows_step (v3 : Vec Ideal Cert.Kernel40Ideal.S256x2048 .f32) (v26 v32 v38 : FVec Ideal Cert.Kernel40Ideal.S256x2048 .f32) (acc : Vec Ideal Cert.Kernel40Ideal.S8x2048 .f32) (j) :
    k0_pay7 v3 v26 v32 v38 acc j = acc j + ∑ k : Fin 256, k0_pay2 v3 v26 v32 v38 (ix2 k (j 1)) := by
  pointwise [k0_pay7]

set_option maxHeartbeats 2000000 in
/-- The arrays `s5_out_bwd` returns are the reference's. -/
theorem algebraic : Cert.algebraic_Kernel40Ideal_Reference40Ideal := by
  pair_intro
  · run_from Cert.Kernel40Ideal.Gen.run_main m g
  · run_from Cert.Reference40Ideal.Value.run m' g'
    · unfold Value.res_main_v57
      simp only [hagree c]
      refine Eq.symm ?_
      refine (dats m 0 c).arrAt_eq_of_covers 5 _ (by decide +kernel) fun t _ y => ?_
      blk_simp
      rw [after0_5]
      by_cases h : t.val % 16 = 0
      · rw [outsAt0_A m c t h]; frame_out
        pointwise [k0_pay1, k0_pay10, k0_pay11, k0_pay12, k0_pay13, k0_pay14, k0_pay15, k0_pay16, k0_pay17, k0_pay18, k0_pay2, k0_pay3, k0_pay4, k0_pay5, k0_pay6, k0_pay7, k0_pay8, k0_pay9]
        simp only [Ideal.logistic]
        blk_point [iblk, V, idx t]
      · rw [outsAt0_B m c t h]; frame_out
        pointwise [k0_pay1, k0_pay10, k0_pay11, k0_pay12, k0_pay13, k0_pay14, k0_pay15, k0_pay16, k0_pay17, k0_pay18, k0_pay2, k0_pay3, k0_pay4, k0_pay5, k0_pay6, k0_pay7, k0_pay8, k0_pay9]
        simp only [Ideal.logistic]
        blk_point [iblk, V, idx t]
    · refine Eq.symm ?_
      refine (dats m 0 c).arrAt_eq_of_covers 6 _ (by decide +kernel) fun t _ y => ?_
      blk_simp
      rw [after0_6]
      by_cases h : t.val % 16 = 0
      · rw [outsAt0_A m c t h]; frame_out
        pointwise [k0_pay1, k0_pay10, k0_pay11, k0_pay12, k0_pay13, k0_pay14, k0_pay15, k0_pay16, k0_pay17, k0_pay18, k0_pay2, k0_pay3, k0_pay4, k0_pay5, k0_pay6, k0_pay7, k0_pay8, k0_pay9]
        simp only [Ideal.logistic]
        blk_point [iblk, V, idx t]
      · rw [outsAt0_B m c t h]; frame_out
        pointwise [k0_pay1, k0_pay10, k0_pay11, k0_pay12, k0_pay13, k0_pay14, k0_pay15, k0_pay16, k0_pay17, k0_pay18, k0_pay2, k0_pay3, k0_pay4, k0_pay5, k0_pay6, k0_pay7, k0_pay8, k0_pay9]
        simp only [Ideal.logistic]
        blk_point [iblk, V, idx t]
    · refine Eq.symm ?_
      refine (dats m 0 c).arrAt_eq_of_covers 7 _ (by decide +kernel) fun t _ y => ?_
      blk_simp
      rw [after0_7]
      by_cases h : t.val % 16 = 0
      · rw [outsAt0_A m c t h]; frame_out
        pointwise [k0_pay1, k0_pay10, k0_pay11, k0_pay12, k0_pay13, k0_pay14, k0_pay15, k0_pay16, k0_pay17, k0_pay18, k0_pay2, k0_pay3, k0_pay4, k0_pay5, k0_pay6, k0_pay7, k0_pay8, k0_pay9]
        simp only [Ideal.logistic]
        blk_point [iblk, V, idx t]
      · rw [outsAt0_B m c t h]; frame_out
        pointwise [k0_pay1, k0_pay10, k0_pay11, k0_pay12, k0_pay13, k0_pay14, k0_pay15, k0_pay16, k0_pay17, k0_pay18, k0_pay2, k0_pay3, k0_pay4, k0_pay5, k0_pay6, k0_pay7, k0_pay8, k0_pay9]
        simp only [Ideal.logistic]
        blk_point [iblk, V, idx t]
    · refine Eq.symm ?_
      refine (dats m 0 c).arrAt_eq_of_covers 8 _ (by decide +kernel) fun t hf y => ?_
      blk_simp
      rw [after0_8, Pipeline.eq_sum_fin_of_reset_step_apply_of_flush (fun n h => (outsAt0 m c n h).2.2.2) 16 (fun _ => 0) _
        (fun t h j => by rw [outsAt0_A m c t h]; frame_out; rw [rows_step, rows_zero])
        (fun t h j => by rw [outsAt0_B m c t h]; frame_out; rw [rows_step]) t ((flush0_8 t).mp hf) _, zero_add]
      pointwise [k0_pay1, k0_pay10, k0_pay11, k0_pay12, k0_pay13, k0_pay14, k0_pay15, k0_pay16, k0_pay17, k0_pay18, k0_pay2, k0_pay3, k0_pay4, k0_pay5, k0_pay6, k0_pay7, k0_pay8, k0_pay9]
      rw [Fin.sum_univ_one]
      refine Fin.sum_mul_add_congr fun s k hl => ?_
      simp only [Ideal.logistic]
      blk_point [iblk, V, idx t, idx ⟨_, Pipeline.run_point_lt_of_flush t ((flush0_8 t).mp hf) s⟩]
end Cert.Reference40Ideal.Hand
-- ==== Proof.Ew41.lean ====
module

public import proofs.«01_k».proof.Defs
public import proofs.«01_k».proof.Proof.Gen.Kernel41.Frame
public import proofs.«01_k».proof.Proof.Gen.Kernel41Ideal.Frame
public import proofs.«01_k».proof.Proof.Gen.Reference41Ideal
public import proofs.«01_k».proof.Proof.Part
public import Idealize.ShloMosaic.Lib.Pipeline.ValueKit
public import Idealize.ShloMosaic.Lib.Pipeline.ReadBack
public import Idealize.ShloMosaic.Lib.Claim

public import proofs.«01_k».proof.Proof.Gen.Reference41Ideal.Run

@[expose] public section
set_option maxRecDepth 16384
noncomputable section
open Idealize.ShloMosaic Idealize.ShloMosaic.TcCoe Idealize.SL.Sem
open Idealize.ShloMosaic.Pipeline (Dat)
namespace Cert.Reference41Ideal.Hand
open Cert.Kernel41Ideal.Gen
open Cert.Kernel41Ideal (cfg0 grid0 win0_0 win0_1 win0_2 win0_3)

/-- Where the windows' blocks of `s5_gelu_bwd` lie. -/
theorem idx : ∀ t : Fin cfg0.N, win0_0.index t = ![(grid0.coords t 1).val, (grid0.coords t 0).val]
    ∧ win0_1.index t = ![(grid0.coords t 1).val, (grid0.coords t 0).val]
    ∧ win0_2.index t = ![(grid0.coords t 1).val, (grid0.coords t 0).val]
    ∧ win0_3.index t = ![(grid0.coords t 1).val, (grid0.coords t 0).val] :=
  (by decide +kernel : ∀ t : Fin grid0.N, _)

/-- The reference of `s5_gelu_bwd` leaves its arguments as they were. -/
theorem frame : Cert.quiescent_Reference41Ideal := by
  intro m g _
  run_from Cert.Reference41Ideal.Value.run m g
  · exact fun _ => ⟨trivial, trivial, trivial⟩
  · exact sem_eq_zero_of_no_sems (by decide) r.2

/-- The array `s5_gelu_bwd` returns is the reference's. -/
theorem algebraic : Cert.algebraic_Kernel41Ideal_Reference41Ideal := by
  pair_intro
  · run_from Cert.Kernel41Ideal.Gen.run_main m g
  · run_from Cert.Reference41Ideal.Value.run m' g'
    refine Eq.symm ?_
    refine (dats m 0 c).arrAt_eq_of_covers 3 _ (by decide +kernel) fun t _ y => ?_
    blk_simp
    rw [after0_3]; frame_out
    pointwise [k0_pay1]
    blk_point [iblk, V, idx t]
end Cert.Reference41Ideal.Hand
-- ==== Proof.Ew42.lean ====
module

public import proofs.«01_k».proof.Defs
public import proofs.«01_k».proof.Proof.Gen.Kernel42.Frame
public import proofs.«01_k».proof.Proof.Gen.Kernel42Ideal.Frame
public import proofs.«01_k».proof.Proof.Gen.Reference42Ideal
public import proofs.«01_k».proof.Proof.Part
public import Idealize.ShloMosaic.Lib.Pipeline.ValueKit
public import Idealize.ShloMosaic.Lib.Pipeline.ReadBack
public import Idealize.ShloMosaic.Lib.Claim

public import proofs.«01_k».proof.Proof.Gen.Reference42Ideal.Run

@[expose] public section
set_option maxRecDepth 16384
noncomputable section
open Idealize.ShloMosaic Idealize.ShloMosaic.TcCoe Idealize.SL.Sem
open Idealize.ShloMosaic.Pipeline (Dat)
namespace Cert.Reference42Ideal.Hand
open Cert.Kernel42Ideal.Gen
open Cert.Kernel42Ideal (cfg0 grid0 win0_0 win0_1 win0_2)

/-- Where the windows' blocks of `l0_norm` lie. -/
theorem idx : ∀ t : Fin cfg0.N, win0_0.index t = ![(grid0.coords t 1).val, (grid0.coords t 0).val]
    ∧ win0_1.index t = ![0, (grid0.coords t 0).val]
    ∧ win0_2.index t = ![(grid0.coords t 1).val, (grid0.coords t 0).val] :=
  (by decide +kernel : ∀ t : Fin grid0.N, _)

/-- The reference of `l0_norm` leaves its arguments as they were. -/
theorem frame : Cert.quiescent_Reference42Ideal := by
  intro m g _
  run_from Cert.Reference42Ideal.Value.run m g
  · exact fun _ => ⟨trivial, trivial⟩
  · exact sem_eq_zero_of_no_sems (by decide) r.2

/-- The array `l0_norm` returns is the reference's. -/
theorem algebraic : Cert.algebraic_Kernel42Ideal_Reference42Ideal := by
  pair_intro
  · run_from Cert.Kernel42Ideal.Gen.run_main m g
  · run_from Cert.Reference42Ideal.Value.run m' g'
    refine Eq.symm ?_
    refine (dats m 0 c).arrAt_eq_of_covers 2 _ (by decide +kernel) fun t _ y => ?_
    blk_simp
    rw [after0_2]; frame_out
    pointwise [k0_pay1]
    blk_point [iblk, V, idx t]
end Cert.Reference42Ideal.Hand
-- ==== Proof.Ew43.lean ====
module

public import proofs.«01_k».proof.Defs
public import proofs.«01_k».proof.Proof.Gen.Kernel43.Frame
public import proofs.«01_k».proof.Proof.Gen.Kernel43Ideal.Frame
public import proofs.«01_k».proof.Proof.Gen.Reference43Ideal
public import proofs.«01_k».proof.Proof.Part
public import Idealize.ShloMosaic.Lib.Pipeline.ValueKit
public import Idealize.ShloMosaic.Lib.Pipeline.ReadBack
public import Idealize.ShloMosaic.Lib.Claim

public import proofs.«01_k».proof.Proof.Gen.Reference43Ideal.Run

@[expose] public section
set_option maxRecDepth 16384
noncomputable section
open Idealize.ShloMosaic Idealize.ShloMosaic.TcCoe Idealize.SL.Sem
open Idealize.ShloMosaic.Pipeline (Dat)
namespace Cert.Reference43Ideal.Hand
open Cert.Kernel43Ideal.Gen
open Cert.Kernel43Ideal (cfg0 grid0 win0_0 win0_1 win0_2)

/-- Where the windows' blocks of `l1_norm` lie. -/
theorem idx : ∀ t : Fin cfg0.N, win0_0.index t = ![(grid0.coords t 1).val, (grid0.coords t 0).val]
    ∧ win0_1.index t = ![0, (grid0.coords t 0).val]
    ∧ win0_2.index t = ![(grid0.coords t 1).val, (grid0.coords t 0).val] :=
  (by decide +kernel : ∀ t : Fin grid0.N, _)

/-- The reference of `l1_norm` leaves its arguments as they were. -/
theorem frame : Cert.quiescent_Reference43Ideal := by
  intro m g _
  run_from Cert.Reference43Ideal.Value.run m g
  · exact fun _ => ⟨trivial, trivial⟩
  · exact sem_eq_zero_of_no_sems (by decide) r.2

/-- The array `l1_norm` returns is the reference's. -/
theorem algebraic : Cert.algebraic_Kernel43Ideal_Reference43Ideal := by
  pair_intro
  · run_from Cert.Kernel43Ideal.Gen.run_main m g
  · run_from Cert.Reference43Ideal.Value.run m' g'
    refine Eq.symm ?_
    refine (dats m 0 c).arrAt_eq_of_covers 2 _ (by decide +kernel) fun t _ y => ?_
    blk_simp
    rw [after0_2]; frame_out
    pointwise [k0_pay1]
    blk_point [iblk, V, idx t]
end Cert.Reference43Ideal.Hand
-- ==== Proof.Ew44.lean ====
module

public import proofs.«01_k».proof.Defs
public import proofs.«01_k».proof.Proof.Gen.Kernel44.Frame
public import proofs.«01_k».proof.Proof.Gen.Kernel44Ideal.Frame
public import proofs.«01_k».proof.Proof.Gen.Reference44Ideal
public import proofs.«01_k».proof.Proof.Part
public import Idealize.ShloMosaic.Lib.Pipeline.ValueKit
public import Idealize.ShloMosaic.Lib.Pipeline.ReadBack
public import Idealize.ShloMosaic.Lib.Claim

public import proofs.«01_k».proof.Proof.Gen.Reference44Ideal.Run

@[expose] public section
set_option maxRecDepth 16384
noncomputable section
open Idealize.ShloMosaic Idealize.ShloMosaic.TcCoe Idealize.SL.Sem
open Idealize.ShloMosaic.Pipeline (Dat)
namespace Cert.Reference44Ideal.Hand
open Cert.Kernel44Ideal.Gen
open Cert.Kernel44Ideal (cfg0 grid0 win0_0 win0_1 win0_2)

/-- Where the windows' blocks of `fox_gate` lie. -/
theorem idx : ∀ t : Fin cfg0.N, win0_0.index t = ![(grid0.coords t 1).val, (grid0.coords t 0).val]
    ∧ win0_1.index t = ![(grid0.coords t 1).val, (grid0.coords t 0).val]
    ∧ win0_2.index t = ![(grid0.coords t 1).val, (grid0.coords t 0).val] :=
  (by decide +kernel : ∀ t : Fin grid0.N, _)

/-- The reference of `fox_gate` leaves its arguments as they were. -/
theorem frame : Cert.quiescent_Reference44Ideal := by
  intro m g _
  run_from Cert.Reference44Ideal.Value.run m g
  · exact fun _ => ⟨trivial, trivial⟩
  · exact sem_eq_zero_of_no_sems (by decide) r.2

/-- The array `fox_gate` returns is the reference's. -/
theorem algebraic : Cert.algebraic_Kernel44Ideal_Reference44Ideal := by
  pair_intro
  · run_from Cert.Kernel44Ideal.Gen.run_main m g
  · run_from Cert.Reference44Ideal.Value.run m' g'
    refine Eq.symm ?_
    refine (dats m 0 c).arrAt_eq_of_covers 2 _ (by decide +kernel) fun t _ y => ?_
    blk_simp
    rw [after0_2]; frame_out
    pointwise [k0_pay1]
    simp only [Ideal.logistic]
    blk_point [iblk, V, idx t]
end Cert.Reference44Ideal.Hand
-- ==== Proof.Ew45.lean ====
module

public import proofs.«01_k».proof.Defs
public import proofs.«01_k».proof.Proof.Gen.Kernel45.Frame
public import proofs.«01_k».proof.Proof.Gen.Kernel45Ideal.Frame
public import proofs.«01_k».proof.Proof.Gen.Reference45Ideal
public import proofs.«01_k».proof.Proof.Part
public import Idealize.ShloMosaic.Lib.Pipeline.ValueKit
public import Idealize.ShloMosaic.Lib.Pipeline.ReadBack
public import Idealize.ShloMosaic.Lib.Claim

public import proofs.«01_k».proof.Proof.Gen.Reference45Ideal.Run

@[expose] public section
set_option maxRecDepth 16384
noncomputable section
open Idealize.ShloMosaic Idealize.ShloMosaic.TcCoe Idealize.SL.Sem
open Idealize.ShloMosaic.Pipeline (Dat)
namespace Cert.Reference45Ideal.Hand
open Cert.Kernel45Ideal.Gen
open Cert.Kernel45Ideal (cfg0 grid0 win0_0 win0_1 win0_2 win0_3 win0_4 win0_5)

/-- Where the windows' blocks of `ssd_post` lie. -/
theorem idx : ∀ t : Fin cfg0.N, win0_0.index t = ![t.val % 16, t.val / 16]
    ∧ win0_1.index t = ![t.val % 16, t.val / 16]
    ∧ win0_2.index t = ![t.val % 16, t.val / 16]
    ∧ win0_3.index t = ![0, t.val / 16]
    ∧ win0_4.index t = ![0, t.val / 16]
    ∧ win0_5.index t = ![t.val % 16, t.val / 16] :=
  (by decide +kernel : ∀ t : Fin grid0.N, _)

/-- The reference of `ssd_post` leaves its arguments as they were. -/
theorem frame : Cert.quiescent_Reference45Ideal := by
  intro m g _
  run_from Cert.Reference45Ideal.Value.run m g
  · exact fun _ => ⟨trivial, trivial, trivial, trivial, trivial⟩
  · exact sem_eq_zero_of_no_sems (by decide) r.2

/-- The block the activation's window holds, which never runs over its edge. -/
theorem act (m : (ℓ : Loc Cert.Kernel45Ideal.nD Cert.Kernel45Ideal.τ Cert.Kernel45Ideal.sig) → Buf (Elt Ideal) ℓ)
    (c : Dev Cert.Kernel45Ideal.nD) (t : Fin cfg0.N) (y : Cert.Kernel45Ideal.S256x768.Idx) :
    (X0_1 m c t y : EReal) = m (((c : Thread Cert.Kernel45Ideal.nD Cert.Kernel45Ideal.τ)).loc Cert.Kernel45Ideal.main_arg1)
      (ix2 ⟨t.val % 16 * 256 + (y 0).val, by idx_bounds; omega⟩ ⟨t.val / 16 * 768 + (y 1).val, by idx_bounds; omega⟩) := by
  refine (dif_pos (moved0_1 t _)).trans ?_
  blk_ext [iblk, V, idx t]

/-- The skip's row at a column of a block. -/
theorem skip (m : (ℓ : Loc Cert.Kernel45Ideal.nD Cert.Kernel45Ideal.τ Cert.Kernel45Ideal.sig) → Buf (Elt Ideal) ℓ)
    (c : Dev Cert.Kernel45Ideal.nD) (t : Fin cfg0.N) (k : Fin 768) :
    (iblk m c 3 t (ix2 0 k) : EReal) = m (((c : Thread Cert.Kernel45Ideal.nD Cert.Kernel45Ideal.τ)).loc Cert.Kernel45Ideal.main_arg3)
      (ix1 ⟨t.val / 16 * 768 + k.val, by idx_bounds; omega⟩) := by
  blk_point [iblk, V, idx t]

/-- The norm's row at a column of a block. -/
theorem weight (m : (ℓ : Loc Cert.Kernel45Ideal.nD Cert.Kernel45Ideal.τ Cert.Kernel45Ideal.sig) → Buf (Elt Ideal) ℓ)
    (c : Dev Cert.Kernel45Ideal.nD) (t : Fin cfg0.N) (k : Fin 768) :
    (iblk m c 4 t (ix2 0 k) : EReal) = m (((c : Thread Cert.Kernel45Ideal.nD Cert.Kernel45Ideal.τ)).loc Cert.Kernel45Ideal.main_arg4)
      (ix1 ⟨t.val / 16 * 768 + k.val, by idx_bounds; omega⟩) := by
  blk_point [iblk, V, idx t]

set_option maxHeartbeats 400000 in
/-- The array `ssd_post` returns is the reference's. -/
theorem algebraic : Cert.algebraic_Kernel45Ideal_Reference45Ideal := by
  pair_intro
  · run_from Cert.Kernel45Ideal.Gen.run_main m g
  · run_from Cert.Reference45Ideal.Value.run m' g'
    refine Eq.symm ?_
    refine (dats m 0 c).arrAt_eq_of_covers 5 _ (by decide +kernel) fun t _ y => ?_
    blk_simp
    rw [after0_5]; unfold outsAt0; frame_out
    obtain ⟨X, hX⟩ : ∃ X : FVec Ideal Cert.Kernel45Ideal.S256x768 .f32, X = X0_1 m c t := ⟨_, rfl⟩
    rw [← hX]
    replace hX := hX.trans (funext (act m c t))
    pointwise [k0_pay1]
    simp only [Ideal.logistic]
    subst hX
    have gate : ∀ {a a' b b' x x' z z' : EReal}, a = a' → b = b' → x = x' → z = z' →
        (a + b * x) * (z * Ideal.div 1 (1 + Ideal.exp (-z))) = (a' + b' * x') * (z' * Ideal.div 1 (1 + Ideal.exp (-z'))) := by
      rintro _ _ _ _ _ _ _ _ rfl rfl rfl rfl; rfl
    refine congrArg₂ (· * ·) (congrArg₂ (· * ·) (gate ?_ ?_ ?_ ?_) (congrArg Ideal.rsqrt (congrArg₂ (· + ·)
      (congrArg₂ Ideal.div (Finset.sum_congr rfl fun k _ => congrArg₂ (· * ·) (gate ?_ ?_ ?_ ?_) (gate ?_ ?_ ?_ ?_)) rfl) rfl))) ?_
    all_goals first | rw [skip] | rw [weight] | skip
    all_goals try blk_ext [iblk, V, idx t]
    · refine (skip m c t (y 1)).trans ?_
      blk_ext [iblk, V, idx t]
    · refine (weight m c t (y 1)).trans ?_
      blk_ext [iblk, V, idx t]
end Cert.Reference45Ideal.Hand
-- ==== Proof.Ew46.lean ====
module

public import proofs.«01_k».proof.Defs
public import proofs.«01_k».proof.Proof.Gen.Kernel46.Frame
public import proofs.«01_k».proof.Proof.Gen.Kernel46Ideal.Frame
public import proofs.«01_k».proof.Proof.Gen.Reference46Ideal
public import proofs.«01_k».proof.Proof.Part
public import Idealize.ShloMosaic.Lib.Pipeline.ValueKit
public import Idealize.ShloMosaic.Lib.Pipeline.ReadBack
public import Idealize.ShloMosaic.Lib.Claim

public import proofs.«01_k».proof.Proof.Gen.Reference46Ideal.Run

@[expose] public section
set_option maxRecDepth 16384
noncomputable section
open Idealize.ShloMosaic Idealize.ShloMosaic.TcCoe Idealize.SL.Sem
open Idealize.ShloMosaic.Pipeline (Dat)
namespace Cert.Reference46Ideal.Hand
open Cert.Kernel46Ideal.Gen
open Cert.Kernel46Ideal (cfg0 grid0 win0_0 win0_1 win0_2 win0_3 win0_4)

/-- Where the windows' blocks of `s5_out` lie. -/
theorem idx : ∀ t : Fin cfg0.N, win0_0.index t = ![(grid0.coords t 1).val, (grid0.coords t 0).val]
    ∧ win0_1.index t = ![(grid0.coords t 1).val, (grid0.coords t 0).val]
    ∧ win0_2.index t = ![(grid0.coords t 1).val, (grid0.coords t 0).val + 1]
    ∧ win0_3.index t = ![0, (grid0.coords t 0).val]
    ∧ win0_4.index t = ![(grid0.coords t 1).val, (grid0.coords t 0).val] :=
  (by decide +kernel : ∀ t : Fin grid0.N, _)

/-- The reference of `s5_out` leaves its arguments as they were. -/
theorem frame : Cert.quiescent_Reference46Ideal := by
  intro m g _
  run_from Cert.Reference46Ideal.Value.run m g
  · exact fun _ => ⟨trivial, trivial, trivial, trivial⟩
  · exact sem_eq_zero_of_no_sems (by decide) r.2

/-- The array `s5_out` returns is the reference's. -/
theorem algebraic : Cert.algebraic_Kernel46Ideal_Reference46Ideal := by
  pair_intro
  · run_from Cert.Kernel46Ideal.Gen.run_main m g
  · run_from Cert.Reference46Ideal.Value.run m' g'
    refine Eq.symm ?_
    refine (dats m 0 c).arrAt_eq_of_covers 4 _ (by decide +kernel) fun t _ y => ?_
    blk_simp
    rw [after0_4]; frame_out
    pointwise [k0_pay1]
    simp only [Ideal.logistic]
    blk_point [iblk, V, idx t]
end Cert.Reference46Ideal.Hand
-- ==== Proof.Ew47.lean ====
module

public import proofs.«01_k».proof.Defs
public import proofs.«01_k».proof.Proof.Gen.Kernel47.Frame
public import proofs.«01_k».proof.Proof.Gen.Kernel47Ideal.Frame
public import proofs.«01_k».proof.Proof.Gen.Reference47Ideal
public import proofs.«01_k».proof.Proof.Part
public import Idealize.ShloMosaic.Lib.Pipeline.ValueKit
public import Idealize.ShloMosaic.Lib.Pipeline.ReadBack
public import Idealize.ShloMosaic.Lib.Claim

public import proofs.«01_k».proof.Proof.Gen.Reference47Ideal.Run

@[expose] public section
set_option maxRecDepth 16384
noncomputable section
open Idealize.ShloMosaic Idealize.ShloMosaic.TcCoe Idealize.SL.Sem
open Idealize.ShloMosaic.Pipeline (Dat)
namespace Cert.Reference47Ideal.Hand
open Cert.Kernel47Ideal.Gen
open Cert.Kernel47Ideal (cfg0 grid0 win0_0 win0_1)

/-- Where the windows' blocks of `s5_gelu` lie. -/
theorem idx : ∀ t : Fin cfg0.N, win0_0.index t = ![(grid0.coords t 1).val, (grid0.coords t 0).val]
    ∧ win0_1.index t = ![(grid0.coords t 1).val, (grid0.coords t 0).val] :=
  (by decide +kernel : ∀ t : Fin grid0.N, _)

/-- The reference of `s5_gelu` leaves its arguments as they were. -/
theorem frame : Cert.quiescent_Reference47Ideal := by
  intro m g _
  run_from Cert.Reference47Ideal.Value.run m g
  · exact fun _ => trivial
  · exact sem_eq_zero_of_no_sems (by decide) r.2

/-- The array `s5_gelu` returns is the reference's. -/
theorem algebraic : Cert.algebraic_Kernel47Ideal_Reference47Ideal := by
  pair_intro
  · run_from Cert.Kernel47Ideal.Gen.run_main m g
  · run_from Cert.Reference47Ideal.Value.run m' g'
    refine Eq.symm ?_
    refine (dats m 0 c).arrAt_eq_of_covers 1 _ (by decide +kernel) fun t _ y => ?_
    blk_simp
    rw [after0_1]; frame_out
    pointwise [k0_pay1]
    blk_point [iblk, V, idx t]
end Cert.Reference47Ideal.Hand
-- ==== Proof.Ew48.lean ====
module

public import proofs.«01_k».proof.Defs
public import proofs.«01_k».proof.Proof.Gen.Kernel48.Frame
public import proofs.«01_k».proof.Proof.Gen.Kernel48Ideal.Frame
public import proofs.«01_k».proof.Proof.Gen.Reference48Ideal
public import proofs.«01_k».proof.Proof.Part
public import Idealize.ShloMosaic.Lib.Pipeline.ValueKit
public import Idealize.ShloMosaic.Lib.Pipeline.ReadBack
public import Idealize.ShloMosaic.Lib.Claim

public import proofs.«01_k».proof.Proof.Gen.Reference48Ideal.Run

@[expose] public section
set_option maxRecDepth 16384
noncomputable section
open Idealize.ShloMosaic Idealize.ShloMosaic.TcCoe Idealize.SL.Sem
open Idealize.ShloMosaic.Pipeline (Dat)
namespace Cert.Reference48Ideal.Hand
open Cert.Kernel48Ideal.Gen
open Cert.Kernel48Ideal (cfg0 grid0 win0_0 win0_1 win0_2 win0_3 win0_4 win0_5 win0_6)

/-- Where the windows' blocks of `final_loss` lie. -/
theorem idx : ∀ t : Fin cfg0.N, win0_0.index t = ![t.val % 16, t.val / 16]
    ∧ win0_1.index t = ![t.val % 16, t.val / 16]
    ∧ win0_2.index t = ![0, t.val / 16]
    ∧ win0_3.index t = ![t.val % 16, t.val / 16]
    ∧ win0_4.index t = ![t.val % 16, t.val / 16]
    ∧ win0_5.index t = ![0, t.val / 16]
    ∧ win0_6.index t = ![0, t.val / 16] :=
  (by decide +kernel : ∀ t : Fin grid0.N, _)

/-- The reference of `final_loss` leaves its arguments as they were. -/
theorem frame : Cert.quiescent_Reference48Ideal := by
  intro m g _
  run_from Cert.Reference48Ideal.Value.run m g
  · exact fun _ => ⟨trivial, trivial, trivial⟩
  · exact sem_eq_zero_of_no_sems (by decide) r.2

/-- The zeros an accumulator starts from. -/
theorem loss_zero (j) : k0_pay1 (F := Ideal) j = 0 := by pointwise [k0_pay1]

/-- One point adds its row to each of the eight rows. -/
theorem loss_step (row : FVec Ideal Cert.Kernel48Ideal.S1x4096 .f32) (acc : Vec Ideal Cert.Kernel48Ideal.S8x4096 .f32) (j) :
    k0_pay2 row acc j = acc j + row (ix2 0 (j 1)) := by
  pointwise [k0_pay2]

/-- The zeros the accumulator starts from. -/
theorem rows_zero (j) : k0_pay16 (F := Ideal) j = 0 := by pointwise [k0_pay16]

/-- One point adds its column sums to each of the eight rows. -/
theorem rows_step (v16 v19 : FVec Ideal Cert.Kernel48Ideal.S256x4096 .f32) (v38 v39 : FVec Ideal Cert.Kernel48Ideal.S256x1 .f32) (acc : Vec Ideal Cert.Kernel48Ideal.S8x4096 .f32) (j) :
    k0_pay17 v16 v19 v38 v39 acc j = acc j + ∑ k : Fin 256, v16 (ix2 k (j 1)) * k0_pay12 v19 v38 v39 (ix2 k (j 1)) := by
  pointwise [k0_pay17]

/-- The loss's factor of one half. -/
theorem half : Ideal.ofBits .f32 1056964608#32 = (((1 : ℝ) / 2 : ℝ) : EReal) := by
  simp [Ideal.ofBits, Ideal.ieee, -EReal.coe_mul]; norm_num

/-- One half passes through a sum over the extended reals. -/
theorem half_sum {ι : Type*} [Fintype ι] (f : ι → EReal) :
    Ideal.ofBits .f32 1056964608#32 * ∑ i, f i = ∑ i, Ideal.ofBits .f32 1056964608#32 * f i := by
  classical
  rw [half]
  induction (Finset.univ : Finset ι) using Finset.induction_on with
  | empty => simp
  | insert a s h ih =>
    rw [Finset.sum_insert h, Finset.sum_insert h,
      EReal.left_distrib_of_nonneg_of_ne_top (EReal.coe_nonneg.mpr (by norm_num)) (EReal.coe_ne_top _), ih]

/-- A number added to itself is twice the number, at the infinities too. -/
theorem double (x : EReal) : x + x = Ideal.ofBits .f32 1073741824#32 * x := by
  have two : Ideal.ofBits .f32 1073741824#32 = ((2 : ℝ) : EReal) := by
    simp [Ideal.ofBits, Ideal.ieee, -EReal.coe_mul]; norm_num
  rw [two]
  induction x using EReal.rec with
  | bot => simp [EReal.coe_mul_bot_of_pos]
  | top => simp [EReal.coe_mul_top_of_pos]
  | coe r => simp only [← EReal.coe_add, ← EReal.coe_mul]; congr 1; ring

/-- The two equal halves of a square's gradient are the square's gradient. -/
theorem twice (c x : EReal) : x * c + c * x = c * (Ideal.ofBits .f32 1073741824#32 * x) := by
  rw [mul_comm x c, double, mul_left_comm]

set_option maxHeartbeats 2000000 in
/-- The arrays `final_loss` returns are the reference's. -/
theorem algebraic : Cert.algebraic_Kernel48Ideal_Reference48Ideal := by
  pair_intro
  · run_from Cert.Kernel48Ideal.Gen.run_main m g
  · run_from Cert.Reference48Ideal.Value.run m' g'
    · unfold Value.res_main_v50
      simp only [hagree c]
      refine Eq.symm ?_
      refine (dats m 0 c).arrAt_eq_of_covers 3 _ (by decide +kernel) fun t _ y => ?_
      blk_simp
      rw [after0_3]
      by_cases h : t.val % 16 = 0
      · rw [outsAt0_A m c t h]; frame_out
        pointwise [k0_pay1, k0_pay10, k0_pay11, k0_pay12, k0_pay13, k0_pay14, k0_pay15, k0_pay16, k0_pay17, k0_pay2, k0_pay3, k0_pay4, k0_pay5, k0_pay6, k0_pay7, k0_pay8, k0_pay9]
        try simp only [Fin.sum_univ_one, twice]
        blk_point [iblk, V, idx t]
        all_goals exact h
      · rw [outsAt0_B m c t h]; frame_out
        pointwise [k0_pay1, k0_pay10, k0_pay11, k0_pay12, k0_pay13, k0_pay14, k0_pay15, k0_pay16, k0_pay17, k0_pay2, k0_pay3, k0_pay4, k0_pay5, k0_pay6, k0_pay7, k0_pay8, k0_pay9]
        try simp only [Fin.sum_univ_one, twice]
        blk_point [iblk, V, idx t]
        all_goals exact h
    · unfold Value.res_main_v51
      simp only [hagree c]
      refine Eq.symm ?_
      refine (dats m 0 c).arrAt_eq_of_covers 4 _ (by decide +kernel) fun t _ y => ?_
      blk_simp
      rw [after0_4]
      by_cases h : t.val % 16 = 0
      · rw [outsAt0_A m c t h]; frame_out
        pointwise [k0_pay1, k0_pay10, k0_pay11, k0_pay12, k0_pay13, k0_pay14, k0_pay15, k0_pay16, k0_pay17, k0_pay2, k0_pay3, k0_pay4, k0_pay5, k0_pay6, k0_pay7, k0_pay8, k0_pay9]
        try simp only [Fin.sum_univ_one, twice]
        blk_point [iblk, V, idx t]
        all_goals exact h
      · rw [outsAt0_B m c t h]; frame_out
        pointwise [k0_pay1, k0_pay10, k0_pay11, k0_pay12, k0_pay13, k0_pay14, k0_pay15, k0_pay16, k0_pay17, k0_pay2, k0_pay3, k0_pay4, k0_pay5, k0_pay6, k0_pay7, k0_pay8, k0_pay9]
        try simp only [Fin.sum_univ_one, twice]
        blk_point [iblk, V, idx t]
        all_goals exact h
    · refine Eq.symm ?_
      refine (dats m 0 c).arrAt_eq_of_covers 5 _ (by decide +kernel) fun t hf y => ?_
      blk_simp
      rw [after0_5, Pipeline.eq_sum_fin_of_reset_step_apply_of_flush (fun n h => (outsAt0 m c n h).2.2.1) 16 (fun _ => 0) _
        (fun t h j => by rw [outsAt0_A m c t h]; frame_out; rw [rows_step, rows_zero]; all_goals exact h)
        (fun t h j => by rw [outsAt0_B m c t h]; frame_out; rw [rows_step]; all_goals exact h) t ((flush0_5 t).mp hf) _, zero_add]
      pointwise [k0_pay1, k0_pay10, k0_pay11, k0_pay12, k0_pay13, k0_pay14, k0_pay15, k0_pay16, k0_pay17, k0_pay2, k0_pay3, k0_pay4, k0_pay5, k0_pay6, k0_pay7, k0_pay8, k0_pay9]
      simp only [Fin.sum_univ_one, twice]
      refine Fin.sum_mul_add_congr fun s k hl => ?_
      try simp only [Fin.sum_univ_one, twice]
      blk_point [iblk, V, idx t, idx ⟨_, Pipeline.run_point_lt_of_flush t ((flush0_5 t).mp hf) s⟩]
    · refine Eq.symm ?_
      refine (dats m 0 c).arrAt_eq_of_covers 6 _ (by decide +kernel) fun t hf y => ?_
      blk_simp
      rw [after0_6, Pipeline.eq_sum_fin_of_reset_step_apply_of_flush (fun n h => (outsAt0 m c n h).2.2.2) 16 (fun _ => 0) _
        (fun t h j => by rw [outsAt0_A m c t h]; frame_out; rw [loss_step, loss_zero]; all_goals exact h)
        (fun t h j => by rw [outsAt0_B m c t h]; frame_out; rw [loss_step]; all_goals exact h) t ((flush0_6 t).mp hf) _, zero_add]
      pointwise [k0_pay1, k0_pay10, k0_pay11, k0_pay12, k0_pay13, k0_pay14, k0_pay15, k0_pay16, k0_pay17, k0_pay2, k0_pay3, k0_pay4, k0_pay5, k0_pay6, k0_pay7, k0_pay8, k0_pay9]
      simp only [half_sum]
      refine Fin.sum_mul_add_congr fun s k hl => ?_
      try simp only [Fin.sum_univ_one, twice]
      blk_point [iblk, V, idx t, idx ⟨_, Pipeline.run_point_lt_of_flush t ((flush0_6 t).mp hf) s⟩]
end Cert.Reference48Ideal.Hand
-- ==== Proof.Ew49.lean ====
module

public import proofs.«01_k».proof.Defs
public import proofs.«01_k».proof.Proof.Gen.Kernel49.Frame
public import proofs.«01_k».proof.Proof.Gen.Kernel49Ideal.Frame
public import proofs.«01_k».proof.Proof.Gen.Reference49Ideal
public import proofs.«01_k».proof.Proof.Part
public import Idealize.ShloMosaic.Lib.Pipeline.ValueKit
public import Idealize.ShloMosaic.Lib.Pipeline.ReadBack
public import Idealize.ShloMosaic.Lib.Claim

public import proofs.«01_k».proof.Proof.Gen.Reference49Ideal.Run

@[expose] public section
set_option maxRecDepth 16384
noncomputable section
open Idealize.ShloMosaic Idealize.ShloMosaic.TcCoe Idealize.SL.Sem
open Idealize.ShloMosaic.Pipeline (Dat)
namespace Cert.Reference49Ideal.Hand
open Cert.Kernel49Ideal.Gen
open Cert.Kernel49Ideal (cfg0 grid0 win0_0 win0_1 win0_2 win0_3 win0_4 win0_5 win0_6 win0_7)

/-- Where the windows' blocks of `adamw_l1_w_out` lie. -/
theorem idx : ∀ t : Fin cfg0.N, win0_0.index t = ![(grid0.coords t 0).val, (grid0.coords t 1).val]
    ∧ win0_1.index t = ![0, (grid0.coords t 0).val, (grid0.coords t 1).val]
    ∧ win0_2.index t = ![(grid0.coords t 0).val, (grid0.coords t 1).val]
    ∧ win0_3.index t = ![(grid0.coords t 0).val, (grid0.coords t 1).val]
    ∧ win0_4.index t = ![(grid0.coords t 0).val, (grid0.coords t 1).val]
    ∧ win0_5.index t = ![(grid0.coords t 0).val, (grid0.coords t 1).val]
    ∧ win0_6.index t = ![(grid0.coords t 0).val, (grid0.coords t 1).val]
    ∧ win0_7.index t = ![(grid0.coords t 0).val, (grid0.coords t 1).val] :=
  (by decide +kernel : ∀ t : Fin grid0.N, _)

/-- The reference of `adamw_l1_w_out` leaves its arguments as they were. -/
theorem frame : Cert.quiescent_Reference49Ideal := by
  intro m g _
  run_from Cert.Reference49Ideal.Value.run m g
  · exact fun _ => ⟨trivial, trivial, trivial, trivial⟩
  · exact sem_eq_zero_of_no_sems (by decide) r.2

set_option maxHeartbeats 2000000 in
/-- The arrays `adamw_l1_w_out` returns are the reference's. -/
theorem algebraic : Cert.algebraic_Kernel49Ideal_Reference49Ideal := by
  pair_intro
  · run_from Cert.Kernel49Ideal.Gen.run_main m g
  · hlo_run
    · refine Eq.symm ?_
      refine (dats m 0 c).arrAt_eq_of_covers 4 _ (by decide +kernel) fun t _ y => ?_
      blk_simp
      rw [after0_4]; frame_out
      pointwise [k0_pay1, k0_pay2, k0_pay3, k0_pay4, k0_pay5, k0_pay6]
      simp only [Fin.sum_univ_four]
      blk_point [iblk, V, idx t]
    · refine Eq.symm ?_
      refine (dats m 0 c).arrAt_eq_of_covers 5 _ (by decide +kernel) fun t _ y => ?_
      blk_simp
      rw [after0_5]; frame_out
      pointwise [k0_pay1, k0_pay2, k0_pay3, k0_pay4, k0_pay5, k0_pay6]
      simp only [Fin.sum_univ_four]
      blk_point [iblk, V, idx t]
    · refine Eq.symm ?_
      refine (dats m 0 c).arrAt_eq_of_covers 6 _ (by decide +kernel) fun t _ y => ?_
      blk_simp
      rw [after0_6]; frame_out
      pointwise [k0_pay1, k0_pay2, k0_pay3, k0_pay4, k0_pay5, k0_pay6]
      simp only [Fin.sum_univ_four]
      blk_point [iblk, V, idx t]
    · refine Eq.symm ?_
      refine (dats m 0 c).arrAt_eq_of_covers 7 _ (by decide +kernel) fun t _ y => ?_
      blk_simp
      rw [after0_7]; frame_out
      pointwise [k0_pay1, k0_pay2, k0_pay3, k0_pay4, k0_pay5, k0_pay6]
      simp only [Fin.sum_univ_four]
      blk_point [iblk, V, idx t]
end Cert.Reference49Ideal.Hand
-- ==== Proof.Ew50.lean ====
module

public import proofs.«01_k».proof.Defs
public import proofs.«01_k».proof.Proof.Gen.Kernel50.Frame
public import proofs.«01_k».proof.Proof.Gen.Kernel50Ideal.Frame
public import proofs.«01_k».proof.Proof.Gen.Reference50Ideal
public import proofs.«01_k».proof.Proof.Part
public import Idealize.ShloMosaic.Lib.Pipeline.ValueKit
public import Idealize.ShloMosaic.Lib.Pipeline.ReadBack
public import Idealize.ShloMosaic.Lib.Claim

public import proofs.«01_k».proof.Proof.Gen.Reference50Ideal.Run

@[expose] public section
set_option maxRecDepth 16384
noncomputable section
open Idealize.ShloMosaic Idealize.ShloMosaic.TcCoe Idealize.SL.Sem
open Idealize.ShloMosaic.Pipeline (Dat)
namespace Cert.Reference50Ideal.Hand
open Cert.Kernel50Ideal.Gen
open Cert.Kernel50Ideal (cfg0 grid0 win0_0 win0_1 win0_2 win0_3 win0_4 win0_5 win0_6 win0_7)

/-- Where the windows' blocks of `adamw_l1_w_in` lie. -/
theorem idx : ∀ t : Fin cfg0.N, win0_0.index t = ![(grid0.coords t 0).val, (grid0.coords t 1).val]
    ∧ win0_1.index t = ![0, (grid0.coords t 0).val, (grid0.coords t 1).val]
    ∧ win0_2.index t = ![(grid0.coords t 0).val, (grid0.coords t 1).val]
    ∧ win0_3.index t = ![(grid0.coords t 0).val, (grid0.coords t 1).val]
    ∧ win0_4.index t = ![(grid0.coords t 0).val, (grid0.coords t 1).val]
    ∧ win0_5.index t = ![(grid0.coords t 0).val, (grid0.coords t 1).val]
    ∧ win0_6.index t = ![(grid0.coords t 0).val, (grid0.coords t 1).val]
    ∧ win0_7.index t = ![(grid0.coords t 0).val, (grid0.coords t 1).val] :=
  (by decide +kernel : ∀ t : Fin grid0.N, _)

/-- The reference of `adamw_l1_w_in` leaves its arguments as they were. -/
theorem frame : Cert.quiescent_Reference50Ideal := by
  intro m g _
  run_from Cert.Reference50Ideal.Value.run m g
  · exact fun _ => ⟨trivial, trivial, trivial, trivial⟩
  · exact sem_eq_zero_of_no_sems (by decide) r.2

set_option maxHeartbeats 2000000 in
/-- The arrays `adamw_l1_w_in` returns are the reference's. -/
theorem algebraic : Cert.algebraic_Kernel50Ideal_Reference50Ideal := by
  pair_intro
  · run_from Cert.Kernel50Ideal.Gen.run_main m g
  · hlo_run
    · refine Eq.symm ?_
      refine (dats m 0 c).arrAt_eq_of_covers 4 _ (by decide +kernel) fun t _ y => ?_
      blk_simp
      rw [after0_4]; frame_out
      pointwise [k0_pay1, k0_pay2, k0_pay3, k0_pay4, k0_pay5, k0_pay6]
      simp only [Fin.sum_univ_four]
      blk_point [iblk, V, idx t]
    · refine Eq.symm ?_
      refine (dats m 0 c).arrAt_eq_of_covers 5 _ (by decide +kernel) fun t _ y => ?_
      blk_simp
      rw [after0_5]; frame_out
      pointwise [k0_pay1, k0_pay2, k0_pay3, k0_pay4, k0_pay5, k0_pay6]
      simp only [Fin.sum_univ_four]
      blk_point [iblk, V, idx t]
    · refine Eq.symm ?_
      refine (dats m 0 c).arrAt_eq_of_covers 6 _ (by decide +kernel) fun t _ y => ?_
      blk_simp
      rw [after0_6]; frame_out
      pointwise [k0_pay1, k0_pay2, k0_pay3, k0_pay4, k0_pay5, k0_pay6]
      simp only [Fin.sum_univ_four]
      blk_point [iblk, V, idx t]
    · refine Eq.symm ?_
      refine (dats m 0 c).arrAt_eq_of_covers 7 _ (by decide +kernel) fun t _ y => ?_
      blk_simp
      rw [after0_7]; frame_out
      pointwise [k0_pay1, k0_pay2, k0_pay3, k0_pay4, k0_pay5, k0_pay6]
      simp only [Fin.sum_univ_four]
      blk_point [iblk, V, idx t]
end Cert.Reference50Ideal.Hand
-- ==== Proof.Ew51.lean ====
module

public import proofs.«01_k».proof.Defs
public import proofs.«01_k».proof.Proof.Gen.Kernel51.Frame
public import proofs.«01_k».proof.Proof.Gen.Kernel51Ideal.Frame
public import proofs.«01_k».proof.Proof.Gen.Reference51Ideal
public import proofs.«01_k».proof.Proof.Part
public import Idealize.ShloMosaic.Lib.Pipeline.ValueKit
public import Idealize.ShloMosaic.Lib.Pipeline.ReadBack
public import Idealize.ShloMosaic.Lib.Claim

public import proofs.«01_k».proof.Proof.Gen.Reference51Ideal.Run

@[expose] public section
set_option maxRecDepth 16384
noncomputable section
open Idealize.ShloMosaic Idealize.ShloMosaic.TcCoe Idealize.SL.Sem
open Idealize.ShloMosaic.Pipeline (Dat)
namespace Cert.Reference51Ideal.Hand
open Cert.Kernel51Ideal.Gen
open Cert.Kernel51Ideal (cfg0 grid0 win0_0 win0_1 win0_2 win0_3 win0_4 win0_5 win0_6 win0_7)

/-- Where the windows' blocks of `adamw_l0_w_out` lie. -/
theorem idx : ∀ t : Fin cfg0.N, win0_0.index t = ![(grid0.coords t 0).val, (grid0.coords t 1).val]
    ∧ win0_1.index t = ![0, (grid0.coords t 0).val, (grid0.coords t 1).val]
    ∧ win0_2.index t = ![(grid0.coords t 0).val, (grid0.coords t 1).val]
    ∧ win0_3.index t = ![(grid0.coords t 0).val, (grid0.coords t 1).val]
    ∧ win0_4.index t = ![(grid0.coords t 0).val, (grid0.coords t 1).val]
    ∧ win0_5.index t = ![(grid0.coords t 0).val, (grid0.coords t 1).val]
    ∧ win0_6.index t = ![(grid0.coords t 0).val, (grid0.coords t 1).val]
    ∧ win0_7.index t = ![(grid0.coords t 0).val, (grid0.coords t 1).val] :=
  (by decide +kernel : ∀ t : Fin grid0.N, _)

/-- The reference of `adamw_l0_w_out` leaves its arguments as they were. -/
theorem frame : Cert.quiescent_Reference51Ideal := by
  intro m g _
  run_from Cert.Reference51Ideal.Value.run m g
  · exact fun _ => ⟨trivial, trivial, trivial, trivial⟩
  · exact sem_eq_zero_of_no_sems (by decide) r.2

set_option maxHeartbeats 2000000 in
/-- The arrays `adamw_l0_w_out` returns are the reference's. -/
theorem algebraic : Cert.algebraic_Kernel51Ideal_Reference51Ideal := by
  pair_intro
  · run_from Cert.Kernel51Ideal.Gen.run_main m g
  · hlo_run
    · refine Eq.symm ?_
      refine (dats m 0 c).arrAt_eq_of_covers 4 _ (by decide +kernel) fun t _ y => ?_
      blk_simp
      rw [after0_4]; frame_out
      pointwise [k0_pay1, k0_pay2, k0_pay3, k0_pay4, k0_pay5, k0_pay6]
      simp only [Fin.sum_univ_four]
      blk_point [iblk, V, idx t]
    · refine Eq.symm ?_
      refine (dats m 0 c).arrAt_eq_of_covers 5 _ (by decide +kernel) fun t _ y => ?_
      blk_simp
      rw [after0_5]; frame_out
      pointwise [k0_pay1, k0_pay2, k0_pay3, k0_pay4, k0_pay5, k0_pay6]
      simp only [Fin.sum_univ_four]
      blk_point [iblk, V, idx t]
    · refine Eq.symm ?_
      refine (dats m 0 c).arrAt_eq_of_covers 6 _ (by decide +kernel) fun t _ y => ?_
      blk_simp
      rw [after0_6]; frame_out
      pointwise [k0_pay1, k0_pay2, k0_pay3, k0_pay4, k0_pay5, k0_pay6]
      simp only [Fin.sum_univ_four]
      blk_point [iblk, V, idx t]
    · refine Eq.symm ?_
      refine (dats m 0 c).arrAt_eq_of_covers 7 _ (by decide +kernel) fun t _ y => ?_
      blk_simp
      rw [after0_7]; frame_out
      pointwise [k0_pay1, k0_pay2, k0_pay3, k0_pay4, k0_pay5, k0_pay6]
      simp only [Fin.sum_univ_four]
      blk_point [iblk, V, idx t]
end Cert.Reference51Ideal.Hand
-- ==== Proof.Ew52.lean ====
module

public import proofs.«01_k».proof.Defs
public import proofs.«01_k».proof.Proof.Gen.Kernel52.Frame
public import proofs.«01_k».proof.Proof.Gen.Kernel52Ideal.Frame
public import proofs.«01_k».proof.Proof.Gen.Reference52Ideal
public import proofs.«01_k».proof.Proof.Part
public import Idealize.ShloMosaic.Lib.Pipeline.ValueKit
public import Idealize.ShloMosaic.Lib.Pipeline.ReadBack
public import Idealize.ShloMosaic.Lib.Claim

public import proofs.«01_k».proof.Proof.Gen.Reference52Ideal.Run

@[expose] public section
set_option maxRecDepth 16384
noncomputable section
open Idealize.ShloMosaic Idealize.ShloMosaic.TcCoe Idealize.SL.Sem
open Idealize.ShloMosaic.Pipeline (Dat)
namespace Cert.Reference52Ideal.Hand
open Cert.Kernel52Ideal.Gen
open Cert.Kernel52Ideal (cfg0 grid0 win0_0 win0_1 win0_2 win0_3 win0_4 win0_5 win0_6 win0_7)

/-- Where the windows' blocks of `adamw_l0_ssd_conv_w` lie. -/
theorem idx : ∀ t : Fin cfg0.N, win0_0.index t = ![(grid0.coords t 0).val, (grid0.coords t 1).val]
    ∧ win0_1.index t = ![0, (grid0.coords t 0).val, (grid0.coords t 1).val]
    ∧ win0_2.index t = ![(grid0.coords t 0).val, (grid0.coords t 1).val]
    ∧ win0_3.index t = ![(grid0.coords t 0).val, (grid0.coords t 1).val]
    ∧ win0_4.index t = ![(grid0.coords t 0).val, (grid0.coords t 1).val]
    ∧ win0_5.index t = ![(grid0.coords t 0).val, (grid0.coords t 1).val]
    ∧ win0_6.index t = ![(grid0.coords t 0).val, (grid0.coords t 1).val]
    ∧ win0_7.index t = ![(grid0.coords t 0).val, (grid0.coords t 1).val] :=
  (by decide +kernel : ∀ t : Fin grid0.N, _)

/-- The reference of `adamw_l0_ssd_conv_w` leaves its arguments as they were. -/
theorem frame : Cert.quiescent_Reference52Ideal := by
  intro m g _
  run_from Cert.Reference52Ideal.Value.run m g
  · exact fun _ => ⟨trivial, trivial, trivial, trivial⟩
  · exact sem_eq_zero_of_no_sems (by decide) r.2

set_option maxHeartbeats 2000000 in
/-- The arrays `adamw_l0_ssd_conv_w` returns are the reference's. -/
theorem algebraic : Cert.algebraic_Kernel52Ideal_Reference52Ideal := by
  pair_intro
  · run_from Cert.Kernel52Ideal.Gen.run_main m g
  · hlo_run
    · refine Eq.symm ?_
      refine (dats m 0 c).arrAt_eq_of_covers 4 _ (by decide +kernel) fun t _ y => ?_
      blk_simp
      rw [after0_4]; frame_out
      pointwise [k0_pay1, k0_pay2, k0_pay3, k0_pay4, k0_pay5, k0_pay6]
      simp only [Fin.sum_univ_four]
      blk_point [iblk, V, idx t]
    · refine Eq.symm ?_
      refine (dats m 0 c).arrAt_eq_of_covers 5 _ (by decide +kernel) fun t _ y => ?_
      blk_simp
      rw [after0_5]; frame_out
      pointwise [k0_pay1, k0_pay2, k0_pay3, k0_pay4, k0_pay5, k0_pay6]
      simp only [Fin.sum_univ_four]
      blk_point [iblk, V, idx t]
    · refine Eq.symm ?_
      refine (dats m 0 c).arrAt_eq_of_covers 6 _ (by decide +kernel) fun t _ y => ?_
      blk_simp
      rw [after0_6]; frame_out
      pointwise [k0_pay1, k0_pay2, k0_pay3, k0_pay4, k0_pay5, k0_pay6]
      simp only [Fin.sum_univ_four]
      blk_point [iblk, V, idx t]
    · refine Eq.symm ?_
      refine (dats m 0 c).arrAt_eq_of_covers 7 _ (by decide +kernel) fun t _ y => ?_
      blk_simp
      rw [after0_7]; frame_out
      pointwise [k0_pay1, k0_pay2, k0_pay3, k0_pay4, k0_pay5, k0_pay6]
      simp only [Fin.sum_univ_four]
      blk_point [iblk, V, idx t]
end Cert.Reference52Ideal.Hand
-- ==== Proof.Ew53.lean ====
module

public import proofs.«01_k».proof.Defs
public import proofs.«01_k».proof.Proof.Gen.Kernel53.Frame
public import proofs.«01_k».proof.Proof.Gen.Kernel53Ideal.Frame
public import proofs.«01_k».proof.Proof.Gen.Reference53Ideal
public import proofs.«01_k».proof.Proof.Part
public import Idealize.ShloMosaic.Lib.Pipeline.ValueKit
public import Idealize.ShloMosaic.Lib.Pipeline.ReadBack
public import Idealize.ShloMosaic.Lib.Claim

public import proofs.«01_k».proof.Proof.Gen.Reference53Ideal.Run

@[expose] public section
set_option maxRecDepth 16384
noncomputable section
open Idealize.ShloMosaic Idealize.ShloMosaic.TcCoe Idealize.SL.Sem
open Idealize.ShloMosaic.Pipeline (Dat)
namespace Cert.Reference53Ideal.Hand
open Cert.Kernel53Ideal.Gen
open Cert.Kernel53Ideal (cfg0 grid0 win0_0 win0_1 win0_2 win0_3 win0_4 win0_5 win0_6 win0_7)

/-- Where the windows' blocks of `adamw_l0_s5_w_glu` lie. -/
theorem idx : ∀ t : Fin cfg0.N, win0_0.index t = ![(grid0.coords t 0).val, (grid0.coords t 1).val]
    ∧ win0_1.index t = ![0, (grid0.coords t 0).val, (grid0.coords t 1).val]
    ∧ win0_2.index t = ![(grid0.coords t 0).val, (grid0.coords t 1).val]
    ∧ win0_3.index t = ![(grid0.coords t 0).val, (grid0.coords t 1).val]
    ∧ win0_4.index t = ![(grid0.coords t 0).val, (grid0.coords t 1).val]
    ∧ win0_5.index t = ![(grid0.coords t 0).val, (grid0.coords t 1).val]
    ∧ win0_6.index t = ![(grid0.coords t 0).val, (grid0.coords t 1).val]
    ∧ win0_7.index t = ![(grid0.coords t 0).val, (grid0.coords t 1).val] :=
  (by decide +kernel : ∀ t : Fin grid0.N, _)

/-- The reference of `adamw_l0_s5_w_glu` leaves its arguments as they were. -/
theorem frame : Cert.quiescent_Reference53Ideal := by
  intro m g _
  run_from Cert.Reference53Ideal.Value.run m g
  · exact fun _ => ⟨trivial, trivial, trivial, trivial⟩
  · exact sem_eq_zero_of_no_sems (by decide) r.2

set_option maxHeartbeats 2000000 in
/-- The arrays `adamw_l0_s5_w_glu` returns are the reference's. -/
theorem algebraic : Cert.algebraic_Kernel53Ideal_Reference53Ideal := by
  pair_intro
  · run_from Cert.Kernel53Ideal.Gen.run_main m g
  · hlo_run
    · refine Eq.symm ?_
      refine (dats m 0 c).arrAt_eq_of_covers 4 _ (by decide +kernel) fun t _ y => ?_
      blk_simp
      rw [after0_4]; frame_out
      pointwise [k0_pay1, k0_pay2, k0_pay3, k0_pay4, k0_pay5, k0_pay6]
      simp only [Fin.sum_univ_four]
      blk_point [iblk, V, idx t]
    · refine Eq.symm ?_
      refine (dats m 0 c).arrAt_eq_of_covers 5 _ (by decide +kernel) fun t _ y => ?_
      blk_simp
      rw [after0_5]; frame_out
      pointwise [k0_pay1, k0_pay2, k0_pay3, k0_pay4, k0_pay5, k0_pay6]
      simp only [Fin.sum_univ_four]
      blk_point [iblk, V, idx t]
    · refine Eq.symm ?_
      refine (dats m 0 c).arrAt_eq_of_covers 6 _ (by decide +kernel) fun t _ y => ?_
      blk_simp
      rw [after0_6]; frame_out
      pointwise [k0_pay1, k0_pay2, k0_pay3, k0_pay4, k0_pay5, k0_pay6]
      simp only [Fin.sum_univ_four]
      blk_point [iblk, V, idx t]
    · refine Eq.symm ?_
      refine (dats m 0 c).arrAt_eq_of_covers 7 _ (by decide +kernel) fun t _ y => ?_
      blk_simp
      rw [after0_7]; frame_out
      pointwise [k0_pay1, k0_pay2, k0_pay3, k0_pay4, k0_pay5, k0_pay6]
      simp only [Fin.sum_univ_four]
      blk_point [iblk, V, idx t]
end Cert.Reference53Ideal.Hand
-- ==== Proof.Ew54.lean ====
module

public import proofs.«01_k».proof.Defs
public import proofs.«01_k».proof.Proof.Gen.Kernel54.Frame
public import proofs.«01_k».proof.Proof.Gen.Kernel54Ideal.Frame
public import proofs.«01_k».proof.Proof.Gen.Reference54Ideal
public import proofs.«01_k».proof.Proof.Part
public import Idealize.ShloMosaic.Lib.Pipeline.ValueKit
public import Idealize.ShloMosaic.Lib.Pipeline.ReadBack
public import Idealize.ShloMosaic.Lib.Claim

public import proofs.«01_k».proof.Proof.Gen.Reference54Ideal.Run

@[expose] public section
set_option maxRecDepth 16384
noncomputable section
open Idealize.ShloMosaic Idealize.ShloMosaic.TcCoe Idealize.SL.Sem
open Idealize.ShloMosaic.Pipeline (Dat)
namespace Cert.Reference54Ideal.Hand
open Cert.Kernel54Ideal.Gen
open Cert.Kernel54Ideal (cfg0 grid0 win0_0 win0_1 win0_2 win0_3 win0_4 win0_5 win0_6 win0_7)

/-- Where the windows' blocks of `adamw_l0_w_in` lie. -/
theorem idx : ∀ t : Fin cfg0.N, win0_0.index t = ![(grid0.coords t 0).val, (grid0.coords t 1).val]
    ∧ win0_1.index t = ![0, (grid0.coords t 0).val, (grid0.coords t 1).val]
    ∧ win0_2.index t = ![(grid0.coords t 0).val, (grid0.coords t 1).val]
    ∧ win0_3.index t = ![(grid0.coords t 0).val, (grid0.coords t 1).val]
    ∧ win0_4.index t = ![(grid0.coords t 0).val, (grid0.coords t 1).val]
    ∧ win0_5.index t = ![(grid0.coords t 0).val, (grid0.coords t 1).val]
    ∧ win0_6.index t = ![(grid0.coords t 0).val, (grid0.coords t 1).val]
    ∧ win0_7.index t = ![(grid0.coords t 0).val, (grid0.coords t 1).val] :=
  (by decide +kernel : ∀ t : Fin grid0.N, _)

/-- The reference of `adamw_l0_w_in` leaves its arguments as they were. -/
theorem frame : Cert.quiescent_Reference54Ideal := by
  intro m g _
  run_from Cert.Reference54Ideal.Value.run m g
  · exact fun _ => ⟨trivial, trivial, trivial, trivial⟩
  · exact sem_eq_zero_of_no_sems (by decide) r.2

set_option maxHeartbeats 2000000 in
/-- The arrays `adamw_l0_w_in` returns are the reference's. -/
theorem algebraic : Cert.algebraic_Kernel54Ideal_Reference54Ideal := by
  pair_intro
  · run_from Cert.Kernel54Ideal.Gen.run_main m g
  · hlo_run
    · refine Eq.symm ?_
      refine (dats m 0 c).arrAt_eq_of_covers 4 _ (by decide +kernel) fun t _ y => ?_
      blk_simp
      rw [after0_4]; frame_out
      pointwise [k0_pay1, k0_pay2, k0_pay3, k0_pay4, k0_pay5, k0_pay6]
      simp only [Fin.sum_univ_four]
      blk_point [iblk, V, idx t]
    · refine Eq.symm ?_
      refine (dats m 0 c).arrAt_eq_of_covers 5 _ (by decide +kernel) fun t _ y => ?_
      blk_simp
      rw [after0_5]; frame_out
      pointwise [k0_pay1, k0_pay2, k0_pay3, k0_pay4, k0_pay5, k0_pay6]
      simp only [Fin.sum_univ_four]
      blk_point [iblk, V, idx t]
    · refine Eq.symm ?_
      refine (dats m 0 c).arrAt_eq_of_covers 6 _ (by decide +kernel) fun t _ y => ?_
      blk_simp
      rw [after0_6]; frame_out
      pointwise [k0_pay1, k0_pay2, k0_pay3, k0_pay4, k0_pay5, k0_pay6]
      simp only [Fin.sum_univ_four]
      blk_point [iblk, V, idx t]
    · refine Eq.symm ?_
      refine (dats m 0 c).arrAt_eq_of_covers 7 _ (by decide +kernel) fun t _ y => ?_
      blk_simp
      rw [after0_7]; frame_out
      pointwise [k0_pay1, k0_pay2, k0_pay3, k0_pay4, k0_pay5, k0_pay6]
      simp only [Fin.sum_univ_four]
      blk_point [iblk, V, idx t]
end Cert.Reference54Ideal.Hand
-- ==== Proof.Ew55.lean ====
module

public import proofs.«01_k».proof.Defs
public import proofs.«01_k».proof.Proof.Gen.Kernel55.Frame
public import proofs.«01_k».proof.Proof.Gen.Kernel55Ideal.Frame
public import proofs.«01_k».proof.Proof.Gen.Reference55Ideal
public import proofs.«01_k».proof.Proof.Part
public import Idealize.ShloMosaic.Lib.Pipeline.ValueKit
public import Idealize.ShloMosaic.Lib.Pipeline.ReadBack
public import Idealize.ShloMosaic.Lib.Claim

public import proofs.«01_k».proof.Proof.Gen.Reference55Ideal.Run

@[expose] public section
set_option maxRecDepth 16384
noncomputable section
open Idealize.ShloMosaic Idealize.ShloMosaic.TcCoe Idealize.SL.Sem
open Idealize.ShloMosaic.Pipeline (Dat)
namespace Cert.Reference55Ideal.Hand
open Cert.Kernel55Ideal.Gen
open Cert.Kernel55Ideal (cfg0 grid0 win0_0 win0_1 win0_2 win0_3 win0_4 win0_5 win0_6 win0_7)

/-- Where the windows' blocks of `adamw_small` lie. -/
theorem idx : ∀ t : Fin cfg0.N, win0_0.index t = ![(grid0.coords t 0).val, (grid0.coords t 1).val]
    ∧ win0_1.index t = ![0, (grid0.coords t 0).val, (grid0.coords t 1).val]
    ∧ win0_2.index t = ![(grid0.coords t 0).val, (grid0.coords t 1).val]
    ∧ win0_3.index t = ![(grid0.coords t 0).val, (grid0.coords t 1).val]
    ∧ win0_4.index t = ![(grid0.coords t 0).val, (grid0.coords t 1).val]
    ∧ win0_5.index t = ![(grid0.coords t 0).val, (grid0.coords t 1).val]
    ∧ win0_6.index t = ![(grid0.coords t 0).val, (grid0.coords t 1).val]
    ∧ win0_7.index t = ![(grid0.coords t 0).val, (grid0.coords t 1).val] :=
  (by decide +kernel : ∀ t : Fin grid0.N, _)

/-- The reference of `adamw_small` leaves its arguments as they were. -/
theorem frame : Cert.quiescent_Reference55Ideal := by
  intro m g _
  run_from Cert.Reference55Ideal.Value.run m g
  · exact fun _ => ⟨trivial, trivial, trivial, trivial⟩
  · exact sem_eq_zero_of_no_sems (by decide) r.2

/-- The gradient is the sum of its eight parts. -/
theorem parts (x : Vec Ideal Cert.Kernel55Ideal.S8x344x128 .f32) (y : Cert.Kernel55Ideal.S344x128.Idx) :
    k0_pay3 (View.ld x r0_0) (View.ld x r0_1) (View.ld x r0_2) (View.ld x r0_3) (View.ld x r0_4) (View.ld x r0_5) (View.ld x r0_6) (View.ld x r0_7) y = ∑ p : Fin 8, x (ix3 p (y 0) (y 1)) := by
  rw [Fin.sum_univ_eight]
  pointwise [k0_pay3]

/-- The gradient as the body names it. -/
theorem grad (a : Vec Ideal Cert.Kernel55Ideal.S344x128 .f32) (x : Vec Ideal Cert.Kernel55Ideal.S8x344x128 .f32) (b d : Vec Ideal Cert.Kernel55Ideal.S344x128 .f32) (y : Cert.Kernel55Ideal.S344x128.Idx) :
    k0_pay5 a x b d y = ∑ p : Fin 8, x (ix3 p (y 0) (y 1)) := parts x y

/-- The first moment as the body names it. -/
theorem moment (a : Vec Ideal Cert.Kernel55Ideal.S344x128 .f32) (x : Vec Ideal Cert.Kernel55Ideal.S8x344x128 .f32) (b d : Vec Ideal Cert.Kernel55Ideal.S344x128 .f32) (y : Cert.Kernel55Ideal.S344x128.Idx) :
    k0_pay6 a x b d y = Ideal.ofBits .f32 1063675494#32 * b y
      + Ideal.ofBits .f32 1036831949#32 * ∑ p : Fin 8, x (ix3 p (y 0) (y 1)) := by
  rw [← parts x y]
  unfold k0_pay6
  pointwise [k0_pay4]

set_option maxHeartbeats 1000000 in
/-- The arrays `adamw_small` returns are the reference's. -/
theorem algebraic : Cert.algebraic_Kernel55Ideal_Reference55Ideal := by
  pair_intro
  · run_from Cert.Kernel55Ideal.Gen.run_main m g
  · hlo_run
    · refine Eq.symm ?_
      refine (dats m 0 c).arrAt_eq_of_covers 4 _ (by decide +kernel) fun t _ y => ?_
      blk_simp
      rw [after0_4]; frame_out
      pointwise [k0_pay1, k0_pay2, k0_pay4]
      have hg := grad (iblk m c 0 t) (iblk m c 1 t) (iblk m c 2 t) (iblk m c 3 t) y
      have hm := moment (iblk m c 0 t) (iblk m c 1 t) (iblk m c 2 t) (iblk m c 3 t) y
      simp only [hg, hm]
      blk_point [iblk, V, idx t]
    · refine Eq.symm ?_
      refine (dats m 0 c).arrAt_eq_of_covers 5 _ (by decide +kernel) fun t _ y => ?_
      blk_simp
      rw [after0_5]; frame_out
      pointwise [k0_pay1, k0_pay2, k0_pay4]
      have hg := grad (iblk m c 0 t) (iblk m c 1 t) (iblk m c 2 t) (iblk m c 3 t) y
      have hm := moment (iblk m c 0 t) (iblk m c 1 t) (iblk m c 2 t) (iblk m c 3 t) y
      simp only [hg, hm]
      blk_point [iblk, V, idx t]
    · refine Eq.symm ?_
      refine (dats m 0 c).arrAt_eq_of_covers 6 _ (by decide +kernel) fun t _ y => ?_
      blk_simp
      rw [after0_6]; frame_out
      pointwise [k0_pay1, k0_pay2, k0_pay4]
      have hg := grad (iblk m c 0 t) (iblk m c 1 t) (iblk m c 2 t) (iblk m c 3 t) y
      have hm := moment (iblk m c 0 t) (iblk m c 1 t) (iblk m c 2 t) (iblk m c 3 t) y
      simp only [hg, hm]
      blk_point [iblk, V, idx t]
    · refine Eq.symm ?_
      refine (dats m 0 c).arrAt_eq_of_covers 7 _ (by decide +kernel) fun t _ y => ?_
      blk_simp
      rw [after0_7]; frame_out
      pointwise [k0_pay1, k0_pay2, k0_pay4]
      have hg := grad (iblk m c 0 t) (iblk m c 1 t) (iblk m c 2 t) (iblk m c 3 t) y
      have hm := moment (iblk m c 0 t) (iblk m c 1 t) (iblk m c 2 t) (iblk m c 3 t) y
      simp only [hg, hm]
      blk_point [iblk, V, idx t]
end Cert.Reference55Ideal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.Run
public import proofs.«01_k».proof.Proof.Out
public import proofs.«01_k».proof.Proof.Mm2
public import proofs.«01_k».proof.Proof.Mm3
public import proofs.«01_k».proof.Proof.Mm4
public import proofs.«01_k».proof.Proof.Mm5
public import proofs.«01_k».proof.Proof.Mm6
public import proofs.«01_k».proof.Proof.Mm7
public import proofs.«01_k».proof.Proof.Mm8
public import proofs.«01_k».proof.Proof.Mm9
public import proofs.«01_k».proof.Proof.Mm10
public import proofs.«01_k».proof.Proof.Mm11
public import proofs.«01_k».proof.Proof.Mm12
public import proofs.«01_k».proof.Proof.Mm13
public import proofs.«01_k».proof.Proof.Mm14
public import proofs.«01_k».proof.Proof.Mm15
public import proofs.«01_k».proof.Proof.Mm16
public import proofs.«01_k».proof.Proof.Mm17
public import proofs.«01_k».proof.Proof.Mm18
public import proofs.«01_k».proof.Proof.Mm19
public import proofs.«01_k».proof.Proof.Mm20
public import proofs.«01_k».proof.Proof.Mm21
public import proofs.«01_k».proof.Proof.Mm22
public import proofs.«01_k».proof.Proof.Mm23
public import proofs.«01_k».proof.Proof.Mm24
public import proofs.«01_k».proof.Proof.Mm25
public import proofs.«01_k».proof.Proof.Mm26
public import proofs.«01_k».proof.Proof.Mm27
public import proofs.«01_k».proof.Proof.Mm28
public import proofs.«01_k».proof.Proof.Mm29
public import proofs.«01_k».proof.Proof.Mm30
public import proofs.«01_k».proof.Proof.Mm31
public import proofs.«01_k».proof.Proof.Mm32
public import proofs.«01_k».proof.Proof.Mm33
public import proofs.«01_k».proof.Proof.Mm34
public import proofs.«01_k».proof.Proof.Mm35
public import proofs.«01_k».proof.Proof.Mm36
public import Idealize.ShloMosaic.Lib.Claim
public import Idealize.ShloMosaic.Adequacy
public import Idealize.ShloMosaic.Init
public import proofs.«01_k».proof.Proof.Ew37
public import proofs.«01_k».proof.Proof.Ew38
public import proofs.«01_k».proof.Proof.Ew39
public import proofs.«01_k».proof.Proof.Ew40
public import proofs.«01_k».proof.Proof.Ew41
public import proofs.«01_k».proof.Proof.Ew42
public import proofs.«01_k».proof.Proof.Ew43
public import proofs.«01_k».proof.Proof.Ew44
public import proofs.«01_k».proof.Proof.Ew45
public import proofs.«01_k».proof.Proof.Ew46
public import proofs.«01_k».proof.Proof.Ew47
public import proofs.«01_k».proof.Proof.Ew48
public import proofs.«01_k».proof.Proof.Ew49
public import proofs.«01_k».proof.Proof.Ew50
public import proofs.«01_k».proof.Proof.Ew51
public import proofs.«01_k».proof.Proof.Ew52
public import proofs.«01_k».proof.Proof.Ew53
public import proofs.«01_k».proof.Proof.Ew54
public import proofs.«01_k».proof.Proof.Ew55

@[expose] public section

noncomputable section

namespace Cert.Proof

open Idealize.ShloMosaic Idealize.SL.Sem Cert.Kernel

/-- The reference's frame: its run read at the arguments; it declares no semaphore. -/
theorem frame_ref : Cert.quiescent_ReferenceIdeal (hReferenceIdeal := Cert.ReferenceIdeal.Gen.facts) := fun m g _ =>
  (θ_run Cert.ReferenceIdeal.defs _ _).mono (fun r h => ⟨fun c => (h c).2.2.2.2.2, sem_eq_zero_of_no_sems (by decide) r.2⟩)
    (Cert.ReferenceIdeal.Value.run (F := Ideal) m g)

/-- The mask's name stands for minus infinity. -/
theorem preserves : Cert.preserves_Kernel_KernelIdeal :=
  IdealRules.named_const.statement Cert.KernelIdeal.κ "mask" .f32 0xF149F2CA#32 ⊥ rfl

/-- The predicate's side conditions. -/
theorem pre_facts : Cert.Pre_finite.Facts := ⟨by decide, by decide, by decide⟩

/-- A value whose magnitude is below plus infinity is neither infinity. -/
theorem ne_of_abs_lt (x : EReal) (h : max x (-x) < ⊤) : x ≠ ⊤ ∧ x ≠ ⊥ :=
  ⟨fun e => by rw [e] at h; exact absurd (le_max_left _ _) (not_le.2 h), fun e => by
    rw [e, EReal.neg_bot] at h; exact absurd (le_max_right _ _) (not_le.2 h)⟩
theorem lt_of_cmp {x y : EReal} (h : Ideal.cmp .olt x y = 1#1) : x < y := by
  by_contra hn
  unfold Ideal.cmp at h
  simp [hn] at h
theorem inf_bf16 : Ideal.ofBits .bf16 0x7F80#16 = (⊤ : EReal) := by simp [Ideal.ofBits, Ideal.ieee]
theorem inf_f32 : Ideal.ofBits .f32 0x7F800000#32 = (⊤ : EReal) := by simp [Ideal.ofBits, Ideal.ieee]

/-- The precondition, element by element: every element of every argument is finite. -/
theorem fin_of_pre (A : FVec Ideal Cert.Pre_finite.S4096x12288 .bf16) (D : FVec Ideal Cert.Pre_finite.S4096x4096 .bf16) (C : FVec Ideal Cert.Pre_finite.S4096x32 .f32)
    (h : letI := pre_facts; (Cert.Pre_finite.fn (F := Ideal) A D C).1 = (fun _ => 1#1) ∧ (Cert.Pre_finite.fn (F := Ideal) A D C).2.1 = (fun _ => 1#1) ∧ (Cert.Pre_finite.fn (F := Ideal) A D C).2.2 = (fun _ => 1#1)) :
    (∀ x, A x ≠ (⊤ : EReal) ∧ A x ≠ (⊥ : EReal)) ∧ (∀ x, D x ≠ (⊤ : EReal) ∧ D x ≠ (⊥ : EReal)) ∧ (∀ x, C x ≠ (⊤ : EReal) ∧ C x ≠ (⊥ : EReal)) := by
  refine ⟨fun x => ?_, fun x => ?_, fun x => ?_⟩
  · exact ne_of_abs_lt _ (inf_bf16 ▸ lt_of_cmp (congrFun h.1 x))
  · exact ne_of_abs_lt _ (inf_bf16 ▸ lt_of_cmp (congrFun h.2.1 x))
  · exact ne_of_abs_lt _ (inf_f32 ▸ lt_of_cmp (congrFun h.2.2 x))

theorem congr3 {α β γ δ : Type} (f : α → β → γ → δ) {a a' : α} {b b' : β} {c c' : γ} (h : a' = a) (h' : b' = b) (h'' : c' = c) :
    f a' b' c' = f a b c := by rw [h, h', h'']

/-- The kernel and the reference, run on the same finite arguments, leave the same five gradients: those of the queries, keys
    and values and of both sides' gate sums. -/
theorem algebraic : Cert.algebraic_KernelIdeal_ReferenceIdeal_pre_finite (hKernelIdeal := Cert.KernelIdeal.Gen.facts)
    (hReferenceIdeal := Cert.ReferenceIdeal.Gen.facts) (hPre_finite := pre_facts) := by
  intro m g m' g' hp he
  have hf := fun c => fin_of_pre _ _ _ (hp c)
  refine ⟨_, _, _, _, _, Cert.KernelIdeal.Hand.run_grads m g (fun c => (hf c).1) (fun c => (hf c).2.1) (fun c => (hf c).2.2), ?_⟩
  refine (θ_run Cert.ReferenceIdeal.defs _ _).mono (fun r h c => ?_) (Cert.ReferenceIdeal.Hand.run_grads m' g')
  obtain ⟨h0, h1, h2, h3, h4, ha⟩ := h c
  obtain ⟨e0, e1, e2⟩ := he c
  exact ⟨h0.trans (congr3 _ e0 e1 e2), h1.trans (congr3 _ e0 e1 e2), h2.trans (congr3 _ e0 e1 e2), h3.trans (congr3 _ e0 e1 e2),
    h4.trans (congr3 _ e0 e1 e2), ha⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Kernel39.Gen.facts, Cert.Kernel39Ideal.Gen.facts, Cert.Reference39Ideal.Gen.facts,
  Cert.Kernel40.Gen.facts, Cert.Kernel40Ideal.Gen.facts, Cert.Reference40Ideal.Gen.facts,
  Cert.Kernel41.Gen.facts, Cert.Kernel41Ideal.Gen.facts, Cert.Reference41Ideal.Gen.facts,
  Cert.Kernel42.Gen.facts, Cert.Kernel42Ideal.Gen.facts, Cert.Reference42Ideal.Gen.facts,
  Cert.Kernel43.Gen.facts, Cert.Kernel43Ideal.Gen.facts, Cert.Reference43Ideal.Gen.facts,
  Cert.Kernel44.Gen.facts, Cert.Kernel44Ideal.Gen.facts, Cert.Reference44Ideal.Gen.facts,
  Cert.Kernel45.Gen.facts, Cert.Kernel45Ideal.Gen.facts, Cert.Reference45Ideal.Gen.facts,
  Cert.Kernel46.Gen.facts, Cert.Kernel46Ideal.Gen.facts, Cert.Reference46Ideal.Gen.facts,
  Cert.Kernel47.Gen.facts, Cert.Kernel47Ideal.Gen.facts, Cert.Reference47Ideal.Gen.facts,
  Cert.Kernel48.Gen.facts, Cert.Kernel48Ideal.Gen.facts, Cert.Reference48Ideal.Gen.facts,
  Cert.Kernel49.Gen.facts, Cert.Kernel49Ideal.Gen.facts, Cert.Reference49Ideal.Gen.facts,
  Cert.Kernel50.Gen.facts, Cert.Kernel50Ideal.Gen.facts, Cert.Reference50Ideal.Gen.facts,
  Cert.Kernel51.Gen.facts, Cert.Kernel51Ideal.Gen.facts, Cert.Reference51Ideal.Gen.facts,
  Cert.Kernel52.Gen.facts, Cert.Kernel52Ideal.Gen.facts, Cert.Reference52Ideal.Gen.facts,
  Cert.Kernel53.Gen.facts, Cert.Kernel53Ideal.Gen.facts, Cert.Reference53Ideal.Gen.facts,
  Cert.Kernel54.Gen.facts, Cert.Kernel54Ideal.Gen.facts, Cert.Reference54Ideal.Gen.facts,
  Cert.Kernel55.Gen.facts, Cert.Kernel55Ideal.Gen.facts, Cert.Reference55Ideal.Gen.facts, pre_facts,
  fun m g _ => Cert.Kernel.Hand.frame m g, fun m g _ => Cert.KernelIdeal.Hand.frame m g, fun m g _ => Cert.KernelIdeal.Hand.frame m g,
  frame_ref, fun m g _ => frame_ref m g trivial,
  fun m g _ => Cert.Kernel2.Gen.frame m g, fun m g _ => Cert.Kernel2Ideal.Gen.frame m g, Cert.Reference2Ideal.Hand.frame,
  fun m g _ => Cert.Kernel3.Gen.frame m g, fun m g _ => Cert.Kernel3Ideal.Gen.frame m g, Cert.Reference3Ideal.Hand.frame,
  fun m g _ => Cert.Kernel4.Gen.frame m g, fun m g _ => Cert.Kernel4Ideal.Gen.frame m g, Cert.Reference4Ideal.Hand.frame,
  fun m g _ => Cert.Kernel5.Gen.frame m g, fun m g _ => Cert.Kernel5Ideal.Gen.frame m g, Cert.Reference5Ideal.Hand.frame,
  fun m g _ => Cert.Kernel6.Gen.frame m g, fun m g _ => Cert.Kernel6Ideal.Gen.frame m g, Cert.Reference6Ideal.Hand.frame,
  fun m g _ => Cert.Kernel7.Gen.frame m g, fun m g _ => Cert.Kernel7Ideal.Gen.frame m g, Cert.Reference7Ideal.Hand.frame,
  fun m g _ => Cert.Kernel8.Gen.frame m g, fun m g _ => Cert.Kernel8Ideal.Gen.frame m g, Cert.Reference8Ideal.Hand.frame,
  fun m g _ => Cert.Kernel9.Gen.frame m g, fun m g _ => Cert.Kernel9Ideal.Gen.frame m g, Cert.Reference9Ideal.Hand.frame,
  fun m g _ => Cert.Kernel10.Gen.frame m g, fun m g _ => Cert.Kernel10Ideal.Gen.frame m g, Cert.Reference10Ideal.Hand.frame,
  fun m g _ => Cert.Kernel11.Gen.frame m g, fun m g _ => Cert.Kernel11Ideal.Gen.frame m g, Cert.Reference11Ideal.Hand.frame,
  fun m g _ => Cert.Kernel12.Gen.frame m g, fun m g _ => Cert.Kernel12Ideal.Gen.frame m g, Cert.Reference12Ideal.Hand.frame,
  fun m g _ => Cert.Kernel13.Gen.frame m g, fun m g _ => Cert.Kernel13Ideal.Gen.frame m g, Cert.Reference13Ideal.Hand.frame,
  fun m g _ => Cert.Kernel14.Gen.frame m g, fun m g _ => Cert.Kernel14Ideal.Gen.frame m g, Cert.Reference14Ideal.Hand.frame,
  fun m g _ => Cert.Kernel15.Gen.frame m g, fun m g _ => Cert.Kernel15Ideal.Gen.frame m g, Cert.Reference15Ideal.Hand.frame,
  fun m g _ => Cert.Kernel16.Gen.frame m g, fun m g _ => Cert.Kernel16Ideal.Gen.frame m g, Cert.Reference16Ideal.Hand.frame,
  fun m g _ => Cert.Kernel17.Gen.frame m g, fun m g _ => Cert.Kernel17Ideal.Gen.frame m g, Cert.Reference17Ideal.Hand.frame,
  fun m g _ => Cert.Kernel18.Gen.frame m g, fun m g _ => Cert.Kernel18Ideal.Gen.frame m g, Cert.Reference18Ideal.Hand.frame,
  fun m g _ => Cert.Kernel19.Gen.frame m g, fun m g _ => Cert.Kernel19Ideal.Gen.frame m g, Cert.Reference19Ideal.Hand.frame,
  fun m g _ => Cert.Kernel20.Gen.frame m g, fun m g _ => Cert.Kernel20Ideal.Gen.frame m g, Cert.Reference20Ideal.Hand.frame,
  fun m g _ => Cert.Kernel21.Gen.frame m g, fun m g _ => Cert.Kernel21Ideal.Gen.frame m g, Cert.Reference21Ideal.Hand.frame,
  fun m g _ => Cert.Kernel22.Gen.frame m g, fun m g _ => Cert.Kernel22Ideal.Gen.frame m g, Cert.Reference22Ideal.Hand.frame,
  fun m g _ => Cert.Kernel23.Gen.frame m g, fun m g _ => Cert.Kernel23Ideal.Gen.frame m g, Cert.Reference23Ideal.Hand.frame,
  fun m g _ => Cert.Kernel24.Gen.frame m g, fun m g _ => Cert.Kernel24Ideal.Gen.frame m g, Cert.Reference24Ideal.Hand.frame,
  fun m g _ => Cert.Kernel25.Gen.frame m g, fun m g _ => Cert.Kernel25Ideal.Gen.frame m g, Cert.Reference25Ideal.Hand.frame,
  fun m g _ => Cert.Kernel26.Gen.frame m g, fun m g _ => Cert.Kernel26Ideal.Gen.frame m g, Cert.Reference26Ideal.Hand.frame,
  fun m g _ => Cert.Kernel27.Gen.frame m g, fun m g _ => Cert.Kernel27Ideal.Gen.frame m g, Cert.Reference27Ideal.Hand.frame,
  fun m g _ => Cert.Kernel28.Gen.frame m g, fun m g _ => Cert.Kernel28Ideal.Gen.frame m g, Cert.Reference28Ideal.Hand.frame,
  fun m g _ => Cert.Kernel29.Gen.frame m g, fun m g _ => Cert.Kernel29Ideal.Gen.frame m g, Cert.Reference29Ideal.Hand.frame,
  fun m g _ => Cert.Kernel30.Gen.frame m g, fun m g _ => Cert.Kernel30Ideal.Gen.frame m g, Cert.Reference30Ideal.Hand.frame,
  fun m g _ => Cert.Kernel31.Gen.frame m g, fun m g _ => Cert.Kernel31Ideal.Gen.frame m g, Cert.Reference31Ideal.Hand.frame,
  fun m g _ => Cert.Kernel32.Gen.frame m g, fun m g _ => Cert.Kernel32Ideal.Gen.frame m g, Cert.Reference32Ideal.Hand.frame,
  fun m g _ => Cert.Kernel33.Gen.frame m g, fun m g _ => Cert.Kernel33Ideal.Gen.frame m g, Cert.Reference33Ideal.Hand.frame,
  fun m g _ => Cert.Kernel34.Gen.frame m g, fun m g _ => Cert.Kernel34Ideal.Gen.frame m g, Cert.Reference34Ideal.Hand.frame,
  fun m g _ => Cert.Kernel35.Gen.frame m g, fun m g _ => Cert.Kernel35Ideal.Gen.frame m g, Cert.Reference35Ideal.Hand.frame,
  fun m g _ => Cert.Kernel36.Gen.frame m g, fun m g _ => Cert.Kernel36Ideal.Gen.frame m g, Cert.Reference36Ideal.Hand.frame,
  fun m g _ => Cert.Kernel37.Gen.frame m g, fun m g _ => Cert.Kernel37Ideal.Gen.frame m g, Cert.Reference37Ideal.Hand.frame,
  fun m g _ => Cert.Kernel38.Gen.frame m g, fun m g _ => Cert.Kernel38Ideal.Gen.frame m g, Cert.Reference38Ideal.Hand.frame,
  fun m g _ => Cert.Kernel39.Gen.frame m g, fun m g _ => Cert.Kernel39Ideal.Gen.frame m g, Cert.Reference39Ideal.Hand.frame,
  fun m g _ => Cert.Kernel40.Gen.frame m g, fun m g _ => Cert.Kernel40Ideal.Gen.frame m g, Cert.Reference40Ideal.Hand.frame,
  fun m g _ => Cert.Kernel41.Gen.frame m g, fun m g _ => Cert.Kernel41Ideal.Gen.frame m g, Cert.Reference41Ideal.Hand.frame,
  fun m g _ => Cert.Kernel42.Gen.frame m g, fun m g _ => Cert.Kernel42Ideal.Gen.frame m g, Cert.Reference42Ideal.Hand.frame,
  fun m g _ => Cert.Kernel43.Gen.frame m g, fun m g _ => Cert.Kernel43Ideal.Gen.frame m g, Cert.Reference43Ideal.Hand.frame,
  fun m g _ => Cert.Kernel44.Gen.frame m g, fun m g _ => Cert.Kernel44Ideal.Gen.frame m g, Cert.Reference44Ideal.Hand.frame,
  fun m g _ => Cert.Kernel45.Gen.frame m g, fun m g _ => Cert.Kernel45Ideal.Gen.frame m g, Cert.Reference45Ideal.Hand.frame,
  fun m g _ => Cert.Kernel46.Gen.frame m g, fun m g _ => Cert.Kernel46Ideal.Gen.frame m g, Cert.Reference46Ideal.Hand.frame,
  fun m g _ => Cert.Kernel47.Gen.frame m g, fun m g _ => Cert.Kernel47Ideal.Gen.frame m g, Cert.Reference47Ideal.Hand.frame,
  fun m g _ => Cert.Kernel48.Gen.frame m g, fun m g _ => Cert.Kernel48Ideal.Gen.frame m g, Cert.Reference48Ideal.Hand.frame,
  fun m g _ => Cert.Kernel49.Gen.frame m g, fun m g _ => Cert.Kernel49Ideal.Gen.frame m g, Cert.Reference49Ideal.Hand.frame,
  fun m g _ => Cert.Kernel50.Gen.frame m g, fun m g _ => Cert.Kernel50Ideal.Gen.frame m g, Cert.Reference50Ideal.Hand.frame,
  fun m g _ => Cert.Kernel51.Gen.frame m g, fun m g _ => Cert.Kernel51Ideal.Gen.frame m g, Cert.Reference51Ideal.Hand.frame,
  fun m g _ => Cert.Kernel52.Gen.frame m g, fun m g _ => Cert.Kernel52Ideal.Gen.frame m g, Cert.Reference52Ideal.Hand.frame,
  fun m g _ => Cert.Kernel53.Gen.frame m g, fun m g _ => Cert.Kernel53Ideal.Gen.frame m g, Cert.Reference53Ideal.Hand.frame,
  fun m g _ => Cert.Kernel54.Gen.frame m g, fun m g _ => Cert.Kernel54Ideal.Gen.frame m g, Cert.Reference54Ideal.Hand.frame,
  fun m g _ => Cert.Kernel55.Gen.frame m g, fun m g _ => Cert.Kernel55Ideal.Gen.frame m g, Cert.Reference55Ideal.Hand.frame,
  preserves, algebraic, trivial, Cert.Reference2Ideal.Hand.algebraic, trivial, Cert.Reference3Ideal.Hand.algebraic,
  trivial, Cert.Reference4Ideal.Hand.algebraic, trivial, Cert.Reference5Ideal.Hand.algebraic, trivial, Cert.Reference6Ideal.Hand.algebraic,
  trivial, Cert.Reference7Ideal.Hand.algebraic, trivial, Cert.Reference8Ideal.Hand.algebraic, trivial, Cert.Reference9Ideal.Hand.algebraic,
  trivial, Cert.Reference10Ideal.Hand.algebraic, trivial, Cert.Reference11Ideal.Hand.algebraic, trivial, Cert.Reference12Ideal.Hand.algebraic,
  trivial, Cert.Reference13Ideal.Hand.algebraic, trivial, Cert.Reference14Ideal.Hand.algebraic, trivial, Cert.Reference15Ideal.Hand.algebraic,
  trivial, Cert.Reference16Ideal.Hand.algebraic, trivial, Cert.Reference17Ideal.Hand.algebraic, trivial, Cert.Reference18Ideal.Hand.algebraic,
  trivial, Cert.Reference19Ideal.Hand.algebraic, trivial, Cert.Reference20Ideal.Hand.algebraic, trivial, Cert.Reference21Ideal.Hand.algebraic,
  trivial, Cert.Reference22Ideal.Hand.algebraic, trivial, Cert.Reference23Ideal.Hand.algebraic, trivial, Cert.Reference24Ideal.Hand.algebraic,
  trivial, Cert.Reference25Ideal.Hand.algebraic, trivial, Cert.Reference26Ideal.Hand.algebraic, trivial, Cert.Reference27Ideal.Hand.algebraic,
  trivial, Cert.Reference28Ideal.Hand.algebraic, trivial, Cert.Reference29Ideal.Hand.algebraic, trivial, Cert.Reference30Ideal.Hand.algebraic,
  trivial, Cert.Reference31Ideal.Hand.algebraic, trivial, Cert.Reference32Ideal.Hand.algebraic, trivial, Cert.Reference33Ideal.Hand.algebraic,
  trivial, Cert.Reference34Ideal.Hand.algebraic, trivial, Cert.Reference35Ideal.Hand.algebraic, trivial, Cert.Reference36Ideal.Hand.algebraic,
  trivial, Cert.Reference37Ideal.Hand.algebraic, trivial, Cert.Reference38Ideal.Hand.algebraic, trivial, Cert.Reference39Ideal.Hand.algebraic,
  trivial, Cert.Reference40Ideal.Hand.algebraic, trivial, Cert.Reference41Ideal.Hand.algebraic, trivial, Cert.Reference42Ideal.Hand.algebraic,
  trivial, Cert.Reference43Ideal.Hand.algebraic, trivial, Cert.Reference44Ideal.Hand.algebraic, trivial, Cert.Reference45Ideal.Hand.algebraic,
  trivial, Cert.Reference46Ideal.Hand.algebraic, trivial, Cert.Reference47Ideal.Hand.algebraic, trivial, Cert.Reference48Ideal.Hand.algebraic,
  trivial, Cert.Reference49Ideal.Hand.algebraic, trivial, Cert.Reference50Ideal.Hand.algebraic, trivial, Cert.Reference51Ideal.Hand.algebraic,
  trivial, Cert.Reference52Ideal.Hand.algebraic, trivial, Cert.Reference53Ideal.Hand.algebraic, trivial, Cert.Reference54Ideal.Hand.algebraic,
  trivial, Cert.Reference55Ideal.Hand.algebraic⟩

end Cert.Proof

end
